-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_are_finite [hPre_scores_are_finite : Cert.Pre_scores_are_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_are_finite [hPre_scores_are_finite : Cert.Pre_scores_are_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_are_finite [hKernelIdeal : Cert.KernelIdeal.Facts] [hPre_scores_are_finite : Cert.Pre_scores_are_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_are_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_are_finite [hReferenceIdeal : Cert.ReferenceIdeal.Facts] [hPre_scores_are_finite : Cert.Pre_scores_are_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_are_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_scores_are_finite [hKernelIdeal : Cert.KernelIdeal.Facts] [hReferenceIdeal : Cert.ReferenceIdeal.Facts] [hPre_scores_are_finite : Cert.Pre_scores_are_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_are_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scores_are_finite : Cert.Pre_scores_are_finite.Facts),
    quiescent_Kernel (hKernel := hKernel)
    ∧ quiescent_KernelIdeal (hKernelIdeal := hKernelIdeal)
    ∧ quiescent_KernelIdeal_pre_scores_are_finite (hKernelIdeal := hKernelIdeal) (hPre_scores_are_finite := hPre_scores_are_finite)
    ∧ quiescent_ReferenceIdeal (hReferenceIdeal := hReferenceIdeal)
    ∧ quiescent_ReferenceIdeal_pre_scores_are_finite (hReferenceIdeal := hReferenceIdeal) (hPre_scores_are_finite := hPre_scores_are_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_scores_are_finite (hKernelIdeal := hKernelIdeal) (hReferenceIdeal := hReferenceIdeal) (hPre_scores_are_finite := hPre_scores_are_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_scores_are_finite.lean ====
abbrev S2x4096x4096 : Shape := ⟨3, ![2, 4096, 4096]⟩
abbrev S2x4096x128 : Shape := ⟨3, ![2, 4096, 128]⟩
abbrev S2x4096 : Shape := ⟨2, ![2, 4096]⟩
abbrev S2x1 : Shape := ⟨2, ![2, 1]⟩
abbrev S4096 : Shape := ⟨1, ![4096]⟩
abbrev S1x4096 : Shape := ⟨2, ![1, 4096]⟩
abbrev S_ : Shape := ⟨0, ![]⟩
abbrev S2x4096x2048 : Shape := ⟨3, ![2, 4096, 2048]⟩

class Facts : Prop where
  slices_S2x4096_S2x1_0_0 : S2x4096.Slices ![0, 0] S2x1
  bcast_S4096_S1x4096_1 : S4096.BroadcastsInDim S1x4096 (![1] : Fin 1 → Fin S1x4096.rank)
  bcast_S2x1_S2x4096_0_1 : S2x1.BroadcastsInDim S2x4096 (![0, 1] : Fin 2 → Fin S2x4096.rank)
  bcast_S1x4096_S2x4096_0_1 : S1x4096.BroadcastsInDim S2x4096 (![0, 1] : Fin 2 → Fin S2x4096.rank)
  bcast_S_S2x1 : S_.BroadcastsInDim S2x1 (![] : Fin 0 → Fin S2x1.rank)
  bitsLt_bf16_f32 : FTy.bits .bf16 < FTy.bits .f32
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  slices_S2x4096x4096_S2x4096x2048_0_0_0 : S2x4096x4096.Slices ![0, 0, 0] S2x4096x2048
  bcast_S_S2x4096x2048 : S_.BroadcastsInDim S2x4096x2048 (![] : Fin 0 → Fin S2x4096x2048.rank)
  reducesTo_S2x4096x2048_S_d0_1_2 : S2x4096x2048.ReducesTo [0, 1, 2] S_
  bcast_S_S2x4096x128 : S_.BroadcastsInDim S2x4096x128 (![] : Fin 0 → Fin S2x4096x128.rank)
  reducesTo_S2x4096x128_S_d0_1_2 : S2x4096x128.ReducesTo [0, 1, 2] S_
  reducesTo_S2x4096_S_d0_1 : S2x4096.ReducesTo [0, 1] S_
  reducesTo_S2x1_S_d0_1 : S2x1.ReducesTo [0, 1] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S2x1 32) (arg1 : IVec S_ 32) : IVec S2x1 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S2x1 32 := broadcastInDim S2x1 ![] bcast_S_S2x1 v2
  let v4 : IVec S2x1 32 := Host.remsi arg0 v3
  let c_1 : IVec S_ 32 := constantI S_ 32 0#32
  let v5 : IVec S2x1 32 := broadcastInDim S2x1 ![] bcast_S_S2x1 c_1
  let v6 : IVec S2x1 1 := cmpi .ne v4 v5
  let c_2 : IVec S_ 32 := constantI S_ 32 0#32
  let v7 : IVec S2x1 32 := broadcastInDim S2x1 ![] bcast_S_S2x1 c_2
  let v8 : IVec S2x1 1 := cmpi .slt v4 v7
  let c_3 : IVec S_ 32 := constantI S_ 32 0#32
  let v9 : IVec S_ 1 := cmpi .slt v2 c_3
  let v10 : IVec S2x1 1 := broadcastInDim S2x1 ![] bcast_S_S2x1 v9
  let v11 : IVec S2x1 1 := cmpi .ne v8 v10
  let v12 : IVec S2x1 1 := andi v11 v6
  let v13 : IVec S2x1 32 := broadcastInDim S2x1 ![] bcast_S_S2x1 v2
  let v14 : IVec S2x1 32 := addi v4 v13
  let v15 : IVec S2x1 32 := select v12 v14 v4
  v15

def fn_part2 {F : FTy → Type} [FloatOps F] (main_v15 : IVec S2x1 1) (main_v35 : IVec S_ 1) (main_c_9 : IVec S_ 1) : IVec S_ 1 :=
  let main_v36 : IVec S_ 1 := (fun x v => Host.reduce IntOp.andi x v reducesTo_S2x1_S_d0_1 h_S_) main_v15 main_c_9
  let main_v37 : IVec S_ 1 := andi main_v35 main_v36
  main_v37

def fn_part1 {F : FTy → Type} [FloatOps F] (main_arg1 : FVec F S2x4096x4096 .bf16) (main_arg2 : FVec F S2x4096x128 .bf16) (main_v6 : IVec S2x4096 1) (main_v15 : IVec S2x1 1) (main_v17 : FVec F S2x4096x4096 .f32) (main_v18 : FVec F S2x4096x4096 .f32) : IVec S_ 1 :=
  let main_v19 : IVec S2x4096x4096 1 := cmpf .olt main_v17 main_v18
  let main_c_3 : IVec S_ 1 := constantI S_ 1 1#1
  let main_v20 : IVec S_ 1 := (fun x v => Host.reduce IntOp.andi x v reducesTo_S2x4096x4096_S_d0_1_2 h_S_) main_v19 main_c_3
  let main_v21 : FVec F S2x4096x2048 .bf16 := (extractStridedSlice S2x4096x2048 ![0, 0, 0] · slices_S2x4096x4096_S2x4096x2048_0_0_0) main_arg1
  let main_v22 : FVec F S2x4096x2048 .f32 := (extf .f32 · bitsLt_bf16_f32) main_v21
  let main_v23 : FVec F S2x4096x2048 .f32 := Host.absf main_v22
  let main_cst_4 : FVec F S_ .f32 := constant S_ .f32 0x7F800000#32
  let main_v24 : FVec F S2x4096x2048 .f32 := broadcastInDim S2x4096x2048 ![] bcast_S_S2x4096x2048 main_cst_4
  let main_v25 : IVec S2x4096x2048 1 := cmpf .olt main_v23 main_v24
  let main_c_5 : IVec S_ 1 := constantI S_ 1 1#1
  let main_v26 : IVec S_ 1 := (fun x v => Host.reduce IntOp.andi x v reducesTo_S2x4096x2048_S_d0_1_2 h_S_) main_v25 main_c_5
  let main_v27 : IVec S_ 1 := andi main_v20 main_v26
  let main_v28 : FVec F S2x4096x128 .f32 := (extf .f32 · bitsLt_bf16_f32) main_arg2
  let main_v29 : FVec F S2x4096x128 .f32 := Host.absf main_v28
  let main_cst_6 : FVec F S_ .f32 := constant S_ .f32 0x7F800000#32
  let main_v30 : FVec F S2x4096x128 .f32 := broadcastInDim S2x4096x128 ![] bcast_S_S2x4096x128 main_cst_6
  let main_v31 : IVec S2x4096x128 1 := cmpf .olt main_v29 main_v30
  let main_c_7 : IVec S_ 1 := constantI S_ 1 1#1
  let main_v32 : IVec S_ 1 := (fun x v => Host.reduce IntOp.andi x v reducesTo_S2x4096x128_S_d0_1_2 h_S_) main_v31 main_c_7
  let main_v33 : IVec S_ 1 := andi main_v27 main_v32
  let main_c_8 : IVec S_ 1 := constantI S_ 1 1#1
  let main_v34 : IVec S_ 1 := (fun x v => Host.reduce IntOp.andi x v reducesTo_S2x4096_S_d0_1 h_S_) main_v6 main_c_8
  let main_v35 : IVec S_ 1 := andi main_v33 main_v34
  let main_c_9 : IVec S_ 1 := constantI S_ 1 1#1
  fn_part2 (F := F) main_v15 main_v35 main_c_9

def fn {F : FTy → Type} [FloatOps F] (main_arg0 : FVec F S2x4096x4096 .bf16) (main_arg1 : FVec F S2x4096x4096 .bf16) (main_arg2 : FVec F S2x4096x128 .bf16) (main_arg3 : IVec S2x4096 32) : IVec S_ 1 :=
  let main_v0 : IVec S2x1 32 := (extractStridedSlice S2x1 ![0, 0] · slices_S2x4096_S2x1_0_0) main_arg3
  let main_v1 : IVec S4096 32 := iotaInDim S4096 32 0
  let main_v2 : IVec S1x4096 32 := broadcastInDim S1x4096 ![1] bcast_S4096_S1x4096_1 main_v1
  let main_v3 : IVec S2x4096 32 := broadcastInDim S2x4096 ![0, 1] bcast_S2x1_S2x4096_0_1 main_v0
  let main_v4 : IVec S2x4096 32 := broadcastInDim S2x4096 ![0, 1] bcast_S1x4096_S2x4096_0_1 main_v2
  let main_v5 : IVec S2x4096 32 := addi main_v3 main_v4
  let main_v6 : IVec S2x4096 1 := cmpi .eq main_arg3 main_v5
  let main_c : IVec S_ 32 := constantI S_ 32 0#32
  let main_v7 : IVec S2x1 32 := broadcastInDim S2x1 ![] bcast_S_S2x1 main_c
  let main_v8 : IVec S2x1 1 := cmpi .sge main_v0 main_v7
  let main_c_0 : IVec S_ 32 := constantI S_ 32 4032#32
  let main_v9 : IVec S2x1 32 := broadcastInDim S2x1 ![] bcast_S_S2x1 main_c_0
  let main_v10 : IVec S2x1 1 := cmpi .sle main_v0 main_v9
  let main_v11 : IVec S2x1 1 := andi main_v8 main_v10
  let main_c_1 : IVec S_ 32 := constantI S_ 32 64#32
  let main_v12 : IVec S2x1 32 := fn_remainder (F := F) main_v0 main_c_1
  let main_c_2 : IVec S_ 32 := constantI S_ 32 0#32
  let main_v13 : IVec S2x1 32 := broadcastInDim S2x1 ![] bcast_S_S2x1 main_c_2
  let main_v14 : IVec S2x1 1 := cmpi .eq main_v12 main_v13
  let main_v15 : IVec S2x1 1 := andi main_v11 main_v14
  let main_v16 : FVec F S2x4096x4096 .f32 := (extf .f32 · bitsLt_bf16_f32) main_arg0
  let main_v17 : FVec F S2x4096x4096 .f32 := Host.absf main_v16
  let main_cst : FVec F S_ .f32 := constant S_ .f32 0x7F800000#32
  let main_v18 : FVec F S2x4096x4096 .f32 := broadcastInDim S2x4096x4096 ![] bcast_S_S2x4096x4096 main_cst
  fn_part1 (F := F) main_arg1 main_arg2 main_v6 main_v15 main_v17 main_v18
-- ==== Kernel.lean ====
abbrev S2x4096x4096 : Shape := ⟨3, ![2, 4096, 4096]⟩
abbrev S2x4096x128 : Shape := ⟨3, ![2, 4096, 128]⟩
abbrev S2x4096 : Shape := ⟨2, ![2, 4096]⟩
abbrev S2x1x4096 : Shape := ⟨3, ![2, 1, 4096]⟩
abbrev S2x4096x1 : Shape := ⟨3, ![2, 4096, 1]⟩
abbrev S2x4096x2048 : Shape := ⟨3, ![2, 4096, 2048]⟩
abbrev S1x512x1024 : Shape := ⟨3, ![1, 512, 1024]⟩
abbrev S1x4096x1024 : Shape := ⟨3, ![1, 4096, 1024]⟩
abbrev S1x4096x128 : Shape := ⟨3, ![1, 4096, 128]⟩
abbrev S1x1x512 : Shape := ⟨3, ![1, 1, 512]⟩
abbrev S1x512x1 : Shape := ⟨3, ![1, 512, 1]⟩
abbrev S8x1x512 : Shape := ⟨3, ![8, 1, 512]⟩
abbrev S8x128x512 : Shape := ⟨3, ![8, 128, 512]⟩
abbrev S8x256x512 : Shape := ⟨3, ![8, 256, 512]⟩
abbrev S8x128x4096 : Shape := ⟨3, ![8, 128, 4096]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S4096x128 : Shape := ⟨2, ![4096, 128]⟩
abbrev S128x4096 : Shape := ⟨2, ![128, 4096]⟩
abbrev S1x128x4096 : Shape := ⟨3, ![1, 128, 4096]⟩
abbrev S512x1 : Shape := ⟨2, ![512, 1]⟩
abbrev S1x512 : Shape := ⟨2, ![1, 512]⟩
abbrev S512x512 : Shape := ⟨2, ![512, 512]⟩
abbrev S512x256 : Shape := ⟨2, ![512, 256]⟩
abbrev S1x256x512 : Shape := ⟨3, ![1, 256, 512]⟩
abbrev S256x512 : Shape := ⟨2, ![256, 512]⟩
abbrev S512 : Shape := ⟨1, ![512]⟩

abbrev nBuf : Space → Nat
  | .hbm => 7
  | .vmem => 21
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x4096, .bf16⟩
  | .hbm, ⟨2, _⟩ => ⟨S2x4096x128, .bf16⟩
  | .hbm, ⟨3, _⟩ => ⟨S2x4096, .i32⟩
  | .hbm, ⟨4, _⟩ => ⟨S2x1x4096, .i32⟩
  | .hbm, ⟨5, _⟩ => ⟨S2x4096x1, .i32⟩
  | .hbm, ⟨6, _⟩ => ⟨S2x4096x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x1024, .bf16⟩
  | .local _ .vmem, ⟨9, _⟩ => ⟨S1x4096x1024, .bf16⟩
  | .local _ .vmem, ⟨10, _⟩ => ⟨S1x1x512, .i32⟩
  | .local _ .vmem, ⟨11, _⟩ => ⟨S1x1x512, .i32⟩
  | .local _ .vmem, ⟨12, _⟩ => ⟨S1x512x1, .i32⟩
  | .local _ .vmem, ⟨13, _⟩ => ⟨S1x512x1, .i32⟩
  | .local _ .vmem, ⟨14, _⟩ => ⟨S1x512x1024, .bf16⟩
  | .local _ .vmem, ⟨15, _⟩ => ⟨S1x512x1024, .bf16⟩
  | .local _ .vmem, ⟨16, _⟩ => ⟨S8x1x512, .f32⟩
  | .local _ .vmem, ⟨17, _⟩ => ⟨S8x1x512, .f32⟩
  | .local _ .vmem, ⟨18, _⟩ => ⟨S8x128x512, .f32⟩
  | .local _ .vmem, ⟨19, _⟩ => ⟨S8x256x512, .bf16⟩
  | .local _ .vmem, ⟨20, _⟩ => ⟨S8x128x4096, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 8], ![false, false, false]⟩

def k0_mult1 (i : grid0.Coords) : BitVec 32 :=
  let arg2 : BitVec 32 := BitVec.ofNat 32 (i 2).val
  let c512_i32 : BitVec 32 := 512#32
  let v142 : BitVec 32 := Scalar.muli arg2 c512_i32
  v142
def k0_off1 (i : grid0.Coords) : Fin 3 → Nat :=
  let c0_89 : Index := 0#32
  let arg2 : BitVec 32 := BitVec.ofNat 32 (i 2).val
  let c512_i32 : BitVec 32 := 512#32
  let v142 : BitVec 32 := Scalar.muli arg2 c512_i32
  let v143 : BitVec 32 := v142
  let v144 : Index := Scalar.indexCast v143
  let c0_90 : Index := 0#32
  ![0, v144.toNat, 0]
def k0_off2 (i : grid0.Coords) : Fin 3 → Nat :=
  let c0_91 : Index := 0#32
  let arg2 : BitVec 32 := BitVec.ofNat 32 (i 2).val
  let c512_i32 : BitVec 32 := 512#32
  let v142 : BitVec 32 := Scalar.muli arg2 c512_i32
  let v143 : BitVec 32 := v142
  let v147 : Index := Scalar.indexCast v143
  let c0_92 : Index := 0#32
  ![0, v147.toNat, 0]
def k0_off3 (i : grid0.Coords) : Fin 3 → Nat :=
  let c0_97 : Index := 0#32
  let arg2 : BitVec 32 := BitVec.ofNat 32 (i 2).val
  let c512_i32 : BitVec 32 := 512#32
  let v142 : BitVec 32 := Scalar.muli arg2 c512_i32
  let v143 : BitVec 32 := v142
  let v156 : Index := Scalar.indexCast v143
  let c128_98 : Index := 128#32
  ![0, v156.toNat, 128]
def k0_off4 (i : grid0.Coords) : Fin 3 → Nat :=
  let c0_104 : Index := 0#32
  let c0_105 : Index := 0#32
  let arg2 : BitVec 32 := BitVec.ofNat 32 (i 2).val
  let c512_i32 : BitVec 32 := 512#32
  let v142 : BitVec 32 := Scalar.muli arg2 c512_i32
  let v143 : BitVec 32 := v142
  let v165 : Index := Scalar.indexCast v143
  ![0, 0, v165.toNat]
def k0_off5 (i : grid0.Coords) : Fin 3 → Nat :=
  let c0_118 : Index := 0#32
  let arg2 : BitVec 32 := BitVec.ofNat 32 (i 2).val
  let c512_i32 : BitVec 32 := 512#32
  let v142 : BitVec 32 := Scalar.muli arg2 c512_i32
  let v143 : BitVec 32 := v142
  let v186 : Index := Scalar.indexCast v143
  let c256_119 : Index := 256#32
  ![0, v186.toNat, 256]
def k0_off6 (i : grid0.Coords) : Fin 3 → Nat :=
  let c1_125 : Index := 1#32
  let c0_126 : Index := 0#32
  let arg2 : BitVec 32 := BitVec.ofNat 32 (i 2).val
  let c512_i32 : BitVec 32 := 512#32
  let v142 : BitVec 32 := Scalar.muli arg2 c512_i32
  let v143 : BitVec 32 := v142
  let v195 : Index := Scalar.indexCast v143
  ![1, 0, v195.toNat]
def k0_off7 (i : grid0.Coords) : Fin 3 → Nat :=
  let c0_139 : Index := 0#32
  let arg2 : BitVec 32 := BitVec.ofNat 32 (i 2).val
  let c512_i32 : BitVec 32 := 512#32
  let v142 : BitVec 32 := Scalar.muli arg2 c512_i32
  let v143 : BitVec 32 := v142
  let v216 : Index := Scalar.indexCast v143
  let c384_140 : Index := 384#32
  ![0, v216.toNat, 384]
def k0_off8 (i : grid0.Coords) : Fin 3 → Nat :=
  let c2_146 : Index := 2#32
  let c0_147 : Index := 0#32
  let arg2 : BitVec 32 := BitVec.ofNat 32 (i 2).val
  let c512_i32 : BitVec 32 := 512#32
  let v142 : BitVec 32 := Scalar.muli arg2 c512_i32
  let v143 : BitVec 32 := v142
  let v225 : Index := Scalar.indexCast v143
  ![2, 0, v225.toNat]
def k0_off9 (i : grid0.Coords) : Fin 3 → Nat :=
  let c0_160 : Index := 0#32
  let arg2 : BitVec 32 := BitVec.ofNat 32 (i 2).val
  let c512_i32 : BitVec 32 := 512#32
  let v142 : BitVec 32 := Scalar.muli arg2 c512_i32
  let v143 : BitVec 32 := v142
  let v246 : Index := Scalar.indexCast v143
  let c512_161 : Index := 512#32
  ![0, v246.toNat, 512]
def k0_off10 (i : grid0.Coords) : Fin 3 → Nat :=
  let c3_167 : Index := 3#32
  let c0_168 : Index := 0#32
  let arg2 : BitVec 32 := BitVec.ofNat 32 (i 2).val
  let c512_i32 : BitVec 32 := 512#32
  let v142 : BitVec 32 := Scalar.muli arg2 c512_i32
  let v143 : BitVec 32 := v142
  let v255 : Index := Scalar.indexCast v143
  ![3, 0, v255.toNat]
def k0_off11 (i : grid0.Coords) : Fin 3 → Nat :=
  let c0_181 : Index := 0#32
  let arg2 : BitVec 32 := BitVec.ofNat 32 (i 2).val
  let c512_i32 : BitVec 32 := 512#32
  let v142 : BitVec 32 := Scalar.muli arg2 c512_i32
  let v143 : BitVec 32 := v142
  let v276 : Index := Scalar.indexCast v143
  let c640_182 : Index := 640#32
  ![0, v276.toNat, 640]
def k0_off12 (i : grid0.Coords) : Fin 3 → Nat :=
  let c4_188 : Index := 4#32
  let c0_189 : Index := 0#32
  let arg2 : BitVec 32 := BitVec.ofNat 32 (i 2).val
  let c512_i32 : BitVec 32 := 512#32
  let v142 : BitVec 32 := Scalar.muli arg2 c512_i32
  let v143 : BitVec 32 := v142
  let v285 : Index := Scalar.indexCast v143
  ![4, 0, v285.toNat]
def k0_off13 (i : grid0.Coords) : Fin 3 → Nat :=
  let c0_202 : Index := 0#32
  let arg2 : BitVec 32 := BitVec.ofNat 32 (i 2).val
  let c512_i32 : BitVec 32 := 512#32
  let v142 : BitVec 32 := Scalar.muli arg2 c512_i32
  let v143 : BitVec 32 := v142
  let v306 : Index := Scalar.indexCast v143
  let c768_203 : Index := 768#32
  ![0, v306.toNat, 768]
def k0_off14 (i : grid0.Coords) : Fin 3 → Nat :=
  let c5_209 : Index := 5#32
  let c0_210 : Index := 0#32
  let arg2 : BitVec 32 := BitVec.ofNat 32 (i 2).val
  let c512_i32 : BitVec 32 := 512#32
  let v142 : BitVec 32 := Scalar.muli arg2 c512_i32
  let v143 : BitVec 32 := v142
  let v315 : Index := Scalar.indexCast v143
  ![5, 0, v315.toNat]
def k0_off15 (i : grid0.Coords) : Fin 3 → Nat :=
  let c0_223 : Index := 0#32
  let arg2 : BitVec 32 := BitVec.ofNat 32 (i 2).val
  let c512_i32 : BitVec 32 := 512#32
  let v142 : BitVec 32 := Scalar.muli arg2 c512_i32
  let v143 : BitVec 32 := v142
  let v336 : Index := Scalar.indexCast v143
  let c896_224 : Index := 896#32
  ![0, v336.toNat, 896]
def k0_off16 (i : grid0.Coords) : Fin 3 → Nat :=
  let c6_230 : Index := 6#32
  let c0_231 : Index := 0#32
  let arg2 : BitVec 32 := BitVec.ofNat 32 (i 2).val
  let c512_i32 : BitVec 32 := 512#32
  let v142 : BitVec 32 := Scalar.muli arg2 c512_i32
  let v143 : BitVec 32 := v142
  let v345 : Index := Scalar.indexCast v143
  ![6, 0, v345.toNat]
def k0_off17 (i : grid0.Coords) : Fin 3 → Nat :=
  let c7_244 : Index := 7#32
  let c0_245 : Index := 0#32
  let arg2 : BitVec 32 := BitVec.ofNat 32 (i 2).val
  let c512_i32 : BitVec 32 := 512#32
  let v142 : BitVec 32 := Scalar.muli arg2 c512_i32
  let v143 : BitVec 32 := v142
  let v366 : Index := Scalar.indexCast v143
  ![7, 0, v366.toNat]
@[reducible] def k0_t1_loop (i : grid0.Coords) : Scf.Loop 32 :=
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_260 : BitVec 32 := 1#32
  ⟨c0_i32_259, v391, c1_i32_260⟩
def k0_mult2 (i : grid0.Coords) (k0_t1 : Fin (k0_t1_loop i).trips) : BitVec 32 :=
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  v480
def k0_off18 (i : grid0.Coords) (k0_t1 : Fin (k0_t1_loop i).trips) : Fin 3 → Nat :=
  let c0_335 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v482 : Index := Scalar.indexCast v481
  let c0_336 : Index := 0#32
  ![0, v482.toNat, 0]
def k0_off19 (i : grid0.Coords) (k0_t1 : Fin (k0_t1_loop i).trips) : Fin 3 → Nat :=
  let c0_337 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v485 : Index := Scalar.indexCast v481
  let c0_338 : Index := 0#32
  ![0, v485.toNat, 0]
def k0_off20 (i : grid0.Coords) (k0_t1 : Fin (k0_t1_loop i).trips) : Fin 3 → Nat :=
  let c0_343 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v492 : Index := Scalar.indexCast v481
  let c128_344 : Index := 128#32
  ![0, v492.toNat, 128]
def k0_off21 (i : grid0.Coords) (k0_t1 : Fin (k0_t1_loop i).trips) : Fin 3 → Nat :=
  let c0_349 : Index := 0#32
  let c0_350 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v499 : Index := Scalar.indexCast v481
  ![0, 0, v499.toNat]
def k0_off22 (i : grid0.Coords) (k0_t1 : Fin (k0_t1_loop i).trips) : Fin 3 → Nat :=
  let c0_372 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v534 : Index := Scalar.indexCast v481
  let c256_373 : Index := 256#32
  ![0, v534.toNat, 256]
def k0_off23 (i : grid0.Coords) (k0_t1 : Fin (k0_t1_loop i).trips) : Fin 3 → Nat :=
  let c1_378 : Index := 1#32
  let c0_379 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v541 : Index := Scalar.indexCast v481
  ![1, 0, v541.toNat]
def k0_off24 (i : grid0.Coords) (k0_t1 : Fin (k0_t1_loop i).trips) : Fin 3 → Nat :=
  let c0_401 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v576 : Index := Scalar.indexCast v481
  let c384_402 : Index := 384#32
  ![0, v576.toNat, 384]
def k0_off25 (i : grid0.Coords) (k0_t1 : Fin (k0_t1_loop i).trips) : Fin 3 → Nat :=
  let c2_407 : Index := 2#32
  let c0_408 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v583 : Index := Scalar.indexCast v481
  ![2, 0, v583.toNat]
def k0_off26 (i : grid0.Coords) (k0_t1 : Fin (k0_t1_loop i).trips) : Fin 3 → Nat :=
  let c0_430 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v618 : Index := Scalar.indexCast v481
  let c512_431 : Index := 512#32
  ![0, v618.toNat, 512]
def k0_off27 (i : grid0.Coords) (k0_t1 : Fin (k0_t1_loop i).trips) : Fin 3 → Nat :=
  let c3_436 : Index := 3#32
  let c0_437 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v625 : Index := Scalar.indexCast v481
  ![3, 0, v625.toNat]
def k0_off28 (i : grid0.Coords) (k0_t1 : Fin (k0_t1_loop i).trips) : Fin 3 → Nat :=
  let c0_459 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v660 : Index := Scalar.indexCast v481
  let c640_460 : Index := 640#32
  ![0, v660.toNat, 640]
def k0_off29 (i : grid0.Coords) (k0_t1 : Fin (k0_t1_loop i).trips) : Fin 3 → Nat :=
  let c4_465 : Index := 4#32
  let c0_466 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v667 : Index := Scalar.indexCast v481
  ![4, 0, v667.toNat]
def k0_off30 (i : grid0.Coords) (k0_t1 : Fin (k0_t1_loop i).trips) : Fin 3 → Nat :=
  let c0_488 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v702 : Index := Scalar.indexCast v481
  let c768_489 : Index := 768#32
  ![0, v702.toNat, 768]
def k0_off31 (i : grid0.Coords) (k0_t1 : Fin (k0_t1_loop i).trips) : Fin 3 → Nat :=
  let c5_494 : Index := 5#32
  let c0_495 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v709 : Index := Scalar.indexCast v481
  ![5, 0, v709.toNat]
def k0_off32 (i : grid0.Coords) (k0_t1 : Fin (k0_t1_loop i).trips) : Fin 3 → Nat :=
  let c0_517 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v744 : Index := Scalar.indexCast v481
  let c896_518 : Index := 896#32
  ![0, v744.toNat, 896]
def k0_off33 (i : grid0.Coords) (k0_t1 : Fin (k0_t1_loop i).trips) : Fin 3 → Nat :=
  let c6_523 : Index := 6#32
  let c0_524 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v751 : Index := Scalar.indexCast v481
  ![6, 0, v751.toNat]
def k0_off34 (i : grid0.Coords) (k0_t1 : Fin (k0_t1_loop i).trips) : Fin 3 → Nat :=
  let c7_546 : Index := 7#32
  let c0_547 : Index := 0#32
  let c0_i32_259 : BitVec 32 := 0#32
  let c1_i32_260 : BitVec 32 := 1#32
  let arg16 : BitVec 32 := Scf.iv c0_i32_259 c1_i32_260 k0_t1
  let c512_i32_334 : BitVec 32 := 512#32
  let v480 : BitVec 32 := Scalar.muli arg16 c512_i32_334
  let v481 : BitVec 32 := v480
  let v786 : Index := Scalar.indexCast v481
  ![7, 0, v786.toNat]
@[reducible] def k0_t2_loop (i : grid0.Coords) : Scf.Loop 32 :=
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let v388 : BitVec 32 := Scalar.addi c0_i32_259 v387
  let c1_i32_261 : BitVec 32 := 1#32
  ⟨v391, v388, c1_i32_261⟩
def k0_mult3 (i : grid0.Coords) (k0_t2 : Fin (k0_t2_loop i).trips) : BitVec 32 :=
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  v480
def k0_off35 (i : grid0.Coords) (k0_t2 : Fin (k0_t2_loop i).trips) : Fin 3 → Nat :=
  let c0_335 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v482 : Index := Scalar.indexCast v481
  let c0_336 : Index := 0#32
  ![0, v482.toNat, 0]
def k0_off36 (i : grid0.Coords) (k0_t2 : Fin (k0_t2_loop i).trips) : Fin 3 → Nat :=
  let c0_337 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v485 : Index := Scalar.indexCast v481
  let c0_338 : Index := 0#32
  ![0, v485.toNat, 0]
def k0_off37 (i : grid0.Coords) (k0_t2 : Fin (k0_t2_loop i).trips) : Fin 3 → Nat :=
  let c0_343 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v492 : Index := Scalar.indexCast v481
  let c128_344 : Index := 128#32
  ![0, v492.toNat, 128]
def k0_off38 (i : grid0.Coords) (k0_t2 : Fin (k0_t2_loop i).trips) : Fin 3 → Nat :=
  let c0_349 : Index := 0#32
  let c0_350 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v499 : Index := Scalar.indexCast v481
  ![0, 0, v499.toNat]
def k0_off39 (i : grid0.Coords) (k0_t2 : Fin (k0_t2_loop i).trips) : Fin 3 → Nat :=
  let c0_372 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v534 : Index := Scalar.indexCast v481
  let c256_373 : Index := 256#32
  ![0, v534.toNat, 256]
def k0_off40 (i : grid0.Coords) (k0_t2 : Fin (k0_t2_loop i).trips) : Fin 3 → Nat :=
  let c1_378 : Index := 1#32
  let c0_379 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v541 : Index := Scalar.indexCast v481
  ![1, 0, v541.toNat]
def k0_off41 (i : grid0.Coords) (k0_t2 : Fin (k0_t2_loop i).trips) : Fin 3 → Nat :=
  let c0_401 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v576 : Index := Scalar.indexCast v481
  let c384_402 : Index := 384#32
  ![0, v576.toNat, 384]
def k0_off42 (i : grid0.Coords) (k0_t2 : Fin (k0_t2_loop i).trips) : Fin 3 → Nat :=
  let c2_407 : Index := 2#32
  let c0_408 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v583 : Index := Scalar.indexCast v481
  ![2, 0, v583.toNat]
def k0_off43 (i : grid0.Coords) (k0_t2 : Fin (k0_t2_loop i).trips) : Fin 3 → Nat :=
  let c0_430 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v618 : Index := Scalar.indexCast v481
  let c512_431 : Index := 512#32
  ![0, v618.toNat, 512]
def k0_off44 (i : grid0.Coords) (k0_t2 : Fin (k0_t2_loop i).trips) : Fin 3 → Nat :=
  let c3_436 : Index := 3#32
  let c0_437 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v625 : Index := Scalar.indexCast v481
  ![3, 0, v625.toNat]
def k0_off45 (i : grid0.Coords) (k0_t2 : Fin (k0_t2_loop i).trips) : Fin 3 → Nat :=
  let c0_459 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v660 : Index := Scalar.indexCast v481
  let c640_460 : Index := 640#32
  ![0, v660.toNat, 640]
def k0_off46 (i : grid0.Coords) (k0_t2 : Fin (k0_t2_loop i).trips) : Fin 3 → Nat :=
  let c4_465 : Index := 4#32
  let c0_466 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v667 : Index := Scalar.indexCast v481
  ![4, 0, v667.toNat]
def k0_off47 (i : grid0.Coords) (k0_t2 : Fin (k0_t2_loop i).trips) : Fin 3 → Nat :=
  let c0_488 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v702 : Index := Scalar.indexCast v481
  let c768_489 : Index := 768#32
  ![0, v702.toNat, 768]
def k0_off48 (i : grid0.Coords) (k0_t2 : Fin (k0_t2_loop i).trips) : Fin 3 → Nat :=
  let c5_494 : Index := 5#32
  let c0_495 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v709 : Index := Scalar.indexCast v481
  ![5, 0, v709.toNat]
def k0_off49 (i : grid0.Coords) (k0_t2 : Fin (k0_t2_loop i).trips) : Fin 3 → Nat :=
  let c0_517 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v744 : Index := Scalar.indexCast v481
  let c896_518 : Index := 896#32
  ![0, v744.toNat, 896]
def k0_off50 (i : grid0.Coords) (k0_t2 : Fin (k0_t2_loop i).trips) : Fin 3 → Nat :=
  let c6_523 : Index := 6#32
  let c0_524 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v751 : Index := Scalar.indexCast v481
  ![6, 0, v751.toNat]
def k0_off51 (i : grid0.Coords) (k0_t2 : Fin (k0_t2_loop i).trips) : Fin 3 → Nat :=
  let c7_546 : Index := 7#32
  let c0_547 : Index := 0#32
  let c0_i32_259 : BitVec 32 := 0#32
  let arg2 : BitVec 32 := BitVec.ofNat 32 (i 2).val
  let v387 : BitVec 32 := Scalar.subi arg2 c0_i32_259
  let c1_i32 : BitVec 32 := 1#32
  let v389 : BitVec 32 := Scalar.divsi v387 c1_i32
  let v390 : BitVec 32 := Scalar.muli v389 c1_i32
  let v391 : BitVec 32 := Scalar.addi c0_i32_259 v390
  let c1_i32_261 : BitVec 32 := 1#32
  let arg16 : BitVec 32 := Scf.iv v391 c1_i32_261 k0_t2
  let c512_i32_334 : BitVec 32 := 512#32
  let v480 : BitVec 32 := Scalar.muli arg16 c512_i32_334
  let v481 : BitVec 32 := v480
  let v786 : Index := Scalar.indexCast v481
  ![7, 0, v786.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x4096x4096 : Shape := ⟨3, ![2, 4096, 4096]⟩
abbrev S2x4096x128 : Shape := ⟨3, ![2, 4096, 128]⟩
abbrev S2x4096 : Shape := ⟨2, ![2, 4096]⟩
abbrev S2x4096x2048 : Shape := ⟨3, ![2, 4096, 2048]⟩
abbrev S2x4096x16x128 : Shape := ⟨4, ![2, 4096, 16, 128]⟩
abbrev S_ : Shape := ⟨0, ![]⟩
abbrev S2x16x4096x4096 : Shape := ⟨4, ![2, 16, 4096, 4096]⟩
abbrev S2x4096x4096x16 : Shape := ⟨4, ![2, 4096, 4096, 16]⟩
abbrev S2x1x1x4096 : Shape := ⟨4, ![2, 1, 1, 4096]⟩
abbrev S2x1x4096x1 : Shape := ⟨4, ![2, 1, 4096, 1]⟩
abbrev S2x1x4096x4096 : Shape := ⟨4, ![2, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩

abbrev nBuf : Space → Nat
  | .hbm => 71
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x4096, .bf16⟩
  | .hbm, ⟨2, _⟩ => ⟨S2x4096x128, .bf16⟩
  | .hbm, ⟨3, _⟩ => ⟨S2x4096, .i32⟩
  | .hbm, ⟨4, _⟩ => ⟨S2x4096x2048, .bf16⟩
  | .hbm, ⟨5, _⟩ => ⟨S2x4096x2048, .f32⟩
  | .hbm, ⟨6, _⟩ => ⟨S2x4096x16x128, .f32⟩
  | .hbm, ⟨7, _⟩ => ⟨S2x4096x2048, .bf16⟩
  | .hbm, ⟨8, _⟩ => ⟨S2x4096x2048, .f32⟩
  | .hbm, ⟨9, _⟩ => ⟨S2x4096x16x128, .f32⟩
  | .hbm, ⟨10, _⟩ => ⟨S2x4096x2048, .bf16⟩
  | .hbm, ⟨11, _⟩ => ⟨S2x4096x2048, .f32⟩
  | .hbm, ⟨12, _⟩ => ⟨S2x4096x16x128, .f32⟩
  | .hbm, ⟨13, _⟩ => ⟨S2x4096x2048, .bf16⟩
  | .hbm, ⟨14, _⟩ => ⟨S2x4096x2048, .f32⟩
  | .hbm, ⟨15, _⟩ => ⟨S2x4096x16x128, .f32⟩
  | .hbm, ⟨16, _⟩ => ⟨S2x4096x128, .f32⟩
  | .hbm, ⟨17, _⟩ => ⟨S_, .i32⟩
  | .hbm, ⟨18, _⟩ => ⟨S_, .i32⟩
  | .hbm, ⟨19, _⟩ => ⟨S2x4096, .i32⟩
  | .hbm, ⟨20, _⟩ => ⟨S2x4096, .i32⟩
  | .hbm, ⟨21, _⟩ => ⟨S2x4096, .i32⟩
  | .hbm, ⟨22, _⟩ => ⟨S_, .i32⟩
  | .hbm, ⟨23, _⟩ => ⟨S2x4096, .i32⟩
  | .hbm, ⟨24, _⟩ => ⟨S2x4096, .i1⟩
  | .hbm, ⟨25, _⟩ => ⟨S2x4096, .i32⟩
  | .hbm, ⟨26, _⟩ => ⟨S2x4096, .i32⟩
  | .hbm, ⟨27, _⟩ => ⟨S_, .i32⟩
  | .hbm, ⟨28, _⟩ => ⟨S2x4096, .i32⟩
  | .hbm, ⟨29, _⟩ => ⟨S2x4096, .i1⟩
  | .hbm, ⟨30, _⟩ => ⟨S2x4096, .i1⟩
  | .hbm, ⟨31, _⟩ => ⟨S_, .i32⟩
  | .hbm, ⟨32, _⟩ => ⟨S2x4096, .i32⟩
  | .hbm, ⟨33, _⟩ => ⟨S2x4096, .i32⟩
  | .hbm, ⟨34, _⟩ => ⟨S2x4096, .i32⟩
  | .hbm, ⟨35, _⟩ => ⟨S2x16x4096x4096, .f32⟩
  | .hbm, ⟨36, _⟩ => ⟨S2x4096x4096x16, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S_, .f32⟩
  | .hbm, ⟨41, _⟩ => ⟨S2x16x4096x4096, .f32⟩
  | .hbm, ⟨42, _⟩ => ⟨S2x16x4096x4096, .f32⟩
  | .hbm, ⟨43, _⟩ => ⟨S2x1x1x4096, .i32⟩
  | .hbm, ⟨44, _⟩ => ⟨S2x1x4096x1, .i32⟩
  | .hbm, ⟨45, _⟩ => ⟨S2x1x4096x4096, .i32⟩
  | .hbm, ⟨46, _⟩ => ⟨S2x1x4096x4096, .i32⟩
  | .hbm, ⟨47, _⟩ => ⟨S2x1x4096x4096, .i1⟩
  | .hbm, ⟨48, _⟩ => ⟨S_, .f32⟩
  | .hbm, ⟨49, _⟩ => ⟨S_, .f32⟩
  | .hbm, ⟨50, _⟩ => ⟨S2x16x4096x4096, .i1⟩
  | .hbm, ⟨51, _⟩ => ⟨S2x16x4096x4096, .f32⟩
  | .hbm, ⟨52, _⟩ => ⟨S2x16x4096x4096, .f32⟩
  | .hbm, ⟨53, _⟩ => ⟨S_, .f32⟩
  | .hbm, ⟨54, _⟩ => ⟨S2x16x4096, .f32⟩
  | .hbm, ⟨55, _⟩ => ⟨S_, .f32⟩
  | .hbm, ⟨56, _⟩ => ⟨S2x16x4096, .f32⟩
  | .hbm, ⟨57, _⟩ => ⟨S2x16x4096, .f32⟩
  | .hbm, ⟨58, _⟩ => ⟨S2x16x4096x1, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S_, .f32⟩
  | .hbm, ⟨63, _⟩ => ⟨S2x16x4096, .f32⟩
  | .hbm, ⟨64, _⟩ => ⟨S2x16x4096x1, .f32⟩
  | .hbm, ⟨65, _⟩ => ⟨S2x16x4096x4096, .f32⟩
  | .hbm, ⟨66, _⟩ => ⟨S2x16x4096x4096, .f32⟩
  | .hbm, ⟨67, _⟩ => ⟨S2x16x128x4096, .f32⟩
  | .hbm, ⟨68, _⟩ => ⟨S2x4096x16x128, .f32⟩
  | .hbm, ⟨69, _⟩ => ⟨S2x4096x2048, .f32⟩
  | .hbm, ⟨70, _⟩ => ⟨S2x4096x2048, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel2.lean ====
abbrev S8192x4096 : Shape := ⟨2, ![8192, 4096]⟩
abbrev S2x4096x16384 : Shape := ⟨3, ![2, 4096, 16384]⟩
abbrev S8192x8192 : Shape := ⟨2, ![8192, 8192]⟩
abbrev S1024x4096 : Shape := ⟨2, ![1024, 4096]⟩
abbrev S1024x512 : Shape := ⟨2, ![1024, 512]⟩
abbrev S2x4096x512 : Shape := ⟨3, ![2, 4096, 512]⟩
abbrev S2 : Shape := ⟨1, ![2]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x512, .bf16⟩
  | .local _ .vmem, ⟨3, _⟩ => ⟨S1024x512, .bf16⟩
  | .local _ .vmem, ⟨4, _⟩ => ⟨S2x4096x512, .f32⟩
  | .local _ .vmem, ⟨5, _⟩ => ⟨S2x4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_15 : BitVec 32 := 0#32
  let v22 : BitVec 1 := Scalar.cmpi .eq arg0 c0_i32_15
  let v23 : BitVec 32 := Scalar.extui v22
  let c0_i32_16 : BitVec 32 := 0#32
  let v24 : BitVec 1 := Scalar.cmpi .ne v23 c0_i32_16
  v24

def k0_mult1 (i : grid0.Coords) : BitVec 32 :=
  let c0_i32_45 : BitVec 32 := 0#32
  let arg0 : BitVec 32 := BitVec.ofNat 32 (i 0).val
  let c512_i32_44 : BitVec 32 := 512#32
  let v59 : BitVec 32 := Scalar.muli arg0 c512_i32_44
  let v60 : BitVec 32 := Scalar.addi c0_i32_45 v59
  v60
def k0_off1 (i : grid0.Coords) (c0_i32_45 : BitVec 32) : Fin 3 → Nat :=
  let c0_i32_46 : BitVec 32 := 0#32
  let c0_i32_51 : BitVec 32 := 0#32
  let arg0 : BitVec 32 := BitVec.ofNat 32 (i 0).val
  let c512_i32_44 : BitVec 32 := 512#32
  let v59 : BitVec 32 := Scalar.muli arg0 c512_i32_44
  let v60 : BitVec 32 := Scalar.addi c0_i32_45 v59
  let v61 : BitVec 32 := v60
  ![0, 0, v61.toNat]
def k0_mult2 (i : grid0.Coords) : BitVec 32 :=
  let c8192_i32_53 : BitVec 32 := 8192#32
  let arg0 : BitVec 32 := BitVec.ofNat 32 (i 0).val
  let c512_i32_52 : BitVec 32 := 512#32
  let v68 : BitVec 32 := Scalar.muli arg0 c512_i32_52
  let v69 : BitVec 32 := Scalar.addi c8192_i32_53 v68
  v69
def k0_mult3 (i : grid0.Coords) : BitVec 32 :=
  let c0_i32_17 : BitVec 32 := 0#32
  let arg0 : BitVec 32 := BitVec.ofNat 32 (i 0).val
  let c512_i32 : BitVec 32 := 512#32
  let v25 : BitVec 32 := Scalar.muli arg0 c512_i32
  let v26 : BitVec 32 := Scalar.addi c0_i32_17 v25
  v26
def k0_off2 (i : grid0.Coords) (c0_i32_17 : BitVec 32) : Fin 3 → Nat :=
  let c0_i32_18 : BitVec 32 := 0#32
  let c0_i32_23 : BitVec 32 := 0#32
  let arg0 : BitVec 32 := BitVec.ofNat 32 (i 0).val
  let c512_i32 : BitVec 32 := 512#32
  let v25 : BitVec 32 := Scalar.muli arg0 c512_i32
  let v26 : BitVec 32 := Scalar.addi c0_i32_17 v25
  let v27 : BitVec 32 := v26
  ![0, 0, v27.toNat]
def k0_mult4 (i : grid0.Coords) : BitVec 32 :=
  let c8192_i32 : BitVec 32 := 8192#32
  let arg0 : BitVec 32 := BitVec.ofNat 32 (i 0).val
  let c512_i32_30 : BitVec 32 := 512#32
  let v40 : BitVec 32 := Scalar.muli arg0 c512_i32_30
  let v41 : BitVec 32 := Scalar.addi c8192_i32 v40
  v41
def k0_cond3 (i : grid0.Coords) : BitVec 1 :=
  let arg0 : BitVec 32 := BitVec.ofNat 32 (i 0).val
  let c1_i32_42 : BitVec 32 := 1#32
  let v55 : BitVec 32 := Scalar.addi arg0 c1_i32_42
  let c16_i32 : BitVec 32 := 16#32
  let v56 : BitVec 1 := Scalar.cmpi .slt v55 c16_i32
  let v57 : BitVec 32 := Scalar.extui v56
  let c0_i32_43 : BitVec 32 := 0#32
  let v58 : BitVec 1 := Scalar.cmpi .ne v57 c0_i32_43
  v58

def k0_mult5 (i : grid0.Coords) : BitVec 32 :=
  let c0_i32_46 : BitVec 32 := 0#32
  let arg0 : BitVec 32 := BitVec.ofNat 32 (i 0).val
  let c1_i32_44 : BitVec 32 := 1#32
  let v59 : BitVec 32 := Scalar.addi arg0 c1_i32_44
  let c512_i32_45 : BitVec 32 := 512#32
  let v60 : BitVec 32 := Scalar.muli v59 c512_i32_45
  let v61 : BitVec 32 := Scalar.addi c0_i32_46 v60
  v61
def k0_off3 (i : grid0.Coords) (c0_i32_46 : BitVec 32) : Fin 3 → Nat :=
  let c0_i32_47 : BitVec 32 := 0#32
  let c0_i32_52 : BitVec 32 := 0#32
  let arg0 : BitVec 32 := BitVec.ofNat 32 (i 0).val
  let c1_i32_44 : BitVec 32 := 1#32
  let v59 : BitVec 32 := Scalar.addi arg0 c1_i32_44
  let c512_i32_45 : BitVec 32 := 512#32
  let v60 : BitVec 32 := Scalar.muli v59 c512_i32_45
  let v61 : BitVec 32 := Scalar.addi c0_i32_46 v60
  let v62 : BitVec 32 := v61
  ![0, 0, v62.toNat]
def k0_mult6 (i : grid0.Coords) : BitVec 32 :=
  let c8192_i32_55 : BitVec 32 := 8192#32
  let arg0 : BitVec 32 := BitVec.ofNat 32 (i 0).val
  let c1_i32_53 : BitVec 32 := 1#32
  let v69 : BitVec 32 := Scalar.addi arg0 c1_i32_53
  let c512_i32_54 : BitVec 32 := 512#32
  let v70 : BitVec 32 := Scalar.muli v69 c512_i32_54
  let v71 : BitVec 32 := Scalar.addi c8192_i32_55 v70
  v71
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S8192x4096 : Shape := ⟨2, ![8192, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8192x16384 : Shape := ⟨2, ![8192, 16384]⟩
abbrev S8192x8192 : Shape := ⟨2, ![8192, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x4096, .f32⟩
  | .hbm, ⟨3, _⟩ => ⟨S1x4096x16384, .f32⟩
  | .hbm, ⟨4, _⟩ => ⟨S4096x16384, .f32⟩
  | .hbm, ⟨5, _⟩ => ⟨S8192x16384, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel3.lean ====
abbrev S8192x8192 : Shape := ⟨2, ![8192, 8192]⟩
abbrev S2x8192x4096 : Shape := ⟨3, ![2, 8192, 4096]⟩
abbrev S8192x4096 : Shape := ⟨2, ![8192, 4096]⟩
abbrev S2x4096 : Shape := ⟨2, ![2, 4096]⟩
abbrev S2x1x4096 : Shape := ⟨3, ![2, 1, 4096]⟩
abbrev S512x8192 : Shape := ⟨2, ![512, 8192]⟩
abbrev S512x512 : Shape := ⟨2, ![512, 512]⟩
abbrev S1x1x512 : Shape := ⟨3, ![1, 1, 512]⟩
abbrev S1x8192x512 : Shape := ⟨3, ![1, 8192, 512]⟩
abbrev S1 : Shape := ⟨1, ![1]⟩
abbrev S_ : Shape := ⟨0, ![]⟩
abbrev S8192x512 : Shape := ⟨2, ![8192, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x8192, .bf16⟩
  | .hbm, ⟨1, _⟩ => ⟨S2x8192x4096, .f32⟩
  | .hbm, ⟨2, _⟩ => ⟨S8192x4096, .f32⟩
  | .hbm, ⟨3, _⟩ => ⟨S2x4096, .f32⟩
  | .hbm, ⟨4, _⟩ => ⟨S2x1x4096, .f32⟩
  | .hbm, ⟨5, _⟩ => ⟨S8192x4096, .f32⟩
  | .local _ .vmem, ⟨0, _⟩ => ⟨S512x8192, .bf16⟩
  | .local _ .vmem, ⟨1, _⟩ => ⟨S512x8192, .bf16⟩
  | .local _ .vmem, ⟨2, _⟩ => ⟨S512x512, .f32⟩
  | .local _ .vmem, ⟨3, _⟩ => ⟨S512x512, .f32⟩
  | .local _ .vmem, ⟨4, _⟩ => ⟨S1x1x512, .f32⟩
  | .local _ .vmem, ⟨5, _⟩ => ⟨S1x1x512, .f32⟩
  | .local _ .vmem, ⟨6, _⟩ => ⟨S512x512, .f32⟩
  | .local _ .vmem, ⟨7, _⟩ => ⟨S512x512, .f32⟩
  | .local _ .vmem, ⟨8, _⟩ => ⟨S1x8192x512, .f32⟩
  | .local _ .vmem, ⟨9, _⟩ => ⟨S1x8192x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_13 : BitVec 32 := 0#32
  let v16 : BitVec 1 := Scalar.cmpi .eq arg0 c0_i32_13
  let v17 : BitVec 32 := Scalar.extui v16
  let c0_i32_14 : BitVec 32 := 0#32
  let v18 : BitVec 1 := Scalar.cmpi .ne v17 c0_i32_14
  v18

def k0_mult1 (i : grid0.Coords) : BitVec 32 :=
  let c0_i32_30 : BitVec 32 := 0#32
  let arg0 : BitVec 32 := BitVec.ofNat 32 (i 0).val
  let c512_i32_29 : BitVec 32 := 512#32
  let v38 : BitVec 32 := Scalar.muli arg0 c512_i32_29
  let v39 : BitVec 32 := Scalar.addi c0_i32_30 v38
  v39
def k0_off1 (i : grid0.Coords) : Fin 3 → Nat :=
  let c0_i32_31 : BitVec 32 := 0#32
  let c0_i32_36 : BitVec 32 := 0#32
  let c0_i32_30 : BitVec 32 := 0#32
  let arg0 : BitVec 32 := BitVec.ofNat 32 (i 0).val
  let c512_i32_29 : BitVec 32 := 512#32
  let v38 : BitVec 32 := Scalar.muli arg0 c512_i32_29
  let v39 : BitVec 32 := Scalar.addi c0_i32_30 v38
  let v40 : BitVec 32 := v39
  ![0, 0, v40.toNat]
def k0_mult2 (i : grid0.Coords) : BitVec 32 :=
  let c0_i32_15 : BitVec 32 := 0#32
  let arg0 : BitVec 32 := BitVec.ofNat 32 (i 0).val
  let c512_i32 : BitVec 32 := 512#32
  let v19 : BitVec 32 := Scalar.muli arg0 c512_i32
  let v20 : BitVec 32 := Scalar.addi c0_i32_15 v19
  v20
def k0_off2 (i : grid0.Coords) : Fin 3 → Nat :=
  let c0_i32_16 : BitVec 32 := 0#32
  let c0_i32_21 : BitVec 32 := 0#32
  let c0_i32_15 : BitVec 32 := 0#32
  let arg0 : BitVec 32 := BitVec.ofNat 32 (i 0).val
  let c512_i32 : BitVec 32 := 512#32
  let v19 : BitVec 32 := Scalar.muli arg0 c512_i32
  let v20 : BitVec 32 := Scalar.addi c0_i32_15 v19
  let v21 : BitVec 32 := v20
  ![0, 0, v21.toNat]
def k0_cond3 (i : grid0.Coords) : BitVec 1 :=
  let arg0 : BitVec 32 := BitVec.ofNat 32 (i 0).val
  let c1_i32 : BitVec 32 := 1#32
  let v34 : BitVec 32 := Scalar.addi arg0 c1_i32
  let c8_i32 : BitVec 32 := 8#32
  let v35 : BitVec 1 := Scalar.cmpi .slt v34 c8_i32
  let v36 : BitVec 32 := Scalar.extui v35
  let c0_i32_28 : BitVec 32 := 0#32
  let v37 : BitVec 1 := Scalar.cmpi .ne v36 c0_i32_28
  v37

def k0_mult3 (i : grid0.Coords) : BitVec 32 :=
  let c0_i32_31 : BitVec 32 := 0#32
  let arg0 : BitVec 32 := BitVec.ofNat 32 (i 0).val
  let c1_i32_29 : BitVec 32 := 1#32
  let v38 : BitVec 32 := Scalar.addi arg0 c1_i32_29
  let c512_i32_30 : BitVec 32 := 512#32
  let v39 : BitVec 32 := Scalar.muli v38 c512_i32_30
  let v40 : BitVec 32 := Scalar.addi c0_i32_31 v39
  v40
def k0_off3 (i : grid0.Coords) : Fin 3 → Nat :=
  let c0_i32_32 : BitVec 32 := 0#32
  let c0_i32_37 : BitVec 32 := 0#32
  let c0_i32_31 : BitVec 32 := 0#32
  let arg0 : BitVec 32 := BitVec.ofNat 32 (i 0).val
  let c1_i32_29 : BitVec 32 := 1#32
  let v38 : BitVec 32 := Scalar.addi arg0 c1_i32_29
  let c512_i32_30 : BitVec 32 := 512#32
  let v39 : BitVec 32 := Scalar.muli v38 c512_i32_30
  let v40 : BitVec 32 := Scalar.addi c0_i32_31 v39
  let v41 : BitVec 32 := v40
  ![0, 0, v41.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x8192 : Shape := ⟨2, ![8192, 8192]⟩
abbrev S2x8192x4096 : Shape := ⟨3, ![2, 8192, 4096]⟩
abbrev S8192x4096 : Shape := ⟨2, ![8192, 4096]⟩
abbrev S2x4096 : Shape := ⟨2, ![2, 4096]⟩
abbrev S2x1x4096 : Shape := ⟨3, ![2, 1, 4096]⟩
abbrev S2x4096x4096 : Shape := ⟨3, ![2, 4096, 4096]⟩
abbrev S_ : Shape := ⟨0, ![]⟩
abbrev S1x8192x4096 : Shape := ⟨3, ![1, 8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2x8192x4096, .f32⟩
  | .hbm, ⟨2, _⟩ => ⟨S8192x4096, .f32⟩
  | .hbm, ⟨3, _⟩ => ⟨S2x4096, .f32⟩
  | .hbm, ⟨4, _⟩ => ⟨S2x1x4096, .f32⟩
  | .hbm, ⟨5, _⟩ => ⟨S2x4096x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x8192, .f32⟩
  | .hbm, ⟨11, _⟩ => ⟨S1x8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S8192x4096 : Shape := ⟨2, ![8192, 4096]⟩
abbrev S2x4096x22096 : Shape := ⟨3, ![2, 4096, 22096]⟩
abbrev S2x22096x4096 : Shape := ⟨3, ![2, 22096, 4096]⟩
abbrev S8192x14336 : Shape := ⟨2, ![8192, 14336]⟩
abbrev S1024x4096 : Shape := ⟨2, ![1024, 4096]⟩
abbrev S1024x1024 : Shape := ⟨2, ![1024, 1024]⟩
abbrev S1 : Shape := ⟨1, ![1]⟩
abbrev S_ : Shape := ⟨0, ![]⟩
abbrev S1x1024x4096 : Shape := ⟨3, ![1, 1024, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x22096, .f32⟩
  | .hbm, ⟨2, _⟩ => ⟨S2x22096x4096, .f32⟩
  | .hbm, ⟨3, _⟩ => ⟨S8192x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S1024x4096, .f32⟩
  | .local _ .vmem, ⟨5, _⟩ => ⟨S1024x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![14, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_9 : BitVec 32 := 0#32
  let v15 : BitVec 1 := Scalar.cmpi .eq arg0 c0_i32_9
  let v16 : BitVec 32 := Scalar.extui v15
  let c0_i32_10 : BitVec 32 := 0#32
  let v17 : BitVec 1 := Scalar.cmpi .ne v16 c0_i32_10
  v17

def k0_mult1 (i : grid0.Coords) : BitVec 32 :=
  let arg0 : BitVec 32 := BitVec.ofNat 32 (i 0).val
  let c2_i32_23 : BitVec 32 := 2#32
  let v41 : BitVec 1 := Scalar.cmpi .sge arg0 c2_i32_23
  let c9808_i32_26 : BitVec 32 := 9808#32
  let c2_i32_24 : BitVec 32 := 2#32
  let v42 : BitVec 32 := Scalar.subi arg0 c2_i32_24
  let c1024_i32_25 : BitVec 32 := 1024#32
  let v43 : BitVec 32 := Scalar.muli v42 c1024_i32_25
  let v44 : BitVec 32 := Scalar.addi c9808_i32_26 v43
  let c7744_i32_22 : BitVec 32 := 7744#32
  let c1024_i32_21 : BitVec 32 := 1024#32
  let v39 : BitVec 32 := Scalar.muli arg0 c1024_i32_21
  let v40 : BitVec 32 := Scalar.addi c7744_i32_22 v39
  let v45 : BitVec 32 := Scalar.select v41 v44 v40
  v45
def k0_off1 (i : grid0.Coords) : Fin 3 → Nat :=
  let c0_i32_27 : BitVec 32 := 0#32
  let arg0 : BitVec 32 := BitVec.ofNat 32 (i 0).val
  let c2_i32_23 : BitVec 32 := 2#32
  let v41 : BitVec 1 := Scalar.cmpi .sge arg0 c2_i32_23
  let c9808_i32_26 : BitVec 32 := 9808#32
  let c2_i32_24 : BitVec 32 := 2#32
  let v42 : BitVec 32 := Scalar.subi arg0 c2_i32_24
  let c1024_i32_25 : BitVec 32 := 1024#32
  let v43 : BitVec 32 := Scalar.muli v42 c1024_i32_25
  let v44 : BitVec 32 := Scalar.addi c9808_i32_26 v43
  let c7744_i32_22 : BitVec 32 := 7744#32
  let c1024_i32_21 : BitVec 32 := 1024#32
  let v39 : BitVec 32 := Scalar.muli arg0 c1024_i32_21
  let v40 : BitVec 32 := Scalar.addi c7744_i32_22 v39
  let v45 : BitVec 32 := Scalar.select v41 v44 v40
  let v46 : BitVec 32 := v45
  let c0_i32_29 : BitVec 32 := 0#32
  ![0, v46.toNat, 0]
def k0_mult2 (i : grid0.Coords) : BitVec 32 :=
  let arg0 : BitVec 32 := BitVec.ofNat 32 (i 0).val
  let c2_i32 : BitVec 32 := 2#32
  let v20 : BitVec 1 := Scalar.cmpi .sge arg0 c2_i32
  let c9808_i32 : BitVec 32 := 9808#32
  let c2_i32_11 : BitVec 32 := 2#32
  let v21 : BitVec 32 := Scalar.subi arg0 c2_i32_11
  let c1024_i32_12 : BitVec 32 := 1024#32
  let v22 : BitVec 32 := Scalar.muli v21 c1024_i32_12
  let v23 : BitVec 32 := Scalar.addi c9808_i32 v22
  let c7744_i32 : BitVec 32 := 7744#32
  let c1024_i32 : BitVec 32 := 1024#32
  let v18 : BitVec 32 := Scalar.muli arg0 c1024_i32
  let v19 : BitVec 32 := Scalar.addi c7744_i32 v18
  let v24 : BitVec 32 := Scalar.select v20 v23 v19
  v24
def k0_off2 (i : grid0.Coords) : Fin 3 → Nat :=
  let c0_i32_13 : BitVec 32 := 0#32
  let arg0 : BitVec 32 := BitVec.ofNat 32 (i 0).val
  let c2_i32 : BitVec 32 := 2#32
  let v20 : BitVec 1 := Scalar.cmpi .sge arg0 c2_i32
  let c9808_i32 : BitVec 32 := 9808#32
  let c2_i32_11 : BitVec 32 := 2#32
  let v21 : BitVec 32 := Scalar.subi arg0 c2_i32_11
  let c1024_i32_12 : BitVec 32 := 1024#32
  let v22 : BitVec 32 := Scalar.muli v21 c1024_i32_12
  let v23 : BitVec 32 := Scalar.addi c9808_i32 v22
  let c7744_i32 : BitVec 32 := 7744#32
  let c1024_i32 : BitVec 32 := 1024#32
  let v18 : BitVec 32 := Scalar.muli arg0 c1024_i32
  let v19 : BitVec 32 := Scalar.addi c7744_i32 v18
  let v24 : BitVec 32 := Scalar.select v20 v23 v19
  let v25 : BitVec 32 := v24
  let c0_i32_15 : BitVec 32 := 0#32
  ![0, v25.toNat, 0]
def k0_cond3 (i : grid0.Coords) : BitVec 1 :=
  let arg0 : BitVec 32 := BitVec.ofNat 32 (i 0).val
  let c1_i32 : BitVec 32 := 1#32
  let v35 : BitVec 32 := Scalar.addi arg0 c1_i32
  let c14_i32 : BitVec 32 := 14#32
  let v36 : BitVec 1 := Scalar.cmpi .slt v35 c14_i32
  let v37 : BitVec 32 := Scalar.extui v36
  let c0_i32_20 : BitVec 32 := 0#32
  let v38 : BitVec 1 := Scalar.cmpi .ne v37 c0_i32_20
  v38

def k0_mult3 (i : grid0.Coords) : BitVec 32 :=
  let arg0 : BitVec 32 := BitVec.ofNat 32 (i 0).val
  let c1_i32_21 : BitVec 32 := 1#32
  let v39 : BitVec 32 := Scalar.addi arg0 c1_i32_21
  let c2_i32_24 : BitVec 32 := 2#32
  let v42 : BitVec 1 := Scalar.cmpi .sge v39 c2_i32_24
  let c9808_i32_27 : BitVec 32 := 9808#32
  let c2_i32_25 : BitVec 32 := 2#32
  let v43 : BitVec 32 := Scalar.subi v39 c2_i32_25
  let c1024_i32_26 : BitVec 32 := 1024#32
  let v44 : BitVec 32 := Scalar.muli v43 c1024_i32_26
  let v45 : BitVec 32 := Scalar.addi c9808_i32_27 v44
  let c7744_i32_23 : BitVec 32 := 7744#32
  let c1024_i32_22 : BitVec 32 := 1024#32
  let v40 : BitVec 32 := Scalar.muli v39 c1024_i32_22
  let v41 : BitVec 32 := Scalar.addi c7744_i32_23 v40
  let v46 : BitVec 32 := Scalar.select v42 v45 v41
  v46
def k0_off3 (i : grid0.Coords) : Fin 3 → Nat :=
  let c0_i32_28 : BitVec 32 := 0#32
  let arg0 : BitVec 32 := BitVec.ofNat 32 (i 0).val
  let c1_i32_21 : BitVec 32 := 1#32
  let v39 : BitVec 32 := Scalar.addi arg0 c1_i32_21
  let c2_i32_24 : BitVec 32 := 2#32
  let v42 : BitVec 1 := Scalar.cmpi .sge v39 c2_i32_24
  let c9808_i32_27 : BitVec 32 := 9808#32
  let c2_i32_25 : BitVec 32 := 2#32
  let v43 : BitVec 32 := Scalar.subi v39 c2_i32_25
  let c1024_i32_26 : BitVec 32 := 1024#32
  let v44 : BitVec 32 := Scalar.muli v43 c1024_i32_26
  let v45 : BitVec 32 := Scalar.addi c9808_i32_27 v44
  let c7744_i32_23 : BitVec 32 := 7744#32
  let c1024_i32_22 : BitVec 32 := 1024#32
  let v40 : BitVec 32 := Scalar.muli v39 c1024_i32_22
  let v41 : BitVec 32 := Scalar.addi c7744_i32_23 v40
  let v46 : BitVec 32 := Scalar.select v42 v45 v41
  let v47 : BitVec 32 := v46
  let c0_i32_30 : BitVec 32 := 0#32
  ![0, v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S8192x4096 : Shape := ⟨2, ![8192, 4096]⟩
abbrev S2x4096x22096 : Shape := ⟨3, ![2, 4096, 22096]⟩
abbrev S1x4096x22096 : Shape := ⟨3, ![1, 4096, 22096]⟩
abbrev S4096x22096 : Shape := ⟨2, ![4096, 22096]⟩
abbrev S8192x22096 : Shape := ⟨2, ![8192, 22096]⟩
abbrev S8192x2048 : Shape := ⟨2, ![8192, 2048]⟩
abbrev S8192x12288 : Shape := ⟨2, ![8192, 12288]⟩
abbrev S8192x14336 : Shape := ⟨2, ![8192, 14336]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22096, .f32⟩
  | .hbm, ⟨2, _⟩ => ⟨S8192x4096, .f32⟩
  | .hbm, ⟨3, _⟩ => ⟨S1x4096x22096, .f32⟩
  | .hbm, ⟨4, _⟩ => ⟨S4096x22096, .f32⟩
  | .hbm, ⟨5, _⟩ => ⟨S8192x22096, .f32⟩
  | .hbm, ⟨6, _⟩ => ⟨S8192x2048, .f32⟩
  | .hbm, ⟨7, _⟩ => ⟨S8192x12288, .f32⟩
  | .hbm, ⟨8, _⟩ => ⟨S8192x14336, .f32⟩
  | .hbm, ⟨9, _⟩ => ⟨S8192x14336, .f32⟩
  | .hbm, ⟨10, _⟩ => ⟨S8192x14336, .f32⟩
  | .hbm, ⟨11, _⟩ => ⟨S_, .f32⟩
  | .hbm, ⟨12, _⟩ => ⟨S8192x14336, .f32⟩
  | .hbm, ⟨13, _⟩ => ⟨S8192x14336, .f32⟩
  | .hbm, ⟨14, _⟩ => ⟨S_, .f32⟩
  | .hbm, ⟨15, _⟩ => ⟨S8192x14336, .f32⟩
  | .hbm, ⟨16, _⟩ => ⟨S8192x14336, .f32⟩
  | .hbm, ⟨17, _⟩ => ⟨S8192x14336, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S8192x2048 : Shape := ⟨2, ![8192, 2048]⟩
abbrev S2x3x2048x4096 : Shape := ⟨4, ![2, 3, 2048, 4096]⟩
abbrev S8192x14336 : Shape := ⟨2, ![8192, 14336]⟩
abbrev S8192x4096 : Shape := ⟨2, ![8192, 4096]⟩
abbrev S1024x2048 : Shape := ⟨2, ![1024, 2048]⟩
abbrev S1024x512 : Shape := ⟨2, ![1024, 512]⟩
abbrev S3x2048x512 : Shape := ⟨3, ![3, 2048, 512]⟩
abbrev S3 : Shape := ⟨1, ![3]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S1x1x2048x512 : Shape := ⟨4, ![1, 1, 2048, 512]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2x3x2048x4096, .f32⟩
  | .hbm, ⟨4, _⟩ => ⟨S8192x14336, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S3x2048x512, .f32⟩
  | .local _ .vmem, ⟨15, _⟩ => ⟨S3x2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_23 : BitVec 32 := 0#32
  let v28 : BitVec 1 := Scalar.cmpi .eq arg0 c0_i32_23
  let v29 : BitVec 32 := Scalar.extui v28
  let c0_i32_24 : BitVec 32 := 0#32
  let v30 : BitVec 1 := Scalar.cmpi .ne v29 c0_i32_24
  v30

def k0_mult1 (i : grid0.Coords) : BitVec 32 :=
  let c0_i32_70 : BitVec 32 := 0#32
  let arg0 : BitVec 32 := BitVec.ofNat 32 (i 0).val
  let c512_i32_69 : BitVec 32 := 512#32
  let v80 : BitVec 32 := Scalar.muli arg0 c512_i32_69
  let v81 : BitVec 32 := Scalar.addi c0_i32_70 v80
  v81
def k0_off1 (i : grid0.Coords) : Fin 4 → Nat :=
  let c0_i32_71 : BitVec 32 := 0#32
  let c0_i32_72 : BitVec 32 := 0#32
  let c0_i32_77 : BitVec 32 := 0#32
  let c0_i32_70 : BitVec 32 := 0#32
  let arg0 : BitVec 32 := BitVec.ofNat 32 (i 0).val
  let c512_i32_69 : BitVec 32 := 512#32
  let v80 : BitVec 32 := Scalar.muli arg0 c512_i32_69
  let v81 : BitVec 32 := Scalar.addi c0_i32_70 v80
  let v82 : BitVec 32 := v81
  ![0, 0, 0, v82.toNat]
def k0_mult2 (i : grid0.Coords) : BitVec 32 :=
  let c0_i32_79 : BitVec 32 := 0#32
  let arg0 : BitVec 32 := BitVec.ofNat 32 (i 0).val
  let c512_i32_78 : BitVec 32 := 512#32
  let v89 : BitVec 32 := Scalar.muli arg0 c512_i32_78
  let v90 : BitVec 32 := Scalar.addi c0_i32_79 v89
  v90
def k0_off2 (i : grid0.Coords) : Fin 4 → Nat :=
  let c0_i32_80 : BitVec 32 := 0#32
  let c1_i32_81 : BitVec 32 := 1#32
  let c0_i32_86 : BitVec 32 := 0#32
  let c0_i32_79 : BitVec 32 := 0#32
  let arg0 : BitVec 32 := BitVec.ofNat 32 (i 0).val
  let c512_i32_78 : BitVec 32 := 512#32
  let v89 : BitVec 32 := Scalar.muli arg0 c512_i32_78
  let v90 : BitVec 32 := Scalar.addi c0_i32_79 v89
  let v91 : BitVec 32 := v90
  ![0, 1, 0, v91.toNat]
def k0_mult3 (i : grid0.Coords) : BitVec 32 :=
  let c0_i32_88 : BitVec 32 := 0#32
  let arg0 : BitVec 32 := BitVec.ofNat 32 (i 0).val
  let c512_i32_87 : BitVec 32 := 512#32
  let v98 : BitVec 32 := Scalar.muli arg0 c512_i32_87
  let v99 : BitVec 32 := Scalar.addi c0_i32_88 v98
  v99
def k0_off3 (i : grid0.Coords) : Fin 4 → Nat :=
  let c0_i32_89 : BitVec 32 := 0#32
  let c2_i32_90 : BitVec 32 := 2#32
  let c0_i32_95 : BitVec 32 := 0#32
  let c0_i32_88 : BitVec 32 := 0#32
  let arg0 : BitVec 32 := BitVec.ofNat 32 (i 0).val
  let c512_i32_87 : BitVec 32 := 512#32
  let v98 : BitVec 32 := Scalar.muli arg0 c512_i32_87
  let v99 : BitVec 32 := Scalar.addi c0_i32_88 v98
  let v100 : BitVec 32 := v99
  ![0, 2, 0, v100.toNat]
def k0_mult4 (i : grid0.Coords) : BitVec 32 :=
  let c0_i32_25 : BitVec 32 := 0#32
  let arg0 : BitVec 32 := BitVec.ofNat 32 (i 0).val
  let c512_i32 : BitVec 32 := 512#32
  let v31 : BitVec 32 := Scalar.muli arg0 c512_i32
  let v32 : BitVec 32 := Scalar.addi c0_i32_25 v31
  v32
def k0_off4 (i : grid0.Coords) : Fin 4 → Nat :=
  let c0_i32_26 : BitVec 32 := 0#32
  let c0_i32_27 : BitVec 32 := 0#32
  let c0_i32_32 : BitVec 32 := 0#32
  let c0_i32_25 : BitVec 32 := 0#32
  let arg0 : BitVec 32 := BitVec.ofNat 32 (i 0).val
  let c512_i32 : BitVec 32 := 512#32
  let v31 : BitVec 32 := Scalar.muli arg0 c512_i32
  let v32 : BitVec 32 := Scalar.addi c0_i32_25 v31
  let v33 : BitVec 32 := v32
  ![0, 0, 0, v33.toNat]
def k0_mult5 (i : grid0.Coords) : BitVec 32 :=
  let c0_i32_40 : BitVec 32 := 0#32
  let arg0 : BitVec 32 := BitVec.ofNat 32 (i 0).val
  let c512_i32_39 : BitVec 32 := 512#32
  let v46 : BitVec 32 := Scalar.muli arg0 c512_i32_39
  let v47 : BitVec 32 := Scalar.addi c0_i32_40 v46
  v47
def k0_off5 (i : grid0.Coords) : Fin 4 → Nat :=
  let c0_i32_41 : BitVec 32 := 0#32
  let c1_i32 : BitVec 32 := 1#32
  let c0_i32_46 : BitVec 32 := 0#32
  let c0_i32_40 : BitVec 32 := 0#32
  let arg0 : BitVec 32 := BitVec.ofNat 32 (i 0).val
  let c512_i32_39 : BitVec 32 := 512#32
  let v46 : BitVec 32 := Scalar.muli arg0 c512_i32_39
  let v47 : BitVec 32 := Scalar.addi c0_i32_40 v46
  let v48 : BitVec 32 := v47
  ![0, 1, 0, v48.toNat]
def k0_mult6 (i : grid0.Coords) : BitVec 32 :=
  let c0_i32_54 : BitVec 32 := 0#32
  let arg0 : BitVec 32 := BitVec.ofNat 32 (i 0).val
  let c512_i32_53 : BitVec 32 := 512#32
  let v61 : BitVec 32 := Scalar.muli arg0 c512_i32_53
  let v62 : BitVec 32 := Scalar.addi c0_i32_54 v61
  v62
def k0_off6 (i : grid0.Coords) : Fin 4 → Nat :=
  let c0_i32_55 : BitVec 32 := 0#32
  let c2_i32 : BitVec 32 := 2#32
  let c0_i32_60 : BitVec 32 := 0#32
  let c0_i32_54 : BitVec 32 := 0#32
  let arg0 : BitVec 32 := BitVec.ofNat 32 (i 0).val
  let c512_i32_53 : BitVec 32 := 512#32
  let v61 : BitVec 32 := Scalar.muli arg0 c512_i32_53
  let v62 : BitVec 32 := Scalar.addi c0_i32_54 v61
  let v63 : BitVec 32 := v62
  ![0, 2, 0, v63.toNat]
def k0_cond3 (i : grid0.Coords) : BitVec 1 :=
  let arg0 : BitVec 32 := BitVec.ofNat 32 (i 0).val
  let c1_i32_67 : BitVec 32 := 1#32
  let v76 : BitVec 32 := Scalar.addi arg0 c1_i32_67
  let c8_i32 : BitVec 32 := 8#32
  let v77 : BitVec 1 := Scalar.cmpi .slt v76 c8_i32
  let v78 : BitVec 32 := Scalar.extui v77
  let c0_i32_68 : BitVec 32 := 0#32
  let v79 : BitVec 1 := Scalar.cmpi .ne v78 c0_i32_68
  v79

def k0_mult7 (i : grid0.Coords) : BitVec 32 :=
  let c0_i32_71 : BitVec 32 := 0#32
  let arg0 : BitVec 32 := BitVec.ofNat 32 (i 0).val
  let c1_i32_69 : BitVec 32 := 1#32
  let v80 : BitVec 32 := Scalar.addi arg0 c1_i32_69
  let c512_i32_70 : BitVec 32 := 512#32
  let v81 : BitVec 32 := Scalar.muli v80 c512_i32_70
  let v82 : BitVec 32 := Scalar.addi c0_i32_71 v81
  v82
def k0_off7 (i : grid0.Coords) : Fin 4 → Nat :=
  let c0_i32_72 : BitVec 32 := 0#32
  let c0_i32_73 : BitVec 32 := 0#32
  let c0_i32_78 : BitVec 32 := 0#32
  let c0_i32_71 : BitVec 32 := 0#32
  let arg0 : BitVec 32 := BitVec.ofNat 32 (i 0).val
  let c1_i32_69 : BitVec 32 := 1#32
  let v80 : BitVec 32 := Scalar.addi arg0 c1_i32_69
  let c512_i32_70 : BitVec 32 := 512#32
  let v81 : BitVec 32 := Scalar.muli v80 c512_i32_70
  let v82 : BitVec 32 := Scalar.addi c0_i32_71 v81
  let v83 : BitVec 32 := v82
  ![0, 0, 0, v83.toNat]
def k0_mult8 (i : grid0.Coords) : BitVec 32 :=
  let c0_i32_81 : BitVec 32 := 0#32
  let arg0 : BitVec 32 := BitVec.ofNat 32 (i 0).val
  let c1_i32_79 : BitVec 32 := 1#32
  let v90 : BitVec 32 := Scalar.addi arg0 c1_i32_79
  let c512_i32_80 : BitVec 32 := 512#32
  let v91 : BitVec 32 := Scalar.muli v90 c512_i32_80
  let v92 : BitVec 32 := Scalar.addi c0_i32_81 v91
  v92
def k0_off8 (i : grid0.Coords) : Fin 4 → Nat :=
  let c0_i32_82 : BitVec 32 := 0#32
  let c1_i32_83 : BitVec 32 := 1#32
  let c0_i32_88 : BitVec 32 := 0#32
  let c0_i32_81 : BitVec 32 := 0#32
  let arg0 : BitVec 32 := BitVec.ofNat 32 (i 0).val
  let c1_i32_79 : BitVec 32 := 1#32
  let v90 : BitVec 32 := Scalar.addi arg0 c1_i32_79
  let c512_i32_80 : BitVec 32 := 512#32
  let v91 : BitVec 32 := Scalar.muli v90 c512_i32_80
  let v92 : BitVec 32 := Scalar.addi c0_i32_81 v91
  let v93 : BitVec 32 := v92
  ![0, 1, 0, v93.toNat]
def k0_mult9 (i : grid0.Coords) : BitVec 32 :=
  let c0_i32_91 : BitVec 32 := 0#32
  let arg0 : BitVec 32 := BitVec.ofNat 32 (i 0).val
  let c1_i32_89 : BitVec 32 := 1#32
  let v100 : BitVec 32 := Scalar.addi arg0 c1_i32_89
  let c512_i32_90 : BitVec 32 := 512#32
  let v101 : BitVec 32 := Scalar.muli v100 c512_i32_90
  let v102 : BitVec 32 := Scalar.addi c0_i32_91 v101
  v102
def k0_off9 (i : grid0.Coords) : Fin 4 → Nat :=
  let c0_i32_92 : BitVec 32 := 0#32
  let c2_i32_93 : BitVec 32 := 2#32
  let c0_i32_98 : BitVec 32 := 0#32
  let c0_i32_91 : BitVec 32 := 0#32
  let arg0 : BitVec 32 := BitVec.ofNat 32 (i 0).val
  let c1_i32_89 : BitVec 32 := 1#32
  let v100 : BitVec 32 := Scalar.addi arg0 c1_i32_89
  let c512_i32_90 : BitVec 32 := 512#32
  let v101 : BitVec 32 := Scalar.muli v100 c512_i32_90
  let v102 : BitVec 32 := Scalar.addi c0_i32_91 v101
  let v103 : BitVec 32 := v102
  ![0, 2, 0, v103.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x2048 : Shape := ⟨2, ![8192, 2048]⟩
abbrev S2x3x2048x4096 : Shape := ⟨4, ![2, 3, 2048, 4096]⟩
abbrev S8192x14336 : Shape := ⟨2, ![8192, 14336]⟩
abbrev S8192x12288 : Shape := ⟨2, ![8192, 12288]⟩
abbrev S8192x3x4096 : Shape := ⟨3, ![8192, 3, 4096]⟩
abbrev S8192x1x4096 : Shape := ⟨3, ![8192, 1, 4096]⟩
abbrev S8192x4096 : Shape := ⟨2, ![8192, 4096]⟩
abbrev S1x1x2048x4096 : Shape := ⟨4, ![1, 1, 2048, 4096]⟩
abbrev S2048x4096 : Shape := ⟨2, ![2048, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2x3x2048x4096, .f32⟩
  | .hbm, ⟨4, _⟩ => ⟨S8192x14336, .bf16⟩
  | .hbm, ⟨5, _⟩ => ⟨S8192x12288, .bf16⟩
  | .hbm, ⟨6, _⟩ => ⟨S8192x12288, .f32⟩
  | .hbm, ⟨7, _⟩ => ⟨S8192x3x4096, .f32⟩
  | .hbm, ⟨8, _⟩ => ⟨S8192x1x4096, .f32⟩
  | .hbm, ⟨9, _⟩ => ⟨S8192x4096, .f32⟩
  | .hbm, ⟨10, _⟩ => ⟨S8192x2048, .f32⟩
  | .hbm, ⟨11, _⟩ => ⟨S1x1x2048x4096, .f32⟩
  | .hbm, ⟨12, _⟩ => ⟨S2048x4096, .f32⟩
  | .hbm, ⟨13, _⟩ => ⟨S8192x4096, .f32⟩
  | .hbm, ⟨14, _⟩ => ⟨S8192x4096, .f32⟩
  | .hbm, ⟨15, _⟩ => ⟨S8192x1x4096, .f32⟩
  | .hbm, ⟨16, _⟩ => ⟨S8192x4096, .f32⟩
  | .hbm, ⟨17, _⟩ => ⟨S8192x2048, .f32⟩
  | .hbm, ⟨18, _⟩ => ⟨S1x1x2048x4096, .f32⟩
  | .hbm, ⟨19, _⟩ => ⟨S2048x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x1x4096, .f32⟩
  | .hbm, ⟨24, _⟩ => ⟨S8192x4096, .f32⟩
  | .hbm, ⟨25, _⟩ => ⟨S8192x2048, .f32⟩
  | .hbm, ⟨26, _⟩ => ⟨S1x1x2048x4096, .f32⟩
  | .hbm, ⟨27, _⟩ => ⟨S2048x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Proof.Attn.Trip.lean ====
module

public import proofs.«01_k».proof.Proof.Gen.KernelIdeal.Loops

/-! The loop over the earlier key blocks, one trip at a time: what the trip reads (its tiles) and the eight tiles, one
for each head, that it writes into the running maximum, the running sum and the running accumulator. -/

@[expose] public section
set_option maxRecDepth 16384
noncomputable section
namespace Cert.Attn
open Cert.KernelIdeal Cert.KernelIdeal.Gen Idealize.ShloMosaic Idealize.ShloMosaic.TcCoe Idealize.SL.Sem

/-- What the body's loop is run with: the grid point, the buffers, the words it is handed and the contents of the buffers it
    only reads (the keys, the rotary keys, the transposed queries, the transposed values). -/
structure Env (F : FTy → Type) [FloatOps F] where
  i : grid0.Coords
  arg3 : Memref sig .tc .vmem S1x512x1024 .bf16
  harg3 : arg3.IsWhole
  arg4 : Memref sig .tc .vmem S1x512x1024 .bf16
  harg4 : arg4.IsWhole
  arg5 : Memref sig .tc .vmem S1x4096x1024 .bf16
  harg5 : arg5.IsWhole
  arg6 : Memref sig .tc .vmem S1x4096x128 .bf16
  harg6 : arg6.IsWhole
  arg7 : Memref sig .tc .vmem S1x4096x1024 .bf16
  harg7 : arg7.IsWhole
  arg8 : Memref sig .tc .vmem S1x1x512 .i32
  harg8 : arg8.IsWhole
  arg9 : Memref sig .tc .vmem S1x512x1 .i32
  harg9 : arg9.IsWhole
  arg10 : Memref sig .tc .vmem S1x512x1024 .bf16
  harg10 : arg10.IsWhole
  arg11 : Memref sig .tc .vmem S8x1x512 .f32
  harg11 : arg11.IsWhole
  arg12 : Memref sig .tc .vmem S8x1x512 .f32
  harg12 : arg12.IsWhole
  arg13 : Memref sig .tc .vmem S8x128x512 .f32
  harg13 : arg13.IsWhole
  arg14 : Memref sig .tc .vmem S8x256x512 .bf16
  harg14 : arg14.IsWhole
  arg15 : Memref sig .tc .vmem S8x128x4096 .bf16
  harg15 : arg15.IsWhole
  arg2 : BitVec 32
  v143 : BitVec 32
  v344 : FVec F S512x512 .f32
  v349 : FVec F S1x512 .f32
  v359 : FVec F S128x512 .f32
  v360 : Vec F S1x128x512 .f32
  X_arg5 : BufTy.Contents (Elt F) arg5.view.ty
  X_arg6 : BufTy.Contents (Elt F) arg6.view.ty
  X_arg14 : BufTy.Contents (Elt F) arg14.view.ty
  X_arg15 : BufTy.Contents (Elt F) arg15.view.ty

variable {F : FTy → Type} [FloatOps F] (c : Dev nD) (e : Env F)

/-- Trip `k` of the loop, run. -/
abbrev Env.trip (k : Fin (k0_t1_loop e.i).trips) := trip_k0_t1 (F := F) Variants.none c none e.i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg2 e.v143 e.v344 e.v349 e.v359 e.v360 e.X_arg5 e.X_arg6 e.X_arg14 e.X_arg15 k

/-- The pieces that the first `n` trips leave, over the contents at entry. -/
abbrev Env.pb (G11 : BufTy.Contents (Elt F) e.arg11.view.ty) (G12 : BufTy.Contents (Elt F) e.arg12.view.ty) (G13 : BufTy.Contents (Elt F) e.arg13.view.ty) (n : ℕ) :=
  pb_k0_t1 (F := F) Variants.none c none e.i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg2 e.v143 e.v344 e.v349 e.v359 e.v360 e.X_arg5 e.X_arg6 e.X_arg14 e.X_arg15 G11 G12 G13 n

/-- The rotary keys' tile of a trip. -/
def Env.krT (k : Fin (k0_t1_loop e.i).trips) : Vec F S1x512x128 .bf16 :=
  View.readAt (Elt F) e.arg6.view (Rect.unit (s := S1x4096x128) (k0_off18 e.i k) S1x512x128.size (k0_off18_inb e.i k)).toLoadRect e.X_arg6

/-- The keys' tile of a trip, for each head. -/
def Env.knT (k : Fin (k0_t1_loop e.i).trips) : Fin 8 → Vec F S1x512x128 .bf16 :=
  ![View.readAt (Elt F) e.arg5.view (Rect.unit (s := S1x4096x1024) (k0_off19 e.i k) S1x512x128.size (k0_off19_inb e.i k)).toLoadRect e.X_arg5,
    View.readAt (Elt F) e.arg5.view (Rect.unit (s := S1x4096x1024) (k0_off20 e.i k) S1x512x128.size (k0_off20_inb e.i k)).toLoadRect e.X_arg5,
    View.readAt (Elt F) e.arg5.view (Rect.unit (s := S1x4096x1024) (k0_off22 e.i k) S1x512x128.size (k0_off22_inb e.i k)).toLoadRect e.X_arg5,
    View.readAt (Elt F) e.arg5.view (Rect.unit (s := S1x4096x1024) (k0_off24 e.i k) S1x512x128.size (k0_off24_inb e.i k)).toLoadRect e.X_arg5,
    View.readAt (Elt F) e.arg5.view (Rect.unit (s := S1x4096x1024) (k0_off26 e.i k) S1x512x128.size (k0_off26_inb e.i k)).toLoadRect e.X_arg5,
    View.readAt (Elt F) e.arg5.view (Rect.unit (s := S1x4096x1024) (k0_off28 e.i k) S1x512x128.size (k0_off28_inb e.i k)).toLoadRect e.X_arg5,
    View.readAt (Elt F) e.arg5.view (Rect.unit (s := S1x4096x1024) (k0_off30 e.i k) S1x512x128.size (k0_off30_inb e.i k)).toLoadRect e.X_arg5,
    View.readAt (Elt F) e.arg5.view (Rect.unit (s := S1x4096x1024) (k0_off32 e.i k) S1x512x128.size (k0_off32_inb e.i k)).toLoadRect e.X_arg5]

/-- The values' tile of a trip, for each head. -/
def Env.vtT (k : Fin (k0_t1_loop e.i).trips) : Fin 8 → Vec F S1x128x512 .bf16 :=
  ![View.readAt (Elt F) e.arg15.view (Rect.unit (s := S8x128x4096) (k0_off21 e.i k) S1x128x512.size (k0_off21_inb e.i k)).toLoadRect e.X_arg15,
    View.readAt (Elt F) e.arg15.view (Rect.unit (s := S8x128x4096) (k0_off23 e.i k) S1x128x512.size (k0_off23_inb e.i k)).toLoadRect e.X_arg15,
    View.readAt (Elt F) e.arg15.view (Rect.unit (s := S8x128x4096) (k0_off25 e.i k) S1x128x512.size (k0_off25_inb e.i k)).toLoadRect e.X_arg15,
    View.readAt (Elt F) e.arg15.view (Rect.unit (s := S8x128x4096) (k0_off27 e.i k) S1x128x512.size (k0_off27_inb e.i k)).toLoadRect e.X_arg15,
    View.readAt (Elt F) e.arg15.view (Rect.unit (s := S8x128x4096) (k0_off29 e.i k) S1x128x512.size (k0_off29_inb e.i k)).toLoadRect e.X_arg15,
    View.readAt (Elt F) e.arg15.view (Rect.unit (s := S8x128x4096) (k0_off31 e.i k) S1x128x512.size (k0_off31_inb e.i k)).toLoadRect e.X_arg15,
    View.readAt (Elt F) e.arg15.view (Rect.unit (s := S8x128x4096) (k0_off33 e.i k) S1x128x512.size (k0_off33_inb e.i k)).toLoadRect e.X_arg15,
    View.readAt (Elt F) e.arg15.view (Rect.unit (s := S8x128x4096) (k0_off34 e.i k) S1x128x512.size (k0_off34_inb e.i k)).toLoadRect e.X_arg15]

/-- The queries' tile, for each head. -/
def Env.qtT : Fin 8 → Vec F S1x256x512 .bf16 :=
  ![View.readAt (Elt F) e.arg14.view (Rect.unit (s := S8x256x512) ![0, 0, 0] S1x256x512.size inb_S8x256x512_S1x256x512_0_0_0).toLoadRect e.X_arg14,
    View.readAt (Elt F) e.arg14.view (Rect.unit (s := S8x256x512) ![1, 0, 0] S1x256x512.size inb_S8x256x512_S1x256x512_1_0_0).toLoadRect e.X_arg14,
    View.readAt (Elt F) e.arg14.view (Rect.unit (s := S8x256x512) ![2, 0, 0] S1x256x512.size inb_S8x256x512_S1x256x512_2_0_0).toLoadRect e.X_arg14,
    View.readAt (Elt F) e.arg14.view (Rect.unit (s := S8x256x512) ![3, 0, 0] S1x256x512.size inb_S8x256x512_S1x256x512_3_0_0).toLoadRect e.X_arg14,
    View.readAt (Elt F) e.arg14.view (Rect.unit (s := S8x256x512) ![4, 0, 0] S1x256x512.size inb_S8x256x512_S1x256x512_4_0_0).toLoadRect e.X_arg14,
    View.readAt (Elt F) e.arg14.view (Rect.unit (s := S8x256x512) ![5, 0, 0] S1x256x512.size inb_S8x256x512_S1x256x512_5_0_0).toLoadRect e.X_arg14,
    View.readAt (Elt F) e.arg14.view (Rect.unit (s := S8x256x512) ![6, 0, 0] S1x256x512.size inb_S8x256x512_S1x256x512_6_0_0).toLoadRect e.X_arg14,
    View.readAt (Elt F) e.arg14.view (Rect.unit (s := S8x256x512) ![7, 0, 0] S1x256x512.size inb_S8x256x512_S1x256x512_7_0_0).toLoadRect e.X_arg14]

/-- A head's tile of the running maximum. -/
def Env.mT (f : BufTy.Contents (Elt F) e.arg11.view.ty) : Fin 8 → Vec F S1x1x512 .f32 :=
  ![View.readAt (Elt F) e.arg11.view (Rect.unit (s := S8x1x512) ![0, 0, 0] S1x1x512.size inb_S8x1x512_S1x1x512_0_0_0).toLoadRect f,
    View.readAt (Elt F) e.arg11.view (Rect.unit (s := S8x1x512) ![1, 0, 0] S1x1x512.size inb_S8x1x512_S1x1x512_1_0_0).toLoadRect f,
    View.readAt (Elt F) e.arg11.view (Rect.unit (s := S8x1x512) ![2, 0, 0] S1x1x512.size inb_S8x1x512_S1x1x512_2_0_0).toLoadRect f,
    View.readAt (Elt F) e.arg11.view (Rect.unit (s := S8x1x512) ![3, 0, 0] S1x1x512.size inb_S8x1x512_S1x1x512_3_0_0).toLoadRect f,
    View.readAt (Elt F) e.arg11.view (Rect.unit (s := S8x1x512) ![4, 0, 0] S1x1x512.size inb_S8x1x512_S1x1x512_4_0_0).toLoadRect f,
    View.readAt (Elt F) e.arg11.view (Rect.unit (s := S8x1x512) ![5, 0, 0] S1x1x512.size inb_S8x1x512_S1x1x512_5_0_0).toLoadRect f,
    View.readAt (Elt F) e.arg11.view (Rect.unit (s := S8x1x512) ![6, 0, 0] S1x1x512.size inb_S8x1x512_S1x1x512_6_0_0).toLoadRect f,
    View.readAt (Elt F) e.arg11.view (Rect.unit (s := S8x1x512) ![7, 0, 0] S1x1x512.size inb_S8x1x512_S1x1x512_7_0_0).toLoadRect f]

/-- A head's tile of the running sum. -/
def Env.lT (f : BufTy.Contents (Elt F) e.arg12.view.ty) : Fin 8 → Vec F S1x1x512 .f32 :=
  ![View.readAt (Elt F) e.arg12.view (Rect.unit (s := S8x1x512) ![0, 0, 0] S1x1x512.size inb_S8x1x512_S1x1x512_0_0_0).toLoadRect f,
    View.readAt (Elt F) e.arg12.view (Rect.unit (s := S8x1x512) ![1, 0, 0] S1x1x512.size inb_S8x1x512_S1x1x512_1_0_0).toLoadRect f,
    View.readAt (Elt F) e.arg12.view (Rect.unit (s := S8x1x512) ![2, 0, 0] S1x1x512.size inb_S8x1x512_S1x1x512_2_0_0).toLoadRect f,
    View.readAt (Elt F) e.arg12.view (Rect.unit (s := S8x1x512) ![3, 0, 0] S1x1x512.size inb_S8x1x512_S1x1x512_3_0_0).toLoadRect f,
    View.readAt (Elt F) e.arg12.view (Rect.unit (s := S8x1x512) ![4, 0, 0] S1x1x512.size inb_S8x1x512_S1x1x512_4_0_0).toLoadRect f,
    View.readAt (Elt F) e.arg12.view (Rect.unit (s := S8x1x512) ![5, 0, 0] S1x1x512.size inb_S8x1x512_S1x1x512_5_0_0).toLoadRect f,
    View.readAt (Elt F) e.arg12.view (Rect.unit (s := S8x1x512) ![6, 0, 0] S1x1x512.size inb_S8x1x512_S1x1x512_6_0_0).toLoadRect f,
    View.readAt (Elt F) e.arg12.view (Rect.unit (s := S8x1x512) ![7, 0, 0] S1x1x512.size inb_S8x1x512_S1x1x512_7_0_0).toLoadRect f]

/-- A head's tile of the accumulator. -/
def Env.aT (f : BufTy.Contents (Elt F) e.arg13.view.ty) : Fin 8 → Vec F S1x128x512 .f32 :=
  ![View.readAt (Elt F) e.arg13.view (Rect.unit (s := S8x128x512) ![0, 0, 0] S1x128x512.size inb_S8x128x512_S1x128x512_0_0_0).toLoadRect f,
    View.readAt (Elt F) e.arg13.view (Rect.unit (s := S8x128x512) ![1, 0, 0] S1x128x512.size inb_S8x128x512_S1x128x512_1_0_0).toLoadRect f,
    View.readAt (Elt F) e.arg13.view (Rect.unit (s := S8x128x512) ![2, 0, 0] S1x128x512.size inb_S8x128x512_S1x128x512_2_0_0).toLoadRect f,
    View.readAt (Elt F) e.arg13.view (Rect.unit (s := S8x128x512) ![3, 0, 0] S1x128x512.size inb_S8x128x512_S1x128x512_3_0_0).toLoadRect f,
    View.readAt (Elt F) e.arg13.view (Rect.unit (s := S8x128x512) ![4, 0, 0] S1x128x512.size inb_S8x128x512_S1x128x512_4_0_0).toLoadRect f,
    View.readAt (Elt F) e.arg13.view (Rect.unit (s := S8x128x512) ![5, 0, 0] S1x128x512.size inb_S8x128x512_S1x128x512_5_0_0).toLoadRect f,
    View.readAt (Elt F) e.arg13.view (Rect.unit (s := S8x128x512) ![6, 0, 0] S1x128x512.size inb_S8x128x512_S1x128x512_6_0_0).toLoadRect f,
    View.readAt (Elt F) e.arg13.view (Rect.unit (s := S8x128x512) ![7, 0, 0] S1x128x512.size inb_S8x128x512_S1x128x512_7_0_0).toLoadRect f]

/-- The new maximum of one head, from its tiles. -/
def newM (kr kn : Vec F S1x512x128 .bf16) (qt : Vec F S1x256x512 .bf16) (m : Vec F S1x1x512 .f32) : Vec F S1x1x512 .f32 :=
  k0_pay21 (k0_pay15 kr kn qt m)

/-- The new sum of one head, from its tiles. -/
def newL (kr kn : Vec F S1x512x128 .bf16) (qt : Vec F S1x256x512 .bf16) (m l : Vec F S1x1x512 .f32) : Vec F S1x1x512 .f32 :=
  k0_pay19 (k0_pay17 kr kn qt m) (k0_pay18 kr kn qt m l)

/-- The new accumulator of one head, from its tiles. -/
def newA (kr kn : Vec F S1x512x128 .bf16) (qt : Vec F S1x256x512 .bf16) (vt : Vec F S1x128x512 .bf16) (m : Vec F S1x1x512 .f32)
    (a : Vec F S1x128x512 .f32) : Vec F S1x128x512 .f32 :=
  k0_pay20 (k0_pay13 vt) (k0_pay16 kr kn qt m) (k0_pay17 kr kn qt m) a

theorem Env.trip_m (k) (f11 f12 f13) : (e.trip c k).1 f11 f12 f13 = [⟨Rect.unit ![7, 0, 0] S1x1x512.size inb_S8x1x512_S1x1x512_7_0_0, newM (e.krT k) (e.knT k 7) (e.qtT 7) (e.mT f11 7)⟩,
    ⟨Rect.unit ![6, 0, 0] S1x1x512.size inb_S8x1x512_S1x1x512_6_0_0, newM (e.krT k) (e.knT k 6) (e.qtT 6) (e.mT f11 6)⟩,
    ⟨Rect.unit ![5, 0, 0] S1x1x512.size inb_S8x1x512_S1x1x512_5_0_0, newM (e.krT k) (e.knT k 5) (e.qtT 5) (e.mT f11 5)⟩,
    ⟨Rect.unit ![4, 0, 0] S1x1x512.size inb_S8x1x512_S1x1x512_4_0_0, newM (e.krT k) (e.knT k 4) (e.qtT 4) (e.mT f11 4)⟩,
    ⟨Rect.unit ![3, 0, 0] S1x1x512.size inb_S8x1x512_S1x1x512_3_0_0, newM (e.krT k) (e.knT k 3) (e.qtT 3) (e.mT f11 3)⟩,
    ⟨Rect.unit ![2, 0, 0] S1x1x512.size inb_S8x1x512_S1x1x512_2_0_0, newM (e.krT k) (e.knT k 2) (e.qtT 2) (e.mT f11 2)⟩,
    ⟨Rect.unit ![1, 0, 0] S1x1x512.size inb_S8x1x512_S1x1x512_1_0_0, newM (e.krT k) (e.knT k 1) (e.qtT 1) (e.mT f11 1)⟩,
    ⟨Rect.unit ![0, 0, 0] S1x1x512.size inb_S8x1x512_S1x1x512_0_0_0, newM (e.krT k) (e.knT k 0) (e.qtT 0) (e.mT f11 0)⟩] := by
  unfold Env.trip trip_k0_t1
  rfl

theorem Env.trip_l (k) (f11 f12 f13) : (e.trip c k).2.1 f11 f12 f13 = [⟨Rect.unit ![7, 0, 0] S1x1x512.size inb_S8x1x512_S1x1x512_7_0_0, newL (e.krT k) (e.knT k 7) (e.qtT 7) (e.mT f11 7) (e.lT f12 7)⟩,
    ⟨Rect.unit ![6, 0, 0] S1x1x512.size inb_S8x1x512_S1x1x512_6_0_0, newL (e.krT k) (e.knT k 6) (e.qtT 6) (e.mT f11 6) (e.lT f12 6)⟩,
    ⟨Rect.unit ![5, 0, 0] S1x1x512.size inb_S8x1x512_S1x1x512_5_0_0, newL (e.krT k) (e.knT k 5) (e.qtT 5) (e.mT f11 5) (e.lT f12 5)⟩,
    ⟨Rect.unit ![4, 0, 0] S1x1x512.size inb_S8x1x512_S1x1x512_4_0_0, newL (e.krT k) (e.knT k 4) (e.qtT 4) (e.mT f11 4) (e.lT f12 4)⟩,
    ⟨Rect.unit ![3, 0, 0] S1x1x512.size inb_S8x1x512_S1x1x512_3_0_0, newL (e.krT k) (e.knT k 3) (e.qtT 3) (e.mT f11 3) (e.lT f12 3)⟩,
    ⟨Rect.unit ![2, 0, 0] S1x1x512.size inb_S8x1x512_S1x1x512_2_0_0, newL (e.krT k) (e.knT k 2) (e.qtT 2) (e.mT f11 2) (e.lT f12 2)⟩,
    ⟨Rect.unit ![1, 0, 0] S1x1x512.size inb_S8x1x512_S1x1x512_1_0_0, newL (e.krT k) (e.knT k 1) (e.qtT 1) (e.mT f11 1) (e.lT f12 1)⟩,
    ⟨Rect.unit ![0, 0, 0] S1x1x512.size inb_S8x1x512_S1x1x512_0_0_0, newL (e.krT k) (e.knT k 0) (e.qtT 0) (e.mT f11 0) (e.lT f12 0)⟩] := by
  unfold Env.trip trip_k0_t1
  rfl

theorem Env.trip_a (k) (f11 f12 f13) : (e.trip c k).2.2.1 f11 f12 f13 = [⟨Rect.unit ![7, 0, 0] S1x128x512.size inb_S8x128x512_S1x128x512_7_0_0, newA (e.krT k) (e.knT k 7) (e.qtT 7) (e.vtT k 7) (e.mT f11 7) (e.aT f13 7)⟩,
    ⟨Rect.unit ![6, 0, 0] S1x128x512.size inb_S8x128x512_S1x128x512_6_0_0, newA (e.krT k) (e.knT k 6) (e.qtT 6) (e.vtT k 6) (e.mT f11 6) (e.aT f13 6)⟩,
    ⟨Rect.unit ![5, 0, 0] S1x128x512.size inb_S8x128x512_S1x128x512_5_0_0, newA (e.krT k) (e.knT k 5) (e.qtT 5) (e.vtT k 5) (e.mT f11 5) (e.aT f13 5)⟩,
    ⟨Rect.unit ![4, 0, 0] S1x128x512.size inb_S8x128x512_S1x128x512_4_0_0, newA (e.krT k) (e.knT k 4) (e.qtT 4) (e.vtT k 4) (e.mT f11 4) (e.aT f13 4)⟩,
    ⟨Rect.unit ![3, 0, 0] S1x128x512.size inb_S8x128x512_S1x128x512_3_0_0, newA (e.krT k) (e.knT k 3) (e.qtT 3) (e.vtT k 3) (e.mT f11 3) (e.aT f13 3)⟩,
    ⟨Rect.unit ![2, 0, 0] S1x128x512.size inb_S8x128x512_S1x128x512_2_0_0, newA (e.krT k) (e.knT k 2) (e.qtT 2) (e.vtT k 2) (e.mT f11 2) (e.aT f13 2)⟩,
    ⟨Rect.unit ![1, 0, 0] S1x128x512.size inb_S8x128x512_S1x128x512_1_0_0, newA (e.krT k) (e.knT k 1) (e.qtT 1) (e.vtT k 1) (e.mT f11 1) (e.aT f13 1)⟩,
    ⟨Rect.unit ![0, 0, 0] S1x128x512.size inb_S8x128x512_S1x128x512_0_0_0, newA (e.krT k) (e.knT k 0) (e.qtT 0) (e.vtT k 0) (e.mT f11 0) (e.aT f13 0)⟩] := by
  unfold Env.trip trip_k0_t1
  rfl

end Cert.Attn
end
-- ==== Proof.Attn.Tiles.lean ====
module

public import proofs.«01_k».proof.Proof.Attn.Trip
public import Idealize.ShloMosaic.Lib.Pipeline.ValueKit

/-! What the body computes on one head's tiles, at an index, with the floats read as extended reals. -/

@[expose] public section
set_option maxRecDepth 16384
noncomputable section
namespace Cert.Attn
open Cert.KernelIdeal Cert.KernelIdeal.Gen Idealize.ShloMosaic Idealize.ShloMosaic.TcCoe Idealize.SL.Sem

/-- The power of two. -/
abbrev pow2 (x : EReal) : EReal := FloatOps.exp2 (F := Ideal) (φ := .f32) x

/-- The float word of minus infinity is the least extended real. -/
theorem negInf_eq : Ideal.ofBits FTy.f32 0xFF800000#32 = (⊥ : EReal) := by
  simp [Ideal.ofBits, Ideal.ieee]

/-- The fold of `max` from minus infinity is the supremum. -/
theorem fold_max_eq_sup {ι : Type} (s : Finset ι) (f : ι → EReal) :
    Finset.fold max (Ideal.ofBits FTy.f32 0xFF800000#32) f s = s.sup f := by
  rw [negInf_eq]; rfl

variable (kr kn : Vec Ideal S1x512x128 .bf16) (qt : Vec Ideal S1x256x512 .bf16)

/-- The score of key row `a` and query row `r`: the keys with the first half of the query's features, the rotary keys with
    the second. -/
def score (a r : Fin 512) : EReal :=
  ∑ x : Fin 128, kn (ix3 0 a x) * qt (ix3 0 ⟨x.val, by omega⟩ r) + ∑ x : Fin 128, kr (ix3 0 a x) * qt (ix3 0 ⟨128 + x.val, by omega⟩ r)

theorem score_apply (a r : Fin 512) : k0_pay11 (F := Ideal) kr kn qt (ix2 a r) = score kr kn qt a r := by
  pointwise [k0_pay11, k0_pay10, score]

theorem max_apply (m : Vec Ideal S1x1x512 .f32) (r : Fin 512) :
    k0_pay15 (F := Ideal) kr kn qt m (ix2 0 r) = max (m (ix3 0 0 r)) (Finset.univ.sup fun a => score kr kn qt a r) := by
  pointwise [k0_pay15, k0_pay14]
  rw [fold_max_eq_sup]
  simp only [score_apply]

theorem newM_apply (m : Vec Ideal S1x1x512 .f32) (r : Fin 512) :
    newM kr kn qt m (ix3 0 0 r) = max (m (ix3 0 0 r)) (Finset.univ.sup fun a => score kr kn qt a r) := by
  rw [← max_apply]
  show k0_pay21 (F := Ideal) (k0_pay15 kr kn qt m) (ix3 0 0 r) = _
  generalize k0_pay15 (F := Ideal) kr kn qt m = x
  pointwise [k0_pay21]

theorem alpha_apply (m : Vec Ideal S1x1x512 .f32) (r : Fin 512) :
    k0_pay16 (F := Ideal) kr kn qt m (ix2 0 r) = pow2 (m (ix3 0 0 r) - newM kr kn qt m (ix3 0 0 r)) := by
  rw [newM_apply, ← max_apply]
  unfold k0_pay16
  pointwise [k0_pay14]

theorem prob_apply (m : Vec Ideal S1x1x512 .f32) (a r : Fin 512) :
    k0_pay17 (F := Ideal) kr kn qt m (ix2 a r) = pow2 (score kr kn qt a r - newM kr kn qt m (ix3 0 0 r)) := by
  rw [newM_apply, ← max_apply, ← score_apply]
  pointwise [k0_pay17]

theorem newL_apply (m l : Vec Ideal S1x1x512 .f32) (r : Fin 512) :
    newL kr kn qt m l (ix3 0 0 r) = pow2 (m (ix3 0 0 r) - newM kr kn qt m (ix3 0 0 r)) * l (ix3 0 0 r)
      + ∑ a : Fin 512, pow2 (score kr kn qt a r - newM kr kn qt m (ix3 0 0 r)) := by
  rw [← alpha_apply, Finset.sum_congr rfl fun a _ => (prob_apply kr kn qt m a r).symm]
  pointwise [newL, k0_pay19, k0_pay18]

theorem newA_apply (vt : Vec Ideal S1x128x512 .bf16) (m : Vec Ideal S1x1x512 .f32) (acc : Vec Ideal S1x128x512 .f32) (d : Fin 128)
    (r : Fin 512) :
    newA kr kn qt vt m acc (ix3 0 d r) = pow2 (m (ix3 0 0 r) - newM kr kn qt m (ix3 0 0 r)) * acc (ix3 0 d r)
      + ∑ a : Fin 512, vt (ix3 0 d a) * pow2 (score kr kn qt a r - newM kr kn qt m (ix3 0 0 r)) := by
  rw [← alpha_apply, Finset.sum_congr rfl fun a _ => congrArg (vt (ix3 0 d a) * ·) (prob_apply kr kn qt m a r).symm]
  pointwise [newA, k0_pay20, k0_pay13]

/-! The diagonal block, which comes first: the scores of the keys in a later chunk are minus infinity. -/

/-- The mask of the diagonal block: whether the key's chunk is at most the query's. -/
def seen (pk : Vec Ideal S1x512x1 .i32) (pq : Vec Ideal S1x1x512 .i32) (a r : Fin 512) : Prop :=
  IntOp.cmpi .sle (IntOp.shrsi .vector (pk (ix3 0 a 0)) 6#32) (IntOp.shrsi .vector (pq (ix3 0 0 r)) 6#32) = 1#1

open Classical in
theorem firstScore_apply (pk : Vec Ideal S1x512x1 .i32) (pq : Vec Ideal S1x1x512 .i32) (a r : Fin 512) :
    k0_pay184 (F := Ideal) pk pq kr kn qt (ix2 a r) = if seen pk pq a r then score kr kn qt a r else ⊥ := by
  pointwise [k0_pay184, k0_pay182, k0_pay183, score]
  rw [negInf_eq]
  unfold Scalar.select seen
  congr

theorem firstM_apply (st : FVec Ideal S512x512 .f32) (r : Fin 512) :
    k0_pay191 st (ix3 0 0 r) = Finset.univ.sup fun a => st (ix2 a r) := by
  pointwise [k0_pay191, k0_pay187]
  rw [fold_max_eq_sup]

theorem firstP_apply (st : FVec Ideal S512x512 .f32) (a r : Fin 512) :
    k0_pay188 st (ix2 a r) = pow2 (st (ix2 a r) - k0_pay191 st (ix3 0 0 r)) := by
  pointwise [k0_pay191, k0_pay187, k0_pay188]

theorem firstL_apply (st : FVec Ideal S512x512 .f32) (r : Fin 512) :
    k0_pay189 st (ix3 0 0 r) = ∑ a : Fin 512, pow2 (st (ix2 a r) - k0_pay191 st (ix3 0 0 r)) := by
  simp only [← firstP_apply]
  pointwise [k0_pay189]

theorem firstA_apply (st : FVec Ideal S512x512 .f32) (vt : Vec Ideal S1x128x512 .bf16) (d : Fin 128) (r : Fin 512) :
    k0_pay190 st vt (ix3 0 d r) = ∑ a : Fin 512, vt (ix3 0 d a) * pow2 (st (ix2 a r) - k0_pay191 st (ix3 0 0 r)) := by
  simp only [← firstP_apply]
  pointwise [k0_pay190]

/-- The output's tile of one head: the accumulator over the sum, transposed. -/
theorem out_apply (acc : Vec Ideal S1x128x512 .f32) (l : Vec Ideal S1x1x512 .f32) (r : Fin 512) (d : Fin 128) :
    k0_pay241 acc l (ix3 0 r d) = Ideal.div (acc (ix3 0 d r)) (l (ix3 0 0 r)) := by
  pointwise [k0_pay241]

end Cert.Attn
end
-- ==== Proof.Attn.Heads.lean ====
module

public import proofs.«01_k».proof.Proof.Attn.Tiles
public import Idealize.ShloMosaic.Lib.WritesUnit

/-! Reading the buffers after the eight heads' stores, at an index. -/

@[expose] public section
set_option maxRecDepth 16384
noncomputable section
namespace Cert.Attn
open Cert.KernelIdeal Cert.KernelIdeal.Gen Idealize.ShloMosaic Idealize.ShloMosaic.TcCoe Idealize.SL.Sem

variable {sig : RefSig} {κ : Kind} {sp : Space} {e : EltTy} {Val : EltTy → Type}

/-- What a load through a rectangle reads at an index. -/
theorem readAt_at {s : Shape} (v : View sig κ sp s e) (f : v.ty.Contents Val) {off off' size : Fin s.rank → ℕ}
    (inb : ∀ a, off a + size a ≤ s.size a) (y : (Rect.unit off size inb).shape.Idx) (z : s.Idx) (h : off = off')
    (hz : ∀ a, (z a).val = off' a + (y a).val) :
    v.readAt Val (Rect.unit off size inb).toLoadRect f y = v.read Val f z := by
  subst h
  exact congrArg (v.read Val f) (funext fun a => Fin.ext (by
    show off a + 1 * (y a).val = (z a).val
    rw [hz a, Nat.one_mul]))

/-- Eight tiles side by side along the first axis, read back: the tile of the index's own head. -/
theorem read_heads {p q : ℕ} (v : View sig κ sp (⟨3, ![8, p, q]⟩ : Shape) e) (f : v.ty.Contents Val)
    (w : Fin 8 → (⟨3, ![1, p, q]⟩ : Shape).Idx → Val e)
    {h0 h1 h2 h3 h4 h5 h6 h7}
    (g : Fin 8) (a : Fin p) (b : Fin q) :
    v.read Val (v.writes Val f [⟨Rect.unit (s := ⟨3, ![8, p, q]⟩) ![7, 0, 0] ![1, p, q] h7, w 7⟩, ⟨Rect.unit (s := ⟨3, ![8, p, q]⟩) ![6, 0, 0] ![1, p, q] h6, w 6⟩, ⟨Rect.unit (s := ⟨3, ![8, p, q]⟩) ![5, 0, 0] ![1, p, q] h5, w 5⟩, ⟨Rect.unit (s := ⟨3, ![8, p, q]⟩) ![4, 0, 0] ![1, p, q] h4, w 4⟩, ⟨Rect.unit (s := ⟨3, ![8, p, q]⟩) ![3, 0, 0] ![1, p, q] h3, w 3⟩, ⟨Rect.unit (s := ⟨3, ![8, p, q]⟩) ![2, 0, 0] ![1, p, q] h2, w 2⟩, ⟨Rect.unit (s := ⟨3, ![8, p, q]⟩) ![1, 0, 0] ![1, p, q] h1, w 1⟩, ⟨Rect.unit (s := ⟨3, ![8, p, q]⟩) ![0, 0, 0] ![1, p, q] h0, w 0⟩]) (ix3 g a b) = w g (ix3 0 a b) := by
  fin_cases g
  · refine (View.read_writes_cons_unit_of_not_mem _ _ _ _ _ _ rfl 0 (by left; show 0 < 7; omega)).trans ?_
    refine (View.read_writes_cons_unit_of_not_mem _ _ _ _ _ _ rfl 0 (by left; show 0 < 6; omega)).trans ?_
    refine (View.read_writes_cons_unit_of_not_mem _ _ _ _ _ _ rfl 0 (by left; show 0 < 5; omega)).trans ?_
    refine (View.read_writes_cons_unit_of_not_mem _ _ _ _ _ _ rfl 0 (by left; show 0 < 4; omega)).trans ?_
    refine (View.read_writes_cons_unit_of_not_mem _ _ _ _ _ _ rfl 0 (by left; show 0 < 3; omega)).trans ?_
    refine (View.read_writes_cons_unit_of_not_mem _ _ _ _ _ _ rfl 0 (by left; show 0 < 2; omega)).trans ?_
    refine (View.read_writes_cons_unit_of_not_mem _ _ _ _ _ _ rfl 0 (by left; show 0 < 1; omega)).trans ?_
    refine View.read_writes_cons_unit_of_mem _ _ _ _ _ _ _ rfl fun x => ?_
    fin_cases x <;> simp [ix3]
  · refine (View.read_writes_cons_unit_of_not_mem _ _ _ _ _ _ rfl 0 (by left; show 1 < 7; omega)).trans ?_
    refine (View.read_writes_cons_unit_of_not_mem _ _ _ _ _ _ rfl 0 (by left; show 1 < 6; omega)).trans ?_
    refine (View.read_writes_cons_unit_of_not_mem _ _ _ _ _ _ rfl 0 (by left; show 1 < 5; omega)).trans ?_
    refine (View.read_writes_cons_unit_of_not_mem _ _ _ _ _ _ rfl 0 (by left; show 1 < 4; omega)).trans ?_
    refine (View.read_writes_cons_unit_of_not_mem _ _ _ _ _ _ rfl 0 (by left; show 1 < 3; omega)).trans ?_
    refine (View.read_writes_cons_unit_of_not_mem _ _ _ _ _ _ rfl 0 (by left; show 1 < 2; omega)).trans ?_
    refine View.read_writes_cons_unit_of_mem _ _ _ _ _ _ _ rfl fun x => ?_
    fin_cases x <;> simp [ix3]
  · refine (View.read_writes_cons_unit_of_not_mem _ _ _ _ _ _ rfl 0 (by left; show 2 < 7; omega)).trans ?_
    refine (View.read_writes_cons_unit_of_not_mem _ _ _ _ _ _ rfl 0 (by left; show 2 < 6; omega)).trans ?_
    refine (View.read_writes_cons_unit_of_not_mem _ _ _ _ _ _ rfl 0 (by left; show 2 < 5; omega)).trans ?_
    refine (View.read_writes_cons_unit_of_not_mem _ _ _ _ _ _ rfl 0 (by left; show 2 < 4; omega)).trans ?_
    refine (View.read_writes_cons_unit_of_not_mem _ _ _ _ _ _ rfl 0 (by left; show 2 < 3; omega)).trans ?_
    refine View.read_writes_cons_unit_of_mem _ _ _ _ _ _ _ rfl fun x => ?_
    fin_cases x <;> simp [ix3]
  · refine (View.read_writes_cons_unit_of_not_mem _ _ _ _ _ _ rfl 0 (by left; show 3 < 7; omega)).trans ?_
    refine (View.read_writes_cons_unit_of_not_mem _ _ _ _ _ _ rfl 0 (by left; show 3 < 6; omega)).trans ?_
    refine (View.read_writes_cons_unit_of_not_mem _ _ _ _ _ _ rfl 0 (by left; show 3 < 5; omega)).trans ?_
    refine (View.read_writes_cons_unit_of_not_mem _ _ _ _ _ _ rfl 0 (by left; show 3 < 4; omega)).trans ?_
    refine View.read_writes_cons_unit_of_mem _ _ _ _ _ _ _ rfl fun x => ?_
    fin_cases x <;> simp [ix3]
  · refine (View.read_writes_cons_unit_of_not_mem _ _ _ _ _ _ rfl 0 (by left; show 4 < 7; omega)).trans ?_
    refine (View.read_writes_cons_unit_of_not_mem _ _ _ _ _ _ rfl 0 (by left; show 4 < 6; omega)).trans ?_
    refine (View.read_writes_cons_unit_of_not_mem _ _ _ _ _ _ rfl 0 (by left; show 4 < 5; omega)).trans ?_
    refine View.read_writes_cons_unit_of_mem _ _ _ _ _ _ _ rfl fun x => ?_
    fin_cases x <;> simp [ix3]
  · refine (View.read_writes_cons_unit_of_not_mem _ _ _ _ _ _ rfl 0 (by left; show 5 < 7; omega)).trans ?_
    refine (View.read_writes_cons_unit_of_not_mem _ _ _ _ _ _ rfl 0 (by left; show 5 < 6; omega)).trans ?_
    refine View.read_writes_cons_unit_of_mem _ _ _ _ _ _ _ rfl fun x => ?_
    fin_cases x <;> simp [ix3]
  · refine (View.read_writes_cons_unit_of_not_mem _ _ _ _ _ _ rfl 0 (by left; show 6 < 7; omega)).trans ?_
    refine View.read_writes_cons_unit_of_mem _ _ _ _ _ _ _ rfl fun x => ?_
    fin_cases x <;> simp [ix3]
  · refine View.read_writes_cons_unit_of_mem _ _ _ _ _ _ _ rfl fun x => ?_
    fin_cases x <;> simp [ix3]

/-- Eight tiles side by side along the last axis, read back: the tile of the column's own head. -/
theorem read_cols {p : ℕ} (v : View sig κ sp (⟨3, ![1, p, 1024]⟩ : Shape) e) (f : v.ty.Contents Val)
    (w : Fin 8 → (⟨3, ![1, p, 128]⟩ : Shape).Idx → Val e)
    {h0 h1 h2 h3 h4 h5 h6 h7}
    (g : Fin 8) (a : Fin p) (b : Fin 128) :
    v.read Val (v.writes Val f [⟨Rect.unit (s := ⟨3, ![1, p, 1024]⟩) ![0, 0, 896] ![1, p, 128] h7, w 7⟩, ⟨Rect.unit (s := ⟨3, ![1, p, 1024]⟩) ![0, 0, 768] ![1, p, 128] h6, w 6⟩, ⟨Rect.unit (s := ⟨3, ![1, p, 1024]⟩) ![0, 0, 640] ![1, p, 128] h5, w 5⟩, ⟨Rect.unit (s := ⟨3, ![1, p, 1024]⟩) ![0, 0, 512] ![1, p, 128] h4, w 4⟩, ⟨Rect.unit (s := ⟨3, ![1, p, 1024]⟩) ![0, 0, 384] ![1, p, 128] h3, w 3⟩, ⟨Rect.unit (s := ⟨3, ![1, p, 1024]⟩) ![0, 0, 256] ![1, p, 128] h2, w 2⟩, ⟨Rect.unit (s := ⟨3, ![1, p, 1024]⟩) ![0, 0, 128] ![1, p, 128] h1, w 1⟩, ⟨Rect.unit (s := ⟨3, ![1, p, 1024]⟩) ![0, 0, 0] ![1, p, 128] h0, w 0⟩]) (ix3 0 a ⟨128 * g.val + b.val, by omega⟩) = w g (ix3 0 a b) := by
  fin_cases g
  · refine (View.read_writes_cons_unit_of_not_mem _ _ _ _ _ _ rfl 2 (by left; show 128 * 0 + b.val < 896; omega)).trans ?_
    refine (View.read_writes_cons_unit_of_not_mem _ _ _ _ _ _ rfl 2 (by left; show 128 * 0 + b.val < 768; omega)).trans ?_
    refine (View.read_writes_cons_unit_of_not_mem _ _ _ _ _ _ rfl 2 (by left; show 128 * 0 + b.val < 640; omega)).trans ?_
    refine (View.read_writes_cons_unit_of_not_mem _ _ _ _ _ _ rfl 2 (by left; show 128 * 0 + b.val < 512; omega)).trans ?_
    refine (View.read_writes_cons_unit_of_not_mem _ _ _ _ _ _ rfl 2 (by left; show 128 * 0 + b.val < 384; omega)).trans ?_
    refine (View.read_writes_cons_unit_of_not_mem _ _ _ _ _ _ rfl 2 (by left; show 128 * 0 + b.val < 256; omega)).trans ?_
    refine (View.read_writes_cons_unit_of_not_mem _ _ _ _ _ _ rfl 2 (by left; show 128 * 0 + b.val < 128; omega)).trans ?_
    refine View.read_writes_cons_unit_of_mem _ _ _ _ _ _ _ rfl fun x => ?_
    fin_cases x <;> simp [ix3]
  · refine (View.read_writes_cons_unit_of_not_mem _ _ _ _ _ _ rfl 2 (by left; show 128 * 1 + b.val < 896; omega)).trans ?_
    refine (View.read_writes_cons_unit_of_not_mem _ _ _ _ _ _ rfl 2 (by left; show 128 * 1 + b.val < 768; omega)).trans ?_
    refine (View.read_writes_cons_unit_of_not_mem _ _ _ _ _ _ rfl 2 (by left; show 128 * 1 + b.val < 640; omega)).trans ?_
    refine (View.read_writes_cons_unit_of_not_mem _ _ _ _ _ _ rfl 2 (by left; show 128 * 1 + b.val < 512; omega)).trans ?_
    refine (View.read_writes_cons_unit_of_not_mem _ _ _ _ _ _ rfl 2 (by left; show 128 * 1 + b.val < 384; omega)).trans ?_
    refine (View.read_writes_cons_unit_of_not_mem _ _ _ _ _ _ rfl 2 (by left; show 128 * 1 + b.val < 256; omega)).trans ?_
    refine View.read_writes_cons_unit_of_mem _ _ _ _ _ _ _ rfl fun x => ?_
    fin_cases x <;> simp [ix3]
  · refine (View.read_writes_cons_unit_of_not_mem _ _ _ _ _ _ rfl 2 (by left; show 128 * 2 + b.val < 896; omega)).trans ?_
    refine (View.read_writes_cons_unit_of_not_mem _ _ _ _ _ _ rfl 2 (by left; show 128 * 2 + b.val < 768; omega)).trans ?_
    refine (View.read_writes_cons_unit_of_not_mem _ _ _ _ _ _ rfl 2 (by left; show 128 * 2 + b.val < 640; omega)).trans ?_
    refine (View.read_writes_cons_unit_of_not_mem _ _ _ _ _ _ rfl 2 (by left; show 128 * 2 + b.val < 512; omega)).trans ?_
    refine (View.read_writes_cons_unit_of_not_mem _ _ _ _ _ _ rfl 2 (by left; show 128 * 2 + b.val < 384; omega)).trans ?_
    refine View.read_writes_cons_unit_of_mem _ _ _ _ _ _ _ rfl fun x => ?_
    fin_cases x <;> simp [ix3]
  · refine (View.read_writes_cons_unit_of_not_mem _ _ _ _ _ _ rfl 2 (by left; show 128 * 3 + b.val < 896; omega)).trans ?_
    refine (View.read_writes_cons_unit_of_not_mem _ _ _ _ _ _ rfl 2 (by left; show 128 * 3 + b.val < 768; omega)).trans ?_
    refine (View.read_writes_cons_unit_of_not_mem _ _ _ _ _ _ rfl 2 (by left; show 128 * 3 + b.val < 640; omega)).trans ?_
    refine (View.read_writes_cons_unit_of_not_mem _ _ _ _ _ _ rfl 2 (by left; show 128 * 3 + b.val < 512; omega)).trans ?_
    refine View.read_writes_cons_unit_of_mem _ _ _ _ _ _ _ rfl fun x => ?_
    fin_cases x <;> simp [ix3]
  · refine (View.read_writes_cons_unit_of_not_mem _ _ _ _ _ _ rfl 2 (by left; show 128 * 4 + b.val < 896; omega)).trans ?_
    refine (View.read_writes_cons_unit_of_not_mem _ _ _ _ _ _ rfl 2 (by left; show 128 * 4 + b.val < 768; omega)).trans ?_
    refine (View.read_writes_cons_unit_of_not_mem _ _ _ _ _ _ rfl 2 (by left; show 128 * 4 + b.val < 640; omega)).trans ?_
    refine View.read_writes_cons_unit_of_mem _ _ _ _ _ _ _ rfl fun x => ?_
    fin_cases x <;> simp [ix3]
  · refine (View.read_writes_cons_unit_of_not_mem _ _ _ _ _ _ rfl 2 (by left; show 128 * 5 + b.val < 896; omega)).trans ?_
    refine (View.read_writes_cons_unit_of_not_mem _ _ _ _ _ _ rfl 2 (by left; show 128 * 5 + b.val < 768; omega)).trans ?_
    refine View.read_writes_cons_unit_of_mem _ _ _ _ _ _ _ rfl fun x => ?_
    fin_cases x <;> simp [ix3]
  · refine (View.read_writes_cons_unit_of_not_mem _ _ _ _ _ _ rfl 2 (by left; show 128 * 6 + b.val < 896; omega)).trans ?_
    refine View.read_writes_cons_unit_of_mem _ _ _ _ _ _ _ rfl fun x => ?_
    fin_cases x <;> simp [ix3]
  · refine View.read_writes_cons_unit_of_mem _ _ _ _ _ _ _ rfl fun x => ?_
    fin_cases x <;> simp [ix3]

end Cert.Attn
end
-- ==== Proof.Attn.Offs.lean ====
module

public import proofs.«01_k».proof.Proof.Attn.Tiles

/-! The body's computed offsets and its loop's trip count, in closed form. -/

@[expose] public section
set_option maxRecDepth 16384
noncomputable section
namespace Cert.Attn
open Cert.KernelIdeal Cert.KernelIdeal.Gen Idealize.ShloMosaic Idealize.ShloMosaic.TcCoe Idealize.SL.Sem

theorem word_i : ∀ x : Fin 8, (Scalar.indexCast (Scalar.muli (BitVec.ofNat 32 x.val) 512#32)).toNat = 512 * x.val := by decide +kernel

theorem word_k : ∀ x : Fin 8, (Scalar.indexCast (Scalar.muli (Scf.iv 0#32 1#32 x.val) 512#32)).toNat = 512 * x.val := by decide +kernel

theorem trips_all : ∀ x : Fin 8, (Scf.Loop.mk 0#32 (Scalar.addi 0#32 (Scalar.muli (Scalar.divsi (Scalar.subi (BitVec.ofNat 32 x.val) 0#32) 1#32) 1#32)) 1#32).trips = x.val := by
  decide +kernel

variable (i : grid0.Coords)

/-- The loop makes one trip for each earlier key block. -/
theorem trips_eq : (k0_t1_loop i).trips = (i 2).val := trips_all (i 2)

theorem k_lt (k : Fin (k0_t1_loop i).trips) : k.val < 8 :=
  lt_of_lt_of_le (trips_eq i ▸ k.isLt) (i 2).isLt.le

theorem off1_eq : k0_off1 i = ![0, 512 * (i 2).val, 0] := by
  show ![0, _, 0] = _; rw [word_i (i 2)]

theorem off2_eq : k0_off2 i = ![0, 512 * (i 2).val, 0] := by
  show ![0, _, 0] = _; rw [word_i (i 2)]

theorem off3_eq : k0_off3 i = ![0, 512 * (i 2).val, 128] := by
  show ![0, _, 128] = _; rw [word_i (i 2)]

theorem off5_eq : k0_off5 i = ![0, 512 * (i 2).val, 256] := by
  show ![0, _, 256] = _; rw [word_i (i 2)]

theorem off7_eq : k0_off7 i = ![0, 512 * (i 2).val, 384] := by
  show ![0, _, 384] = _; rw [word_i (i 2)]

theorem off9_eq : k0_off9 i = ![0, 512 * (i 2).val, 512] := by
  show ![0, _, 512] = _; rw [word_i (i 2)]

theorem off11_eq : k0_off11 i = ![0, 512 * (i 2).val, 640] := by
  show ![0, _, 640] = _; rw [word_i (i 2)]

theorem off13_eq : k0_off13 i = ![0, 512 * (i 2).val, 768] := by
  show ![0, _, 768] = _; rw [word_i (i 2)]

theorem off15_eq : k0_off15 i = ![0, 512 * (i 2).val, 896] := by
  show ![0, _, 896] = _; rw [word_i (i 2)]

theorem off4_eq : k0_off4 i = ![0, 0, 512 * (i 2).val] := by
  show ![0, 0, _] = _; rw [word_i (i 2)]

theorem off6_eq : k0_off6 i = ![1, 0, 512 * (i 2).val] := by
  show ![1, 0, _] = _; rw [word_i (i 2)]

theorem off8_eq : k0_off8 i = ![2, 0, 512 * (i 2).val] := by
  show ![2, 0, _] = _; rw [word_i (i 2)]

theorem off10_eq : k0_off10 i = ![3, 0, 512 * (i 2).val] := by
  show ![3, 0, _] = _; rw [word_i (i 2)]

theorem off12_eq : k0_off12 i = ![4, 0, 512 * (i 2).val] := by
  show ![4, 0, _] = _; rw [word_i (i 2)]

theorem off14_eq : k0_off14 i = ![5, 0, 512 * (i 2).val] := by
  show ![5, 0, _] = _; rw [word_i (i 2)]

theorem off16_eq : k0_off16 i = ![6, 0, 512 * (i 2).val] := by
  show ![6, 0, _] = _; rw [word_i (i 2)]

theorem off17_eq : k0_off17 i = ![7, 0, 512 * (i 2).val] := by
  show ![7, 0, _] = _; rw [word_i (i 2)]

variable (k : Fin (k0_t1_loop i).trips)

theorem off18_eq : k0_off18 i k = ![0, 512 * k.val, 0] := by
  show ![0, _, 0] = _; rw [word_k ⟨k.val, k_lt i k⟩]

theorem off19_eq : k0_off19 i k = ![0, 512 * k.val, 0] := by
  show ![0, _, 0] = _; rw [word_k ⟨k.val, k_lt i k⟩]

theorem off20_eq : k0_off20 i k = ![0, 512 * k.val, 128] := by
  show ![0, _, 128] = _; rw [word_k ⟨k.val, k_lt i k⟩]

theorem off22_eq : k0_off22 i k = ![0, 512 * k.val, 256] := by
  show ![0, _, 256] = _; rw [word_k ⟨k.val, k_lt i k⟩]

theorem off24_eq : k0_off24 i k = ![0, 512 * k.val, 384] := by
  show ![0, _, 384] = _; rw [word_k ⟨k.val, k_lt i k⟩]

theorem off26_eq : k0_off26 i k = ![0, 512 * k.val, 512] := by
  show ![0, _, 512] = _; rw [word_k ⟨k.val, k_lt i k⟩]

theorem off28_eq : k0_off28 i k = ![0, 512 * k.val, 640] := by
  show ![0, _, 640] = _; rw [word_k ⟨k.val, k_lt i k⟩]

theorem off30_eq : k0_off30 i k = ![0, 512 * k.val, 768] := by
  show ![0, _, 768] = _; rw [word_k ⟨k.val, k_lt i k⟩]

theorem off32_eq : k0_off32 i k = ![0, 512 * k.val, 896] := by
  show ![0, _, 896] = _; rw [word_k ⟨k.val, k_lt i k⟩]

theorem off21_eq : k0_off21 i k = ![0, 0, 512 * k.val] := by
  show ![0, 0, _] = _; rw [word_k ⟨k.val, k_lt i k⟩]

theorem off23_eq : k0_off23 i k = ![1, 0, 512 * k.val] := by
  show ![1, 0, _] = _; rw [word_k ⟨k.val, k_lt i k⟩]

theorem off25_eq : k0_off25 i k = ![2, 0, 512 * k.val] := by
  show ![2, 0, _] = _; rw [word_k ⟨k.val, k_lt i k⟩]

theorem off27_eq : k0_off27 i k = ![3, 0, 512 * k.val] := by
  show ![3, 0, _] = _; rw [word_k ⟨k.val, k_lt i k⟩]

theorem off29_eq : k0_off29 i k = ![4, 0, 512 * k.val] := by
  show ![4, 0, _] = _; rw [word_k ⟨k.val, k_lt i k⟩]

theorem off31_eq : k0_off31 i k = ![5, 0, 512 * k.val] := by
  show ![5, 0, _] = _; rw [word_k ⟨k.val, k_lt i k⟩]

theorem off33_eq : k0_off33 i k = ![6, 0, 512 * k.val] := by
  show ![6, 0, _] = _; rw [word_k ⟨k.val, k_lt i k⟩]

theorem off34_eq : k0_off34 i k = ![7, 0, 512 * k.val] := by
  show ![7, 0, _] = _; rw [word_k ⟨k.val, k_lt i k⟩]

end Cert.Attn
end
-- ==== Proof.Attn.Steps.lean ====
module

public import proofs.«01_k».proof.Proof.Attn.Heads
public import proofs.«01_k».proof.Proof.Attn.Offs

/-! One trip of the loop over the earlier key blocks, at an index: the running maximum, sum and accumulator of a head's
query row after the trip, from those before it. -/

@[expose] public section
set_option maxRecDepth 16384
noncomputable section
namespace Cert.Attn
open Cert.KernelIdeal Cert.KernelIdeal.Gen Idealize.ShloMosaic Idealize.ShloMosaic.TcCoe Idealize.SL.Sem

/-- Column `x` of head `g` among the eight heads of a block. -/
abbrev col (g : Fin 8) (x : Fin 128) : Fin 1024 := ⟨128 * g.val + x.val, by omega⟩

/-- Key row `a` of key block `j`. -/
abbrev row (j : ℕ) (hj : j < 8) (a : Fin 512) : Fin 4096 := ⟨512 * j + a.val, by omega⟩

/-- The score of key `κ` and query row `r` for head `g`, from the whole keys, rotary keys and transposed queries. -/
def scA (KN : S1x4096x1024.Idx → EReal) (KR : S1x4096x128.Idx → EReal) (QT : S8x256x512.Idx → EReal) (g : Fin 8) (κ : Fin 4096)
    (r : Fin 512) : EReal :=
  ∑ x : Fin 128, KN (ix3 0 κ (col g x)) * QT (ix3 g ⟨x.val, by omega⟩ r)
    + ∑ x : Fin 128, KR (ix3 0 κ x) * QT (ix3 g ⟨128 + x.val, by omega⟩ r)

theorem score_eq_scA {KN : S1x4096x1024.Idx → EReal} {KR : S1x4096x128.Idx → EReal} {QT : S8x256x512.Idx → EReal}
    {kr kn : Vec Ideal S1x512x128 .bf16} {qt : Vec Ideal S1x256x512 .bf16} {g : Fin 8} {j : ℕ} (hj : j < 8)
    (hkr : ∀ a x, kr (ix3 0 a x) = KR (ix3 0 (row j hj a) x)) (hkn : ∀ a x, kn (ix3 0 a x) = KN (ix3 0 (row j hj a) (col g x)))
    (hqt : ∀ y r, qt (ix3 0 y r) = QT (ix3 g y r)) (a r : Fin 512) : score kr kn qt a r = scA KN KR QT g (row j hj a) r := by
  simp only [score, scA, hkr, hkn, hqt]

variable (c : Dev nD) (e : Env Ideal)

/-- The whole arrays that the loop reads. -/
def Env.KN : S1x4096x1024.Idx → EReal := e.arg5.view.read (Elt Ideal) e.X_arg5
def Env.KR : S1x4096x128.Idx → EReal := e.arg6.view.read (Elt Ideal) e.X_arg6
def Env.QT : S8x256x512.Idx → EReal := e.arg14.view.read (Elt Ideal) e.X_arg14
def Env.VT : S8x128x4096.Idx → EReal := e.arg15.view.read (Elt Ideal) e.X_arg15

theorem Env.krT_apply (k) (a : Fin 512) (x : Fin 128) : e.krT k (ix3 0 a x) = e.KR (ix3 0 (row k.val (k_lt _ k) a) x) :=
  readAt_at _ _ _ _ _ (off18_eq e.i k) fun z => by fin_cases z <;> simp [ix3]

theorem Env.knT_apply (k) (g : Fin 8) (a : Fin 512) (x : Fin 128) :
    e.knT k g (ix3 0 a x) = e.KN (ix3 0 (row k.val (k_lt _ k) a) (col g x)) := by
  fin_cases g
  · exact readAt_at _ _ _ _ _ (off19_eq e.i k) fun z => by fin_cases z <;> simp [ix3]
  · exact readAt_at _ _ _ _ _ (off20_eq e.i k) fun z => by fin_cases z <;> simp [ix3]
  · exact readAt_at _ _ _ _ _ (off22_eq e.i k) fun z => by fin_cases z <;> simp [ix3]
  · exact readAt_at _ _ _ _ _ (off24_eq e.i k) fun z => by fin_cases z <;> simp [ix3]
  · exact readAt_at _ _ _ _ _ (off26_eq e.i k) fun z => by fin_cases z <;> simp [ix3]
  · exact readAt_at _ _ _ _ _ (off28_eq e.i k) fun z => by fin_cases z <;> simp [ix3]
  · exact readAt_at _ _ _ _ _ (off30_eq e.i k) fun z => by fin_cases z <;> simp [ix3]
  · exact readAt_at _ _ _ _ _ (off32_eq e.i k) fun z => by fin_cases z <;> simp [ix3]

theorem Env.vtT_apply (k) (g : Fin 8) (d : Fin 128) (a : Fin 512) :
    e.vtT k g (ix3 0 d a) = e.VT (ix3 g d (row k.val (k_lt _ k) a)) := by
  fin_cases g
  · exact readAt_at _ _ _ _ _ (off21_eq e.i k) fun z => by fin_cases z <;> simp [ix3]
  · exact readAt_at _ _ _ _ _ (off23_eq e.i k) fun z => by fin_cases z <;> simp [ix3]
  · exact readAt_at _ _ _ _ _ (off25_eq e.i k) fun z => by fin_cases z <;> simp [ix3]
  · exact readAt_at _ _ _ _ _ (off27_eq e.i k) fun z => by fin_cases z <;> simp [ix3]
  · exact readAt_at _ _ _ _ _ (off29_eq e.i k) fun z => by fin_cases z <;> simp [ix3]
  · exact readAt_at _ _ _ _ _ (off31_eq e.i k) fun z => by fin_cases z <;> simp [ix3]
  · exact readAt_at _ _ _ _ _ (off33_eq e.i k) fun z => by fin_cases z <;> simp [ix3]
  · exact readAt_at _ _ _ _ _ (off34_eq e.i k) fun z => by fin_cases z <;> simp [ix3]

theorem Env.qtT_apply (g : Fin 8) (y : Fin 256) (r : Fin 512) : e.qtT g (ix3 0 y r) = e.QT (ix3 g y r) := by
  fin_cases g <;> exact readAt_at _ _ _ _ _ rfl fun z => by fin_cases z <;> simp [ix3]

theorem Env.mT_apply (f) (g : Fin 8) (r : Fin 512) : e.mT f g (ix3 0 0 r) = e.arg11.view.read (Elt Ideal) f (ix3 g 0 r) := by
  fin_cases g <;> exact readAt_at _ _ _ _ _ rfl fun z => by fin_cases z <;> simp [ix3]

theorem Env.lT_apply (f) (g : Fin 8) (r : Fin 512) : e.lT f g (ix3 0 0 r) = e.arg12.view.read (Elt Ideal) f (ix3 g 0 r) := by
  fin_cases g <;> exact readAt_at _ _ _ _ _ rfl fun z => by fin_cases z <;> simp [ix3]

theorem Env.aT_apply (f) (g : Fin 8) (d : Fin 128) (r : Fin 512) :
    e.aT f g (ix3 0 d r) = e.arg13.view.read (Elt Ideal) f (ix3 g d r) := by
  fin_cases g <;> exact readAt_at _ _ _ _ _ rfl fun z => by fin_cases z <;> simp [ix3]

theorem Env.score_eq (k) (g : Fin 8) (a r : Fin 512) :
    score (e.krT k) (e.knT k g) (e.qtT g) a r = scA e.KN e.KR e.QT g (row k.val (k_lt _ k) a) r :=
  score_eq_scA _ (e.krT_apply k) (e.knT_apply k g) (e.qtT_apply g) a r

variable (G11 : BufTy.Contents (Elt Ideal) e.arg11.view.ty) (G12 : BufTy.Contents (Elt Ideal) e.arg12.view.ty)
  (G13 : BufTy.Contents (Elt Ideal) e.arg13.view.ty)

/-- The running maximum, sum and accumulator after `n` trips. -/
def Env.M (n : ℕ) (g : Fin 8) (r : Fin 512) : EReal :=
  e.arg11.view.read (Elt Ideal) (e.arg11.view.writes (Elt Ideal) G11 (e.pb c G11 G12 G13 n).1) (ix3 g 0 r)
def Env.L (n : ℕ) (g : Fin 8) (r : Fin 512) : EReal :=
  e.arg12.view.read (Elt Ideal) (e.arg12.view.writes (Elt Ideal) G12 (e.pb c G11 G12 G13 n).2.1) (ix3 g 0 r)
def Env.A (n : ℕ) (g : Fin 8) (d : Fin 128) (r : Fin 512) : EReal :=
  e.arg13.view.read (Elt Ideal) (e.arg13.view.writes (Elt Ideal) G13 (e.pb c G11 G12 G13 n).2.2) (ix3 g d r)

theorem Env.pb_succ (k : Fin (k0_t1_loop e.i).trips) : e.pb c G11 G12 G13 (k.val + 1)
    = ((e.trip c k).1 (e.arg11.view.writes (Elt Ideal) G11 (e.pb c G11 G12 G13 k.val).1) (e.arg12.view.writes (Elt Ideal) G12 (e.pb c G11 G12 G13 k.val).2.1)
          (e.arg13.view.writes (Elt Ideal) G13 (e.pb c G11 G12 G13 k.val).2.2) ++ (e.pb c G11 G12 G13 k.val).1,
       (e.trip c k).2.1 (e.arg11.view.writes (Elt Ideal) G11 (e.pb c G11 G12 G13 k.val).1) (e.arg12.view.writes (Elt Ideal) G12 (e.pb c G11 G12 G13 k.val).2.1)
          (e.arg13.view.writes (Elt Ideal) G13 (e.pb c G11 G12 G13 k.val).2.2) ++ (e.pb c G11 G12 G13 k.val).2.1,
       (e.trip c k).2.2.1 (e.arg11.view.writes (Elt Ideal) G11 (e.pb c G11 G12 G13 k.val).1) (e.arg12.view.writes (Elt Ideal) G12 (e.pb c G11 G12 G13 k.val).2.1)
          (e.arg13.view.writes (Elt Ideal) G13 (e.pb c G11 G12 G13 k.val).2.2) ++ (e.pb c G11 G12 G13 k.val).2.2) :=
  pb_k0_t1_succ (F := Ideal) Variants.none c none e.i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg2 e.v143 e.v344 e.v349 e.v359 e.v360 e.X_arg5 e.X_arg6 e.X_arg14 e.X_arg15 G11 G12 G13 k

theorem Env.M_succ (k : Fin (k0_t1_loop e.i).trips) (g : Fin 8) (r : Fin 512) : e.M c G11 G12 G13 (k.val + 1) g r
    = max (e.M c G11 G12 G13 k.val g r) (Finset.univ.sup fun a => scA e.KN e.KR e.QT g (row k.val (k_lt _ k) a) r) := by
  simp only [← e.score_eq k]
  unfold Env.M
  rw [e.pb_succ, View.writes_append, e.trip_m]
  refine (read_heads _ _ (fun g => newM (e.krT k) (e.knT k g) (e.qtT g) (e.mT _ g)) g 0 r).trans ?_
  rw [newM_apply, e.mT_apply]

theorem Env.L_succ (k : Fin (k0_t1_loop e.i).trips) (g : Fin 8) (r : Fin 512) : e.L c G11 G12 G13 (k.val + 1) g r
    = pow2 (e.M c G11 G12 G13 k.val g r - e.M c G11 G12 G13 (k.val + 1) g r) * e.L c G11 G12 G13 k.val g r
      + ∑ a : Fin 512, pow2 (scA e.KN e.KR e.QT g (row k.val (k_lt _ k) a) r - e.M c G11 G12 G13 (k.val + 1) g r) := by
  rw [e.M_succ]
  simp only [← e.score_eq k]
  unfold Env.L
  rw [e.pb_succ, View.writes_append, e.trip_l]
  refine (read_heads _ _ (fun g => newL (e.krT k) (e.knT k g) (e.qtT g) (e.mT _ g) (e.lT _ g)) g 0 r).trans ?_
  rw [newL_apply, newM_apply, e.mT_apply, e.lT_apply]
  rfl

theorem Env.A_succ (k : Fin (k0_t1_loop e.i).trips) (g : Fin 8) (d : Fin 128) (r : Fin 512) : e.A c G11 G12 G13 (k.val + 1) g d r
    = pow2 (e.M c G11 G12 G13 k.val g r - e.M c G11 G12 G13 (k.val + 1) g r) * e.A c G11 G12 G13 k.val g d r
      + ∑ a : Fin 512, e.VT (ix3 g d (row k.val (k_lt _ k) a))
          * pow2 (scA e.KN e.KR e.QT g (row k.val (k_lt _ k) a) r - e.M c G11 G12 G13 (k.val + 1) g r) := by
  rw [e.M_succ]
  simp only [← e.score_eq k, ← e.vtT_apply k]
  unfold Env.A
  rw [e.pb_succ, View.writes_append, e.trip_a]
  refine (read_heads _ _ (fun g => newA (e.krT k) (e.knT k g) (e.qtT g) (e.vtT k g) (e.mT _ g) (e.aT _ g)) g d r).trans ?_
  rw [newA_apply, newM_apply, e.mT_apply, e.aT_apply]
  rfl

theorem Env.M_zero (g r) : e.M c G11 G12 G13 0 g r = e.arg11.view.read (Elt Ideal) G11 (ix3 g 0 r) := rfl
theorem Env.L_zero (g r) : e.L c G11 G12 G13 0 g r = e.arg12.view.read (Elt Ideal) G12 (ix3 g 0 r) := rfl
theorem Env.A_zero (g d r) : e.A c G11 G12 G13 0 g d r = e.arg13.view.read (Elt Ideal) G13 (ix3 g d r) := rfl

end Cert.Attn
end
-- ==== Proof.Attn.RunA.lean ====
module

public import proofs.«01_k».proof.Proof.Gen.KernelIdeal.Frame.Runs

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stand-in for a scratch tile that the body loads and never uses. -/
def unusedTile : Vec F S1x128x512 .f32 := constant S1x128x512 .f32 0x00000000#32

/-- The sixth accumulator tile that this stretch of the body is handed, read before its first store, is never used:
    any tile in its place gives the same program. -/
theorem part34_blind : k0_part34 (F := F) = fun i arg3 harg3 arg4 harg4 arg5 harg5 arg6 harg6 arg7 harg7 arg8 harg8 arg9 harg9 arg10 harg10 arg11 harg11 arg12 harg12 arg13 harg13 arg14 harg14 arg15 harg15 arg2 v143 v344 v349 v359 _ =>
    k0_part34_skel (F := F) i arg3 harg3 arg4 harg4 arg5 harg5 arg6 harg6 arg7 harg7 arg8 harg8 arg9 harg9 arg10 harg10 arg11 harg11 arg12 harg12 arg13 harg13 arg14 harg14 arg15 harg15 arg2 v143 v344 v349 v359 unusedTile := by
  funext i arg3 harg3 arg4 harg4 arg5 harg5 arg6 harg6 arg7 harg7 arg8 harg8 arg9 harg9 arg10 harg10 arg11 harg11 arg12 harg12 arg13 harg13 arg14 harg14 arg15 harg15 arg2 v143 v344 v349 v359 v360
  rfl

set_option maxHeartbeats 4000000 in
/-- The body run once, in the case that the program id of the query block is zero: the pieces that its stores leave in the output block and in the transposed values, with the triple they come from. -/
noncomputable def kernelRun0_A (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) :
    Σ' (L7 : List (View.Piece (Elt F) S1x512x1024 .bf16)), { LS4 : List (View.Piece (Elt F) S8x128x4096 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS4)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__attn_kernel_eq_skeleton]; unfold cc0__attn_kernel_skel
    simp only [k0_part37_eq_skeleton, k0_part23_eq_skeleton, k0_part24_eq_skeleton, k0_part25_eq_skeleton, k0_part26_eq_skeleton, k0_part27_eq_skeleton, k0_part1_eq_skeleton, k0_part2_eq_skeleton, k0_part28_eq_skeleton, k0_part29_eq_skeleton, k0_part30_eq_skeleton, k0_part31_eq_skeleton, k0_part32_eq_skeleton, k0_part33_eq_skeleton, k0_part35_eq_skeleton, k0_part36_eq_skeleton]
    unfold k0_part37_skel
    simp only [part34_blind]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _; iexact HS4

end Cert.Attn

end
-- ==== Proof.Attn.RunB.lean ====
module

public import proofs.«01_k».proof.Proof.Attn.RunA

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1276000 in
/-- The body run once, in the case that the program id of the query block is not zero: the pieces that its stores leave in the output block, with the triple they come from. -/
noncomputable def kernelRun0_B (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : ¬cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) (xs4 : Vec F S8x128x4096 .bf16) :
    Σ' (L7 : List (View.Piece (Elt F) S1x512x1024 .bf16)), { LS4 : List (View.Piece (Elt F) S8x128x4096 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs4) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14 arg15 harg15) K } := by
  refine ⟨?_, [], fun E K => ?run⟩
  case run =>
    simp only [cc0__attn_kernel_eq_skeleton]; unfold cc0__attn_kernel_skel
    simp only [k0_part37_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part35_eq_skeleton, k0_part36_eq_skeleton]
    unfold k0_part37_skel
    simp only [part34_blind]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%fs4, %hfs4, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg15.eq_unread hfs4
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _; isplitr; · ipureintro; exact harg15.read_unread _
    iexact HS4

end Cert.Attn

end
-- ==== Proof.Attn.Frame.lean ====
module

public import proofs.«01_k».proof.Proof.Attn.RunB
public import Idealize.ShloMosaic.Lib.Claim

@[expose] public section

-- membership in a rectangle of production extents (`View.cover_of_tiled`): the elaborator's structural look
-- recurses once per coordinate of the long axes
set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (8 stores of `S1x512x128`, checked by the kernel's evaluation: Lib/Ring.lean `Piece.tiledL`, linear in the pieces, through a loop's `@[irreducible]` trip theorem too), so they cover it. -/
theorem cover0_A_7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) (y : S1x512x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 S1x512x128.size (by sl_kernel_rfl) y

/-- What case A leaves in output 7's staging buffer: its pieces read back over junk. -/
def out0_A_7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) : Vec F S1x512x1024 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1)

/-- Case A's pieces for scratch `arg15`, which the kernel carries between points, cover it: 8 pieces of `S1x128x4096` tiling it (Lib/Ring.lean `Piece.tiledL`). -/
theorem scover0_A_4 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) (y : S8x128x4096.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1 S1x128x4096.size (by sl_kernel_rfl) y

/-- What case A leaves in scratch `arg15`: its pieces read back over junk. -/
def sout0_A_4 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) : Vec F S8x128x4096 .bf16 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1)

/-- Case B's pieces for output 7 tile its block (8 stores of `S1x512x128`, checked by the kernel's evaluation: Lib/Ring.lean `Piece.tiledL`, linear in the pieces, through a loop's `@[irreducible]` trip theorem too), so they cover it. -/
theorem cover0_B_7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : ¬cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) (xs4 : Vec F S8x128x4096 .bf16) (y : S1x512x1024.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs4).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs4).1 S1x512x128.size (by sl_kernel_rfl) y

/-- What case B leaves in output 7's staging buffer: its pieces read back over junk. -/
def out0_B_7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : ¬cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) (xs4 : Vec F S8x128x4096 .bf16) : Vec F S1x512x1024 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs4).1)

/-- Case B stores nothing into scratch `arg15`: it holds what the point before left. -/
def sout0_B_4 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (hc0 : ¬cond0_0 i)
    (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) (xs4 : Vec F S8x128x4096 .bf16) : Vec F S8x128x4096 .bf16 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x1024 .bf16 × Vec F S8x128x4096 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

/-- `outsAt0` at a point of case A: that case's contents. -/
theorem outsAt0_A (c : Dev nD) (t : Fin cfg0.N) (h0 : t.val % 8 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc m c t, PhiS_zero m c _ _ hz, PhiA0_eq]
      rw [outsAt0_A m c t h0]
      unfold out0_A_7 sout0_A_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%e7, H7⟩, HS0, HS1, HS2, HS3, ⟨%es4, HS4⟩⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_7 sout0_A_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      isplitl [HS4]; · iexists _; iexact HS4
      iintro ⟨H0, H1, H2, H3, H4, H5, H6, ⟨%e7, H7⟩, HS0, HS1, HS2, HS3, ⟨%es4, HS4⟩⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_7 sout0_B_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%e7, H7⟩, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Attn

end
-- ==== Proof.Attn.FirstA.lean ====
module

public import proofs.«01_k».proof.Proof.Attn.Steps
public import proofs.«01_k».proof.Proof.Attn.Frame

/-! The pieces that the body's straight-line stretches leave: the first block's eight tiles of each accumulator, and the
eight tiles of the output block, as lists over the heads. -/

@[expose] public section
set_option maxRecDepth 16384
noncomputable section
namespace Cert.Attn
open Cert.KernelIdeal Cert.KernelIdeal.Gen Idealize.ShloMosaic Idealize.ShloMosaic.TcCoe Idealize.SL.Sem

variable {F : FTy → Type} [FloatOps F]

section
variable (e : Env F)

/-- The rotary keys' tile of the diagonal block. -/
def Env.krF : Vec F S1x512x128 .bf16 :=
  View.readAt (Elt F) e.arg6.view (Rect.unit (s := S1x4096x128) (k0_off1 e.i) S1x512x128.size (k0_off1_inb e.i)).toLoadRect e.X_arg6

/-- The keys' tile of the diagonal block, for each head. -/
def Env.knF : Fin 8 → Vec F S1x512x128 .bf16 :=
  ![View.readAt (Elt F) e.arg5.view (Rect.unit (s := S1x4096x1024) (k0_off2 e.i) S1x512x128.size (k0_off2_inb e.i)).toLoadRect e.X_arg5,
    View.readAt (Elt F) e.arg5.view (Rect.unit (s := S1x4096x1024) (k0_off3 e.i) S1x512x128.size (k0_off3_inb e.i)).toLoadRect e.X_arg5,
    View.readAt (Elt F) e.arg5.view (Rect.unit (s := S1x4096x1024) (k0_off5 e.i) S1x512x128.size (k0_off5_inb e.i)).toLoadRect e.X_arg5,
    View.readAt (Elt F) e.arg5.view (Rect.unit (s := S1x4096x1024) (k0_off7 e.i) S1x512x128.size (k0_off7_inb e.i)).toLoadRect e.X_arg5,
    View.readAt (Elt F) e.arg5.view (Rect.unit (s := S1x4096x1024) (k0_off9 e.i) S1x512x128.size (k0_off9_inb e.i)).toLoadRect e.X_arg5,
    View.readAt (Elt F) e.arg5.view (Rect.unit (s := S1x4096x1024) (k0_off11 e.i) S1x512x128.size (k0_off11_inb e.i)).toLoadRect e.X_arg5,
    View.readAt (Elt F) e.arg5.view (Rect.unit (s := S1x4096x1024) (k0_off13 e.i) S1x512x128.size (k0_off13_inb e.i)).toLoadRect e.X_arg5,
    View.readAt (Elt F) e.arg5.view (Rect.unit (s := S1x4096x1024) (k0_off15 e.i) S1x512x128.size (k0_off15_inb e.i)).toLoadRect e.X_arg5]

/-- The values' tile of the diagonal block, for each head. -/
def Env.vtF : Fin 8 → Vec F S1x128x512 .bf16 :=
  ![View.readAt (Elt F) e.arg15.view (Rect.unit (s := S8x128x4096) (k0_off4 e.i) S1x128x512.size (k0_off4_inb e.i)).toLoadRect e.X_arg15,
    View.readAt (Elt F) e.arg15.view (Rect.unit (s := S8x128x4096) (k0_off6 e.i) S1x128x512.size (k0_off6_inb e.i)).toLoadRect e.X_arg15,
    View.readAt (Elt F) e.arg15.view (Rect.unit (s := S8x128x4096) (k0_off8 e.i) S1x128x512.size (k0_off8_inb e.i)).toLoadRect e.X_arg15,
    View.readAt (Elt F) e.arg15.view (Rect.unit (s := S8x128x4096) (k0_off10 e.i) S1x128x512.size (k0_off10_inb e.i)).toLoadRect e.X_arg15,
    View.readAt (Elt F) e.arg15.view (Rect.unit (s := S8x128x4096) (k0_off12 e.i) S1x128x512.size (k0_off12_inb e.i)).toLoadRect e.X_arg15,
    View.readAt (Elt F) e.arg15.view (Rect.unit (s := S8x128x4096) (k0_off14 e.i) S1x128x512.size (k0_off14_inb e.i)).toLoadRect e.X_arg15,
    View.readAt (Elt F) e.arg15.view (Rect.unit (s := S8x128x4096) (k0_off16 e.i) S1x128x512.size (k0_off16_inb e.i)).toLoadRect e.X_arg15,
    View.readAt (Elt F) e.arg15.view (Rect.unit (s := S8x128x4096) (k0_off17 e.i) S1x128x512.size (k0_off17_inb e.i)).toLoadRect e.X_arg15]

/-- The masked scores of the diagonal block, for each head. -/
def Env.stF (pk : Vec F S1x512x1 .i32) (pq : Vec F S1x1x512 .i32) (g : Fin 8) : FVec F S512x512 .f32 :=
  k0_pay184 pk pq e.krF (e.knF g) (e.qtT g)

/-- The keys' positions and the queries' positions, as the body loads them. -/
def Env.pkT (x6 : Vec F S1x512x1 .i32) : Vec F S1x512x1 .i32 :=
  View.readAt (Elt F) e.arg9.view (Rect.unit (s := S1x512x1) ![0, 0, 0] S1x512x1.size inb_S1x512x1_S1x512x1_0_0_0).toLoadRect (e.harg9.unread x6)
def Env.pqT (x5 : Vec F S1x1x512 .i32) : Vec F S1x1x512 .i32 :=
  View.readAt (Elt F) e.arg8.view (Rect.unit (s := S1x1x512) ![0, 0, 0] S1x1x512.size inb_S1x1x512_S1x1x512_0_0_0).toLoadRect (e.harg8.unread x5)
end

/-- Eight tiles, one for each head, of the maximum or of the sum. -/
abbrev piecesM (w : Fin 8 → Vec F S1x1x512 .f32) : List (View.Piece (Elt F) S8x1x512 .f32) := [⟨Rect.unit ![7, 0, 0] S1x1x512.size inb_S8x1x512_S1x1x512_7_0_0, w 7⟩, ⟨Rect.unit ![6, 0, 0] S1x1x512.size inb_S8x1x512_S1x1x512_6_0_0, w 6⟩, ⟨Rect.unit ![5, 0, 0] S1x1x512.size inb_S8x1x512_S1x1x512_5_0_0, w 5⟩, ⟨Rect.unit ![4, 0, 0] S1x1x512.size inb_S8x1x512_S1x1x512_4_0_0, w 4⟩, ⟨Rect.unit ![3, 0, 0] S1x1x512.size inb_S8x1x512_S1x1x512_3_0_0, w 3⟩, ⟨Rect.unit ![2, 0, 0] S1x1x512.size inb_S8x1x512_S1x1x512_2_0_0, w 2⟩, ⟨Rect.unit ![1, 0, 0] S1x1x512.size inb_S8x1x512_S1x1x512_1_0_0, w 1⟩, ⟨Rect.unit ![0, 0, 0] S1x1x512.size inb_S8x1x512_S1x1x512_0_0_0, w 0⟩]

/-- Eight tiles, one for each head, of the accumulator. -/
abbrev piecesA (w : Fin 8 → Vec F S1x128x512 .f32) : List (View.Piece (Elt F) S8x128x512 .f32) := [⟨Rect.unit ![7, 0, 0] S1x128x512.size inb_S8x128x512_S1x128x512_7_0_0, w 7⟩, ⟨Rect.unit ![6, 0, 0] S1x128x512.size inb_S8x128x512_S1x128x512_6_0_0, w 6⟩, ⟨Rect.unit ![5, 0, 0] S1x128x512.size inb_S8x128x512_S1x128x512_5_0_0, w 5⟩, ⟨Rect.unit ![4, 0, 0] S1x128x512.size inb_S8x128x512_S1x128x512_4_0_0, w 4⟩, ⟨Rect.unit ![3, 0, 0] S1x128x512.size inb_S8x128x512_S1x128x512_3_0_0, w 3⟩, ⟨Rect.unit ![2, 0, 0] S1x128x512.size inb_S8x128x512_S1x128x512_2_0_0, w 2⟩, ⟨Rect.unit ![1, 0, 0] S1x128x512.size inb_S8x128x512_S1x128x512_1_0_0, w 1⟩, ⟨Rect.unit ![0, 0, 0] S1x128x512.size inb_S8x128x512_S1x128x512_0_0_0, w 0⟩]

/-- Eight pairs of tiles, one pair for each head, of the transposed queries. -/
abbrev piecesQ (w w' : Fin 8 → Vec F S1x128x512 .bf16) : List (View.Piece (Elt F) S8x256x512 .bf16) := [⟨Rect.unit ![7, 128, 0] S1x128x512.size inb_S8x256x512_S1x128x512_7_128_0, w' 7⟩, ⟨Rect.unit ![7, 0, 0] S1x128x512.size inb_S8x256x512_S1x128x512_7_0_0, w 7⟩, ⟨Rect.unit ![6, 128, 0] S1x128x512.size inb_S8x256x512_S1x128x512_6_128_0, w' 6⟩, ⟨Rect.unit ![6, 0, 0] S1x128x512.size inb_S8x256x512_S1x128x512_6_0_0, w 6⟩, ⟨Rect.unit ![5, 128, 0] S1x128x512.size inb_S8x256x512_S1x128x512_5_128_0, w' 5⟩, ⟨Rect.unit ![5, 0, 0] S1x128x512.size inb_S8x256x512_S1x128x512_5_0_0, w 5⟩, ⟨Rect.unit ![4, 128, 0] S1x128x512.size inb_S8x256x512_S1x128x512_4_128_0, w' 4⟩, ⟨Rect.unit ![4, 0, 0] S1x128x512.size inb_S8x256x512_S1x128x512_4_0_0, w 4⟩, ⟨Rect.unit ![3, 128, 0] S1x128x512.size inb_S8x256x512_S1x128x512_3_128_0, w' 3⟩, ⟨Rect.unit ![3, 0, 0] S1x128x512.size inb_S8x256x512_S1x128x512_3_0_0, w 3⟩, ⟨Rect.unit ![2, 128, 0] S1x128x512.size inb_S8x256x512_S1x128x512_2_128_0, w' 2⟩, ⟨Rect.unit ![2, 0, 0] S1x128x512.size inb_S8x256x512_S1x128x512_2_0_0, w 2⟩, ⟨Rect.unit ![1, 128, 0] S1x128x512.size inb_S8x256x512_S1x128x512_1_128_0, w' 1⟩, ⟨Rect.unit ![1, 0, 0] S1x128x512.size inb_S8x256x512_S1x128x512_1_0_0, w 1⟩, ⟨Rect.unit ![0, 128, 0] S1x128x512.size inb_S8x256x512_S1x128x512_0_128_0, w' 0⟩, ⟨Rect.unit ![0, 0, 0] S1x128x512.size inb_S8x256x512_S1x128x512_0_0_0, w 0⟩]

/-- Eight tiles, one for each head, of the transposed values. -/
abbrev piecesV (w : Fin 8 → Vec F S1x128x4096 .bf16) : List (View.Piece (Elt F) S8x128x4096 .bf16) := [⟨Rect.unit ![7, 0, 0] S1x128x4096.size inb_S8x128x4096_S1x128x4096_7_0_0, w 7⟩, ⟨Rect.unit ![6, 0, 0] S1x128x4096.size inb_S8x128x4096_S1x128x4096_6_0_0, w 6⟩, ⟨Rect.unit ![5, 0, 0] S1x128x4096.size inb_S8x128x4096_S1x128x4096_5_0_0, w 5⟩, ⟨Rect.unit ![4, 0, 0] S1x128x4096.size inb_S8x128x4096_S1x128x4096_4_0_0, w 4⟩, ⟨Rect.unit ![3, 0, 0] S1x128x4096.size inb_S8x128x4096_S1x128x4096_3_0_0, w 3⟩, ⟨Rect.unit ![2, 0, 0] S1x128x4096.size inb_S8x128x4096_S1x128x4096_2_0_0, w 2⟩, ⟨Rect.unit ![1, 0, 0] S1x128x4096.size inb_S8x128x4096_S1x128x4096_1_0_0, w 1⟩, ⟨Rect.unit ![0, 0, 0] S1x128x4096.size inb_S8x128x4096_S1x128x4096_0_0_0, w 0⟩]

/-- The columns of one head of a block of queries. -/
def colsQ (arg3 : Memref sig .tc .vmem S1x512x1024 .bf16) (harg3 : arg3.IsWhole) (x0 : Vec F S1x512x1024 .bf16) : Fin 8 → Vec F S1x512x128 .bf16 :=
  ![View.readAt (Elt F) arg3.view (Rect.unit (s := S1x512x1024) ![0, 0, 0] S1x512x128.size inb_S1x512x1024_S1x512x128_0_0_0).toLoadRect (harg3.unread x0),
    View.readAt (Elt F) arg3.view (Rect.unit (s := S1x512x1024) ![0, 0, 128] S1x512x128.size inb_S1x512x1024_S1x512x128_0_0_128).toLoadRect (harg3.unread x0),
    View.readAt (Elt F) arg3.view (Rect.unit (s := S1x512x1024) ![0, 0, 256] S1x512x128.size inb_S1x512x1024_S1x512x128_0_0_256).toLoadRect (harg3.unread x0),
    View.readAt (Elt F) arg3.view (Rect.unit (s := S1x512x1024) ![0, 0, 384] S1x512x128.size inb_S1x512x1024_S1x512x128_0_0_384).toLoadRect (harg3.unread x0),
    View.readAt (Elt F) arg3.view (Rect.unit (s := S1x512x1024) ![0, 0, 512] S1x512x128.size inb_S1x512x1024_S1x512x128_0_0_512).toLoadRect (harg3.unread x0),
    View.readAt (Elt F) arg3.view (Rect.unit (s := S1x512x1024) ![0, 0, 640] S1x512x128.size inb_S1x512x1024_S1x512x128_0_0_640).toLoadRect (harg3.unread x0),
    View.readAt (Elt F) arg3.view (Rect.unit (s := S1x512x1024) ![0, 0, 768] S1x512x128.size inb_S1x512x1024_S1x512x128_0_0_768).toLoadRect (harg3.unread x0),
    View.readAt (Elt F) arg3.view (Rect.unit (s := S1x512x1024) ![0, 0, 896] S1x512x128.size inb_S1x512x1024_S1x512x128_0_0_896).toLoadRect (harg3.unread x0)]

/-- The columns of one head of the block of values. -/
def colsV (arg7 : Memref sig .tc .vmem S1x4096x1024 .bf16) (harg7 : arg7.IsWhole) (x4 : Vec F S1x4096x1024 .bf16) : Fin 8 → Vec F S1x4096x128 .bf16 :=
  ![View.readAt (Elt F) arg7.view (Rect.unit (s := S1x4096x1024) ![0, 0, 0] S1x4096x128.size inb_S1x4096x1024_S1x4096x128_0_0_0).toLoadRect (harg7.unread x4),
    View.readAt (Elt F) arg7.view (Rect.unit (s := S1x4096x1024) ![0, 0, 128] S1x4096x128.size inb_S1x4096x1024_S1x4096x128_0_0_128).toLoadRect (harg7.unread x4),
    View.readAt (Elt F) arg7.view (Rect.unit (s := S1x4096x1024) ![0, 0, 256] S1x4096x128.size inb_S1x4096x1024_S1x4096x128_0_0_256).toLoadRect (harg7.unread x4),
    View.readAt (Elt F) arg7.view (Rect.unit (s := S1x4096x1024) ![0, 0, 384] S1x4096x128.size inb_S1x4096x1024_S1x4096x128_0_0_384).toLoadRect (harg7.unread x4),
    View.readAt (Elt F) arg7.view (Rect.unit (s := S1x4096x1024) ![0, 0, 512] S1x4096x128.size inb_S1x4096x1024_S1x4096x128_0_0_512).toLoadRect (harg7.unread x4),
    View.readAt (Elt F) arg7.view (Rect.unit (s := S1x4096x1024) ![0, 0, 640] S1x4096x128.size inb_S1x4096x1024_S1x4096x128_0_0_640).toLoadRect (harg7.unread x4),
    View.readAt (Elt F) arg7.view (Rect.unit (s := S1x4096x1024) ![0, 0, 768] S1x4096x128.size inb_S1x4096x1024_S1x4096x128_0_0_768).toLoadRect (harg7.unread x4),
    View.readAt (Elt F) arg7.view (Rect.unit (s := S1x4096x1024) ![0, 0, 896] S1x4096x128.size inb_S1x4096x1024_S1x4096x128_0_0_896).toLoadRect (harg7.unread x4)]

/-- Eight tiles, one for each head, of the output block. -/
abbrev piecesO (w : Fin 8 → Vec F S1x512x128 .bf16) : List (View.Piece (Elt F) S1x512x1024 .bf16) := [⟨Rect.unit ![0, 0, 896] S1x512x128.size inb_S1x512x1024_S1x512x128_0_0_896, w 7⟩, ⟨Rect.unit ![0, 0, 768] S1x512x128.size inb_S1x512x1024_S1x512x128_0_0_768, w 6⟩, ⟨Rect.unit ![0, 0, 640] S1x512x128.size inb_S1x512x1024_S1x512x128_0_0_640, w 5⟩, ⟨Rect.unit ![0, 0, 512] S1x512x128.size inb_S1x512x1024_S1x512x128_0_0_512, w 4⟩, ⟨Rect.unit ![0, 0, 384] S1x512x128.size inb_S1x512x1024_S1x512x128_0_0_384, w 3⟩, ⟨Rect.unit ![0, 0, 256] S1x512x128.size inb_S1x512x1024_S1x512x128_0_0_256, w 2⟩, ⟨Rect.unit ![0, 0, 128] S1x512x128.size inb_S1x512x1024_S1x512x128_0_0_128, w 1⟩, ⟨Rect.unit ![0, 0, 0] S1x512x128.size inb_S1x512x1024_S1x512x128_0_0_0, w 0⟩]

section CaseA
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole)
  (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32)

/-- The loop's surroundings in case A. -/
abbrev envA : Env F :=
  { i := i, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15,
    arg2 := BitVec.ofNat 32 (i 2), v143 := kernelRun0_A.sl.v142 i, v344 := kernelRun0_A.sl.r_26 c i arg3 harg3 arg4 harg4 arg5 harg5 arg6 harg6 arg8 harg8 arg9 harg9 arg14 x0 x1 x2 x3 x5 x6, v349 := kernelRun0_A.sl.r_27 c i arg3 harg3 arg4 harg4 arg5 harg5 arg6 harg6 arg8 harg8 arg9 harg9 arg14 x0 x1 x2 x3 x5 x6, v359 := kernelRun0_A.sl.r_28 c i arg3 harg3 arg4 harg4 arg5 harg5 arg6 harg6 arg7 harg7 arg8 harg8 arg9 harg9 arg14 arg15 x0 x1 x2 x3 x4 x5 x6, v360 := unusedTile,
    X_arg5 := harg5.unread x2, X_arg6 := harg6.unread x3, X_arg14 := arg14.view.writes (Elt F) arg14.view.junk (kernelRun0_A.sl.HS3_16 c arg3 harg3 arg4 harg4 x0 x1),
    X_arg15 := arg15.view.writes (Elt F) arg15.view.junk (kernelRun0_A.sl.HS4_8 c arg7 harg7 x4) }

theorem HS0_A : kernelRun0_A.sl.HS0_8 c i arg3 harg3 arg4 harg4 arg5 harg5 arg6 harg6 arg8 harg8 arg9 harg9 arg14 x0 x1 x2 x3 x5 x6 = piecesM fun g => k0_pay191 ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).stF ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pkT x6) ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pqT x5) g) := by sl_kernel_rfl

theorem HS1_A : kernelRun0_A.sl.HS1_8 c i arg3 harg3 arg4 harg4 arg5 harg5 arg6 harg6 arg8 harg8 arg9 harg9 arg14 x0 x1 x2 x3 x5 x6 = piecesM fun g => k0_pay189 ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).stF ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pkT x6) ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pqT x5) g) := by sl_kernel_rfl

theorem HS2_A : kernelRun0_A.sl.HS2_8 c i arg3 harg3 arg4 harg4 arg5 harg5 arg6 harg6 arg7 harg7 arg8 harg8 arg9 harg9 arg14 arg15 x0 x1 x2 x3 x4 x5 x6 = piecesA fun g => k0_pay190 ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).stF ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pkT x6) ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pqT x5) g) ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).vtF g) := by sl_kernel_rfl

theorem HS3_A : kernelRun0_A.sl.HS3_16 c arg3 harg3 arg4 harg4 x0 x1
    = piecesQ (fun g => k0_pay162 (colsQ arg3 harg3 x0 g)) (fun g => k0_pay163 (colsQ arg4 harg4 x1 g)) := by sl_kernel_rfl

theorem HS4_A : kernelRun0_A.sl.HS4_8 c arg7 harg7 x4 = piecesV (fun g => k0_pay2 (colsV arg7 harg7 x4 g)) := by sl_kernel_rfl

theorem S4_A (hc0 : cond0_0 i) : (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1 = kernelRun0_A.sl.HS4_8 c arg7 harg7 x4 := by
  sl_kernel_rfl

theorem L7_A (hc0 : cond0_0 i) : (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1
    = piecesO fun g => k0_pay241 ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).aT (arg13.view.writes (Elt F) arg13.view.junk ((pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (kernelRun0_A.sl.v142 i) (kernelRun0_A.sl.r_26 c i arg3 harg3 arg4 harg4 arg5 harg5 arg6 harg6 arg8 harg8 arg9 harg9 arg14 x0 x1 x2 x3 x5 x6) (kernelRun0_A.sl.r_27 c i arg3 harg3 arg4 harg4 arg5 harg5 arg6 harg6 arg8 harg8 arg9 harg9 arg14 x0 x1 x2 x3 x5 x6) (kernelRun0_A.sl.r_28 c i arg3 harg3 arg4 harg4 arg5 harg5 arg6 harg6 arg7 harg7 arg8 harg8 arg9 harg9 arg14 arg15 x0 x1 x2 x3 x4 x5 x6) unusedTile (kernelRun0_A.sl.v391 i) (harg5.unread x2) (harg6.unread x3) (arg14.view.writes (Elt F) arg14.view.junk (kernelRun0_A.sl.HS3_16 c arg3 harg3 arg4 harg4 x0 x1)) (arg15.view.writes (Elt F) arg15.view.junk (kernelRun0_A.sl.HS4_8 c arg7 harg7 x4)) (arg11.view.writes (Elt F) arg11.view.junk (((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pb c (arg11.view.writes (Elt F) arg11.view.junk (kernelRun0_A.sl.HS0_8 c i arg3 harg3 arg4 harg4 arg5 harg5 arg6 harg6 arg8 harg8 arg9 harg9 arg14 x0 x1 x2 x3 x5 x6)) (arg12.view.writes (Elt F) arg12.view.junk (kernelRun0_A.sl.HS1_8 c i arg3 harg3 arg4 harg4 arg5 harg5 arg6 harg6 arg8 harg8 arg9 harg9 arg14 x0 x1 x2 x3 x5 x6)) (arg13.view.writes (Elt F) arg13.view.junk (kernelRun0_A.sl.HS2_8 c i arg3 harg3 arg4 harg4 arg5 harg5 arg6 harg6 arg7 harg7 arg8 harg8 arg9 harg9 arg14 arg15 x0 x1 x2 x3 x4 x5 x6)) (k0_t1_loop i).trips).1 ++ kernelRun0_A.sl.HS0_8 c i arg3 harg3 arg4 harg4 arg5 harg5 arg6 harg6 arg8 harg8 arg9 harg9 arg14 x0 x1 x2 x3 x5 x6)) (arg12.view.writes (Elt F) arg12.view.junk (((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pb c (arg11.view.writes (Elt F) arg11.view.junk (kernelRun0_A.sl.HS0_8 c i arg3 harg3 arg4 harg4 arg5 harg5 arg6 harg6 arg8 harg8 arg9 harg9 arg14 x0 x1 x2 x3 x5 x6)) (arg12.view.writes (Elt F) arg12.view.junk (kernelRun0_A.sl.HS1_8 c i arg3 harg3 arg4 harg4 arg5 harg5 arg6 harg6 arg8 harg8 arg9 harg9 arg14 x0 x1 x2 x3 x5 x6)) (arg13.view.writes (Elt F) arg13.view.junk (kernelRun0_A.sl.HS2_8 c i arg3 harg3 arg4 harg4 arg5 harg5 arg6 harg6 arg7 harg7 arg8 harg8 arg9 harg9 arg14 arg15 x0 x1 x2 x3 x4 x5 x6)) (k0_t1_loop i).trips).2.1 ++ kernelRun0_A.sl.HS1_8 c i arg3 harg3 arg4 harg4 arg5 harg5 arg6 harg6 arg8 harg8 arg9 harg9 arg14 x0 x1 x2 x3 x5 x6)) (arg13.view.writes (Elt F) arg13.view.junk (((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pb c (arg11.view.writes (Elt F) arg11.view.junk (kernelRun0_A.sl.HS0_8 c i arg3 harg3 arg4 harg4 arg5 harg5 arg6 harg6 arg8 harg8 arg9 harg9 arg14 x0 x1 x2 x3 x5 x6)) (arg12.view.writes (Elt F) arg12.view.junk (kernelRun0_A.sl.HS1_8 c i arg3 harg3 arg4 harg4 arg5 harg5 arg6 harg6 arg8 harg8 arg9 harg9 arg14 x0 x1 x2 x3 x5 x6)) (arg13.view.writes (Elt F) arg13.view.junk (kernelRun0_A.sl.HS2_8 c i arg3 harg3 arg4 harg4 arg5 harg5 arg6 harg6 arg7 harg7 arg8 harg8 arg9 harg9 arg14 arg15 x0 x1 x2 x3 x4 x5 x6)) (k0_t1_loop i).trips).2.2 ++ kernelRun0_A.sl.HS2_8 c i arg3 harg3 arg4 harg4 arg5 harg5 arg6 harg6 arg7 harg7 arg8 harg8 arg9 harg9 arg14 arg15 x0 x1 x2 x3 x4 x5 x6)) (k0_t2_loop i).trips).2.2 ++ (((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pb c (arg11.view.writes (Elt F) arg11.view.junk (kernelRun0_A.sl.HS0_8 c i arg3 harg3 arg4 harg4 arg5 harg5 arg6 harg6 arg8 harg8 arg9 harg9 arg14 x0 x1 x2 x3 x5 x6)) (arg12.view.writes (Elt F) arg12.view.junk (kernelRun0_A.sl.HS1_8 c i arg3 harg3 arg4 harg4 arg5 harg5 arg6 harg6 arg8 harg8 arg9 harg9 arg14 x0 x1 x2 x3 x5 x6)) (arg13.view.writes (Elt F) arg13.view.junk (kernelRun0_A.sl.HS2_8 c i arg3 harg3 arg4 harg4 arg5 harg5 arg6 harg6 arg7 harg7 arg8 harg8 arg9 harg9 arg14 arg15 x0 x1 x2 x3 x4 x5 x6)) (k0_t1_loop i).trips).2.2 ++ kernelRun0_A.sl.HS2_8 c i arg3 harg3 arg4 harg4 arg5 harg5 arg6 harg6 arg7 harg7 arg8 harg8 arg9 harg9 arg14 arg15 x0 x1 x2 x3 x4 x5 x6))) g) ((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).lT (arg12.view.writes (Elt F) arg12.view.junk ((pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (kernelRun0_A.sl.v142 i) (kernelRun0_A.sl.r_26 c i arg3 harg3 arg4 harg4 arg5 harg5 arg6 harg6 arg8 harg8 arg9 harg9 arg14 x0 x1 x2 x3 x5 x6) (kernelRun0_A.sl.r_27 c i arg3 harg3 arg4 harg4 arg5 harg5 arg6 harg6 arg8 harg8 arg9 harg9 arg14 x0 x1 x2 x3 x5 x6) (kernelRun0_A.sl.r_28 c i arg3 harg3 arg4 harg4 arg5 harg5 arg6 harg6 arg7 harg7 arg8 harg8 arg9 harg9 arg14 arg15 x0 x1 x2 x3 x4 x5 x6) unusedTile (kernelRun0_A.sl.v391 i) (harg5.unread x2) (harg6.unread x3) (arg14.view.writes (Elt F) arg14.view.junk (kernelRun0_A.sl.HS3_16 c arg3 harg3 arg4 harg4 x0 x1)) (arg15.view.writes (Elt F) arg15.view.junk (kernelRun0_A.sl.HS4_8 c arg7 harg7 x4)) (arg11.view.writes (Elt F) arg11.view.junk (((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pb c (arg11.view.writes (Elt F) arg11.view.junk (kernelRun0_A.sl.HS0_8 c i arg3 harg3 arg4 harg4 arg5 harg5 arg6 harg6 arg8 harg8 arg9 harg9 arg14 x0 x1 x2 x3 x5 x6)) (arg12.view.writes (Elt F) arg12.view.junk (kernelRun0_A.sl.HS1_8 c i arg3 harg3 arg4 harg4 arg5 harg5 arg6 harg6 arg8 harg8 arg9 harg9 arg14 x0 x1 x2 x3 x5 x6)) (arg13.view.writes (Elt F) arg13.view.junk (kernelRun0_A.sl.HS2_8 c i arg3 harg3 arg4 harg4 arg5 harg5 arg6 harg6 arg7 harg7 arg8 harg8 arg9 harg9 arg14 arg15 x0 x1 x2 x3 x4 x5 x6)) (k0_t1_loop i).trips).1 ++ kernelRun0_A.sl.HS0_8 c i arg3 harg3 arg4 harg4 arg5 harg5 arg6 harg6 arg8 harg8 arg9 harg9 arg14 x0 x1 x2 x3 x5 x6)) (arg12.view.writes (Elt F) arg12.view.junk (((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pb c (arg11.view.writes (Elt F) arg11.view.junk (kernelRun0_A.sl.HS0_8 c i arg3 harg3 arg4 harg4 arg5 harg5 arg6 harg6 arg8 harg8 arg9 harg9 arg14 x0 x1 x2 x3 x5 x6)) (arg12.view.writes (Elt F) arg12.view.junk (kernelRun0_A.sl.HS1_8 c i arg3 harg3 arg4 harg4 arg5 harg5 arg6 harg6 arg8 harg8 arg9 harg9 arg14 x0 x1 x2 x3 x5 x6)) (arg13.view.writes (Elt F) arg13.view.junk (kernelRun0_A.sl.HS2_8 c i arg3 harg3 arg4 harg4 arg5 harg5 arg6 harg6 arg7 harg7 arg8 harg8 arg9 harg9 arg14 arg15 x0 x1 x2 x3 x4 x5 x6)) (k0_t1_loop i).trips).2.1 ++ kernelRun0_A.sl.HS1_8 c i arg3 harg3 arg4 harg4 arg5 harg5 arg6 harg6 arg8 harg8 arg9 harg9 arg14 x0 x1 x2 x3 x5 x6)) (arg13.view.writes (Elt F) arg13.view.junk (((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pb c (arg11.view.writes (Elt F) arg11.view.junk (kernelRun0_A.sl.HS0_8 c i arg3 harg3 arg4 harg4 arg5 harg5 arg6 harg6 arg8 harg8 arg9 harg9 arg14 x0 x1 x2 x3 x5 x6)) (arg12.view.writes (Elt F) arg12.view.junk (kernelRun0_A.sl.HS1_8 c i arg3 harg3 arg4 harg4 arg5 harg5 arg6 harg6 arg8 harg8 arg9 harg9 arg14 x0 x1 x2 x3 x5 x6)) (arg13.view.writes (Elt F) arg13.view.junk (kernelRun0_A.sl.HS2_8 c i arg3 harg3 arg4 harg4 arg5 harg5 arg6 harg6 arg7 harg7 arg8 harg8 arg9 harg9 arg14 arg15 x0 x1 x2 x3 x4 x5 x6)) (k0_t1_loop i).trips).2.2 ++ kernelRun0_A.sl.HS2_8 c i arg3 harg3 arg4 harg4 arg5 harg5 arg6 harg6 arg7 harg7 arg8 harg8 arg9 harg9 arg14 arg15 x0 x1 x2 x3 x4 x5 x6)) (k0_t2_loop i).trips).2.1 ++ (((envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).pb c (arg11.view.writes (Elt F) arg11.view.junk (kernelRun0_A.sl.HS0_8 c i arg3 harg3 arg4 harg4 arg5 harg5 arg6 harg6 arg8 harg8 arg9 harg9 arg14 x0 x1 x2 x3 x5 x6)) (arg12.view.writes (Elt F) arg12.view.junk (kernelRun0_A.sl.HS1_8 c i arg3 harg3 arg4 harg4 arg5 harg5 arg6 harg6 arg8 harg8 arg9 harg9 arg14 x0 x1 x2 x3 x5 x6)) (arg13.view.writes (Elt F) arg13.view.junk (kernelRun0_A.sl.HS2_8 c i arg3 harg3 arg4 harg4 arg5 harg5 arg6 harg6 arg7 harg7 arg8 harg8 arg9 harg9 arg14 arg15 x0 x1 x2 x3 x4 x5 x6)) (k0_t1_loop i).trips).2.1 ++ kernelRun0_A.sl.HS1_8 c i arg3 harg3 arg4 harg4 arg5 harg5 arg6 harg6 arg8 harg8 arg9 harg9 arg14 x0 x1 x2 x3 x5 x6))) g) := by
  sl_kernel_rfl

end CaseA

end Cert.Attn
end
-- ==== Proof.Attn.FirstB.lean ====
module

public import proofs.«01_k».proof.Proof.Attn.FirstA

/-! Where the query block is not the first of its run: the pieces that the body's straight-line stretches leave: the first block's eight tiles of each accumulator, and the
eight tiles of the output block, as lists over the heads. -/

@[expose] public section
set_option maxRecDepth 16384
noncomputable section
namespace Cert.Attn
open Cert.KernelIdeal Cert.KernelIdeal.Gen Idealize.ShloMosaic Idealize.ShloMosaic.TcCoe Idealize.SL.Sem

variable {F : FTy → Type} [FloatOps F]

section CaseB
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole)
  (x0 : Vec F S1x512x1024 .bf16) (x1 : Vec F S1x512x1024 .bf16) (x2 : Vec F S1x4096x1024 .bf16) (x3 : Vec F S1x4096x128 .bf16) (x4 : Vec F S1x4096x1024 .bf16) (x5 : Vec F S1x1x512 .i32) (x6 : Vec F S1x512x1 .i32) (xs4 : Vec F S8x128x4096 .bf16)

/-- The loop's surroundings in case B. -/
abbrev envB : Env F :=
  { i := i, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15,
    arg2 := BitVec.ofNat 32 (i 2), v143 := kernelRun0_B.sl.v142 i, v344 := kernelRun0_B.sl.r_26 c i arg3 harg3 arg4 harg4 arg5 harg5 arg6 harg6 arg8 harg8 arg9 harg9 arg14 x0 x1 x2 x3 x5 x6, v349 := kernelRun0_B.sl.r_27 c i arg3 harg3 arg4 harg4 arg5 harg5 arg6 harg6 arg8 harg8 arg9 harg9 arg14 x0 x1 x2 x3 x5 x6, v359 := kernelRun0_B.sl.r_28 c i arg3 harg3 arg4 harg4 arg5 harg5 arg6 harg6 arg8 harg8 arg9 harg9 arg14 arg15 harg15 x0 x1 x2 x3 x5 x6 xs4, v360 := unusedTile,
    X_arg5 := harg5.unread x2, X_arg6 := harg6.unread x3, X_arg14 := arg14.view.writes (Elt F) arg14.view.junk (kernelRun0_B.sl.HS3_16 c arg3 harg3 arg4 harg4 x0 x1),
    X_arg15 := harg15.unread xs4 }

theorem HS0_B : kernelRun0_B.sl.HS0_8 c i arg3 harg3 arg4 harg4 arg5 harg5 arg6 harg6 arg8 harg8 arg9 harg9 arg14 x0 x1 x2 x3 x5 x6 = piecesM fun g => k0_pay191 ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).stF ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pkT x6) ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pqT x5) g) := by sl_kernel_rfl

theorem HS1_B : kernelRun0_B.sl.HS1_8 c i arg3 harg3 arg4 harg4 arg5 harg5 arg6 harg6 arg8 harg8 arg9 harg9 arg14 x0 x1 x2 x3 x5 x6 = piecesM fun g => k0_pay189 ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).stF ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pkT x6) ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pqT x5) g) := by sl_kernel_rfl

theorem HS2_B : kernelRun0_B.sl.HS2_8 c i arg3 harg3 arg4 harg4 arg5 harg5 arg6 harg6 arg8 harg8 arg9 harg9 arg14 arg15 harg15 x0 x1 x2 x3 x5 x6 xs4 = piecesA fun g => k0_pay190 ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).stF ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pkT x6) ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pqT x5) g) ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).vtF g) := by sl_kernel_rfl

theorem HS3_B : kernelRun0_B.sl.HS3_16 c arg3 harg3 arg4 harg4 x0 x1
    = piecesQ (fun g => k0_pay162 (colsQ arg3 harg3 x0 g)) (fun g => k0_pay163 (colsQ arg4 harg4 x1 g)) := by sl_kernel_rfl

theorem L7_B (hc0 : ¬cond0_0 i) : (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs4).1
    = piecesO fun g => k0_pay241 ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).aT (arg13.view.writes (Elt F) arg13.view.junk ((pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (kernelRun0_B.sl.v142 i) (kernelRun0_B.sl.r_26 c i arg3 harg3 arg4 harg4 arg5 harg5 arg6 harg6 arg8 harg8 arg9 harg9 arg14 x0 x1 x2 x3 x5 x6) (kernelRun0_B.sl.r_27 c i arg3 harg3 arg4 harg4 arg5 harg5 arg6 harg6 arg8 harg8 arg9 harg9 arg14 x0 x1 x2 x3 x5 x6) (kernelRun0_B.sl.r_28 c i arg3 harg3 arg4 harg4 arg5 harg5 arg6 harg6 arg8 harg8 arg9 harg9 arg14 arg15 harg15 x0 x1 x2 x3 x5 x6 xs4) unusedTile (kernelRun0_B.sl.v391 i) (harg5.unread x2) (harg6.unread x3) (arg14.view.writes (Elt F) arg14.view.junk (kernelRun0_B.sl.HS3_16 c arg3 harg3 arg4 harg4 x0 x1)) (harg15.unread xs4) (arg11.view.writes (Elt F) arg11.view.junk (((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pb c (arg11.view.writes (Elt F) arg11.view.junk (kernelRun0_B.sl.HS0_8 c i arg3 harg3 arg4 harg4 arg5 harg5 arg6 harg6 arg8 harg8 arg9 harg9 arg14 x0 x1 x2 x3 x5 x6)) (arg12.view.writes (Elt F) arg12.view.junk (kernelRun0_B.sl.HS1_8 c i arg3 harg3 arg4 harg4 arg5 harg5 arg6 harg6 arg8 harg8 arg9 harg9 arg14 x0 x1 x2 x3 x5 x6)) (arg13.view.writes (Elt F) arg13.view.junk (kernelRun0_B.sl.HS2_8 c i arg3 harg3 arg4 harg4 arg5 harg5 arg6 harg6 arg8 harg8 arg9 harg9 arg14 arg15 harg15 x0 x1 x2 x3 x5 x6 xs4)) (k0_t1_loop i).trips).1 ++ kernelRun0_B.sl.HS0_8 c i arg3 harg3 arg4 harg4 arg5 harg5 arg6 harg6 arg8 harg8 arg9 harg9 arg14 x0 x1 x2 x3 x5 x6)) (arg12.view.writes (Elt F) arg12.view.junk (((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pb c (arg11.view.writes (Elt F) arg11.view.junk (kernelRun0_B.sl.HS0_8 c i arg3 harg3 arg4 harg4 arg5 harg5 arg6 harg6 arg8 harg8 arg9 harg9 arg14 x0 x1 x2 x3 x5 x6)) (arg12.view.writes (Elt F) arg12.view.junk (kernelRun0_B.sl.HS1_8 c i arg3 harg3 arg4 harg4 arg5 harg5 arg6 harg6 arg8 harg8 arg9 harg9 arg14 x0 x1 x2 x3 x5 x6)) (arg13.view.writes (Elt F) arg13.view.junk (kernelRun0_B.sl.HS2_8 c i arg3 harg3 arg4 harg4 arg5 harg5 arg6 harg6 arg8 harg8 arg9 harg9 arg14 arg15 harg15 x0 x1 x2 x3 x5 x6 xs4)) (k0_t1_loop i).trips).2.1 ++ kernelRun0_B.sl.HS1_8 c i arg3 harg3 arg4 harg4 arg5 harg5 arg6 harg6 arg8 harg8 arg9 harg9 arg14 x0 x1 x2 x3 x5 x6)) (arg13.view.writes (Elt F) arg13.view.junk (((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pb c (arg11.view.writes (Elt F) arg11.view.junk (kernelRun0_B.sl.HS0_8 c i arg3 harg3 arg4 harg4 arg5 harg5 arg6 harg6 arg8 harg8 arg9 harg9 arg14 x0 x1 x2 x3 x5 x6)) (arg12.view.writes (Elt F) arg12.view.junk (kernelRun0_B.sl.HS1_8 c i arg3 harg3 arg4 harg4 arg5 harg5 arg6 harg6 arg8 harg8 arg9 harg9 arg14 x0 x1 x2 x3 x5 x6)) (arg13.view.writes (Elt F) arg13.view.junk (kernelRun0_B.sl.HS2_8 c i arg3 harg3 arg4 harg4 arg5 harg5 arg6 harg6 arg8 harg8 arg9 harg9 arg14 arg15 harg15 x0 x1 x2 x3 x5 x6 xs4)) (k0_t1_loop i).trips).2.2 ++ kernelRun0_B.sl.HS2_8 c i arg3 harg3 arg4 harg4 arg5 harg5 arg6 harg6 arg8 harg8 arg9 harg9 arg14 arg15 harg15 x0 x1 x2 x3 x5 x6 xs4)) (k0_t2_loop i).trips).2.2 ++ (((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pb c (arg11.view.writes (Elt F) arg11.view.junk (kernelRun0_B.sl.HS0_8 c i arg3 harg3 arg4 harg4 arg5 harg5 arg6 harg6 arg8 harg8 arg9 harg9 arg14 x0 x1 x2 x3 x5 x6)) (arg12.view.writes (Elt F) arg12.view.junk (kernelRun0_B.sl.HS1_8 c i arg3 harg3 arg4 harg4 arg5 harg5 arg6 harg6 arg8 harg8 arg9 harg9 arg14 x0 x1 x2 x3 x5 x6)) (arg13.view.writes (Elt F) arg13.view.junk (kernelRun0_B.sl.HS2_8 c i arg3 harg3 arg4 harg4 arg5 harg5 arg6 harg6 arg8 harg8 arg9 harg9 arg14 arg15 harg15 x0 x1 x2 x3 x5 x6 xs4)) (k0_t1_loop i).trips).2.2 ++ kernelRun0_B.sl.HS2_8 c i arg3 harg3 arg4 harg4 arg5 harg5 arg6 harg6 arg8 harg8 arg9 harg9 arg14 arg15 harg15 x0 x1 x2 x3 x5 x6 xs4))) g) ((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).lT (arg12.view.writes (Elt F) arg12.view.junk ((pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (kernelRun0_B.sl.v142 i) (kernelRun0_B.sl.r_26 c i arg3 harg3 arg4 harg4 arg5 harg5 arg6 harg6 arg8 harg8 arg9 harg9 arg14 x0 x1 x2 x3 x5 x6) (kernelRun0_B.sl.r_27 c i arg3 harg3 arg4 harg4 arg5 harg5 arg6 harg6 arg8 harg8 arg9 harg9 arg14 x0 x1 x2 x3 x5 x6) (kernelRun0_B.sl.r_28 c i arg3 harg3 arg4 harg4 arg5 harg5 arg6 harg6 arg8 harg8 arg9 harg9 arg14 arg15 harg15 x0 x1 x2 x3 x5 x6 xs4) unusedTile (kernelRun0_B.sl.v391 i) (harg5.unread x2) (harg6.unread x3) (arg14.view.writes (Elt F) arg14.view.junk (kernelRun0_B.sl.HS3_16 c arg3 harg3 arg4 harg4 x0 x1)) (harg15.unread xs4) (arg11.view.writes (Elt F) arg11.view.junk (((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pb c (arg11.view.writes (Elt F) arg11.view.junk (kernelRun0_B.sl.HS0_8 c i arg3 harg3 arg4 harg4 arg5 harg5 arg6 harg6 arg8 harg8 arg9 harg9 arg14 x0 x1 x2 x3 x5 x6)) (arg12.view.writes (Elt F) arg12.view.junk (kernelRun0_B.sl.HS1_8 c i arg3 harg3 arg4 harg4 arg5 harg5 arg6 harg6 arg8 harg8 arg9 harg9 arg14 x0 x1 x2 x3 x5 x6)) (arg13.view.writes (Elt F) arg13.view.junk (kernelRun0_B.sl.HS2_8 c i arg3 harg3 arg4 harg4 arg5 harg5 arg6 harg6 arg8 harg8 arg9 harg9 arg14 arg15 harg15 x0 x1 x2 x3 x5 x6 xs4)) (k0_t1_loop i).trips).1 ++ kernelRun0_B.sl.HS0_8 c i arg3 harg3 arg4 harg4 arg5 harg5 arg6 harg6 arg8 harg8 arg9 harg9 arg14 x0 x1 x2 x3 x5 x6)) (arg12.view.writes (Elt F) arg12.view.junk (((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pb c (arg11.view.writes (Elt F) arg11.view.junk (kernelRun0_B.sl.HS0_8 c i arg3 harg3 arg4 harg4 arg5 harg5 arg6 harg6 arg8 harg8 arg9 harg9 arg14 x0 x1 x2 x3 x5 x6)) (arg12.view.writes (Elt F) arg12.view.junk (kernelRun0_B.sl.HS1_8 c i arg3 harg3 arg4 harg4 arg5 harg5 arg6 harg6 arg8 harg8 arg9 harg9 arg14 x0 x1 x2 x3 x5 x6)) (arg13.view.writes (Elt F) arg13.view.junk (kernelRun0_B.sl.HS2_8 c i arg3 harg3 arg4 harg4 arg5 harg5 arg6 harg6 arg8 harg8 arg9 harg9 arg14 arg15 harg15 x0 x1 x2 x3 x5 x6 xs4)) (k0_t1_loop i).trips).2.1 ++ kernelRun0_B.sl.HS1_8 c i arg3 harg3 arg4 harg4 arg5 harg5 arg6 harg6 arg8 harg8 arg9 harg9 arg14 x0 x1 x2 x3 x5 x6)) (arg13.view.writes (Elt F) arg13.view.junk (((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pb c (arg11.view.writes (Elt F) arg11.view.junk (kernelRun0_B.sl.HS0_8 c i arg3 harg3 arg4 harg4 arg5 harg5 arg6 harg6 arg8 harg8 arg9 harg9 arg14 x0 x1 x2 x3 x5 x6)) (arg12.view.writes (Elt F) arg12.view.junk (kernelRun0_B.sl.HS1_8 c i arg3 harg3 arg4 harg4 arg5 harg5 arg6 harg6 arg8 harg8 arg9 harg9 arg14 x0 x1 x2 x3 x5 x6)) (arg13.view.writes (Elt F) arg13.view.junk (kernelRun0_B.sl.HS2_8 c i arg3 harg3 arg4 harg4 arg5 harg5 arg6 harg6 arg8 harg8 arg9 harg9 arg14 arg15 harg15 x0 x1 x2 x3 x5 x6 xs4)) (k0_t1_loop i).trips).2.2 ++ kernelRun0_B.sl.HS2_8 c i arg3 harg3 arg4 harg4 arg5 harg5 arg6 harg6 arg8 harg8 arg9 harg9 arg14 arg15 harg15 x0 x1 x2 x3 x5 x6 xs4)) (k0_t2_loop i).trips).2.1 ++ (((envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).pb c (arg11.view.writes (Elt F) arg11.view.junk (kernelRun0_B.sl.HS0_8 c i arg3 harg3 arg4 harg4 arg5 harg5 arg6 harg6 arg8 harg8 arg9 harg9 arg14 x0 x1 x2 x3 x5 x6)) (arg12.view.writes (Elt F) arg12.view.junk (kernelRun0_B.sl.HS1_8 c i arg3 harg3 arg4 harg4 arg5 harg5 arg6 harg6 arg8 harg8 arg9 harg9 arg14 x0 x1 x2 x3 x5 x6)) (arg13.view.writes (Elt F) arg13.view.junk (kernelRun0_B.sl.HS2_8 c i arg3 harg3 arg4 harg4 arg5 harg5 arg6 harg6 arg8 harg8 arg9 harg9 arg14 arg15 harg15 x0 x1 x2 x3 x5 x6 xs4)) (k0_t1_loop i).trips).2.1 ++ kernelRun0_B.sl.HS1_8 c i arg3 harg3 arg4 harg4 arg5 harg5 arg6 harg6 arg8 harg8 arg9 harg9 arg14 x0 x1 x2 x3 x5 x6))) g) := by
  sl_kernel_rfl

end CaseB

end Cert.Attn
end
-- ==== Proof.Attn.Online.lean ====
module

public import proofs.«01_k».proof.Proof.Attn.FirstB

/-! The running maximum, sum and accumulator of one head's query row, as plain recurrences on extended reals, and that
the body's buffers hold them. -/

@[expose] public section
set_option maxRecDepth 16384
noncomputable section
namespace Cert.Attn
open Cert.KernelIdeal Cert.KernelIdeal.Gen Idealize.ShloMosaic Idealize.ShloMosaic.TcCoe Idealize.SL.Sem

/-- The running maximum after the first block's scores `s0` and `n` further blocks' scores `s`. -/
def onM (s0 : Fin 512 → EReal) (s : ℕ → Fin 512 → EReal) : ℕ → EReal
  | 0 => Finset.univ.sup s0
  | n + 1 => max (onM s0 s n) (Finset.univ.sup (s n))

/-- The running sum. -/
def onL (s0 : Fin 512 → EReal) (s : ℕ → Fin 512 → EReal) : ℕ → EReal
  | 0 => ∑ a, pow2 (s0 a - onM s0 s 0)
  | n + 1 => pow2 (onM s0 s n - onM s0 s (n + 1)) * onL s0 s n + ∑ a, pow2 (s n a - onM s0 s (n + 1))

/-- The running accumulator. -/
def onA (s0 v0 : Fin 512 → EReal) (s v : ℕ → Fin 512 → EReal) : ℕ → EReal
  | 0 => ∑ a, v0 a * pow2 (s0 a - onM s0 s 0)
  | n + 1 => pow2 (onM s0 s n - onM s0 s (n + 1)) * onA s0 v0 s v n + ∑ a, v n a * pow2 (s n a - onM s0 s (n + 1))

section
variable {sg : RefSig} {κ : Kind} {sp : Space}

theorem read_piecesM (v : View sg κ sp S8x1x512 .f32) (f) (w : Fin 8 → Vec Ideal S1x1x512 .f32) (g : Fin 8) (r : Fin 512) :
    v.read (Elt Ideal) (v.writes (Elt Ideal) f (piecesM w)) (ix3 g 0 r) = w g (ix3 0 0 r) := read_heads v f w g 0 r

theorem read_piecesA (v : View sg κ sp S8x128x512 .f32) (f) (w : Fin 8 → Vec Ideal S1x128x512 .f32) (g : Fin 8) (d : Fin 128)
    (r : Fin 512) : v.read (Elt Ideal) (v.writes (Elt Ideal) f (piecesA w)) (ix3 g d r) = w g (ix3 0 d r) := read_heads v f w g d r

theorem read_piecesV (v : View sg κ sp S8x128x4096 .bf16) (f) (w : Fin 8 → Vec Ideal S1x128x4096 .bf16) (g : Fin 8) (d : Fin 128)
    (κ' : Fin 4096) : v.read (Elt Ideal) (v.writes (Elt Ideal) f (piecesV w)) (ix3 g d κ') = w g (ix3 0 d κ') := read_heads v f w g d κ'

theorem read_piecesO (v : View sg κ sp S1x512x1024 .bf16) (f) (w : Fin 8 → Vec Ideal S1x512x128 .bf16) (g : Fin 8) (r : Fin 512)
    (d : Fin 128) : v.read (Elt Ideal) (v.writes (Elt Ideal) f (piecesO w)) (ix3 0 r (col g d)) = w g (ix3 0 r d) := read_cols v f w g r d

theorem read_piecesQ_lo (v : View sg κ sp S8x256x512 .bf16) (f) (w w' : Fin 8 → Vec Ideal S1x128x512 .bf16) (g : Fin 8) (x : Fin 128)
    (r : Fin 512) : v.read (Elt Ideal) (v.writes (Elt Ideal) f (piecesQ w w')) (ix3 g ⟨x.val, by omega⟩ r) = w g (ix3 0 x r) := by
  fin_cases g
  · refine (View.read_writes_cons_unit_of_not_mem _ _ _ _ _ _ rfl 0 (by left; show 0 < 7; omega)).trans ?_
    refine (View.read_writes_cons_unit_of_not_mem _ _ _ _ _ _ rfl 0 (by left; show 0 < 7; omega)).trans ?_
    refine (View.read_writes_cons_unit_of_not_mem _ _ _ _ _ _ rfl 0 (by left; show 0 < 6; omega)).trans ?_
    refine (View.read_writes_cons_unit_of_not_mem _ _ _ _ _ _ rfl 0 (by left; show 0 < 6; omega)).trans ?_
    refine (View.read_writes_cons_unit_of_not_mem _ _ _ _ _ _ rfl 0 (by left; show 0 < 5; omega)).trans ?_
    refine (View.read_writes_cons_unit_of_not_mem _ _ _ _ _ _ rfl 0 (by left; show 0 < 5; omega)).trans ?_
    refine (View.read_writes_cons_unit_of_not_mem _ _ _ _ _ _ rfl 0 (by left; show 0 < 4; omega)).trans ?_
    refine (View.read_writes_cons_unit_of_not_mem _ _ _ _ _ _ rfl 0 (by left; show 0 < 4; omega)).trans ?_
    refine (View.read_writes_cons_unit_of_not_mem _ _ _ _ _ _ rfl 0 (by left; show 0 < 3; omega)).trans ?_
    refine (View.read_writes_cons_unit_of_not_mem _ _ _ _ _ _ rfl 0 (by left; show 0 < 3; omega)).trans ?_
    refine (View.read_writes_cons_unit_of_not_mem _ _ _ _ _ _ rfl 0 (by left; show 0 < 2; omega)).trans ?_
    refine (View.read_writes_cons_unit_of_not_mem _ _ _ _ _ _ rfl 0 (by left; show 0 < 2; omega)).trans ?_
    refine (View.read_writes_cons_unit_of_not_mem _ _ _ _ _ _ rfl 0 (by left; show 0 < 1; omega)).trans ?_
    refine (View.read_writes_cons_unit_of_not_mem _ _ _ _ _ _ rfl 0 (by left; show 0 < 1; omega)).trans ?_
    refine (View.read_writes_cons_unit_of_not_mem _ _ _ _ _ _ rfl 1 (by left; show x.val < 128; omega)).trans ?_
    refine View.read_writes_cons_unit_of_mem _ _ _ _ _ _ _ rfl fun x => ?_
    fin_cases x <;> simp [ix3]
  · refine (View.read_writes_cons_unit_of_not_mem _ _ _ _ _ _ rfl 0 (by left; show 1 < 7; omega)).trans ?_
    refine (View.read_writes_cons_unit_of_not_mem _ _ _ _ _ _ rfl 0 (by left; show 1 < 7; omega)).trans ?_
    refine (View.read_writes_cons_unit_of_not_mem _ _ _ _ _ _ rfl 0 (by left; show 1 < 6; omega)).trans ?_
    refine (View.read_writes_cons_unit_of_not_mem _ _ _ _ _ _ rfl 0 (by left; show 1 < 6; omega)).trans ?_
    refine (View.read_writes_cons_unit_of_not_mem _ _ _ _ _ _ rfl 0 (by left; show 1 < 5; omega)).trans ?_
    refine (View.read_writes_cons_unit_of_not_mem _ _ _ _ _ _ rfl 0 (by left; show 1 < 5; omega)).trans ?_
    refine (View.read_writes_cons_unit_of_not_mem _ _ _ _ _ _ rfl 0 (by left; show 1 < 4; omega)).trans ?_
    refine (View.read_writes_cons_unit_of_not_mem _ _ _ _ _ _ rfl 0 (by left; show 1 < 4; omega)).trans ?_
    refine (View.read_writes_cons_unit_of_not_mem _ _ _ _ _ _ rfl 0 (by left; show 1 < 3; omega)).trans ?_
    refine (View.read_writes_cons_unit_of_not_mem _ _ _ _ _ _ rfl 0 (by left; show 1 < 3; omega)).trans ?_
    refine (View.read_writes_cons_unit_of_not_mem _ _ _ _ _ _ rfl 0 (by left; show 1 < 2; omega)).trans ?_
    refine (View.read_writes_cons_unit_of_not_mem _ _ _ _ _ _ rfl 0 (by left; show 1 < 2; omega)).trans ?_
    refine (View.read_writes_cons_unit_of_not_mem _ _ _ _ _ _ rfl 1 (by left; show x.val < 128; omega)).trans ?_
    refine View.read_writes_cons_unit_of_mem _ _ _ _ _ _ _ rfl fun x => ?_
    fin_cases x <;> simp [ix3]
  · refine (View.read_writes_cons_unit_of_not_mem _ _ _ _ _ _ rfl 0 (by left; show 2 < 7; omega)).trans ?_
    refine (View.read_writes_cons_unit_of_not_mem _ _ _ _ _ _ rfl 0 (by left; show 2 < 7; omega)).trans ?_
    refine (View.read_writes_cons_unit_of_not_mem _ _ _ _ _ _ rfl 0 (by left; show 2 < 6; omega)).trans ?_
    refine (View.read_writes_cons_unit_of_not_mem _ _ _ _ _ _ rfl 0 (by left; show 2 < 6; omega)).trans ?_
    refine (View.read_writes_cons_unit_of_not_mem _ _ _ _ _ _ rfl 0 (by left; show 2 < 5; omega)).trans ?_
    refine (View.read_writes_cons_unit_of_not_mem _ _ _ _ _ _ rfl 0 (by left; show 2 < 5; omega)).trans ?_
    refine (View.read_writes_cons_unit_of_not_mem _ _ _ _ _ _ rfl 0 (by left; show 2 < 4; omega)).trans ?_
    refine (View.read_writes_cons_unit_of_not_mem _ _ _ _ _ _ rfl 0 (by left; show 2 < 4; omega)).trans ?_
    refine (View.read_writes_cons_unit_of_not_mem _ _ _ _ _ _ rfl 0 (by left; show 2 < 3; omega)).trans ?_
    refine (View.read_writes_cons_unit_of_not_mem _ _ _ _ _ _ rfl 0 (by left; show 2 < 3; omega)).trans ?_
    refine (View.read_writes_cons_unit_of_not_mem _ _ _ _ _ _ rfl 1 (by left; show x.val < 128; omega)).trans ?_
    refine View.read_writes_cons_unit_of_mem _ _ _ _ _ _ _ rfl fun x => ?_
    fin_cases x <;> simp [ix3]
  · refine (View.read_writes_cons_unit_of_not_mem _ _ _ _ _ _ rfl 0 (by left; show 3 < 7; omega)).trans ?_
    refine (View.read_writes_cons_unit_of_not_mem _ _ _ _ _ _ rfl 0 (by left; show 3 < 7; omega)).trans ?_
    refine (View.read_writes_cons_unit_of_not_mem _ _ _ _ _ _ rfl 0 (by left; show 3 < 6; omega)).trans ?_
    refine (View.read_writes_cons_unit_of_not_mem _ _ _ _ _ _ rfl 0 (by left; show 3 < 6; omega)).trans ?_
    refine (View.read_writes_cons_unit_of_not_mem _ _ _ _ _ _ rfl 0 (by left; show 3 < 5; omega)).trans ?_
    refine (View.read_writes_cons_unit_of_not_mem _ _ _ _ _ _ rfl 0 (by left; show 3 < 5; omega)).trans ?_
    refine (View.read_writes_cons_unit_of_not_mem _ _ _ _ _ _ rfl 0 (by left; show 3 < 4; omega)).trans ?_
    refine (View.read_writes_cons_unit_of_not_mem _ _ _ _ _ _ rfl 0 (by left; show 3 < 4; omega)).trans ?_
    refine (View.read_writes_cons_unit_of_not_mem _ _ _ _ _ _ rfl 1 (by left; show x.val < 128; omega)).trans ?_
    refine View.read_writes_cons_unit_of_mem _ _ _ _ _ _ _ rfl fun x => ?_
    fin_cases x <;> simp [ix3]
  · refine (View.read_writes_cons_unit_of_not_mem _ _ _ _ _ _ rfl 0 (by left; show 4 < 7; omega)).trans ?_
    refine (View.read_writes_cons_unit_of_not_mem _ _ _ _ _ _ rfl 0 (by left; show 4 < 7; omega)).trans ?_
    refine (View.read_writes_cons_unit_of_not_mem _ _ _ _ _ _ rfl 0 (by left; show 4 < 6; omega)).trans ?_
    refine (View.read_writes_cons_unit_of_not_mem _ _ _ _ _ _ rfl 0 (by left; show 4 < 6; omega)).trans ?_
    refine (View.read_writes_cons_unit_of_not_mem _ _ _ _ _ _ rfl 0 (by left; show 4 < 5; omega)).trans ?_
    refine (View.read_writes_cons_unit_of_not_mem _ _ _ _ _ _ rfl 0 (by left; show 4 < 5; omega)).trans ?_
    refine (View.read_writes_cons_unit_of_not_mem _ _ _ _ _ _ rfl 1 (by left; show x.val < 128; omega)).trans ?_
    refine View.read_writes_cons_unit_of_mem _ _ _ _ _ _ _ rfl fun x => ?_
    fin_cases x <;> simp [ix3]
  · refine (View.read_writes_cons_unit_of_not_mem _ _ _ _ _ _ rfl 0 (by left; show 5 < 7; omega)).trans ?_
    refine (View.read_writes_cons_unit_of_not_mem _ _ _ _ _ _ rfl 0 (by left; show 5 < 7; omega)).trans ?_
    refine (View.read_writes_cons_unit_of_not_mem _ _ _ _ _ _ rfl 0 (by left; show 5 < 6; omega)).trans ?_
    refine (View.read_writes_cons_unit_of_not_mem _ _ _ _ _ _ rfl 0 (by left; show 5 < 6; omega)).trans ?_
    refine (View.read_writes_cons_unit_of_not_mem _ _ _ _ _ _ rfl 1 (by left; show x.val < 128; omega)).trans ?_
    refine View.read_writes_cons_unit_of_mem _ _ _ _ _ _ _ rfl fun x => ?_
    fin_cases x <;> simp [ix3]
  · refine (View.read_writes_cons_unit_of_not_mem _ _ _ _ _ _ rfl 0 (by left; show 6 < 7; omega)).trans ?_
    refine (View.read_writes_cons_unit_of_not_mem _ _ _ _ _ _ rfl 0 (by left; show 6 < 7; omega)).trans ?_
    refine (View.read_writes_cons_unit_of_not_mem _ _ _ _ _ _ rfl 1 (by left; show x.val < 128; omega)).trans ?_
    refine View.read_writes_cons_unit_of_mem _ _ _ _ _ _ _ rfl fun x => ?_
    fin_cases x <;> simp [ix3]
  · refine (View.read_writes_cons_unit_of_not_mem _ _ _ _ _ _ rfl 1 (by left; show x.val < 128; omega)).trans ?_
    refine View.read_writes_cons_unit_of_mem _ _ _ _ _ _ _ rfl fun x => ?_
    fin_cases x <;> simp [ix3]

theorem read_piecesQ_hi (v : View sg κ sp S8x256x512 .bf16) (f) (w w' : Fin 8 → Vec Ideal S1x128x512 .bf16) (g : Fin 8) (x : Fin 128)
    (r : Fin 512) : v.read (Elt Ideal) (v.writes (Elt Ideal) f (piecesQ w w')) (ix3 g ⟨128 + x.val, by omega⟩ r) = w' g (ix3 0 x r) := by
  fin_cases g
  · refine (View.read_writes_cons_unit_of_not_mem _ _ _ _ _ _ rfl 0 (by left; show 0 < 7; omega)).trans ?_
    refine (View.read_writes_cons_unit_of_not_mem _ _ _ _ _ _ rfl 0 (by left; show 0 < 7; omega)).trans ?_
    refine (View.read_writes_cons_unit_of_not_mem _ _ _ _ _ _ rfl 0 (by left; show 0 < 6; omega)).trans ?_
    refine (View.read_writes_cons_unit_of_not_mem _ _ _ _ _ _ rfl 0 (by left; show 0 < 6; omega)).trans ?_
    refine (View.read_writes_cons_unit_of_not_mem _ _ _ _ _ _ rfl 0 (by left; show 0 < 5; omega)).trans ?_
    refine (View.read_writes_cons_unit_of_not_mem _ _ _ _ _ _ rfl 0 (by left; show 0 < 5; omega)).trans ?_
    refine (View.read_writes_cons_unit_of_not_mem _ _ _ _ _ _ rfl 0 (by left; show 0 < 4; omega)).trans ?_
    refine (View.read_writes_cons_unit_of_not_mem _ _ _ _ _ _ rfl 0 (by left; show 0 < 4; omega)).trans ?_
    refine (View.read_writes_cons_unit_of_not_mem _ _ _ _ _ _ rfl 0 (by left; show 0 < 3; omega)).trans ?_
    refine (View.read_writes_cons_unit_of_not_mem _ _ _ _ _ _ rfl 0 (by left; show 0 < 3; omega)).trans ?_
    refine (View.read_writes_cons_unit_of_not_mem _ _ _ _ _ _ rfl 0 (by left; show 0 < 2; omega)).trans ?_
    refine (View.read_writes_cons_unit_of_not_mem _ _ _ _ _ _ rfl 0 (by left; show 0 < 2; omega)).trans ?_
    refine (View.read_writes_cons_unit_of_not_mem _ _ _ _ _ _ rfl 0 (by left; show 0 < 1; omega)).trans ?_
    refine (View.read_writes_cons_unit_of_not_mem _ _ _ _ _ _ rfl 0 (by left; show 0 < 1; omega)).trans ?_
    refine View.read_writes_cons_unit_of_mem _ _ _ _ _ _ _ rfl fun x => ?_
    fin_cases x <;> simp [ix3]
  · refine (View.read_writes_cons_unit_of_not_mem _ _ _ _ _ _ rfl 0 (by left; show 1 < 7; omega)).trans ?_
    refine (View.read_writes_cons_unit_of_not_mem _ _ _ _ _ _ rfl 0 (by left; show 1 < 7; omega)).trans ?_
    refine (View.read_writes_cons_unit_of_not_mem _ _ _ _ _ _ rfl 0 (by left; show 1 < 6; omega)).trans ?_
    refine (View.read_writes_cons_unit_of_not_mem _ _ _ _ _ _ rfl 0 (by left; show 1 < 6; omega)).trans ?_
    refine (View.read_writes_cons_unit_of_not_mem _ _ _ _ _ _ rfl 0 (by left; show 1 < 5; omega)).trans ?_
    refine (View.read_writes_cons_unit_of_not_mem _ _ _ _ _ _ rfl 0 (by left; show 1 < 5; omega)).trans ?_
    refine (View.read_writes_cons_unit_of_not_mem _ _ _ _ _ _ rfl 0 (by left; show 1 < 4; omega)).trans ?_
    refine (View.read_writes_cons_unit_of_not_mem _ _ _ _ _ _ rfl 0 (by left; show 1 < 4; omega)).trans ?_
    refine (View.read_writes_cons_unit_of_not_mem _ _ _ _ _ _ rfl 0 (by left; show 1 < 3; omega)).trans ?_
    refine (View.read_writes_cons_unit_of_not_mem _ _ _ _ _ _ rfl 0 (by left; show 1 < 3; omega)).trans ?_
    refine (View.read_writes_cons_unit_of_not_mem _ _ _ _ _ _ rfl 0 (by left; show 1 < 2; omega)).trans ?_
    refine (View.read_writes_cons_unit_of_not_mem _ _ _ _ _ _ rfl 0 (by left; show 1 < 2; omega)).trans ?_
    refine View.read_writes_cons_unit_of_mem _ _ _ _ _ _ _ rfl fun x => ?_
    fin_cases x <;> simp [ix3]
  · refine (View.read_writes_cons_unit_of_not_mem _ _ _ _ _ _ rfl 0 (by left; show 2 < 7; omega)).trans ?_
    refine (View.read_writes_cons_unit_of_not_mem _ _ _ _ _ _ rfl 0 (by left; show 2 < 7; omega)).trans ?_
    refine (View.read_writes_cons_unit_of_not_mem _ _ _ _ _ _ rfl 0 (by left; show 2 < 6; omega)).trans ?_
    refine (View.read_writes_cons_unit_of_not_mem _ _ _ _ _ _ rfl 0 (by left; show 2 < 6; omega)).trans ?_
    refine (View.read_writes_cons_unit_of_not_mem _ _ _ _ _ _ rfl 0 (by left; show 2 < 5; omega)).trans ?_
    refine (View.read_writes_cons_unit_of_not_mem _ _ _ _ _ _ rfl 0 (by left; show 2 < 5; omega)).trans ?_
    refine (View.read_writes_cons_unit_of_not_mem _ _ _ _ _ _ rfl 0 (by left; show 2 < 4; omega)).trans ?_
    refine (View.read_writes_cons_unit_of_not_mem _ _ _ _ _ _ rfl 0 (by left; show 2 < 4; omega)).trans ?_
    refine (View.read_writes_cons_unit_of_not_mem _ _ _ _ _ _ rfl 0 (by left; show 2 < 3; omega)).trans ?_
    refine (View.read_writes_cons_unit_of_not_mem _ _ _ _ _ _ rfl 0 (by left; show 2 < 3; omega)).trans ?_
    refine View.read_writes_cons_unit_of_mem _ _ _ _ _ _ _ rfl fun x => ?_
    fin_cases x <;> simp [ix3]
  · refine (View.read_writes_cons_unit_of_not_mem _ _ _ _ _ _ rfl 0 (by left; show 3 < 7; omega)).trans ?_
    refine (View.read_writes_cons_unit_of_not_mem _ _ _ _ _ _ rfl 0 (by left; show 3 < 7; omega)).trans ?_
    refine (View.read_writes_cons_unit_of_not_mem _ _ _ _ _ _ rfl 0 (by left; show 3 < 6; omega)).trans ?_
    refine (View.read_writes_cons_unit_of_not_mem _ _ _ _ _ _ rfl 0 (by left; show 3 < 6; omega)).trans ?_
    refine (View.read_writes_cons_unit_of_not_mem _ _ _ _ _ _ rfl 0 (by left; show 3 < 5; omega)).trans ?_
    refine (View.read_writes_cons_unit_of_not_mem _ _ _ _ _ _ rfl 0 (by left; show 3 < 5; omega)).trans ?_
    refine (View.read_writes_cons_unit_of_not_mem _ _ _ _ _ _ rfl 0 (by left; show 3 < 4; omega)).trans ?_
    refine (View.read_writes_cons_unit_of_not_mem _ _ _ _ _ _ rfl 0 (by left; show 3 < 4; omega)).trans ?_
    refine View.read_writes_cons_unit_of_mem _ _ _ _ _ _ _ rfl fun x => ?_
    fin_cases x <;> simp [ix3]
  · refine (View.read_writes_cons_unit_of_not_mem _ _ _ _ _ _ rfl 0 (by left; show 4 < 7; omega)).trans ?_
    refine (View.read_writes_cons_unit_of_not_mem _ _ _ _ _ _ rfl 0 (by left; show 4 < 7; omega)).trans ?_
    refine (View.read_writes_cons_unit_of_not_mem _ _ _ _ _ _ rfl 0 (by left; show 4 < 6; omega)).trans ?_
    refine (View.read_writes_cons_unit_of_not_mem _ _ _ _ _ _ rfl 0 (by left; show 4 < 6; omega)).trans ?_
    refine (View.read_writes_cons_unit_of_not_mem _ _ _ _ _ _ rfl 0 (by left; show 4 < 5; omega)).trans ?_
    refine (View.read_writes_cons_unit_of_not_mem _ _ _ _ _ _ rfl 0 (by left; show 4 < 5; omega)).trans ?_
    refine View.read_writes_cons_unit_of_mem _ _ _ _ _ _ _ rfl fun x => ?_
    fin_cases x <;> simp [ix3]
  · refine (View.read_writes_cons_unit_of_not_mem _ _ _ _ _ _ rfl 0 (by left; show 5 < 7; omega)).trans ?_
    refine (View.read_writes_cons_unit_of_not_mem _ _ _ _ _ _ rfl 0 (by left; show 5 < 7; omega)).trans ?_
    refine (View.read_writes_cons_unit_of_not_mem _ _ _ _ _ _ rfl 0 (by left; show 5 < 6; omega)).trans ?_
    refine (View.read_writes_cons_unit_of_not_mem _ _ _ _ _ _ rfl 0 (by left; show 5 < 6; omega)).trans ?_
    refine View.read_writes_cons_unit_of_mem _ _ _ _ _ _ _ rfl fun x => ?_
    fin_cases x <;> simp [ix3]
  · refine (View.read_writes_cons_unit_of_not_mem _ _ _ _ _ _ rfl 0 (by left; show 6 < 7; omega)).trans ?_
    refine (View.read_writes_cons_unit_of_not_mem _ _ _ _ _ _ rfl 0 (by left; show 6 < 7; omega)).trans ?_
    refine View.read_writes_cons_unit_of_mem _ _ _ _ _ _ _ rfl fun x => ?_
    fin_cases x <;> simp [ix3]
  · refine View.read_writes_cons_unit_of_mem _ _ _ _ _ _ _ rfl fun x => ?_
    fin_cases x <;> simp [ix3]

end

section
variable (c : Dev nD) (e : Env Ideal)
  (G11 : BufTy.Contents (Elt Ideal) e.arg11.view.ty) (G12 : BufTy.Contents (Elt Ideal) e.arg12.view.ty)
  (G13 : BufTy.Contents (Elt Ideal) e.arg13.view.ty) (g : Fin 8) (d : Fin 128) (r : Fin 512)
  (s0 v0 : Fin 512 → EReal) (s v : ℕ → Fin 512 → EReal)

/-- After `n` trips the three buffers hold the recurrences' values. -/
theorem Env.online (hs : ∀ (k : ℕ) (hk : k < 8) (a : Fin 512), scA e.KN e.KR e.QT g (row k hk a) r = s k a)
    (hv : ∀ (k : ℕ) (hk : k < 8) (a : Fin 512), e.VT (ix3 g d (row k hk a)) = v k a)
    (hM : e.arg11.view.read (Elt Ideal) G11 (ix3 g 0 r) = onM s0 s 0)
    (hL : e.arg12.view.read (Elt Ideal) G12 (ix3 g 0 r) = onL s0 s 0)
    (hA : e.arg13.view.read (Elt Ideal) G13 (ix3 g d r) = onA s0 v0 s v 0) :
    ∀ n : ℕ, n ≤ (k0_t1_loop e.i).trips → e.M c G11 G12 G13 n g r = onM s0 s n ∧ e.L c G11 G12 G13 n g r = onL s0 s n
      ∧ e.A c G11 G12 G13 n g d r = onA s0 v0 s v n
  | 0, _ => ⟨hM, hL, hA⟩
  | n + 1, hn => by
    obtain ⟨h1, h2, h3⟩ := Env.online hs hv hM hL hA n (by omega)
    have hM' : e.M c G11 G12 G13 (n + 1) g r = onM s0 s (n + 1) := by
      rw [e.M_succ c G11 G12 G13 ⟨n, hn⟩ g r, h1]
      simp only [hs]
      rfl
    refine ⟨hM', ?_, ?_⟩
    · rw [e.L_succ c G11 G12 G13 ⟨n, hn⟩ g r, h1, h2, hM']
      simp only [hs]
      rfl
    · rw [e.A_succ c G11 G12 G13 ⟨n, hn⟩ g d r, h1, h3, hM']
      simp only [hs, hv]
      rfl

theorem Env.krF_apply (a : Fin 512) (x : Fin 128) : e.krF (ix3 0 a x) = e.KR (ix3 0 (row (e.i 2).val (e.i 2).isLt a) x) :=
  readAt_at _ _ _ _ _ (off1_eq e.i) fun z => by fin_cases z <;> simp [ix3]

theorem Env.knF_apply (a : Fin 512) (x : Fin 128) :
    e.knF g (ix3 0 a x) = e.KN (ix3 0 (row (e.i 2).val (e.i 2).isLt a) (col g x)) := by
  fin_cases g
  · exact readAt_at _ _ _ _ _ (off2_eq e.i) fun z => by fin_cases z <;> simp [ix3]
  · exact readAt_at _ _ _ _ _ (off3_eq e.i) fun z => by fin_cases z <;> simp [ix3]
  · exact readAt_at _ _ _ _ _ (off5_eq e.i) fun z => by fin_cases z <;> simp [ix3]
  · exact readAt_at _ _ _ _ _ (off7_eq e.i) fun z => by fin_cases z <;> simp [ix3]
  · exact readAt_at _ _ _ _ _ (off9_eq e.i) fun z => by fin_cases z <;> simp [ix3]
  · exact readAt_at _ _ _ _ _ (off11_eq e.i) fun z => by fin_cases z <;> simp [ix3]
  · exact readAt_at _ _ _ _ _ (off13_eq e.i) fun z => by fin_cases z <;> simp [ix3]
  · exact readAt_at _ _ _ _ _ (off15_eq e.i) fun z => by fin_cases z <;> simp [ix3]

theorem Env.vtF_apply (a : Fin 512) : e.vtF g (ix3 0 d a) = e.VT (ix3 g d (row (e.i 2).val (e.i 2).isLt a)) := by
  fin_cases g
  · exact readAt_at _ _ _ _ _ (off4_eq e.i) fun z => by fin_cases z <;> simp [ix3]
  · exact readAt_at _ _ _ _ _ (off6_eq e.i) fun z => by fin_cases z <;> simp [ix3]
  · exact readAt_at _ _ _ _ _ (off8_eq e.i) fun z => by fin_cases z <;> simp [ix3]
  · exact readAt_at _ _ _ _ _ (off10_eq e.i) fun z => by fin_cases z <;> simp [ix3]
  · exact readAt_at _ _ _ _ _ (off12_eq e.i) fun z => by fin_cases z <;> simp [ix3]
  · exact readAt_at _ _ _ _ _ (off14_eq e.i) fun z => by fin_cases z <;> simp [ix3]
  · exact readAt_at _ _ _ _ _ (off16_eq e.i) fun z => by fin_cases z <;> simp [ix3]
  · exact readAt_at _ _ _ _ _ (off17_eq e.i) fun z => by fin_cases z <;> simp [ix3]

theorem Env.pkT_eq (x6 : Vec Ideal S1x512x1 .i32) : e.pkT x6 = x6 := by
  funext y
  exact (readAt_at _ _ _ _ y rfl fun z => by fin_cases z <;> simp).trans (congrFun (e.harg9.read_unread x6) y)

theorem Env.pqT_eq (x5 : Vec Ideal S1x1x512 .i32) : e.pqT x5 = x5 := by
  funext y
  exact (readAt_at _ _ _ _ y rfl fun z => by fin_cases z <;> simp).trans (congrFun (e.harg8.read_unread x5) y)

open Classical in
theorem Env.stF_apply (pk : Vec Ideal S1x512x1 .i32) (pq : Vec Ideal S1x1x512 .i32) (a : Fin 512) :
    e.stF pk pq g (ix2 a r) = if seen pk pq a r then scA e.KN e.KR e.QT g (row (e.i 2).val (e.i 2).isLt a) r else ⊥ := by
  unfold Env.stF
  rw [firstScore_apply, score_eq_scA _ (e.krF_apply) (e.knF_apply g) (e.qtT_apply g)]

open Classical in
/-- The whole run of one head's query row from the diagonal block's stores and the loop: the accumulator and the sum. -/
theorem Env.row_run (pk : Vec Ideal S1x512x1 .i32) (pq : Vec Ideal S1x1x512 .i32)
    (hs : ∀ (k : ℕ) (hk : k < 8) (a : Fin 512), scA e.KN e.KR e.QT g (row k hk a) r = s k a)
    (hv : ∀ (k : ℕ) (hk : k < 8) (a : Fin 512), e.VT (ix3 g d (row k hk a)) = v k a)
    (f11 f12 f13)
    (hM : G11 = e.arg11.view.writes (Elt Ideal) f11 (piecesM fun g => k0_pay191 (e.stF pk pq g)))
    (hL : G12 = e.arg12.view.writes (Elt Ideal) f12 (piecesM fun g => k0_pay189 (e.stF pk pq g)))
    (hA : G13 = e.arg13.view.writes (Elt Ideal) f13 (piecesA fun g => k0_pay190 (e.stF pk pq g) (e.vtF g))) :
    e.L c G11 G12 G13 (k0_t1_loop e.i).trips g r = onL (fun a => if seen pk pq a r then s (e.i 2).val a else ⊥) s (e.i 2).val
    ∧ e.A c G11 G12 G13 (k0_t1_loop e.i).trips g d r
      = onA (fun a => if seen pk pq a r then s (e.i 2).val a else ⊥) (v (e.i 2).val) s v (e.i 2).val := by
  have hst : ∀ a, e.stF pk pq g (ix2 a r) = if seen pk pq a r then s (e.i 2).val a else ⊥ := fun a => by
    rw [e.stF_apply, hs _ (e.i 2).isLt]
  have hvt : ∀ a, e.vtF g (ix3 0 d a) = v (e.i 2).val a := fun a => (e.vtF_apply g d a).trans (hv _ (e.i 2).isLt a)
  have h := Env.online c e G11 G12 G13 g d r (fun a => if seen pk pq a r then s (e.i 2).val a else ⊥) (v (e.i 2).val) s v hs hv
    (by rw [hM, read_piecesM, firstM_apply]; simp only [hst]; rfl)
    (by rw [hL, read_piecesM, firstL_apply, firstM_apply]; simp only [hst]; rfl)
    (by rw [hA, read_piecesA, firstA_apply, firstM_apply]; simp only [hst, hvt]; rfl)
    (k0_t1_loop e.i).trips le_rfl
  rw [trips_eq] at h ⊢
  exact ⟨h.2.1, h.2.2⟩
end

end Cert.Attn
end
-- ==== Proof.Attn.Body.lean ====
module

public import proofs.«01_k».proof.Proof.Attn.Online

/-! What the body leaves in the output block, at an index, from the blocks that its windows hold. -/

@[expose] public section
set_option maxRecDepth 16384
noncomputable section
namespace Cert.Attn
open Cert.KernelIdeal Cert.KernelIdeal.Gen Idealize.ShloMosaic Idealize.ShloMosaic.TcCoe Idealize.SL.Sem

/-- Key row `a` of key block `k` (the first row past the last block). -/
def rowN (k : ℕ) (a : Fin 512) : Fin 4096 := if h : k < 8 then row k h a else 0

theorem rowN_eq (k : ℕ) (h : k < 8) (a : Fin 512) : rowN k a = row k h a := dif_pos h

section
variable (x0 : Vec Ideal S1x512x1024 .bf16) (x1 : Vec Ideal S1x512x1024 .bf16) (x2 : Vec Ideal S1x4096x1024 .bf16) (x3 : Vec Ideal S1x4096x128 .bf16) (x4 : Vec Ideal S1x4096x1024 .bf16) (x5 : Vec Ideal S1x1x512 .i32) (x6 : Vec Ideal S1x512x1 .i32)

/-- The score of key `κ` and query row `r` for head `g`, from the blocks that the windows hold. -/
def scX (g : Fin 8) (κ : Fin 4096) (r : Fin 512) : EReal :=
  ∑ x : Fin 128, x2 (ix3 0 κ (col g x)) * x0 (ix3 0 r (col g x)) + ∑ x : Fin 128, x3 (ix3 0 κ x) * x1 (ix3 0 r (col g x))

open Classical in
/-- The output of head `g`'s column `d` at query row `r` of query block `n`. -/
def bodyOut (n : ℕ) (g : Fin 8) (d : Fin 128) (r : Fin 512) : EReal :=
  Ideal.div
    (onA (fun a => if seen x6 x5 a r then scX x0 x1 x2 x3 g (rowN n a) r else ⊥) (fun a => x4 (ix3 0 (rowN n a) (col g d)))
      (fun k a => scX x0 x1 x2 x3 g (rowN k a) r) (fun k a => x4 (ix3 0 (rowN k a) (col g d))) n)
    (onL (fun a => if seen x6 x5 a r then scX x0 x1 x2 x3 g (rowN n a) r else ⊥) (fun k a => scX x0 x1 x2 x3 g (rowN k a) r) n)
end

theorem trips2 (i : grid0.Coords) : (k0_t2_loop i).trips = 0 :=
  (by decide +kernel : ∀ x : Fin 8, (Scf.Loop.mk (Scalar.addi 0#32 (Scalar.muli (Scalar.divsi (Scalar.subi (BitVec.ofNat 32 x.val) 0#32) 1#32) 1#32))
    (Scalar.addi 0#32 (Scalar.subi (BitVec.ofNat 32 x.val) 0#32)) 1#32).trips = 0) (i 2)

theorem qtile_apply (x : Vec Ideal S1x512x128 .bf16) (y : Fin 128) (r : Fin 512) : k0_pay162 (F := Ideal) x (ix3 0 y r) = x (ix3 0 r y) := by
  pointwise [k0_pay162]
theorem qtile_apply' (x : Vec Ideal S1x512x128 .bf16) (y : Fin 128) (r : Fin 512) : k0_pay163 (F := Ideal) x (ix3 0 y r) = x (ix3 0 r y) := by
  pointwise [k0_pay163]
theorem vtile (x : Vec Ideal S1x4096x128 .bf16) (d : Fin 128) (κ : Fin 4096) : k0_pay2 (F := Ideal) x (ix3 0 d κ) = x (ix3 0 κ d) := by
  pointwise [k0_pay2]

theorem colsQ_apply (arg3 : Memref sig .tc .vmem S1x512x1024 .bf16) (harg3 : arg3.IsWhole) (x0 : Vec Ideal S1x512x1024 .bf16) (g : Fin 8)
    (r : Fin 512) (y : Fin 128) : colsQ arg3 harg3 x0 g (ix3 0 r y) = x0 (ix3 0 r (col g y)) := by
  refine Eq.trans ?_ (congrFun (harg3.read_unread x0) _)
  fin_cases g <;> exact readAt_at _ _ _ _ _ rfl fun z => by fin_cases z <;> simp [ix3]

theorem colsV_apply (arg7 : Memref sig .tc .vmem S1x4096x1024 .bf16) (harg7 : arg7.IsWhole) (x4 : Vec Ideal S1x4096x1024 .bf16) (g : Fin 8)
    (κ : Fin 4096) (y : Fin 128) : colsV arg7 harg7 x4 g (ix3 0 κ y) = x4 (ix3 0 κ (col g y)) := by
  refine Eq.trans ?_ (congrFun (harg7.read_unread x4) _)
  fin_cases g <;> exact readAt_at _ _ _ _ _ rfl fun z => by fin_cases z <;> simp [ix3]

theorem vtile_apply (arg7 : Memref sig .tc .vmem S1x4096x1024 .bf16) (harg7 : arg7.IsWhole) (x4 : Vec Ideal S1x4096x1024 .bf16) (g : Fin 8)
    (d : Fin 128) (κ : Fin 4096) : k0_pay2 (F := Ideal) (colsV arg7 harg7 x4 g) (ix3 0 d κ) = x4 (ix3 0 κ (col g d)) := by
  rw [vtile, colsV_apply]

section
variable (e : Env Ideal)

theorem qt_lo (arg3 : Memref sig .tc .vmem S1x512x1024 .bf16) (harg3 : arg3.IsWhole) (x0 : Vec Ideal S1x512x1024 .bf16)
    (arg4 : Memref sig .tc .vmem S1x512x1024 .bf16) (harg4 : arg4.IsWhole) (x1 : Vec Ideal S1x512x1024 .bf16) (H : List (View.Piece (Elt Ideal) S8x256x512 .bf16))
    (h : H = piecesQ (fun g => k0_pay162 (colsQ arg3 harg3 x0 g)) (fun g => k0_pay163 (colsQ arg4 harg4 x1 g)))
    (hX : e.X_arg14 = e.arg14.view.writes (Elt Ideal) e.arg14.view.junk H)
    (g : Fin 8) (x : Fin 128) (r : Fin 512) : e.QT (ix3 g ⟨x.val, by omega⟩ r) = x0 (ix3 0 r (col g x)) := by
  unfold Env.QT
  rw [hX, h, read_piecesQ_lo, qtile_apply, colsQ_apply]

theorem qt_hi (arg3 : Memref sig .tc .vmem S1x512x1024 .bf16) (harg3 : arg3.IsWhole) (x0 : Vec Ideal S1x512x1024 .bf16)
    (arg4 : Memref sig .tc .vmem S1x512x1024 .bf16) (harg4 : arg4.IsWhole) (x1 : Vec Ideal S1x512x1024 .bf16) (H : List (View.Piece (Elt Ideal) S8x256x512 .bf16))
    (h : H = piecesQ (fun g => k0_pay162 (colsQ arg3 harg3 x0 g)) (fun g => k0_pay163 (colsQ arg4 harg4 x1 g)))
    (hX : e.X_arg14 = e.arg14.view.writes (Elt Ideal) e.arg14.view.junk H)
    (g : Fin 8) (x : Fin 128) (r : Fin 512) : e.QT (ix3 g ⟨128 + x.val, by omega⟩ r) = x1 (ix3 0 r (col g x)) := by
  unfold Env.QT
  rw [hX, h, read_piecesQ_hi, qtile_apply', colsQ_apply]

theorem vt_apply (arg7 : Memref sig .tc .vmem S1x4096x1024 .bf16) (harg7 : arg7.IsWhole) (x4 : Vec Ideal S1x4096x1024 .bf16) (H : List (View.Piece (Elt Ideal) S8x128x4096 .bf16))
    (h : H = piecesV (fun g => k0_pay2 (colsV arg7 harg7 x4 g)))
    (hX : e.X_arg15 = e.arg15.view.writes (Elt Ideal) e.arg15.view.junk H)
    (g : Fin 8) (d : Fin 128) (κ : Fin 4096) : e.VT (ix3 g d κ) = x4 (ix3 0 κ (col g d)) := by
  unfold Env.VT
  rw [hX, h, read_piecesV, vtile_apply]

variable (c : Dev nD)
  (x0 : Vec Ideal S1x512x1024 .bf16) (x1 : Vec Ideal S1x512x1024 .bf16) (x2 : Vec Ideal S1x4096x1024 .bf16) (x3 : Vec Ideal S1x4096x128 .bf16) (x4 : Vec Ideal S1x4096x1024 .bf16) (x5 : Vec Ideal S1x1x512 .i32) (x6 : Vec Ideal S1x512x1 .i32)

/-- The accumulator over the sum, as the body reads them back after its loops. -/
theorem body_out (g : Fin 8) (d : Fin 128) (r : Fin 512)
    (hKN : ∀ y, e.KN y = x2 y) (hKR : ∀ y, e.KR y = x3 y)
    (hlo : ∀ (g : Fin 8) (x : Fin 128) (r : Fin 512), e.QT (ix3 g ⟨x.val, by omega⟩ r) = x0 (ix3 0 r (col g x)))
    (hhi : ∀ (g : Fin 8) (x : Fin 128) (r : Fin 512), e.QT (ix3 g ⟨128 + x.val, by omega⟩ r) = x1 (ix3 0 r (col g x)))
    (hVT : ∀ (g : Fin 8) (d : Fin 128) (κ : Fin 4096), e.VT (ix3 g d κ) = x4 (ix3 0 κ (col g d)))
    (H0 : List (View.Piece (Elt Ideal) S8x1x512 .f32)) (H1 : List (View.Piece (Elt Ideal) S8x1x512 .f32)) (H2 : List (View.Piece (Elt Ideal) S8x128x512 .f32))
    (h0 : H0 = piecesM fun g => k0_pay191 (e.stF (e.pkT x6) (e.pqT x5) g))
    (h1 : H1 = piecesM fun g => k0_pay189 (e.stF (e.pkT x6) (e.pqT x5) g))
    (h2 : H2 = piecesA fun g => k0_pay190 (e.stF (e.pkT x6) (e.pqT x5) g) (e.vtF g)) :
    Ideal.div
      (e.arg13.view.read (Elt Ideal) (e.arg13.view.writes (Elt Ideal) e.arg13.view.junk ([] ++ ((e.pb c (e.arg11.view.writes (Elt Ideal) e.arg11.view.junk H0)
        (e.arg12.view.writes (Elt Ideal) e.arg12.view.junk H1) (e.arg13.view.writes (Elt Ideal) e.arg13.view.junk H2) (k0_t1_loop e.i).trips).2.2 ++ H2))) (ix3 g d r))
      (e.arg12.view.read (Elt Ideal) (e.arg12.view.writes (Elt Ideal) e.arg12.view.junk ([] ++ ((e.pb c (e.arg11.view.writes (Elt Ideal) e.arg11.view.junk H0)
        (e.arg12.view.writes (Elt Ideal) e.arg12.view.junk H1) (e.arg13.view.writes (Elt Ideal) e.arg13.view.junk H2) (k0_t1_loop e.i).trips).2.1 ++ H1))) (ix3 g 0 r))
      = bodyOut x0 x1 x2 x3 x4 x5 x6 (e.i 2).val g d r := by
  rw [e.pkT_eq, e.pqT_eq] at h0 h1 h2
  rw [List.nil_append, List.nil_append, View.writes_append, View.writes_append]
  have h := e.row_run c (e.arg11.view.writes (Elt Ideal) e.arg11.view.junk H0)
        (e.arg12.view.writes (Elt Ideal) e.arg12.view.junk H1) (e.arg13.view.writes (Elt Ideal) e.arg13.view.junk H2) g d r
    (fun k a => scX x0 x1 x2 x3 g (rowN k a) r) (fun k a => x4 (ix3 0 (rowN k a) (col g d))) x6 x5
    (fun k hk a => by simp only [scA, scX, hKN, hKR, hlo, hhi, rowN_eq k hk])
    (fun k hk a => by rw [hVT, rowN_eq k hk])
    _ _ _ (by rw [h0]) (by rw [h1]) (by rw [h2])
  exact congrArg₂ Ideal.div h.2 h.1
end

theorem pb2_zero (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole) (w2 w143 : BitVec 32) (w344 : FVec Ideal S512x512 .f32) (w349 : FVec Ideal S1x512 .f32)
    (w359 : FVec Ideal S128x512 .f32) (w360 : Vec Ideal S1x128x512 .f32) (w391 : BitVec 32) (X5 X6 X14 X15 G11 G12 G13) :
    pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 w2 w143 w344 w349 w359 w360 w391 X5 X6 X14 X15 G11 G12 G13 0 = ([], [], []) := rfl

section CaseA
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole)
  (x0 : Vec Ideal S1x512x1024 .bf16) (x1 : Vec Ideal S1x512x1024 .bf16) (x2 : Vec Ideal S1x4096x1024 .bf16) (x3 : Vec Ideal S1x4096x128 .bf16) (x4 : Vec Ideal S1x4096x1024 .bf16) (x5 : Vec Ideal S1x1x512 .i32) (x6 : Vec Ideal S1x512x1 .i32)

/-- The transposed queries, in case A, are what was written of them. -/
theorem X14_A : (envA (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).X_arg14 = arg14.view.writes (Elt Ideal) arg14.view.junk (kernelRun0_A.sl.HS3_16 c arg3 harg3 arg4 harg4 x0 x1) := by
  sl_kernel_rfl

/-- The transposed values, in case A, are what was written of them. -/
theorem X15_A : (envA (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).X_arg15 = arg15.view.writes (Elt Ideal) arg15.view.junk (kernelRun0_A.sl.HS4_8 c arg7 harg7 x4) := by
  sl_kernel_rfl

/-- What the body leaves in the output block in case A. -/
theorem out_A (hc0 : cond0_0 i) (g : Fin 8) (d : Fin 128) (r : Fin 512) :
    out0_A_7 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 0 r (col g d)) = bodyOut x0 x1 x2 x3 x4 x5 x6 (i 2).val g d r := by
  unfold out0_A_7
  rw [L7_A, read_piecesO, out_apply, Env.aT_apply, Env.lT_apply, trips2, pb2_zero]
  refine body_out (envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) c x0 x1 x2 x3 x4 x5 x6 g d r (congrFun (harg5.read_unread x2) ·) (congrFun (harg6.read_unread x3) ·)
    (qt_lo (envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) arg3 harg3 x0 arg4 harg4 x1 _ (HS3_A (F := Ideal) c arg3 harg3 arg4 harg4 x0 x1) (X14_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6))
    (qt_hi (envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) arg3 harg3 x0 arg4 harg4 x1 _ (HS3_A (F := Ideal) c arg3 harg3 arg4 harg4 x0 x1) (X14_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6))
    (vt_apply (envA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) arg7 harg7 x4 _ (HS4_A (F := Ideal) c arg7 harg7 x4) (X15_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) _ _ _ (HS0_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (HS1_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (HS2_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)

/-- What the body leaves in the transposed values in case A. -/
theorem sout_A (hc0 : cond0_0 i) (g : Fin 8) (d : Fin 128) (κ : Fin 4096) :
    sout0_A_4 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 g d κ) = x4 (ix3 0 κ (col g d)) := by
  unfold sout0_A_4
  rw [S4_A, HS4_A, read_piecesV, vtile_apply]

end CaseA

section CaseB
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x4096x1024 .bf16) (harg5 : arg5.IsWhole) (arg6 : Memref sig .tc .vmem S1x4096x128 .bf16) (harg6 : arg6.IsWhole) (arg7 : Memref sig .tc .vmem S1x4096x1024 .bf16) (harg7 : arg7.IsWhole) (arg8 : Memref sig .tc .vmem S1x1x512 .i32) (harg8 : arg8.IsWhole) (arg9 : Memref sig .tc .vmem S1x512x1 .i32) (harg9 : arg9.IsWhole) (arg10 : Memref sig .tc .vmem S1x512x1024 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x128x512 .f32) (harg13 : arg13.IsWhole) (arg14 : Memref sig .tc .vmem S8x256x512 .bf16) (harg14 : arg14.IsWhole) (arg15 : Memref sig .tc .vmem S8x128x4096 .bf16) (harg15 : arg15.IsWhole)
  (x0 : Vec Ideal S1x512x1024 .bf16) (x1 : Vec Ideal S1x512x1024 .bf16) (x2 : Vec Ideal S1x4096x1024 .bf16) (x3 : Vec Ideal S1x4096x128 .bf16) (x4 : Vec Ideal S1x4096x1024 .bf16) (x5 : Vec Ideal S1x1x512 .i32) (x6 : Vec Ideal S1x512x1 .i32) (xs4 : Vec Ideal S8x128x4096 .bf16)

/-- The transposed queries, in case B, are what was written of them. -/
theorem X14_B : (envB (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4).X_arg14 = arg14.view.writes (Elt Ideal) arg14.view.junk (kernelRun0_B.sl.HS3_16 c arg3 harg3 arg4 harg4 x0 x1) := by
  sl_kernel_rfl

/-- What the body leaves in the output block in case B. -/
theorem out_B (hc0 : ¬cond0_0 i)
    (hx : ∀ g d κ, xs4 (ix3 g d κ) = x4 (ix3 0 κ (col g d))) (g : Fin 8) (d : Fin 128) (r : Fin 512) :
    out0_B_7 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs4 (ix3 0 r (col g d)) = bodyOut x0 x1 x2 x3 x4 x5 x6 (i 2).val g d r := by
  unfold out0_B_7
  rw [L7_B, read_piecesO, out_apply, Env.aT_apply, Env.lT_apply, trips2, pb2_zero]
  refine body_out (envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4) c x0 x1 x2 x3 x4 x5 x6 g d r (congrFun (harg5.read_unread x2) ·) (congrFun (harg6.read_unread x3) ·)
    (qt_lo (envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4) arg3 harg3 x0 arg4 harg4 x1 _ (HS3_B (F := Ideal) c arg3 harg3 arg4 harg4 x0 x1) (X14_B c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4))
    (qt_hi (envB c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4) arg3 harg3 x0 arg4 harg4 x1 _ (HS3_B (F := Ideal) c arg3 harg3 arg4 harg4 x0 x1) (X14_B c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4))
    (fun g d κ => (congrFun (harg15.read_unread xs4) _).trans (hx g d κ)) _ _ _ (HS0_B (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4) (HS1_B (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4) (HS2_B (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x5 x6 xs4)

end CaseB

end Cert.Attn
end
-- ==== Proof.Attn.Value.lean ====
module

public import proofs.«01_k».proof.Proof.Attn.Frame
public import Idealize.ShloMosaic.Lib.Pipeline.Value

@[expose] public section

noncomputable section

namespace Cert.Attn

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`out0_A_7`: the pieces
    its run found, read back) at the point's memrefs and input blocks, and for an output the case reads back what the point before left (`outsAt0` at `t - 1`) — by the frame's rewriting lemma for the case. -/
theorem flushed7_A (c : Dev nD) (t : Fin cfg0.N) (h0 : t.val % 8 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t)) := by
  simp only [flushed7, outsAt0_A m c t h0]

/-- … so at a point where case B runs, what its write-back would write is that case's NAMED TERM for the window (`out0_B_7`: the pieces
    its run found, read back) at the point's memrefs and input blocks, and for an output the case reads back what the point before left (`outsAt0` at `t - 1`) — by the frame's rewriting lemma for the case. -/
theorem flushed7_B (c : Dev nD) (t : Fin cfg0.N) (h0 : ¬t.val % 8 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  simp only [flushed7, outsAt0_B m c t h0]

/-- The index map sends distinct grid points to distinct block indices (decided over the 32 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x4096x2048.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2) = (dats m 0 c).arrAt 7 cfg0.N :=
  (h c).1 7

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post7 m r h c,
      kept_main_arg0 m r h c,
      kept_main_arg1 m r h c,
      kept_main_arg2 m r h c,
      kept_main_arg3 m r h c⟩)
    (run_main m ρ)

/-! ## Carried scratch 4: what each point leaves in it, and its fold -/

/-- What point `n` leaves in carried scratch 4, over what the point before left in it (`acc`): the case the conditions'
    closed forms select at `n`, the frame's own term for it (`sout0_κ_4`; anything else the case takes of the point
    before, another carried scratch or an output it reads back, stays `outsAt0`'s at `n - 1`); a case at the points ≡ 0 (mod 8)
    stores the scratch whole without reading what it held, and `acc` does not enter there (nor where no point meets the
    conditions: `acc`, never read). -/
def scAt0_4 (c : Dev nD) (n : ℕ) (hb : n < cfg0.N) (acc : Vec F S8x128x4096 .bf16) : Vec F S8x128x4096 .bf16 :=
  if h0 : n % 8 = 0 then
    sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- WHAT CARRIED SCRATCH 4 HOLDS after point `t`: the fold of its run up to `t`, from the reset at the run's first point
    `8·(t / 8)` (Lib/Pipeline/Value.lean `Pipeline.eq_accAt_of_mod`, by the frame's `outsAt0_κ`; without enumerating the points). -/
theorem soutsAt0_4_eq (c : Dev nD) (t : Fin cfg0.N) :
    (outsAt0 m c t.val t.isLt).2 = Pipeline.accAt (fun n h => scAt0_4 m c n h (VS0_4.read (Elt F) VS0_4.junk)) (scAt0_4 m c) (8 * (t.val / 8)) (t.val % 8)
      (by have h1 := t.isLt; have h2 := Nat.div_add_mod t.val 8; omega) :=
  Pipeline.eq_accAt_of_mod (fun n h => (outsAt0 m c n h).2) 8 (fun n h => scAt0_4 m c n h (VS0_4.read (Elt F) VS0_4.junk)) (scAt0_4 m c)
    (fun n h hn => by
      have hN := lt_of_lt_of_eq h (show cfg0.N = 32 from N_0)
      by_cases h0 : n % 8 = 0
      all_goals first | (exfalso; omega) | (rw [outsAt0_A m c ⟨n, h⟩ h0]; dsimp only; unfold scAt0_4; rw [dif_pos h0] <;> try rfl) | (rw [outsAt0_B m c ⟨n, h⟩ h0]; dsimp only; unfold scAt0_4; rw [dif_neg h0] <;> try rfl))
    (fun n h hn => by
      have hN := lt_of_lt_of_eq h (show cfg0.N = 32 from N_0)
      by_cases h0 : (n + 1) % 8 = 0
      all_goals first | (exfalso; omega) | (rw [outsAt0_A m c ⟨n + 1, h⟩ h0]; dsimp only; unfold scAt0_4; rw [dif_pos h0] <;> try rfl) | (rw [outsAt0_B m c ⟨n + 1, h⟩ h0]; dsimp only; unfold scAt0_4; rw [dif_neg h0] <;> try rfl))
    (by decide) t.val t.isLt _

end Cert.Attn

end
-- ==== Proof.Attn.Block.lean ====
module

public import proofs.«01_k».proof.Proof.Attn.Body
public import proofs.«01_k».proof.Proof.Attn.Value
public import Idealize.ShloMosaic.Lib.Pipeline.ValueKit

/-! The kernel's output array at an index: what the body leaves in the block that covers it, from the blocks its windows
hold there. -/

@[expose] public section
set_option maxRecDepth 16384
noncomputable section
namespace Cert.Attn
open Cert.KernelIdeal Cert.KernelIdeal.Gen Idealize.ShloMosaic Idealize.ShloMosaic.TcCoe Idealize.SL.Sem

variable (m : (ℓ : Loc nD τ sig) → Buf (Elt Ideal) ℓ)

theorem idx : ∀ t : Fin cfg0.N,
    win0_0.index t = ![(grid0.coords t 0).val, (grid0.coords t 2).val, (grid0.coords t 1).val]
    ∧ win0_1.index t = ![(grid0.coords t 0).val, (grid0.coords t 2).val, 2 + (grid0.coords t 1).val]
    ∧ win0_2.index t = ![(grid0.coords t 0).val, 0, (grid0.coords t 1).val]
    ∧ win0_3.index t = ![(grid0.coords t 0).val, 0, 0]
    ∧ win0_4.index t = ![(grid0.coords t 0).val, 0, 2 + (grid0.coords t 1).val]
    ∧ win0_5.index t = ![(grid0.coords t 0).val, 0, (grid0.coords t 2).val]
    ∧ win0_6.index t = ![(grid0.coords t 0).val, (grid0.coords t 2).val, 0]
    ∧ win0_7.index t = ![(grid0.coords t 0).val, (grid0.coords t 2).val, (grid0.coords t 1).val] :=
  (by decide +kernel : ∀ t : Fin grid0.N, _)

theorem same4 : ∀ t : Fin cfg0.N, t.val % 8 ≠ 0 →
    win0_4.index ⟨t.val - 1, Nat.lt_of_le_of_lt (Nat.sub_le _ _) t.isLt⟩ = win0_4.index t :=
  (by decide +kernel : ∀ t : Fin grid0.N, _)

/-- The values' window holds the same block at a point as at the point before, unless a new run of query blocks starts. -/
theorem iblk4_pred (c : Dev nD) (t : Fin cfg0.N) (h : t.val % 8 ≠ 0) (y) :
    iblk m c 4 ⟨t.val - 1, Nat.lt_of_le_of_lt (Nat.sub_le _ _) t.isLt⟩ y = iblk m c 4 t y := by
  have e := same4 t h
  rw [(idx _).2.2.2.2.1, (idx t).2.2.2.2.1] at e
  have e0 := congrFun e 0
  have e2 := congrFun e 2
  simp at e0 e2
  blk_ext [iblk, V, idx t, idx ⟨t.val - 1, Nat.lt_of_le_of_lt (Nat.sub_le _ _) t.isLt⟩]

/-- The transposed values after each point: the values' block, transposed. -/
theorem vt_at (c : Dev nD) : ∀ (n : ℕ) (hn : n < cfg0.N) (g : Fin 8) (d : Fin 128) (κ : Fin 4096),
    (outsAt0 m c n hn).2 (ix3 g d κ) = iblk m c 4 ⟨n, hn⟩ (ix3 0 κ (col g d)) := by
  intro n
  induction n with
  | zero =>
    intro hn g d κ
    rw [outsAt0_A m c ⟨0, hn⟩ rfl]
    dsimp only
    rw [sout_A]
  | succ n ih =>
    intro hn g d κ
    by_cases h0 : (n + 1) % 8 = 0
    · rw [outsAt0_A m c ⟨n + 1, hn⟩ h0]
      dsimp only
      rw [sout_A]
    · rw [outsAt0_B m c ⟨n + 1, hn⟩ h0]
      refine Eq.trans (?_ : _ = (outsAt0 m c n _).2 (ix3 g d κ)) ((ih (Nat.lt_of_succ_lt hn) g d κ).trans (iblk4_pred m c ⟨n + 1, hn⟩ h0 _))
      rfl

/-- What the body leaves in the output block at a point. -/
theorem out_at (c : Dev nD) (t : Fin cfg0.N) (g : Fin 8) (d : Fin 128) (r : Fin 512) :
    (outsAt0 m c t.val t.isLt).1 (ix3 0 r (col g d))
      = bodyOut (iblk m c 0 t) (iblk m c 1 t) (iblk m c 2 t) (iblk m c 3 t) (iblk m c 4 t) (iblk m c 5 t) (iblk m c 6 t)
          (grid0.coords t 2).val g d r := by
  by_cases h0 : t.val % 8 = 0
  · rw [outsAt0_A m c t h0]
    dsimp only
    rw [out_A]
  · rw [outsAt0_B m c t h0]
    dsimp only
    rw [out_B]
    intro g d κ
    exact (vt_at m c _ _ g d κ).trans (iblk4_pred m c t h0 _)

end Cert.Attn
end
-- ==== Proof.Attn.Math.lean ====
module

public import proofs.«01_k».proof.Proof.Attn.Body

/-! The arithmetic of the online softmax: the running maximum, sum and accumulator of base-2 powers, in closed form; the
plain softmax with base-e powers, in the same closed form; and the two joined, block by block. Values may be infinite;
scores are real. -/

@[expose] public section
set_option maxRecDepth 16384
noncomputable section
namespace Cert.Attn
open Idealize.ShloMosaic

theorem coe_sum {ι : Type*} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A real factor that is not negative goes into a sum of extended reals. -/
theorem mul_sum_real {ι : Type*} (c : ℝ) (hc : 0 ≤ c) (s : Finset ι) (f : ι → EReal) :
    (c : EReal) * ∑ a ∈ s, f a = ∑ a ∈ s, (c : EReal) * f a := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The largest of finitely many scores, each real or masked and one of them real, is real. -/
theorem sup_real {ι : Type*} [Fintype ι] (f : ι → EReal) (htop : ∀ a, f a ≠ ⊤) (a0 : ι) (h0 : f a0 ≠ ⊥) :
    ∃ m : ℝ, Finset.univ.sup f = m := by
  have h1 : Finset.univ.sup f ≠ ⊤ :=
    ((Finset.sup_lt_iff bot_lt_top).mpr fun a _ => lt_top_iff_ne_top.mpr (htop a)).ne
  have h2 : Finset.univ.sup f ≠ ⊥ := fun h =>
    h0 (le_bot_iff.mp (h ▸ Finset.le_sup (f := f) (Finset.mem_univ a0)))
  exact ⟨_, (EReal.coe_toReal h1 h2).symm⟩

open Classical in
/-- A score under a mask: bottom where the key is not seen. -/
def masked (P : Prop) (s : ℝ) : EReal := if P then (s : EReal) else ⊥

open Classical in
/-- Its base-2 weight, not normalised. -/
def wt (P : Prop) (s : ℝ) : ℝ := if P then (2 : ℝ) ^ s else 0

theorem wt_nonneg (P : Prop) (s : ℝ) : 0 ≤ wt P s := by
  unfold wt; split
  · exact (Real.rpow_pos_of_pos two_pos s).le
  · exact le_rfl

theorem wt_pos (P : Prop) (s : ℝ) (h : P) : 0 < wt P s := by
  unfold wt; rw [if_pos h]; exact Real.rpow_pos_of_pos two_pos s

theorem masked_ne_top (P : Prop) (s : ℝ) : masked P s ≠ ⊤ := by
  unfold masked; split
  · exact EReal.coe_ne_top s
  · exact bot_ne_top

theorem masked_ne_bot (P : Prop) (s : ℝ) (h : P) : masked P s ≠ ⊥ := by
  unfold masked; rw [if_pos h]; exact EReal.coe_ne_bot s

theorem pow2_coe (r : ℝ) : pow2 (r : EReal) = (((2 : ℝ) ^ r : ℝ) : EReal) := rfl

theorem pow2_masked (P : Prop) (s m : ℝ) : pow2 (masked P s - (m : EReal)) = (((2 : ℝ) ^ (-m) * wt P s : ℝ) : EReal) := by
  unfold masked wt
  split
  · rw [← EReal.coe_sub, pow2_coe, sub_eq_neg_add, Real.rpow_add two_pos]
  · rw [sub_eq_add_neg, EReal.bot_add, mul_zero]; rfl

theorem exp_masked (P : Prop) (s m : ℝ) :
    Ideal.exp (masked P (s * Real.log 2) - (m : EReal)) = ((Real.exp (-m) * wt P s : ℝ) : EReal) := by
  unfold masked wt
  split
  · rw [← EReal.coe_sub, Ideal.exp_coe, sub_eq_neg_add, Real.exp_add, Real.rpow_def_of_pos two_pos, mul_comm s]
  · rw [sub_eq_add_neg, EReal.bot_add, mul_zero]; rfl

theorem div_coe' (x : EReal) (y : ℝ) (hy : 0 < y) : Ideal.div x (y : EReal) = x * ((y⁻¹ : ℝ) : EReal) := by
  unfold Ideal.div
  rw [if_neg (by exact_mod_cast hy.ne'), EReal.coe_inv]

section
variable (p0 : Fin 512 → Prop) (S0 : Fin 512 → ℝ) (p : ℕ → Fin 512 → Prop) (S : ℕ → Fin 512 → ℝ) (v0 : Fin 512 → EReal)
  (v : ℕ → Fin 512 → EReal)

/-- The running maximum, sum and accumulator in closed form. -/
theorem online_closed (a0 : Fin 512) (h : p0 a0) (n : ℕ) : ∃ m : ℝ,
    onM (fun a => masked (p0 a) (S0 a)) (fun k a => masked (p k a) (S k a)) n = m
    ∧ onL (fun a => masked (p0 a) (S0 a)) (fun k a => masked (p k a) (S k a)) n
      = (((2 : ℝ) ^ (-m) * (∑ a, wt (p0 a) (S0 a) + ∑ k ∈ Finset.range n, ∑ a, wt (p k a) (S k a)) : ℝ) : EReal)
    ∧ onA (fun a => masked (p0 a) (S0 a)) v0 (fun k a => masked (p k a) (S k a)) v n
      = ∑ a, v0 a * (((2 : ℝ) ^ (-m) * wt (p0 a) (S0 a) : ℝ) : EReal)
        + ∑ k ∈ Finset.range n, ∑ a, v k a * (((2 : ℝ) ^ (-m) * wt (p k a) (S k a) : ℝ) : EReal) := by
  induction n with
  | zero =>
    obtain ⟨m, hm⟩ := sup_real (fun a => masked (p0 a) (S0 a)) (fun a => masked_ne_top _ _) a0 (masked_ne_bot _ _ h)
    refine ⟨m, hm, ?_, ?_⟩
    · simp only [onL, onM, hm, pow2_masked, Finset.range_zero, Finset.sum_empty, add_zero, Finset.mul_sum, coe_sum]
    · simp only [onA, onM, hm, pow2_masked, Finset.range_zero, Finset.sum_empty, add_zero]
  | succ n ih =>
    obtain ⟨m, hm, hL, hA⟩ := ih
    obtain ⟨m', hm'⟩ : ∃ m' : ℝ, onM (fun a => masked (p0 a) (S0 a)) (fun k a => masked (p k a) (S k a)) (n + 1) = m' := by
      have h1 : onM (fun a => masked (p0 a) (S0 a)) (fun k a => masked (p k a) (S k a)) (n + 1) ≠ ⊤ := by
        simp only [onM, hm]
        exact (max_lt (EReal.coe_lt_top m)
          ((Finset.sup_lt_iff bot_lt_top).mpr fun a _ => lt_top_iff_ne_top.mpr (masked_ne_top _ _))).ne
      have h2 : onM (fun a => masked (p0 a) (S0 a)) (fun k a => masked (p k a) (S k a)) (n + 1) ≠ ⊥ := by
        simp only [onM, hm]
        exact (lt_of_lt_of_le (EReal.bot_lt_coe m) (le_max_left _ _)).ne'
      exact ⟨_, (EReal.coe_toReal h1 h2).symm⟩
    have hc : (0 : ℝ) ≤ (2 : ℝ) ^ (m - m') := (Real.rpow_pos_of_pos two_pos _).le
    have hp : pow2 ((m : EReal) - (m' : EReal)) = (((2 : ℝ) ^ (m - m') : ℝ) : EReal) := by rw [← EReal.coe_sub]; rfl
    have hmul : ∀ x : ℝ, (2 : ℝ) ^ (m - m') * ((2 : ℝ) ^ (-m) * x) = (2 : ℝ) ^ (-m') * x := fun x => by
      rw [← mul_assoc, ← Real.rpow_add two_pos]; congr 2; ring
    refine ⟨m', hm', ?_, ?_⟩
    · rw [onL, hm', hm, hp, hL]
      simp only [pow2_masked]
      rw [← EReal.coe_mul, hmul, ← coe_sum, ← EReal.coe_add, ← Finset.mul_sum, ← mul_add, Finset.sum_range_succ, add_assoc]
    · rw [onA, hm', hm, hp, hA]
      simp only [pow2_masked]
      rw [EReal.left_distrib_of_nonneg_of_ne_top (EReal.coe_nonneg.mpr hc) (EReal.coe_ne_top _), mul_sum_real _ hc, mul_sum_real _ hc,
        Finset.sum_range_succ, add_assoc]
      simp only [mul_sum_real _ hc, mul_left_comm _ (v0 _), mul_left_comm _ (v _ _), ← EReal.coe_mul, hmul]

/-- The accumulator over the sum: the values weighted by the normalised weights. -/
theorem online_ratio (a0 : Fin 512) (h : p0 a0) (n : ℕ) (T : ℝ)
    (hT : T = ∑ a, wt (p0 a) (S0 a) + ∑ k ∈ Finset.range n, ∑ a, wt (p k a) (S k a)) :
    Ideal.div (onA (fun a => masked (p0 a) (S0 a)) v0 (fun k a => masked (p k a) (S k a)) v n)
      (onL (fun a => masked (p0 a) (S0 a)) (fun k a => masked (p k a) (S k a)) n)
      = ∑ a, v0 a * ((wt (p0 a) (S0 a) / T : ℝ) : EReal)
        + ∑ k ∈ Finset.range n, ∑ a, v k a * ((wt (p k a) (S k a) / T : ℝ) : EReal) := by
  obtain ⟨m, -, hL, hA⟩ := online_closed p0 S0 p S v0 v a0 h n
  have hTp : 0 < T := by
    rw [hT]
    refine add_pos_of_pos_of_nonneg ?_ (Finset.sum_nonneg fun k _ => Finset.sum_nonneg fun a _ => wt_nonneg _ _)
    exact Finset.sum_pos' (fun a _ => wt_nonneg _ _) ⟨a0, Finset.mem_univ _, wt_pos _ _ h⟩
  have h2 : (0 : ℝ) < (2 : ℝ) ^ (-m) := Real.rpow_pos_of_pos two_pos _
  have hi : 0 ≤ ((2 : ℝ) ^ (-m) * T)⁻¹ := (inv_pos.mpr (mul_pos h2 hTp)).le
  have hw : ∀ x : ℝ, ((2 : ℝ) ^ (-m) * T)⁻¹ * ((2 : ℝ) ^ (-m) * x) = x / T := fun x => by field_simp
  rw [hL, hA, ← hT, div_coe' _ _ (mul_pos h2 hTp), mul_comm,
    EReal.left_distrib_of_nonneg_of_ne_top (EReal.coe_nonneg.mpr hi) (EReal.coe_ne_top _), mul_sum_real _ hi, mul_sum_real _ hi]
  simp only [mul_sum_real _ hi, mul_left_comm _ (v0 _), mul_left_comm _ (v _ _), ← EReal.coe_mul, hw]
end

/-- The plain softmax, its scores scaled by the logarithm of two, over any real shift: the values weighted by the same
    normalised weights. -/
theorem plain_ratio {ι : Type*} [Fintype ι] (p : ι → Prop) (S : ι → ℝ) (v : ι → EReal) (i0 : ι) (h : p i0) (m : ℝ) :
    ∑ κ, v κ * Ideal.div (Ideal.exp (masked (p κ) (S κ * Real.log 2) - (m : EReal)))
        (∑ j, Ideal.exp (masked (p j) (S j * Real.log 2) - (m : EReal)))
      = ∑ κ, v κ * ((wt (p κ) (S κ) / ∑ j, wt (p j) (S j) : ℝ) : EReal) := by
  have hT : 0 < ∑ j, wt (p j) (S j) := Finset.sum_pos' (fun a _ => wt_nonneg _ _) ⟨i0, Finset.mem_univ _, wt_pos _ _ h⟩
  have he : 0 < Real.exp (-m) := Real.exp_pos _
  refine Finset.sum_congr rfl fun κ _ => ?_
  simp only [exp_masked]
  rw [← coe_sum, ← Finset.mul_sum, div_coe' _ _ (mul_pos he hT), ← EReal.coe_mul]
  congr 2
  field_simp

/-- A sum over the keys, block by block. -/
theorem sum_blocks {M : Type*} [AddCommMonoid M] (f : Fin 4096 → M) :
    ∑ κ, f κ = ∑ k ∈ Finset.range 8, ∑ a : Fin 512, f (rowN k a) := by
  rw [← Fin.sum_univ_eq_sum_range (fun k => ∑ a : Fin 512, f (rowN k a)) 8, ← Fintype.sum_prod_type']
  refine (Equiv.sum_comp (finProdFinEquiv (m := 8) (n := 512)) f).symm.trans (Finset.sum_congr rfl fun x _ => ?_)
  refine congrArg f ?_
  rw [rowN_eq _ x.1.isLt]
  apply Fin.ext
  simp only [finProdFinEquiv_apply_val, row]
  omega

/-- … and where only the blocks up to block `n` count, that block first. -/
theorem sum_blocks_upto {M : Type*} [AddCommMonoid M] (f : Fin 4096 → M) (n : ℕ) (hn : n < 8)
    (h : ∀ k, k < 8 → n < k → ∀ a, f (rowN k a) = 0) :
    ∑ κ, f κ = ∑ a : Fin 512, f (rowN n a) + ∑ k ∈ Finset.range n, ∑ a : Fin 512, f (rowN k a) := by
  rw [sum_blocks, ← Finset.sum_subset (Finset.range_subset_range.mpr (Nat.succ_le_of_lt hn)), Finset.sum_range_succ, add_comm]
  intro k hk hk'
  exact Finset.sum_eq_zero fun a _ => h k (Finset.mem_range.mp hk) (by simpa using hk') a

/-- The online softmax over the blocks up to block `n` is the plain softmax over all keys, where the keys of the earlier
    blocks are all seen and those of the later blocks are not. -/
theorem online_eq_plain (P : Fin 4096 → Prop) (S : Fin 4096 → ℝ) (v : Fin 4096 → EReal) (n : ℕ) (hn : n < 8) (a0 : Fin 512)
    (h0 : P (rowN n a0)) (hlo : ∀ k, k < n → ∀ a, P (rowN k a)) (hhi : ∀ k, k < 8 → n < k → ∀ a, ¬P (rowN k a)) (m : ℝ) :
    Ideal.div
      (onA (fun a => masked (P (rowN n a)) (S (rowN n a))) (fun a => v (rowN n a)) (fun k a => masked (P (rowN k a)) (S (rowN k a)))
        (fun k a => v (rowN k a)) n)
      (onL (fun a => masked (P (rowN n a)) (S (rowN n a))) (fun k a => masked (P (rowN k a)) (S (rowN k a))) n)
      = ∑ κ, v κ * Ideal.div (Ideal.exp (masked (P κ) (S κ * Real.log 2) - (m : EReal)))
        (∑ j, Ideal.exp (masked (P j) (S j * Real.log 2) - (m : EReal))) := by
  have hz : ∀ k, k < 8 → n < k → ∀ a, wt (P (rowN k a)) (S (rowN k a)) = 0 := fun k hk hnk a => by
    unfold wt; exact if_neg (hhi k hk hnk a)
  rw [plain_ratio P S v _ h0 m, online_ratio (fun a => P (rowN n a)) (fun a => S (rowN n a)) (fun k a => P (rowN k a))
    (fun k a => S (rowN k a)) _ _ a0 h0 n (∑ j, wt (P j) (S j)) (sum_blocks_upto (fun j => wt (P j) (S j)) n hn hz)]
  exact (sum_blocks_upto (fun κ => v κ * ((wt (P κ) (S κ) / ∑ j, wt (P j) (S j) : ℝ) : EReal)) n hn fun k hk hnk a => by
    simp only [hz k hk hnk a, zero_div, EReal.coe_zero, mul_zero]).symm

end Cert.Attn
end
-- ==== Proof.Attn.Out.lean ====
module

public import proofs.«01_k».proof.Proof.Attn.Block
public import proofs.«01_k».proof.Proof.Attn.Math

/-! The kernel's output array at an index, from the program's arguments. -/

@[expose] public section
set_option maxRecDepth 16384
noncomputable section
namespace Cert.Attn
open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The grid point's batch, head block and query block. -/
abbrev bt : Fin 2 := grid0.coords t 0
abbrev ht : Fin 2 := grid0.coords t 1
abbrev nt : Fin 8 := grid0.coords t 2

/-- Row `r` of the point's query block, and column `e` of its head block. -/
def rowT (r : Fin 512) : Fin 4096 := ⟨(nt t).val * 512 + r.val, by have := (nt t).isLt; omega⟩
def colT (e : Fin 1024) : Fin 4096 := ⟨(ht t).val * 1024 + e.val, by have := (ht t).isLt; omega⟩
def colT' (e : Fin 1024) : Fin 4096 := ⟨(2 + (ht t).val) * 1024 + e.val, by have := (ht t).isLt; omega⟩
def colO (e : Fin 1024) : Fin 2048 := ⟨(ht t).val * 1024 + e.val, by have := (ht t).isLt; omega⟩

theorem read0 (r : Fin 512) (e : Fin 1024) :
    iblk m c 0 t (ix3 0 r e) = m ((c : Thread nD τ).loc main_arg0) (ix3 (bt t) (rowT t r) (colT t e)) := by
  blk_ext [iblk, V, idx t, rowT, colT]; rfl
theorem read1 (r : Fin 512) (e : Fin 1024) :
    iblk m c 1 t (ix3 0 r e) = m ((c : Thread nD τ).loc main_arg0) (ix3 (bt t) (rowT t r) (colT' t e)) := by
  blk_ext [iblk, V, idx t, rowT, colT']; rfl
theorem read2 (κ : Fin 4096) (e : Fin 1024) :
    iblk m c 2 t (ix3 0 κ e) = m ((c : Thread nD τ).loc main_arg1) (ix3 (bt t) κ (colT t e)) := by
  blk_ext [iblk, V, idx t, colT]; rfl
theorem read3 (κ : Fin 4096) (x : Fin 128) :
    iblk m c 3 t (ix3 0 κ x) = m ((c : Thread nD τ).loc main_arg2) (ix3 (bt t) κ x) := by
  blk_ext [iblk, V, idx t]; rfl
theorem read4 (κ : Fin 4096) (e : Fin 1024) :
    iblk m c 4 t (ix3 0 κ e) = m ((c : Thread nD τ).loc main_arg1) (ix3 (bt t) κ (colT' t e)) := by
  blk_ext [iblk, V, idx t, colT']; rfl
theorem read5 (r : Fin 512) :
    iblk m c 5 t (ix3 0 0 r) = m ((c : Thread nD τ).loc main_arg3) (ix2 (bt t) (rowT t r)) := by
  blk_point [iblk, V, idx t, rowT]; rfl
theorem read6 (a : Fin 512) :
    iblk m c 6 t (ix3 0 a 0) = m ((c : Thread nD τ).loc main_arg3) (ix2 (bt t) (rowT t a)) := by
  blk_point [iblk, V, idx t, rowT]; rfl

theorem flush7 : ∀ t : Fin cfg0.N, (cfg0.win 7).flush t = true := (by decide +kernel : ∀ t : Fin grid0.N, _)

/-- The output array at row `r` and head `g`'s column `d` of a point's block. -/
theorem arr_at (g : Fin 8) (d : Fin 128) (r : Fin 512) :
    (dats m 0 c).arrAt 7 cfg0.N (ix3 (bt t) (rowT t r) (colO t (col g d)))
      = bodyOut (iblk m c 0 t) (iblk m c 1 t) (iblk m c 2 t) (iblk m c 3 t) (iblk m c 4 t) (iblk m c 5 t) (iblk m c 6 t)
          (nt t).val g d r := by
  rw [← out_at]
  refine Eq.trans ?_ ((congrFun (blocks7 m c t (flush7 t)) (ix3 0 r (col g d))).trans ?_)
  · blk_ext [idx t, rowT, colO]; rfl
  · rw [flushed7]; rfl

end Cert.Attn
end
-- ==== Proof.Attn.Ref.lean ====
module

public import proofs.«01_k».proof.Proof.Gen.ReferenceIdeal.Run
public import Idealize.ShloMosaic.Lib.Routing.Words
public import Idealize.ShloMosaic.Lib.Pipeline.ValueKit

/-! The reference's result at an index: its scores, its mask, its softmax and its weighted values, stage by stage. -/

@[expose] public section
set_option maxRecDepth 16384
noncomputable section
namespace Cert.Attn
open Cert.ReferenceIdeal Cert.ReferenceIdeal.Gen Idealize.ShloMosaic Idealize.ShloMosaic.TcCoe Idealize.SL.Sem Idealize.ShloMosaic.StableHlo

/-- The chunk of each position. -/
def refChunk (pos : IVec S2x4096 32) : IVec S2x4096 32 :=
  select (andi (cmpi .ne (signi pos) (broadcastInDim S2x4096 ![] bcast_S_S2x4096 (signi (id (constantI S_ 32 64#32))))) (cmpi .ne (Host.remsi pos (broadcastInDim S2x4096 ![] bcast_S_S2x4096 (id (constantI S_ 32 64#32)))) (broadcastInDim S2x4096 ![] bcast_S_S2x4096 (constantI S_ 32 0#32)))) (subi (Host.divsi pos (broadcastInDim S2x4096 ![] bcast_S_S2x4096 (id (constantI S_ 32 64#32)))) (broadcastInDim S2x4096 ![] bcast_S_S2x4096 (constantI S_ 32 1#32))) (Host.divsi pos (broadcastInDim S2x4096 ![] bcast_S_S2x4096 (id (constantI S_ 32 64#32))))

/-- The masked scores. -/
def refZ (q kv : FVec Ideal S2x4096x4096 .bf16) (kr : FVec Ideal S2x4096x128 .bf16) (ch : IVec S2x4096 32) : FVec Ideal S2x16x4096x4096 .f32 :=
  select (broadcastInDim S2x16x4096x4096 ![0, 1, 2, 3] bcast_S2x1x4096x4096_S2x16x4096x4096_0_1_2_3 (cmpi .sle (broadcastInDim S2x1x4096x4096 ![0, 1, 2, 3] bcast_S2x1x1x4096_S2x1x4096x4096_0_1_2_3 (broadcastInDim S2x1x1x4096 ![0, 3] bcast_S2x4096_S2x1x1x4096_0_3 ch)) (broadcastInDim S2x1x4096x4096 ![0, 1, 2, 3] bcast_S2x1x4096x1_S2x1x4096x4096_0_1_2_3 (broadcastInDim S2x1x4096x1 ![0, 2] bcast_S2x4096_S2x1x4096x1_0_2 ch)))) (mulf (addf (Host.dotGeneral dot_S2x4096x16x128_S2x4096x16x128_S2x16x4096x4096_3_3_1_1_02_02 none (shapeCast _ (extf .f32 (extractStridedSlice S2x4096x2048 ![0, 0, 0] q slices_S2x4096x4096_S2x4096x2048_0_0_0) bitsLt_bf16_f32) shapeCasts_S2x4096x2048_S2x4096x16x128) (shapeCast _ (extf .f32 (extractStridedSlice S2x4096x2048 ![0, 0, 0] kv slices_S2x4096x4096_S2x4096x2048_0_0_0) bitsLt_bf16_f32) shapeCasts_S2x4096x2048_S2x4096x16x128)) (transpose S2x16x4096x4096 [0, 3, 2, 1] (Host.dotGeneral dot_S2x4096x128_S2x4096x16x128_S2x4096x4096x16_2_3_1_12_0_0 none (extf .f32 kr bitsLt_bf16_f32) (shapeCast _ (extf .f32 (extractStridedSlice S2x4096x2048 ![0, 0, 2048] q slices_S2x4096x4096_S2x4096x2048_0_0_2048) bitsLt_bf16_f32) shapeCasts_S2x4096x2048_S2x4096x16x128)) transposes_S2x4096x4096x16_S2x16x4096x4096_0_3_2_1)) (broadcastInDim S2x16x4096x4096 ![] bcast_S_S2x16x4096x4096 (Host.log (constant S_ .f32 0x40000000#32)))) (broadcastInDim S2x16x4096x4096 ![] bcast_S_S2x16x4096x4096 (id (constant S_ .f32 0xFF800000#32)))

/-- The largest score of each row. -/
def refMax (z : FVec Ideal S2x16x4096x4096 .f32) : FVec Ideal S2x16x4096 .f32 :=
  maximumf (broadcastInDim S2x16x4096 ![] bcast_S_S2x16x4096 (constant S_ .f32 0xFF800000#32)) (Host.reduce FloatOps.maximumf z (constant S_ .f32 0xFF800000#32) reducesTo_S2x16x4096x4096_S2x16x4096_d3 h_S_)

/-- The exponentials. -/
def refExp (z : FVec Ideal S2x16x4096x4096 .f32) : FVec Ideal S2x16x4096x4096 .f32 :=
  Host.exp (subf z (broadcastInDim S2x16x4096x4096 ![0, 1, 2, 3] bcast_S2x16x4096x1_S2x16x4096x4096_0_1_2_3 (broadcastInDim S2x16x4096x1 ![0, 1, 2] bcast_S2x16x4096_S2x16x4096x1_0_1_2 (refMax z))))

/-- The softmax. -/
def refSoft (e : FVec Ideal S2x16x4096x4096 .f32) : FVec Ideal S2x16x4096x4096 .f32 :=
  Host.divf e (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduceAdd e (constant S_ .f32 0x00000000#32) reducesTo_S2x16x4096x4096_S2x16x4096_d3 h_S_)))

/-- The weighted values. -/
def refOut (kv : FVec Ideal S2x4096x4096 .bf16) (p : FVec Ideal S2x16x4096x4096 .f32) : FVec Ideal S2x4096x2048 .bf16 :=
  truncf .bf16 (shapeCast _ (transpose S2x4096x16x128 [0, 3, 1, 2] (Host.dotGeneral dot_S2x4096x16x128_S2x16x4096x4096_S2x16x128x4096_1_3_3_2_02_01 none (shapeCast _ (extf .f32 (extractStridedSlice S2x4096x2048 ![0, 0, 2048] kv slices_S2x4096x4096_S2x4096x2048_0_0_2048) bitsLt_bf16_f32) shapeCasts_S2x4096x2048_S2x4096x16x128) p) transposes_S2x16x128x4096_S2x4096x16x128_0_3_1_2) shapeCasts_S2x4096x16x128_S2x4096x2048) bitsLt_bf16_f32

variable (m : (ℓ : Loc nD τ sig) → Buf (Elt Ideal) ℓ) (c : Dev nD)

theorem res_eq : Value.res_out0 m c
    = refOut (m ((c.tc : Thread nD τ).loc main_arg1)) (refSoft (refExp (refZ (m ((c.tc : Thread nD τ).loc main_arg0))
        (m ((c.tc : Thread nD τ).loc main_arg1)) (m ((c.tc : Thread nD τ).loc main_arg2)) (refChunk (m ((c.tc : Thread nD τ).loc main_arg3)))))) := by
  unfold Cert.ReferenceIdeal.Value.res_out0 Cert.ReferenceIdeal.Value.res_main_v41 refOut refSoft refExp refMax refZ refChunk
  rfl

/-- Column `x` of head `h`, in the first or the second half of the columns. -/
def colN (h : Fin 16) (x : Fin 128) : Fin 4096 := ⟨128 * h.val + x.val, by omega⟩
def colR (h : Fin 16) (x : Fin 128) : Fin 4096 := ⟨2048 + (128 * h.val + x.val), by omega⟩

/-- The score of query row `i` and key row `κ` for head `h`. -/
def sco (q kv : FVec Ideal S2x4096x4096 .bf16) (kr : FVec Ideal S2x4096x128 .bf16) (b : Fin 2) (h : Fin 16) (i κ : Fin 4096) : EReal :=
  ∑ x : Fin 128, q (ix3 b i (colN h x)) * kv (ix3 b κ (colN h x)) + ∑ x : Fin 128, kr (ix3 b κ x) * q (ix3 b i (colR h x))

theorem negInf_eq' : Ideal.ofBits FTy.f32 0xFF800000#32 = (⊥ : EReal) := by simp [Ideal.ofBits, Ideal.ieee]

theorem reduces3 : S2x16x4096x4096.Reduces [3] S2x16x4096 := by decide

theorem lift3 (b : Fin 2) (h : Fin 16) (i : Fin 4096) (κ : Fin (S2x16x4096x4096.size 3)) : reduces3.lift (ix3 b h i) κ = ix4 b h i κ := by
  funext a
  apply Fin.ext
  rw [Shape.Reduces.lift_val]
  fin_cases a <;> simp [Shape.Reduces.liftVal, ix3, ix4]

theorem max_bot_apply (y : FVec Ideal S2x16x4096 .f32) (j) :
    maximumf (broadcastInDim S2x16x4096 ![] bcast_S_S2x16x4096 (constant S_ .f32 0xFF800000#32)) y j = y j :=
  (congrArg (fun w => max w (y j)) negInf_eq').trans (max_eq_right bot_le)

theorem fold_max {n : ℕ} (w : Fin n → EReal) (x : EReal) (hx : x = ⊥) :
    Finset.fold (FloatOps.maximumf (F := Ideal) (φ := .f32)) x w Finset.univ = Finset.univ.sup w := by
  rw [hx]; rfl

theorem refMax_apply (z : FVec Ideal S2x16x4096x4096 .f32) (b : Fin 2) (h : Fin 16) (i : Fin 4096) :
    refMax z (ix3 b h i) = Finset.univ.sup fun κ => z (ix4 b h i κ) := by
  unfold refMax
  rw [max_bot_apply, Host.reduce_eq_fold_single FloatOps.maximumf z _ reducesTo_S2x16x4096x4096_S2x16x4096_d3 reduces3 h_S_ (ix3 b h i)]
  refine (fold_max _ _ negInf_eq').trans ?_
  exact congrArg (Finset.univ.sup) (funext fun κ => congrArg z (lift3 b h i κ))
theorem refOut_apply (kv : FVec Ideal S2x4096x4096 .bf16) (p : FVec Ideal S2x16x4096x4096 .f32) (b : Fin 2) (i : Fin 4096) (h : Fin 16) (d : Fin 128) :
    refOut kv p (ix3 b i ⟨128 * h.val + d.val, by omega⟩) = ∑ κ : Fin 4096, kv (ix3 b κ (colR h d)) * p (ix4 b h i κ) := by
  pointwise [refOut]
  simp only [colR, mul_comm 128]

theorem refSoft_apply (e : FVec Ideal S2x16x4096x4096 .f32) (b : Fin 2) (h : Fin 16) (i κ : Fin 4096) :
    refSoft e (ix4 b h i κ) = Ideal.div (e (ix4 b h i κ)) (∑ j, e (ix4 b h i j)) := by
  pointwise [refSoft]

theorem refExp_apply (z : FVec Ideal S2x16x4096x4096 .f32) (b : Fin 2) (h : Fin 16) (i κ : Fin 4096) :
    refExp z (ix4 b h i κ) = Ideal.exp (z (ix4 b h i κ) - refMax z (ix3 b h i)) := by
  pointwise [refExp]

theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    rw [← EReal.coe_mul]
    norm_num
  rw [h]
  show (if (2 : ℝ) ≤ 0 then (⊥ : EReal) else (Real.log 2 : EReal)) = _
  rw [if_neg (by norm_num)]

theorem select_ite {α : Type} (w : BitVec 1) (x y : α) : Scalar.select w x y = if w = 1#1 then x else y := by
  rfl

theorem refZ_apply (q kv : FVec Ideal S2x4096x4096 .bf16) (kr : FVec Ideal S2x4096x128 .bf16) (ch : IVec S2x4096 32) (b : Fin 2) (h : Fin 16) (i κ : Fin 4096) :
    refZ q kv kr ch (ix4 b h i κ) = if IntOp.cmpi .sle (ch (ix2 b κ)) (ch (ix2 b i)) = 1#1 then sco q kv kr b h i κ * ((Real.log 2 : ℝ) : EReal) else ⊥ := by
  pointwise [refZ]
  rw [log_two, select_ite]
  simp only [sco, colN, colR, mul_comm 128]
  exact congrArg (fun w => if IntOp.cmpi .sle (ch (ix2 b κ)) (ch (ix2 b i)) = 1#1 then _ else w) negInf_eq'

/-- The chunk of a position that is not negative. -/
theorem refChunk_apply (pos : IVec S2x4096 32) (b : Fin 2) (κ : Fin 4096) (a : ℕ) (h : pos (ix2 b κ) = BitVec.ofNat 32 a) (ha : a < 2 ^ 31) :
    refChunk pos (ix2 b κ) = BitVec.ofNat 32 (a / 64) :=
  Idealize.ShloMosaic.Routing.pyDiv_ap bcast_S_S2x4096 pos (constantI S_ 32 64#32) (ix2 b κ) h rfl ha (by decide) (by decide)

end Cert.Attn
end
-- ==== Proof.Attn.Soft.lean ====
module

public import proofs.«01_k».proof.Proof.Attn.Out
public import proofs.«01_k».proof.Proof.Attn.Ref

/-! One output element, on both sides: the kernel's running softmax over the blocks that are seen, and the reference's
softmax over all the keys, are the same weighted sum of the values. -/

@[expose] public section
set_option maxRecDepth 16384
noncomputable section
namespace Cert.Attn
open Idealize.ShloMosaic Idealize.ShloMosaic.TcCoe

section
variable {s0 s0' v0 v0' : Fin 512 → EReal} {s s' v v' : ℕ → Fin 512 → EReal}

/-- The running values look only at the blocks already run. -/
theorem onM_congr (h0 : s0 = s0') (n : ℕ) (h : ∀ k, k < n → s k = s' k) : onM s0 s n = onM s0' s' n := by
  induction n with
  | zero => rw [onM, onM, h0]
  | succ n ih => rw [onM, onM, ih fun k hk => h k (Nat.lt_succ_of_lt hk), h n n.lt_succ_self]

theorem onL_congr (h0 : s0 = s0') (n : ℕ) (h : ∀ k, k < n → s k = s' k) : onL s0 s n = onL s0' s' n := by
  induction n with
  | zero => rw [onL, onL, onM_congr h0 0 h, h0]
  | succ n ih =>
    have h' := fun k hk => h k (Nat.lt_succ_of_lt hk)
    rw [onL, onL, ih h', onM_congr h0 (n + 1) h, onM_congr h0 n h', h n n.lt_succ_self]

theorem onA_congr (h0 : s0 = s0') (n : ℕ) (h : ∀ k, k < n → s k = s' k) : onA s0 v0 s v n = onA s0' v0 s' v n := by
  induction n with
  | zero => rw [onA, onA, onM_congr h0 0 h, h0]
  | succ n ih =>
    have h' := fun k hk => h k (Nat.lt_succ_of_lt hk)
    rw [onA, onA, ih h', onM_congr h0 (n + 1) h, onM_congr h0 n h', h n n.lt_succ_self]
end

/-- Key `κ` is seen by query `i`, both counted from position `p`: its chunk is not later. -/
def sees (p : ℕ) (i κ : Fin 4096) : Prop := (p + κ.val) / 64 ≤ (p + i.val) / 64

theorem shrsi_six (a : ℕ) (ha : a < 2 ^ 31) : IntOp.shrsi .vector (BitVec.ofNat 32 a) 6#32 = BitVec.ofNat 32 (a / 64) := by
  have hm : (BitVec.ofNat 32 a).msb = false := by
    rw [BitVec.msb_eq_false_iff_two_mul_lt, BitVec.toNat_ofNat, Nat.mod_eq_of_lt (by omega)]
    omega
  unfold IntOp.shrsi
  rw [if_pos (by decide)]
  apply BitVec.eq_of_toNat_eq
  rw [BitVec.sshiftRight', BitVec.toNat_sshiftRight_of_msb_false hm, BitVec.toNat_ofNat, BitVec.toNat_ofNat, BitVec.toNat_ofNat,
    Nat.shiftRight_eq_div_pow, Nat.mod_eq_of_lt (by omega : a < 2 ^ 32), Nat.mod_eq_of_lt (by omega : a / 64 < 2 ^ 32)]

/-- The weighted values, with the scores taken in base 2 or natural. -/
def plain (P : Fin 4096 → Prop) (S : Fin 4096 → ℝ) (v : Fin 4096 → EReal) (m : ℝ) : EReal :=
  ∑ κ, v κ * Ideal.div (Ideal.exp (masked (P κ) (S κ * Real.log 2) - (m : EReal)))
    (∑ j, Ideal.exp (masked (P j) (S j * Real.log 2) - (m : EReal)))

section
open Cert.KernelIdeal
variable (x0 : Vec Ideal S1x512x1024 .bf16) (x1 : Vec Ideal S1x512x1024 .bf16) (x2 : Vec Ideal S1x4096x1024 .bf16) (x3 : Vec Ideal S1x4096x128 .bf16) (x4 : Vec Ideal S1x4096x1024 .bf16) (x5 : Vec Ideal S1x1x512 .i32) (x6 : Vec Ideal S1x512x1 .i32)

/-- The kernel's body computes the plain softmax. -/
theorem body_plain (n : ℕ) (hn : n < 8) (g : Fin 8) (d : Fin 128) (r : Fin 512) (S : Fin 4096 → ℝ) (p : ℕ) (hp : p ≤ 4032)
    (hp64 : p % 64 = 0) (hS : ∀ κ, scX x0 x1 x2 x3 g κ r = (S κ : EReal))
    (hk : ∀ a, x6 (ix3 0 a 0) = BitVec.ofNat 32 (p + (rowN n a).val)) (hq : x5 (ix3 0 0 r) = BitVec.ofNat 32 (p + (rowN n r).val))
    (m : ℝ) :
    bodyOut x0 x1 x2 x3 x4 x5 x6 n g d r = plain (sees p (rowN n r)) S (fun κ => x4 (ix3 0 κ (col g d))) m := by
  have hrow : ∀ k, k < 8 → ∀ a : Fin 512, (rowN k a).val = k * 512 + a.val := fun k hk a => by
    rw [rowN_eq k hk, Nat.mul_comm]
  have e0 : (open Classical in fun a => if seen x6 x5 a r then scX x0 x1 x2 x3 g (rowN n a) r else ⊥)
      = fun a => masked (sees p (rowN n r) (rowN n a)) (S (rowN n a)) := by
    funext a
    have e : seen x6 x5 a r ↔ sees p (rowN n r) (rowN n a) := by
      have ha := (rowN n a).isLt
      have hr := (rowN n r).isLt
      unfold seen
      rw [hk, hq, shrsi_six _ (by omega), shrsi_six _ (by omega)]
      exact WordCmp.cmpi_sle_ofNat_eq_one_iff (by omega) (by omega)
    rw [hS]
    unfold masked
    by_cases h : seen x6 x5 a r
    · rw [if_pos h, if_pos (e.mp h)]
    · rw [if_neg h, if_neg fun h' => h (e.mpr h')]
  have hlo : ∀ k, k < n → ∀ a, sees p (rowN n r) (rowN k a) := fun k hk a => by
    unfold sees
    rw [hrow k (by omega), hrow n hn]
    have := a.isLt
    apply Nat.div_le_div_right
    have : (k + 1) * 512 ≤ n * 512 := Nat.mul_le_mul_right _ hk
    omega
  have hhi : ∀ k, k < 8 → n < k → ∀ a, ¬sees p (rowN n r) (rowN k a) := fun k hk hnk a => by
    unfold sees
    rw [hrow k hk, hrow n hn]
    have := r.isLt
    have : (n + 1) * 512 ≤ k * 512 := Nat.mul_le_mul_right _ hnk
    omega
  have e1 : ∀ k, k < n → (fun k a => scX x0 x1 x2 x3 g (rowN k a) r) k
      = (fun k a => masked (sees p (rowN n r) (rowN k a)) (S (rowN k a))) k := fun k hk => by
    funext a
    dsimp only
    rw [hS, masked, if_pos (hlo k hk a)]
  unfold bodyOut
  rw [onA_congr e0 n e1, onL_congr e0 n e1]
  exact online_eq_plain (sees p (rowN n r)) S (fun κ => x4 (ix3 0 κ (col g d))) n hn r (le_refl _) hlo hhi m
end

section
open Cert.ReferenceIdeal

/-- The reference computes the plain softmax. -/
theorem ref_plain (q kv : FVec Ideal S2x4096x4096 .bf16) (kr : FVec Ideal S2x4096x128 .bf16) (pos : IVec S2x4096 32)
    (b : Fin 2) (i : Fin 4096) (h : Fin 16) (d : Fin 128) (S : Fin 4096 → ℝ) (p : ℕ) (hp : p ≤ 4032)
    (hS : ∀ κ, sco q kv kr b h i κ = (S κ : EReal)) (hpos : ∀ κ : Fin 4096, pos (ix2 b κ) = BitVec.ofNat 32 (p + κ.val)) :
    ∃ m : ℝ, refOut kv (refSoft (refExp (refZ q kv kr (refChunk pos)))) (ix3 b i ⟨128 * h.val + d.val, by omega⟩)
      = plain (sees p i) S (fun κ => kv (ix3 b κ (colR h d))) m := by
  have hz : ∀ κ, refZ q kv kr (refChunk pos) (ix4 b h i κ) = masked (sees p i κ) (S κ * Real.log 2) := fun κ => by
    have hκ := κ.isLt
    have hi := i.isLt
    rw [refZ_apply, refChunk_apply pos b κ _ (hpos κ) (by omega), refChunk_apply pos b i _ (hpos i) (by omega), hS, ← EReal.coe_mul]
    have e : IntOp.cmpi .sle (BitVec.ofNat 32 ((p + κ.val) / 64)) (BitVec.ofNat 32 ((p + i.val) / 64)) = 1#1 ↔ sees p i κ :=
      WordCmp.cmpi_sle_ofNat_eq_one_iff (by omega) (by omega)
    unfold masked
    by_cases hs : sees p i κ
    · rw [if_pos hs, if_pos (e.mpr hs)]
    · rw [if_neg hs, if_neg fun h' => hs (e.mp h')]
  obtain ⟨m, hm⟩ := sup_real (fun κ => masked (sees p i κ) (S κ * Real.log 2)) (fun κ => masked_ne_top _ _) i
    (masked_ne_bot _ _ (le_refl _))
  refine ⟨m, ?_⟩
  rw [refOut_apply]
  have he : ∀ κ, refExp (refZ q kv kr (refChunk pos)) (ix4 b h i κ) = Ideal.exp (masked (sees p i κ) (S κ * Real.log 2) - (m : EReal)) := fun κ => by
    rw [refExp_apply, refMax_apply, hz κ]
    simp only [hz, hm]
  simp only [refSoft_apply, he]
  rfl
end

end Cert.Attn
end
-- ==== Proof.Attn.Pre.lean ====
module

public import proofs.«01_k».proof.Pre_scores_are_finite
public import Idealize.ShloMosaic.Lib.Routing.Words
public import Idealize.ShloMosaic.Lib.ReduceAll
public import Idealize.ShloMosaic.Lib.Pipeline.ValueKit

/-! What the precondition gives: finite queries, keys and rotary keys, and positions that run from a chunk's first frame. -/

@[expose] public section
set_option maxRecDepth 16384
noncomputable section
namespace Cert.Attn
open Cert.Pre_scores_are_finite Idealize.ShloMosaic Idealize.ShloMosaic.TcCoe

theorem preFacts : Cert.Pre_scores_are_finite.Facts := by
  constructor <;> decide

theorem and_one (x y : BitVec 1) : IntOp.andi x y = 1#1 ↔ x = 1#1 ∧ y = 1#1 := by
  revert x y; decide

variable [Facts]
open Facts

/-- What the precondition says of the arguments. -/
structure Good (q kv : FVec Ideal S2x4096x4096 .bf16) (kr : FVec Ideal S2x4096x128 .bf16) (pos : IVec S2x4096 32) : Prop where
  hq : ∀ b j k, ∃ x : ℝ, q (ix3 b j k) = (x : EReal)
  hk : ∀ b j (k : Fin 4096), k.val < 2048 → ∃ x : ℝ, kv (ix3 b j k) = (x : EReal)
  hr : ∀ b j k, ∃ x : ℝ, kr (ix3 b j k) = (x : EReal)
  hpos : ∀ b, ∃ s : ℕ, s ≤ 4032 ∧ s % 64 = 0 ∧ ∀ j : Fin 4096, pos (ix2 b j) = BitVec.ofNat 32 (s + j.val)

theorem posInf_eq : Ideal.ofBits FTy.f32 2139095040#32 = (⊤ : EReal) := by simp [Ideal.ofBits, Ideal.ieee]

/-- A value whose magnitude is below infinity is real. -/
theorem real_of_abs (x : EReal) (h : BitVec.ofBool (decide (max x (-x) < Ideal.ofBits FTy.f32 2139095040#32)) = 1#1) :
    ∃ r : ℝ, x = (r : EReal) := by
  rw [posInf_eq, WordCmp.ofBool_decide_eq_one_iff, max_lt_iff] at h
  have h1 : x ≠ ⊤ := h.1.ne
  have h2 : x ≠ ⊥ := fun e => by rw [e] at h; exact absurd h.2 (by simp)
  exact ⟨_, (EReal.coe_toReal h1 h2).symm⟩

theorem pre_good (q kv : FVec Ideal S2x4096x4096 .bf16) (kr : FVec Ideal S2x4096x128 .bf16) (pos : IVec S2x4096 32)
    (h : Cert.Pre_scores_are_finite.fn (F := Ideal) q kv kr pos = fun _ => 1#1) : Good q kv kr pos := by
  have h0 := congrFun h ix0
  dsimp only [fn, fn_part1, fn_part2] at h0
  simp only [WordCmp.andi_at, and_one] at h0
  obtain ⟨⟨⟨⟨h1, h2⟩, h3⟩, h4⟩, h5⟩ := h0
  have h1' := fun i => Host.reduce_andi_all _ _ _ _ _ h1 i
  have h2' := fun i => Host.reduce_andi_all _ _ _ _ _ h2 i
  have h3' := fun i => Host.reduce_andi_all _ _ _ _ _ h3 i
  have h4' := fun i => Host.reduce_andi_all _ _ _ _ _ h4 i
  have h5' := fun i => Host.reduce_andi_all _ _ _ _ _ h5 i
  clear h h1 h2 h3 h4 h5
  refine ⟨fun b j k => ?_, fun b j k hk => ?_, fun b j k => ?_, fun b => ?_⟩
  · have a1 := h1' (ix3 b j k)
    pointwise at a1
    exact real_of_abs _ a1
  · have a2 := h2' (ix3 b j (⟨k.val, hk⟩ : Fin 2048))
    pointwise at a2
    exact real_of_abs _ a2
  · have a3 := h3' (ix3 b j k)
    pointwise at a3
    exact real_of_abs _ a3
  · have a4 := fun j : Fin 4096 => h4' (ix2 b j)
    have a5 := h5' (ix2 b 0)
    simp only [WordCmp.andi_at, and_one] at a5
    obtain ⟨⟨s1, s2⟩, s3⟩ := a5
    pointwise at a4
    pointwise at s1
    pointwise at s2
    rw [IntOp.cmpi_sge] at s1
    rw [IntOp.cmpi_sle] at s2
    obtain ⟨s, hs, hps⟩ : ∃ s : ℕ, s ≤ 4032 ∧ pos (ix2 b 0) = BitVec.ofNat 32 s := by
      have e0 : (0#32 : BitVec 32).toInt = 0 := rfl
      have e1 : (4032#32 : BitVec 32).toInt = 4032 := rfl
      rw [e0] at s1
      rw [e1] at s2
      have hc := BitVec.toInt_eq_toNat_cond (pos (ix2 b 0))
      have hl := (pos (ix2 b 0)).isLt
      refine ⟨(pos (ix2 b 0)).toNat, ?_, by rw [BitVec.ofNat_toNat, BitVec.setWidth_eq]⟩
      split at hc <;> omega
    refine ⟨s, hs, ?_, fun j => ?_⟩
    · have e := Routing.pyRem_ap (s := S2x1) bcast_S_S2x1 (extractStridedSlice S2x1 ![0, 0] pos slices_S2x4096_S2x1_0_0) (constantI S_ 32 64#32) (ix2 b 0)
        (a := s) (b := 64) (by pointwise; exact hps) rfl (by omega) (by decide) (by decide)
      have e3 : IntOp.cmpi .eq (BitVec.ofNat 32 (s % 64)) (BitVec.ofNat 32 0) = 1#1 := by rw [← e]; exact s3
      rw [IntOp.cmpi_eq] at e3
      have := congrArg BitVec.toNat e3
      simp only [BitVec.toNat_ofNat] at this
      omega
    · have e := a4 j
      rw [IntOp.cmpi_eq] at e
      rw [e, hps]
      exact (BitVec.ofNat_add _ _).symm

end Cert.Attn
end
-- ==== Proof.Attn.Tie.lean ====
module

public import proofs.«01_k».proof.Proof.Attn.Soft
public import proofs.«01_k».proof.Proof.Attn.Pre

/-! The kernel's output array is the reference's result. -/

@[expose] public section
set_option maxRecDepth 16384
noncomputable section
namespace Cert.Attn
open Cert.KernelIdeal Cert.KernelIdeal.Gen Idealize.ShloMosaic Idealize.ShloMosaic.TcCoe

/-- Every batch, head block and query block has its grid point. -/
theorem point_vals : ∀ (b h : Fin 2) (n : Fin 8), ∃ t : Fin grid0.N,
    (grid0.coords t 0).val = b.val ∧ (grid0.coords t 1).val = h.val ∧ (grid0.coords t 2).val = n.val := by decide +kernel

theorem point_of (b h : Fin 2) (n : Fin 8) : ∃ t : Fin cfg0.N, bt t = b ∧ ht t = h ∧ nt t = n :=
  (point_vals b h n).imp fun t h => ⟨Fin.ext h.1, Fin.ext h.2.1, Fin.ext h.2.2⟩

theorem sum_finite {f : Fin 128 → EReal} (h : ∀ x, ∃ r : ℝ, f x = r) : ∃ r : ℝ, ∑ x, f x = (r : EReal) := by
  choose r hr using h
  exact ⟨∑ x, r x, by rw [coe_sum]; exact Finset.sum_congr rfl fun x _ => hr x⟩

theorem mul_finite {a b : EReal} (ha : ∃ r : ℝ, a = r) (hb : ∃ r : ℝ, b = r) : ∃ r : ℝ, a * b = (r : EReal) := by
  obtain ⟨x, rfl⟩ := ha
  obtain ⟨y, rfl⟩ := hb
  exact ⟨x * y, (EReal.coe_mul x y).symm⟩

theorem add_finite {a b : EReal} (ha : ∃ r : ℝ, a = r) (hb : ∃ r : ℝ, b = r) : ∃ r : ℝ, a + b = (r : EReal) := by
  obtain ⟨x, rfl⟩ := ha
  obtain ⟨y, rfl⟩ := hb
  exact ⟨x + y, (EReal.coe_add x y).symm⟩

/-- The scores are real numbers. -/
theorem sco_finite (q kv : FVec Ideal S2x4096x4096 .bf16) (kr : FVec Ideal S2x4096x128 .bf16) (pos : IVec S2x4096 32)
    (hg : Good q kv kr pos) (b : Fin 2) (h : Fin 16) (i κ : Fin 4096) : ∃ r : ℝ, sco q kv kr b h i κ = (r : EReal) :=
  add_finite
    (sum_finite fun x => mul_finite (hg.hq b i _) (hg.hk b κ _ (by have := h.isLt; have := x.isLt; show 128 * h.val + x.val < 2048; omega)))
    (sum_finite fun x => mul_finite (hg.hr b κ x) (hg.hq b i _))

variable (m : (ℓ : Loc nD τ sig) → Buf (Elt Ideal) ℓ) (c : Dev nD) (t : Fin cfg0.N)

/-- The head that a point's head block `ht t` and a head `g` of it name. -/
def hd (g : Fin 8) : Fin 16 := ⟨8 * (ht t).val + g.val, by have := (ht t).isLt; omega⟩

theorem colT_eq (g : Fin 8) (x : Fin 128) : colT t (col g x) = colN (hd t g) x :=
  Fin.ext (by show (ht t).val * 1024 + (128 * g.val + x.val) = 128 * (8 * (ht t).val + g.val) + x.val; omega)
theorem colT'_eq (g : Fin 8) (x : Fin 128) : colT' t (col g x) = colR (hd t g) x :=
  Fin.ext (by show (2 + (ht t).val) * 1024 + (128 * g.val + x.val) = 2048 + (128 * (8 * (ht t).val + g.val) + x.val); omega)
theorem colO_eq (g : Fin 8) (x : Fin 128) : colO t (col g x) = ⟨128 * (hd t g).val + x.val, by have := (hd t g).isLt; omega⟩ :=
  Fin.ext (by show (ht t).val * 1024 + (128 * g.val + x.val) = 128 * (8 * (ht t).val + g.val) + x.val; omega)
theorem rowT_eq (r : Fin 512) : rowT t r = rowN (nt t).val r := by
  rw [rowN_eq _ (nt t).isLt]
  exact Fin.ext (by show (nt t).val * 512 + r.val = 512 * (nt t).val + r.val; omega)

/-- The kernel's scores are the reference's. -/
theorem scX_eq (g : Fin 8) (r : Fin 512) (κ : Fin 4096) :
    scX (iblk m c 0 t) (iblk m c 1 t) (iblk m c 2 t) (iblk m c 3 t) g κ r
      = sco (m ((c : Thread nD τ).loc main_arg0)) (m ((c : Thread nD τ).loc main_arg1)) (m ((c : Thread nD τ).loc main_arg2))
          (bt t) (hd t g) (rowN (nt t).val r) κ := by
  unfold scX sco
  simp only [read0, read1, read2, read3, colT_eq, colT'_eq, rowT_eq]
  exact congrArg (· + _) (Finset.sum_congr rfl fun x _ => mul_comm _ _)

/-- One output element. -/
theorem elem (hg : Good (m ((c : Thread nD τ).loc main_arg0)) (m ((c : Thread nD τ).loc main_arg1))
      (m ((c : Thread nD τ).loc main_arg2)) (m ((c : Thread nD τ).loc main_arg3))) (g : Fin 8) (d : Fin 128) (r : Fin 512) :
    (dats m 0 c).arrAt 7 cfg0.N (ix3 (bt t) (rowT t r) (colO t (col g d)))
      = refOut (m ((c : Thread nD τ).loc main_arg1)) (refSoft (refExp (refZ (m ((c : Thread nD τ).loc main_arg0))
          (m ((c : Thread nD τ).loc main_arg1)) (m ((c : Thread nD τ).loc main_arg2)) (refChunk (m ((c : Thread nD τ).loc main_arg3))))))
          (ix3 (bt t) (rowT t r) (colO t (col g d))) := by
  rw [arr_at, rowT_eq, colO_eq]
  choose S hS using fun κ => sco_finite _ _ _ _ hg (bt t) (hd t g) (rowN (nt t).val r) κ
  obtain ⟨p, hp, hp64, hpos⟩ := hg.hpos (bt t)
  obtain ⟨M, hM⟩ := ref_plain _ _ _ _ (bt t) (rowN (nt t).val r) (hd t g) d S p hp hS hpos
  refine Eq.trans (body_plain _ _ _ _ _ _ _ (nt t).val (nt t).isLt g d r S p hp hp64
    (fun κ => (scX_eq m c t g r κ).trans (hS κ))
    (fun a => (read6 m c t a).trans (by rw [rowT_eq]; exact hpos _))
    ((read5 m c t r).trans (by rw [rowT_eq]; exact hpos _)) M) (Eq.trans ?_ hM.symm)
  exact congrArg (fun v => plain (sees p (rowN (nt t).val r)) S v M) (funext fun κ => by rw [read4, colT'_eq])

/-- The whole array. -/
theorem arr_eq (hg : Good (m ((c : Thread nD τ).loc main_arg0)) (m ((c : Thread nD τ).loc main_arg1))
      (m ((c : Thread nD τ).loc main_arg2)) (m ((c : Thread nD τ).loc main_arg3))) :
    (dats m 0 c).arrAt 7 cfg0.N
      = refOut (m ((c : Thread nD τ).loc main_arg1)) (refSoft (refExp (refZ (m ((c : Thread nD τ).loc main_arg0))
          (m ((c : Thread nD τ).loc main_arg1)) (m ((c : Thread nD τ).loc main_arg2)) (refChunk (m ((c : Thread nD τ).loc main_arg3)))))) := by
  funext j
  have hj : ∃ (b : Fin 2) (i : Fin 4096) (e : Fin 2048), j = ix3 b i e := ⟨j 0, j 1, j 2, eq_ix3 j⟩
  obtain ⟨b, i, e, rfl⟩ := hj
  have hi := i.isLt
  have he := e.isLt
  obtain ⟨t, hb, hh, hn⟩ := point_of b ⟨e.val / 1024, by omega⟩ ⟨i.val / 512, by omega⟩
  have h1 : b = bt t := hb.symm
  have h2 : i = rowT t ⟨i.val % 512, by omega⟩ := Fin.ext (by
    show i.val = (nt t).val * 512 + i.val % 512
    rw [hn]; show i.val = i.val / 512 * 512 + i.val % 512; omega)
  have h3 : e = colO t (col ⟨e.val % 1024 / 128, by omega⟩ ⟨e.val % 128, by omega⟩) := Fin.ext (by
    show e.val = (ht t).val * 1024 + (128 * (e.val % 1024 / 128) + e.val % 128)
    rw [hh]; show e.val = e.val / 1024 * 1024 + (128 * (e.val % 1024 / 128) + e.val % 128); omega)
  have h4 := congrArg₂ (fun (b : Fin 2) (x : Fin 4096 × Fin 2048) => ix3 b x.1 x.2) h1 (congrArg₂ Prod.mk h2 h3)
  exact (congrArg _ h4).trans ((elem m c t hg _ _ _).trans (congrArg _ h4).symm)

end Cert.Attn
end
-- ==== Proof.Ffn.Parts.lean ====
/- What the feed-forward kernel holds between grid points: the two slots its weight tiles land in, the weight
   columns each transfer reads, and the transfers in flight. -/
module

public import proofs.«01_k».proof.Proof.Gen.Kernel2Ideal.Frame
public import proofs.«01_k».proof.Proof.Gen.Kernel2Ideal.Points
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Where in the grid each branch is taken -/

/-- The first row block of a column tile. -/
abbrev atFirst (i : grid0.Coords) : Prop := k0_cond1 i = 1#1
/-- The first column tile. -/
abbrev atStart (i : grid0.Coords) : Prop := k0_cond2 i = 1#1
/-- A column tile follows. -/
abbrev hasNext (i : grid0.Coords) : Prop := k0_cond3 i = 1#1

theorem atFirst_iff : ∀ t : Fin cfg0.N, atFirst (grid0.coords t) ↔ t.val % 8 = 0 :=
  (by decide +kernel : ∀ t : Fin grid0.N, atFirst (grid0.coords t) ↔ t.val % 8 = 0)
theorem atStart_iff : ∀ t : Fin cfg0.N, atStart (grid0.coords t) ↔ t.val < 8 :=
  (by decide +kernel : ∀ t : Fin grid0.N, atStart (grid0.coords t) ↔ t.val < 8)
theorem hasNext_iff : ∀ t : Fin cfg0.N, hasNext (grid0.coords t) ↔ t.val < 120 :=
  (by decide +kernel : ∀ t : Fin grid0.N, hasNext (grid0.coords t) ↔ t.val < 120)

/-- The column tile of step `k`, steps counted along the grid; and so past the last tile something, never used. -/
def tl (k : ℕ) : Fin 16 := ⟨k / 8 % 16, Nat.mod_lt _ (by decide)⟩

/-! ## The buffers -/

/-- Where the weight tiles land, the tiles rounded to half precision, and the weights. -/
abbrev stageM : Memref sig .tc .vmem S2x4096x512 .f32 := Memref.whole cc0_scratch0
abbrev castM : Memref sig .tc .vmem S2x4096x512 .bf16 := Memref.whole cc0_scratch1
abbrev wM : Memref sig .tc .hbm S2x4096x16384 .f32 := Memref.whole main_arg1

/-- A memref's buffer on core `c`: the type of its contents. -/
abbrev BufOf (c : Dev nD) {sp : Space} {S : Shape} {e : EltTy} (M : Memref sig .tc sp S e) : Type := Buf (Elt F) (M.view.loc (c : Thread nD τ))

/-- The two slots, gate then up. -/
def slotG : Memref sig .tc .vmem S4096x512 .f32 :=
  (stageM.slice (Rect.unit (s := S2x4096x512) ![0, 0, 0] S1x4096x512.size inb_S2x4096x512_S1x4096x512_0_0_0) (fun _ => rfl)).squeeze S4096x512 squeezes_S1x4096x512_S4096x512
def slotU : Memref sig .tc .vmem S4096x512 .f32 :=
  (stageM.slice (Rect.unit (s := S2x4096x512) ![1, 0, 0] S1x4096x512.size inb_S2x4096x512_S1x4096x512_1_0_0) (fun _ => rfl)).squeeze S4096x512 squeezes_S1x4096x512_S4096x512

theorem inb_G (b : Fin 16) : ∀ a, (![0, 0, 512 * b.val] : Fin 3 → Nat) a + S1x4096x512.size a ≤ S2x4096x16384.size a := by
  have := b.isLt; intro a; fin_cases a <;> simp <;> omega
theorem inb_U (b : Fin 16) : ∀ a, (![0, 0, 8192 + 512 * b.val] : Fin 3 → Nat) a + S1x4096x512.size a ≤ S2x4096x16384.size a := by
  have := b.isLt; intro a; fin_cases a <;> simp <;> omega
/-- The gate columns and the up columns of tile `b`. -/
def srcG (b : Fin 16) : Memref sig .tc .hbm S4096x512 .f32 :=
  (wM.slice (Rect.unit (s := S2x4096x16384) ![0, 0, 512 * b.val] S1x4096x512.size (inb_G b)) (fun _ => rfl)).squeeze S4096x512 squeezes_S1x4096x512_S4096x512
def srcU (b : Fin 16) : Memref sig .tc .hbm S4096x512 .f32 :=
  (wM.slice (Rect.unit (s := S2x4096x16384) ![0, 0, 8192 + 512 * b.val] S1x4096x512.size (inb_U b)) (fun _ => rfl)).squeeze S4096x512 squeezes_S1x4096x512_S4096x512

/-- The two counters, gate then up. -/
abbrev cellG : DmaSems sig S_ := (cc0_scratch2.slice (Rect.unit (s := S2) ![0] S1.size inb_S2_S1_0)).squeeze S_ squeezes_S1_S_
abbrev cellU : DmaSems sig S_ := (cc0_scratch2.slice (Rect.unit (s := S2) ![1] S1.size inb_S2_S1_1)).squeeze S_ squeezes_S1_S_
abbrev semG : SemLoc sig := SemLoc.dma cellG.sem
abbrev semU : SemLoc sig := SemLoc.dma cellU.sem

/-! ## What is held -/

section Held
variable (c : Dev nD) (W : BufOf (F := F) c wM)

/-- Each slot at some contents. -/
abbrev heldG (f : BufOf (F := F) c slotG) : sProp 𝕄 := slotG.view.loc (c : Thread nD τ) ↦[slotG.view.set]{fullShare} f
abbrev heldU (f : BufOf (F := F) c slotU) : sProp 𝕄 := slotU.view.loc (c : Thread nD τ) ↦[slotU.view.set]{fullShare} f
/-- Half a share of tile `b`'s gate columns, the other half of its up columns. -/
abbrev colsG (b : Fin 16) : sProp 𝕄 := (srcG b).view.loc (c : Thread nD τ) ↦[(srcG b).view.set]{fullShare.left} W
abbrev colsU (b : Fin 16) : sProp 𝕄 := (srcU b).view.loc (c : Thread nD τ) ↦[(srcU b).view.set]{fullShare.right} W
/-- A slot's contents once tile `b` has landed in it. -/
abbrev landG (b : Fin 16) (f : BufOf (F := F) c slotG) : BufOf (F := F) c slotG :=
  slotG.view.writes (Elt F) f [⟨Rect.whole S4096x512, ReadAs.same.apply ((srcG b).view.read (Elt F) W)⟩]
abbrev landU (b : Fin 16) (f : BufOf (F := F) c slotU) : BufOf (F := F) c slotU :=
  slotU.view.writes (Elt F) f [⟨Rect.whole S4096x512, ReadAs.same.apply ((srcU b).view.read (Elt F) W)⟩]
/-- Tile `b` on its way. -/
abbrev flyG (b : Fin 16) (f : BufOf (F := F) c slotG) : sProp 𝕄 :=
  Transfers.Flight countersEmb (c : Thread nD τ) semG default (slotG.view.amount semG)
    iprop(heldG c (landG c W b f) ∗ colsG c W b)
abbrev flyU (b : Fin 16) (f : BufOf (F := F) c slotU) : sProp 𝕄 :=
  Transfers.Flight countersEmb (c : Thread nD τ) semU default (slotU.view.amount semU)
    iprop(heldU c (landU c W b f) ∗ colsU c W b)
end Held

/-! ## The columns a transfer reads, at each point -/

section Names
omit [FloatOps F]
theorem off1G : ∀ t : Fin grid0.N, atFirst (grid0.coords t) → atStart (grid0.coords t) → k0_off1 (grid0.coords t) 0#32 = ![0, 0, 512 * (tl t.val).val] := by decide +kernel
theorem off1U : ∀ t : Fin grid0.N, atFirst (grid0.coords t) → atStart (grid0.coords t) → k0_off1 (grid0.coords t) 8192#32 = ![0, 0, 8192 + 512 * (tl t.val).val] := by decide +kernel
theorem off2G : ∀ t : Fin grid0.N, atFirst (grid0.coords t) → k0_off2 (grid0.coords t) 0#32 = ![0, 0, 512 * (tl t.val).val] := by decide +kernel
theorem off2U : ∀ t : Fin grid0.N, atFirst (grid0.coords t) → k0_off2 (grid0.coords t) 8192#32 = ![0, 0, 8192 + 512 * (tl t.val).val] := by decide +kernel
theorem off3G : ∀ t : Fin grid0.N, atFirst (grid0.coords t) → hasNext (grid0.coords t) → k0_off3 (grid0.coords t) 0#32 = ![0, 0, 512 * (tl (t.val + 8)).val] := by decide +kernel
theorem off3U : ∀ t : Fin grid0.N, atFirst (grid0.coords t) → hasNext (grid0.coords t) → k0_off3 (grid0.coords t) 8192#32 = ![0, 0, 8192 + 512 * (tl (t.val + 8)).val] := by decide +kernel

/-- The columns a transfer names at point `t` are its tile's. -/
@[sl_canon] theorem name1G (t : Fin grid0.N) [h0 : Fact (atFirst (grid0.coords t))] [h1 : Fact (atStart (grid0.coords t))]
    (hin : ∀ a, (k0_off1 (grid0.coords t) 0#32) a + S1x4096x512.size a ≤ S2x4096x16384.size a) :
    (wM.slice (Rect.unit (s := S2x4096x16384) (k0_off1 (grid0.coords t) 0#32) S1x4096x512.size hin) (fun _ => rfl)).squeeze S4096x512 squeezes_S1x4096x512_S4096x512 = srcG (tl t.val) :=
  congrArg (fun M : Memref sig .tc .hbm S1x4096x512 .f32 => M.squeeze S4096x512 squeezes_S1x4096x512_S4096x512) (Memref.slice_unit_congr _ (off1G t h0.out h1.out) _ _ (fun _ => rfl) (fun _ => rfl))
@[sl_canon] theorem name1U (t : Fin grid0.N) [h0 : Fact (atFirst (grid0.coords t))] [h1 : Fact (atStart (grid0.coords t))]
    (hin : ∀ a, (k0_off1 (grid0.coords t) 8192#32) a + S1x4096x512.size a ≤ S2x4096x16384.size a) :
    (wM.slice (Rect.unit (s := S2x4096x16384) (k0_off1 (grid0.coords t) 8192#32) S1x4096x512.size hin) (fun _ => rfl)).squeeze S4096x512 squeezes_S1x4096x512_S4096x512 = srcU (tl t.val) :=
  congrArg (fun M : Memref sig .tc .hbm S1x4096x512 .f32 => M.squeeze S4096x512 squeezes_S1x4096x512_S4096x512) (Memref.slice_unit_congr _ (off1U t h0.out h1.out) _ _ (fun _ => rfl) (fun _ => rfl))
@[sl_canon] theorem name2G (t : Fin grid0.N) [h0 : Fact (atFirst (grid0.coords t))]
    (hin : ∀ a, (k0_off2 (grid0.coords t) 0#32) a + S1x4096x512.size a ≤ S2x4096x16384.size a) :
    (wM.slice (Rect.unit (s := S2x4096x16384) (k0_off2 (grid0.coords t) 0#32) S1x4096x512.size hin) (fun _ => rfl)).squeeze S4096x512 squeezes_S1x4096x512_S4096x512 = srcG (tl t.val) :=
  congrArg (fun M : Memref sig .tc .hbm S1x4096x512 .f32 => M.squeeze S4096x512 squeezes_S1x4096x512_S4096x512) (Memref.slice_unit_congr _ (off2G t h0.out) _ _ (fun _ => rfl) (fun _ => rfl))
@[sl_canon] theorem name2U (t : Fin grid0.N) [h0 : Fact (atFirst (grid0.coords t))]
    (hin : ∀ a, (k0_off2 (grid0.coords t) 8192#32) a + S1x4096x512.size a ≤ S2x4096x16384.size a) :
    (wM.slice (Rect.unit (s := S2x4096x16384) (k0_off2 (grid0.coords t) 8192#32) S1x4096x512.size hin) (fun _ => rfl)).squeeze S4096x512 squeezes_S1x4096x512_S4096x512 = srcU (tl t.val) :=
  congrArg (fun M : Memref sig .tc .hbm S1x4096x512 .f32 => M.squeeze S4096x512 squeezes_S1x4096x512_S4096x512) (Memref.slice_unit_congr _ (off2U t h0.out) _ _ (fun _ => rfl) (fun _ => rfl))
@[sl_canon] theorem name3G (t : Fin grid0.N) [h0 : Fact (atFirst (grid0.coords t))] [h1 : Fact (hasNext (grid0.coords t))]
    (hin : ∀ a, (k0_off3 (grid0.coords t) 0#32) a + S1x4096x512.size a ≤ S2x4096x16384.size a) :
    (wM.slice (Rect.unit (s := S2x4096x16384) (k0_off3 (grid0.coords t) 0#32) S1x4096x512.size hin) (fun _ => rfl)).squeeze S4096x512 squeezes_S1x4096x512_S4096x512 = srcG (tl (t.val + 8)) :=
  congrArg (fun M : Memref sig .tc .hbm S1x4096x512 .f32 => M.squeeze S4096x512 squeezes_S1x4096x512_S4096x512) (Memref.slice_unit_congr _ (off3G t h0.out h1.out) _ _ (fun _ => rfl) (fun _ => rfl))
@[sl_canon] theorem name3U (t : Fin grid0.N) [h0 : Fact (atFirst (grid0.coords t))] [h1 : Fact (hasNext (grid0.coords t))]
    (hin : ∀ a, (k0_off3 (grid0.coords t) 8192#32) a + S1x4096x512.size a ≤ S2x4096x16384.size a) :
    (wM.slice (Rect.unit (s := S2x4096x16384) (k0_off3 (grid0.coords t) 8192#32) S1x4096x512.size hin) (fun _ => rfl)).squeeze S4096x512 squeezes_S1x4096x512_S4096x512 = srcU (tl (t.val + 8)) :=
  congrArg (fun M : Memref sig .tc .hbm S1x4096x512 .f32 => M.squeeze S4096x512 squeezes_S1x4096x512_S4096x512) (Memref.slice_unit_congr _ (off3U t h0.out h1.out) _ _ (fun _ => rfl) (fun _ => rfl))
/-- A slot as the transfers spell it. -/
@[sl_canon] theorem nameSlotG :
    (stageM.slice (Rect.unit (s := S2x4096x512) ![0, 0, 0] S1x4096x512.size inb_S2x4096x512_S1x4096x512_0_0_0) (fun _ => rfl)).squeeze S4096x512 squeezes_S1x4096x512_S4096x512 = slotG :=
  congrArg (fun M : Memref sig .tc .vmem S1x4096x512 .f32 => M.squeeze S4096x512 squeezes_S1x4096x512_S4096x512) (Memref.slice_unit_congr _ rfl _ _ (fun _ => rfl) (fun _ => rfl))
/-- A slot as the transfers spell it. -/
@[sl_canon] theorem nameSlotU :
    (stageM.slice (Rect.unit (s := S2x4096x512) ![1, 0, 0] S1x4096x512.size inb_S2x4096x512_S1x4096x512_1_0_0) (fun _ => rfl)).squeeze S4096x512 squeezes_S1x4096x512_S4096x512 = slotU :=
  congrArg (fun M : Memref sig .tc .vmem S1x4096x512 .f32 => M.squeeze S4096x512 squeezes_S1x4096x512_S4096x512) (Memref.slice_unit_congr _ rfl _ _ (fun _ => rfl) (fun _ => rfl))
end Names

end Cert.Ffn

end
-- ==== Proof.Ffn.Runs.lean ====
/- One grid point of the feed-forward kernel, run, at each of the four kinds of point. -/
module

public import proofs.«01_k».proof.Proof.Ffn.Parts

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- At the first point: the first tile's two transfers are started, waited for and rounded, the next tile's are started,
    and the output block is stored. The pieces are what is stored to the output block and to the rounded tiles. -/
def runA (c : Dev nD) (t : Fin cfg0.N) (arg2 : Memref sig .tc .vmem S1024x4096 .bf16) (harg2 : arg2.IsWhole) (arg4 : Memref sig .tc .vmem S1024x512 .bf16) (harg4 : arg4.IsWhole)
    (h0 : atFirst (grid0.coords t)) (h1 : atStart (grid0.coords t)) (h2 : hasNext (grid0.coords t))
    (x0 : Vec F S1024x4096 .bf16) (W : BufOf (F := F) c wM) :
    { L : (List (View.Piece (Elt F) S1024x512 .bf16)) × List (View.Piece (Elt F) S2x4096x512 .bf16) //
      ∀ (Ws : Waits sig Unit) (K : PUnit → sProp 𝕄),
        iprop(owns (c : Thread nD τ) arg2 fullShare x0 ∗ (∃ d, owns (c : Thread nD τ) arg4 fullShare d) ∗ (∃ d, owns (c : Thread nD τ) castM fullShare d)
            ∗ (∃ f, heldG (F := F) c f) ∗ (∃ f, heldU (F := F) c f) ∗ semVal ((c : Thread nD τ), semG) 0 ∗ semVal ((c : Thread nD τ), semU) 0 ∗ colsG c W (tl t.val) ∗ colsU c W (tl t.val) ∗ colsG c W (tl (t.val + 8)) ∗ colsU c W (tl (t.val + 8)) ∗ owes (c : Thread nD τ) 0 Ws
            ∗ (iprop(owns (c : Thread nD τ) arg2 fullShare x0 ∗ (∃ f, arg4.view.loc (c : Thread nD τ) ↦[arg4.view.set]{fullShare} arg4.view.writes (Elt F) f L.1)
                ∗ (∃ f, castM.view.loc (c : Thread nD τ) ↦[castM.view.set]{fullShare} castM.view.writes (Elt F) f L.2)
                ∗ (∃ f, flyG c W (tl (t.val + 8)) f) ∗ (∃ f, flyU c W (tl (t.val + 8)) f) ∗ colsG c W (tl t.val) ∗ colsU c W (tl t.val) ∗ (∃ W', owes (c : Thread nD τ) 0 W')) -∗ K ⟨⟩))
          ⊢ wp frame (wpE (defs₀ (F := F)) Variants.none c none) Set.univ (cc0__ws_body (grid0.coords t) arg2 harg2 wM (Memref.isWhole_whole _) arg4 harg4 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (atStart (grid0.coords t)) := ⟨h1⟩
    haveI : Fact (hasNext (grid0.coords t)) := ⟨h2⟩
    simp only [cc0__ws_body_eq_skeleton]; unfold cc0__ws_body_skel
    unfold owns
    iintro ⟨⟨%f0, %hf0, H0⟩, ⟨%d1, %f1, -, H1⟩, ⟨%d2, %f2, -, HC⟩, ⟨%fg, HG⟩, ⟨%fu, HU⟩, HsG, HsU, HcG, HcU, HnG, HnU, HW, Hk⟩
    obtain rfl := harg2.eq_unread hf0
    sl_exec (disch := first | sl_exact h0 | sl_exact h1 | sl_exact h2)
    sl_step
    iapply Hk
    isplitl [H0]
    · iexists _; isplitr; · ipureintro; exact harg2.read_unread _
      iexact H0
    isplitl [H1]; · iexists _; iexact H1
    isplitl [HC]; · iexists _; iexact HC
    isplitl [HsG]; · iexists _; iexact HsG
    isplitl [HsU]; · iexists _; iexact HsU
    isplitl [HcG]; · iexact HcG
    isplitl [HcU]; · iexact HcU
    iexists _; iexact HW

set_option maxHeartbeats 1000000 in
/-- The first row block of a column tile neither first nor last: the tile's two transfers are waited for and rounded, the
    next tile's are started, and the output block is stored. -/
def runB (c : Dev nD) (t : Fin cfg0.N) (arg2 : Memref sig .tc .vmem S1024x4096 .bf16) (harg2 : arg2.IsWhole) (arg4 : Memref sig .tc .vmem S1024x512 .bf16) (harg4 : arg4.IsWhole)
    (h0 : atFirst (grid0.coords t)) (h1 : ¬atStart (grid0.coords t)) (h2 : hasNext (grid0.coords t))
    (x0 : Vec F S1024x4096 .bf16) (W : BufOf (F := F) c wM) :
    { L : (List (View.Piece (Elt F) S1024x512 .bf16)) × List (View.Piece (Elt F) S2x4096x512 .bf16) //
      ∀ (Ws : Waits sig Unit) (K : PUnit → sProp 𝕄),
        iprop(owns (c : Thread nD τ) arg2 fullShare x0 ∗ (∃ d, owns (c : Thread nD τ) arg4 fullShare d) ∗ (∃ d, owns (c : Thread nD τ) castM fullShare d)
            ∗ (∃ f, flyG c W (tl t.val) f) ∗ (∃ f, flyU c W (tl t.val) f) ∗ colsG c W (tl (t.val + 8)) ∗ colsU c W (tl (t.val + 8)) ∗ owes (c : Thread nD τ) 0 Ws
            ∗ (iprop(owns (c : Thread nD τ) arg2 fullShare x0 ∗ (∃ f, arg4.view.loc (c : Thread nD τ) ↦[arg4.view.set]{fullShare} arg4.view.writes (Elt F) f L.1)
                ∗ (∃ f, castM.view.loc (c : Thread nD τ) ↦[castM.view.set]{fullShare} castM.view.writes (Elt F) f L.2)
                ∗ (∃ f, flyG c W (tl (t.val + 8)) f) ∗ (∃ f, flyU c W (tl (t.val + 8)) f) ∗ colsG c W (tl t.val) ∗ colsU c W (tl t.val) ∗ (∃ W', owes (c : Thread nD τ) 0 W')) -∗ K ⟨⟩))
          ⊢ wp frame (wpE (defs₀ (F := F)) Variants.none c none) Set.univ (cc0__ws_body (grid0.coords t) arg2 harg2 wM (Memref.isWhole_whole _) arg4 harg4 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (¬atStart (grid0.coords t)) := ⟨h1⟩
    haveI : Fact (hasNext (grid0.coords t)) := ⟨h2⟩
    simp only [cc0__ws_body_eq_skeleton]; unfold cc0__ws_body_skel
    unfold owns
    iintro ⟨⟨%f0, %hf0, H0⟩, ⟨%d1, %f1, -, H1⟩, ⟨%d2, %f2, -, HC⟩, ⟨%fg, HG⟩, ⟨%fu, HU⟩, HcG, HcU, HW, Hk⟩
    obtain rfl := harg2.eq_unread hf0
    sl_exec (disch := first | sl_exact h0 | sl_exact h1 | sl_exact h2)
    sl_step
    iapply Hk
    isplitl [H0]
    · iexists _; isplitr; · ipureintro; exact harg2.read_unread _
      iexact H0
    isplitl [H1]; · iexists _; iexact H1
    isplitl [HC]; · iexists _; iexact HC
    isplitl [HG]; · iexists _; iexact HG
    isplitl [HU]; · iexists _; iexact HU
    isplitl [HG_src]; · iexact HG_src
    isplitl [HU_src]; · iexact HU_src
    iexists _; iexact HW

set_option maxHeartbeats 1000000 in
/-- The first row block of the last column tile: its two transfers are waited for and rounded, and the output block is
    stored. -/
def runC (c : Dev nD) (t : Fin cfg0.N) (arg2 : Memref sig .tc .vmem S1024x4096 .bf16) (harg2 : arg2.IsWhole) (arg4 : Memref sig .tc .vmem S1024x512 .bf16) (harg4 : arg4.IsWhole)
    (h0 : atFirst (grid0.coords t)) (h1 : ¬atStart (grid0.coords t)) (h2 : ¬hasNext (grid0.coords t))
    (x0 : Vec F S1024x4096 .bf16) (W : BufOf (F := F) c wM) :
    { L : (List (View.Piece (Elt F) S1024x512 .bf16)) × List (View.Piece (Elt F) S2x4096x512 .bf16) //
      ∀ (Ws : Waits sig Unit) (K : PUnit → sProp 𝕄),
        iprop(owns (c : Thread nD τ) arg2 fullShare x0 ∗ (∃ d, owns (c : Thread nD τ) arg4 fullShare d) ∗ (∃ d, owns (c : Thread nD τ) castM fullShare d)
            ∗ (∃ f, flyG c W (tl t.val) f) ∗ (∃ f, flyU c W (tl t.val) f) ∗ owes (c : Thread nD τ) 0 Ws
            ∗ (iprop(owns (c : Thread nD τ) arg2 fullShare x0 ∗ (∃ f, arg4.view.loc (c : Thread nD τ) ↦[arg4.view.set]{fullShare} arg4.view.writes (Elt F) f L.1)
                ∗ (∃ f, castM.view.loc (c : Thread nD τ) ↦[castM.view.set]{fullShare} castM.view.writes (Elt F) f L.2)
                ∗ (∃ f, heldG (F := F) c f) ∗ (∃ f, heldU (F := F) c f) ∗ semVal ((c : Thread nD τ), semG) 0 ∗ semVal ((c : Thread nD τ), semU) 0 ∗ colsG c W (tl t.val) ∗ colsU c W (tl t.val) ∗ (∃ W', owes (c : Thread nD τ) 0 W')) -∗ K ⟨⟩))
          ⊢ wp frame (wpE (defs₀ (F := F)) Variants.none c none) Set.univ (cc0__ws_body (grid0.coords t) arg2 harg2 wM (Memref.isWhole_whole _) arg4 harg4 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (¬atStart (grid0.coords t)) := ⟨h1⟩
    haveI : Fact (¬hasNext (grid0.coords t)) := ⟨h2⟩
    simp only [cc0__ws_body_eq_skeleton]; unfold cc0__ws_body_skel
    unfold owns
    iintro ⟨⟨%f0, %hf0, H0⟩, ⟨%d1, %f1, -, H1⟩, ⟨%d2, %f2, -, HC⟩, ⟨%fg, HG⟩, ⟨%fu, HU⟩, HW, Hk⟩
    obtain rfl := harg2.eq_unread hf0
    sl_exec (disch := first | sl_exact h0 | sl_exact h1 | sl_exact h2)
    sl_step
    iapply Hk
    isplitl [H0]
    · iexists _; isplitr; · ipureintro; exact harg2.read_unread _
      iexact H0
    isplitl [H1]; · iexists _; iexact H1
    isplitl [HC]; · iexists _; iexact HC
    isplitl [HG_dst]; · iexists _; iexact HG_dst
    isplitl [HU_dst]; · iexists _; iexact HU_dst
    isplitl [HG]; · iexact HG
    isplitl [HU]; · iexact HU
    isplitl [HG_src]; · iexact HG_src
    isplitl [HU_src]; · iexact HU_src
    iexists _; iexact HW

set_option maxHeartbeats 1000000 in
/-- Any other row block: the output block is stored, from the tiles already rounded. -/
def runD (c : Dev nD) (t : Fin cfg0.N) (arg2 : Memref sig .tc .vmem S1024x4096 .bf16) (harg2 : arg2.IsWhole) (arg4 : Memref sig .tc .vmem S1024x512 .bf16) (harg4 : arg4.IsWhole)
    (h0 : ¬atFirst (grid0.coords t))
    (x0 : Vec F S1024x4096 .bf16) (x1 : Vec F S2x4096x512 .bf16) :
    { L : List (View.Piece (Elt F) S1024x512 .bf16) //
      ∀ (Ws : Waits sig Unit) (K : PUnit → sProp 𝕄),
        iprop(owns (c : Thread nD τ) arg2 fullShare x0 ∗ (∃ d, owns (c : Thread nD τ) arg4 fullShare d) ∗ owns (c : Thread nD τ) castM fullShare x1
            ∗ owes (c : Thread nD τ) 0 Ws
            ∗ (iprop(owns (c : Thread nD τ) arg2 fullShare x0 ∗ (∃ f, arg4.view.loc (c : Thread nD τ) ↦[arg4.view.set]{fullShare} arg4.view.writes (Elt F) f L)
                ∗ owns (c : Thread nD τ) castM fullShare x1
                ∗ (∃ W', owes (c : Thread nD τ) 0 W')) -∗ K ⟨⟩))
          ⊢ wp frame (wpE (defs₀ (F := F)) Variants.none c none) Set.univ (cc0__ws_body (grid0.coords t) arg2 harg2 wM (Memref.isWhole_whole _) arg4 harg4 stageM (Memref.isWhole_whole _) castM (Memref.isWhole_whole _) cc0_scratch2) K } := by
  refine ⟨?_, fun Ws K => ?run⟩
  case run =>
    haveI : Fact (¬atFirst (grid0.coords t)) := ⟨h0⟩
    simp only [cc0__ws_body_eq_skeleton]; unfold cc0__ws_body_skel
    unfold owns
    iintro ⟨⟨%f0, %hf0, H0⟩, ⟨%d1, %f1, -, H1⟩, ⟨%f2, %hf2, HC⟩, HW, Hk⟩
    obtain rfl := harg2.eq_unread hf0
    obtain rfl := (Memref.isWhole_whole cc0_scratch1).eq_unread hf2
    sl_exec (disch := first | sl_exact h0)
    sl_step
    iapply Hk
    isplitl [H0]
    · iexists _; isplitr; · ipureintro; exact harg2.read_unread _
      iexact H0
    isplitl [H1]; · iexists _; iexact H1
    isplitl [HC]
    · iexists _; isplitr; · ipureintro; exact (Memref.isWhole_whole cc0_scratch1).read_unread _
      iexact HC
    iexists _; iexact HW

end Cert.Ffn

end
-- ==== Proof.Ffn.Vals.lean ====
/- What each point of the feed-forward kernel leaves: the rounded tiles, and the output block. -/
module

public import proofs.«01_k».proof.Proof.Ffn.Runs
public import Idealize.ShloMosaic.Lib.VecWindow

@[expose] public section

set_option maxRecDepth 16384

noncomputable section

namespace Cert.Ffn

open Cert.Kernel2Ideal Cert.Kernel2Ideal.Gen
open Idealize.ShloMosaic Idealize.ShloMosaic.TcCoe

variable {F : FTy → Type} [FloatOps F]

/-- The two slabs of a pair of tiles. -/
abbrev slabR0 : Rect S2x4096x512 := Rect.unit (s := S2x4096x512) ![0, 0, 0] S1x4096x512.size inb_S2x4096x512_S1x4096x512_0_0_0
abbrev slabR1 : Rect S2x4096x512 := Rect.unit (s := S2x4096x512) ![1, 0, 0] S1x4096x512.size inb_S2x4096x512_S1x4096x512_1_0_0

/-- Tile `b`'s gate columns and up columns as loaded from the slots they land in. -/
def loadG (c : Dev nD) (W : BufOf (F := F) c wM) (b : Fin 16) : Vec F S1x4096x512 .f32 :=
  stageM.view.readAt (Elt F) slabR0.toLoadRect (landG c W b slotG.view.junk)
def loadU (c : Dev nD) (W : BufOf (F := F) c wM) (b : Fin 16) : Vec F S1x4096x512 .f32 :=
  stageM.view.readAt (Elt F) slabR1.toLoadRect (landU c W b slotU.view.junk)

/-- The two rounded tiles as they are stored. -/
def tilesL (c : Dev nD) (W : BufOf (F := F) c wM) (b : Fin 16) : List (View.Piece (Elt F) S2x4096x512 .bf16) :=
  [⟨slabR1, k0_pay1 (k0_pay4 (loadU c W b))⟩, ⟨slabR0, k0_pay3 (loadG c W b)⟩]

/-- The rounded tiles. -/
def castT (c : Dev nD) (W : BufOf (F := F) c wM) (b : Fin 16) : Vec F S2x4096x512 .bf16 :=
  castM.view.read (Elt F) (castM.view.writes (Elt F) castM.view.junk (tilesL c W b))

/-- The output block computed of the rows `x` and the rounded tiles `X`. -/
def oblk (x : Vec F S1024x4096 .bf16) (X : Vec F S2x4096x512 .bf16) : Vec F S1024x512 .bf16 :=
  k0_pay2 x (fun y => X (slabR0.toLoadRect.idx y)) x (fun y => X (slabR1.toLoadRect.idx y))

theorem tiles_cover (c : Dev nD) (W : BufOf (F := F) c wM) (b : Fin 16) (y : S2x4096x512.Idx) :
    ∃ pc ∈ tilesL c W b, y ∈ pc.1.set :=
  View.cover_of_tiledL (tilesL c W b) S1x4096x512.size (by rfl) y

/-- The rounded tiles read back, whatever they were stored over. -/
theorem read_tiles (c : Dev nD) (W : BufOf (F := F) c wM) (b : Fin 16) (f) :
    castM.view.read (Elt F) (castM.view.writes (Elt F) f (tilesL c W b)) = castT c W b :=
  View.read_writes_of_cover _ _ _ _ _ (tiles_cover c W b)

/-- The output block's piece. -/
abbrev outP (x : Vec F S1024x4096 .bf16) (X : Vec F S2x4096x512 .bf16) : View.Piece (Elt F) S1024x512 .bf16 :=
  ⟨Rect.unit (s := S1024x512) ![0, 0] S1024x512.size inb_S1024x512_S1024x512_0_0, oblk x X⟩

section Pieces
variable (c : Dev nD) (t : Fin cfg0.N) (arg2 : Memref sig .tc .vmem S1024x4096 .bf16) (harg2 : arg2.IsWhole)
  (arg4 : Memref sig .tc .vmem S1024x512 .bf16) (harg4 : arg4.IsWhole) (x0 : Vec F S1024x4096 .bf16) (W : BufOf (F := F) c wM)

/-- The rows loaded whole are the rows. -/
theorem rows_eq : arg2.view.readAt (Elt F) (Rect.unit (s := S1024x4096) ![0, 0] S1024x4096.size inb_S1024x4096_S1024x4096_0_0).toLoadRect (harg2.unread x0) = x0 := by
  rw [View.readAt_full]; exact harg2.read_unread x0

theorem piecesA1 (h0 h1 h2) : (runA c t arg2 harg2 arg4 harg4 h0 h1 h2 x0 W).1.1 = [outP x0 (castT c W (tl t.val))] :=
  congrArg (fun x => [outP x (castT c W (tl t.val))]) (rows_eq arg2 harg2 x0)
theorem piecesA2 (h0 h1 h2) : (runA c t arg2 harg2 arg4 harg4 h0 h1 h2 x0 W).1.2 = tilesL c W (tl t.val) := rfl
theorem piecesB1 (h0 h1 h2) : (runB c t arg2 harg2 arg4 harg4 h0 h1 h2 x0 W).1.1 = [outP x0 (castT c W (tl t.val))] :=
  congrArg (fun x => [outP x (castT c W (tl t.val))]) (rows_eq arg2 harg2 x0)
theorem piecesB2 (h0 h1 h2) : (runB c t arg2 harg2 arg4 harg4 h0 h1 h2 x0 W).1.2 = tilesL c W (tl t.val) := rfl
theorem piecesC1 (h0 h1 h2) : (runC c t arg2 harg2 arg4 harg4 h0 h1 h2 x0 W).1.1 = [outP x0 (castT c W (tl t.val))] :=
  congrArg (fun x => [outP x (castT c W (tl t.val))]) (rows_eq arg2 harg2 x0)
theorem piecesC2 (h0 h1 h2) : (runC c t arg2 harg2 arg4 harg4 h0 h1 h2 x0 W).1.2 = tilesL c W (tl t.val) := rfl
theorem piecesD (h0) (x1 : Vec F S2x4096x512 .bf16) : (runD c t arg2 harg2 arg4 harg4 h0 x0 x1).1 = [outP x0 x1] := by
  have e := (Memref.isWhole_whole cc0_scratch1).read_unread (Val := Elt F) x1
  refine (congrArg (fun x => [outP x (castM.view.read (Elt F) ((Memref.isWhole_whole cc0_scratch1).unread x1))]) (rows_eq arg2 harg2 x0)).trans ?_
  exact congrArg (fun X => [outP x0 X]) e
end Pieces

/-- The output block read back, whatever it was stored over. -/
theorem read_out (v : View sig .tc .vmem S1024x512 .bf16) (f) (x : Vec F S1024x4096 .bf16) (X : Vec F S2x4096x512 .bf16) :
    v.read (Elt F) (v.writes (Elt F) f [outP x X]) = oblk x X := View.read_writes_full v f _ _ _

end Cert.Ffn
end
-- ==== Proof.Ffn.Held.lean ====
/- How what the feed-forward kernel holds is split and joined between its points. -/
module

public import proofs.«01_k».proof.Proof.Ffn.Vals

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The weight columns -/

/-- The gate columns and the up columns of tile `b`, as indices of the weights. -/
def gset (b : Fin 16) : Finset S2x4096x16384.Idx := (Rect.unit (s := S2x4096x16384) ![0, 0, 512 * b.val] S1x4096x512.size (inb_G b)).set
def uset (b : Fin 16) : Finset S2x4096x16384.Idx := (Rect.unit (s := S2x4096x16384) ![0, 0, 8192 + 512 * b.val] S1x4096x512.size (inb_U b)).set
theorem setG (b : Fin 16) : (srcG b).view.set = gset b := by
  simp only [srcG, Memref.view_squeeze, View.set_reshape]; exact View.set_slice_whole _ _
theorem setU (b : Fin 16) : (srcU b).view.set = uset b := by
  simp only [srcU, Memref.view_squeeze, View.set_reshape]; exact View.set_slice_whole _ _

theorem disjG {b b' : Fin 16} (h : b ≠ b') : Disjoint (gset b) (gset b') := by
  refine Finset.disjoint_left.mpr fun i hi hi' => h (Fin.ext ?_)
  have h1 : 512 * b.val ≤ (i 2).val ∧ (i 2).val < 512 * b.val + 512 := (Rect.mem_set_unit.mp hi) 2
  have h2 : 512 * b'.val ≤ (i 2).val ∧ (i 2).val < 512 * b'.val + 512 := (Rect.mem_set_unit.mp hi') 2
  omega
theorem disjU {b b' : Fin 16} (h : b ≠ b') : Disjoint (uset b) (uset b') := by
  refine Finset.disjoint_left.mpr fun i hi hi' => h (Fin.ext ?_)
  have h1 : 8192 + 512 * b.val ≤ (i 2).val ∧ (i 2).val < 8192 + 512 * b.val + 512 := (Rect.mem_set_unit.mp hi) 2
  have h2 : 8192 + 512 * b'.val ≤ (i 2).val ∧ (i 2).val < 8192 + 512 * b'.val + 512 := (Rect.mem_set_unit.mp hi') 2
  omega

section Cols
variable (c : Dev nD) (W : BufOf (F := F) c wM)

/-- Half a share of the weights, but for the elements `A`. -/
def lessG (A : Finset S2x4096x16384.Idx) : sProp 𝕄 := ((c : Thread nD τ).loc main_arg1) ↦[Finset.univ \ A]{fullShare.left} W
def lessU (A : Finset S2x4096x16384.Idx) : sProp 𝕄 := ((c : Thread nD τ).loc main_arg1) ↦[Finset.univ \ A]{fullShare.right} W

theorem whole_cut : (((c : Thread nD τ).loc main_arg1) ↦{fullShare} W : sProp 𝕄) ⊣⊢ iprop(lessG c W ∅ ∗ lessU c W ∅) := by
  unfold lessG lessU
  rw [Finset.sdiff_empty]
  exact pointsTo_share (PosShare.mem_left_op_right fullShare)

/-- A tile's columns taken out of what is left of the half. -/
theorem colsG_eq (b : Fin 16) : colsG c W b = (((c : Thread nD τ).loc main_arg1) ↦[gset b]{fullShare.left} W : sProp 𝕄) := by
  unfold colsG; rw [setG]; rfl
theorem takeG (A : Finset S2x4096x16384.Idx) (b : Fin 16) (h : Disjoint (gset b) A) :
    lessG (F := F) c W A ⊣⊢ iprop(colsG c W b ∗ lessG c W (A ∪ gset b)) := by
  rw [colsG_eq]
  unfold lessG
  rw [show Finset.univ \ (A ∪ gset b) = (Finset.univ \ A) \ gset b from sdiff_sdiff_left.symm]
  exact pointsTo_split_subset (fun x hx => Finset.mem_sdiff.mpr ⟨Finset.mem_univ _, Finset.disjoint_left.mp h hx⟩)
theorem colsU_eq (b : Fin 16) : colsU c W b = (((c : Thread nD τ).loc main_arg1) ↦[uset b]{fullShare.right} W : sProp 𝕄) := by
  unfold colsU; rw [setU]; rfl
theorem takeU (A : Finset S2x4096x16384.Idx) (b : Fin 16) (h : Disjoint (uset b) A) :
    lessU (F := F) c W A ⊣⊢ iprop(colsU c W b ∗ lessU c W (A ∪ uset b)) := by
  rw [colsU_eq]
  unfold lessU
  rw [show Finset.univ \ (A ∪ uset b) = (Finset.univ \ A) \ uset b from sdiff_sdiff_left.symm]
  exact pointsTo_split_subset (fun x hx => Finset.mem_sdiff.mpr ⟨Finset.mem_univ _, Finset.disjoint_left.mp h hx⟩)
end Cols

/-! ## The slots -/

theorem inb_slot (s : Fin 2) : ∀ a, (![s.val, 0, 0] : Fin 3 → Nat) a + S1x4096x512.size a ≤ S2x4096x512.size a := by
  have := s.isLt; intro a; fin_cases a <;> simp <;> omega
abbrev slotSet (s : Fin 2) : Finset S2x4096x512.Idx := (Rect.unit (s := S2x4096x512) ![s.val, 0, 0] S1x4096x512.size (inb_slot s)).set
theorem setSlotG : slotG.view.set = slotSet 0 := by
  simp only [slotG, Memref.view_squeeze, View.set_reshape]; exact View.set_slice_whole _ _
theorem setSlotU : slotU.view.set = slotSet 1 := by
  simp only [slotU, Memref.view_squeeze, View.set_reshape]; exact View.set_slice_whole _ _
theorem slots_disjoint (s s' : Fin 2) (h : s ≠ s') : Disjoint (slotSet s) (slotSet s') :=
  Ring.lead_disjoint (s := S2x4096x512) (0 : Fin 3) 1 (fun s : Fin 2 => (![s.val, 0, 0] : Fin 3 → Nat)) S1x4096x512.size inb_slot (fun s => by simp) rfl s s' h
theorem slots_cover : Finset.univ.biUnion slotSet = Finset.univ :=
  Ring.lead_cover (s := S2x4096x512) (0 : Fin 3) 1 (fun s : Fin 2 => (![s.val, 0, 0] : Fin 3 → Nat)) S1x4096x512.size inb_slot (fun s => by simp)
    (fun s a ha => by fin_cases a <;> first | exact absurd rfl ha | rfl) rfl (fun a ha => by fin_cases a <;> first | exact absurd rfl ha | rfl) rfl

section Slots
variable (c : Dev nD)
theorem heldG_eq (f) : heldG (F := F) c f = (((c : Thread nD τ).loc cc0_scratch0) ↦[slotSet 0]{fullShare} f : sProp 𝕄) := by
  unfold heldG; rw [setSlotG]; rfl
theorem heldU_eq (f) : heldU (F := F) c f = (((c : Thread nD τ).loc cc0_scratch0) ↦[slotSet 1]{fullShare} f : sProp 𝕄) := by
  unfold heldU; rw [setSlotU]; rfl
theorem slots_in : iprop(∃ f : Buf (Elt F) ((c : Thread nD τ).loc cc0_scratch0), ((c : Thread nD τ).loc cc0_scratch0) ↦{fullShare} f) ⊢ (iprop((∃ f, heldG (F := F) c f) ∗ ∃ f, heldU (F := F) c f) : sProp 𝕄) :=
  Ring.slots2_split (U := Pipeline.UD sig nD τ) (ℓ := (c : Thread nD τ).loc cc0_scratch0) (q := fullShare) slotSet slots_disjoint slots_cover
    (heldG c) (heldU c) (heldG_eq c) (heldU_eq c)
theorem slots_out : (iprop((∃ f, heldG (F := F) c f) ∗ ∃ f, heldU (F := F) c f) : sProp 𝕄) ⊢ iprop(∃ f : Buf (Elt F) ((c : Thread nD τ).loc cc0_scratch0), ((c : Thread nD τ).loc cc0_scratch0) ↦{fullShare} f) :=
  Ring.slots2_join (U := Pipeline.UD sig nD τ) (ℓ := (c : Thread nD τ).loc cc0_scratch0) (q := fullShare) slotSet slots_disjoint slots_cover
    (heldG c) (heldU c) (heldG_eq c) (heldU_eq c)
end Slots

/-! ## Between points -/

section Between
variable (c : Dev nD) (W : BufOf (F := F) c wM)

/-- Nothing in flight. -/
def idle : sProp 𝕄 :=
  iprop((∃ f, heldG (F := F) c f) ∗ (∃ f, heldU (F := F) c f) ∗ semVal ((c : Thread nD τ), semG) 0 ∗ semVal ((c : Thread nD τ), semU) 0 ∗ lessG c W ∅ ∗ lessU c W ∅)
/-- Tile `b` in flight. -/
def moving (b : Fin 16) : sProp 𝕄 :=
  iprop((∃ f, flyG c W b f) ∗ (∃ f, flyU c W b f) ∗ lessG c W (∅ ∪ gset b) ∗ lessU c W (∅ ∪ uset b))
/-- Before step `k`: the next column tile in flight, if there is one. -/
def ringAt (k : ℕ) : sProp 𝕄 := if k = 0 then idle c W else if k ≤ 120 then moving c W (tl (k + 7)) else idle c W
/-- Before step `k`: the column tile's rounded columns. -/
def castAt (k : ℕ) : sProp 𝕄 :=
  if k = 0 then iprop(∃ d, owns (c : Thread nD τ) castM fullShare d) else owns (c : Thread nD τ) castM fullShare (castT c W (tl (k - 1)))
/-- What is held before step `k`. -/
def stateAt (k : ℕ) : sProp 𝕄 := iprop(castAt c W k ∗ (∃ r, prngReg c r) ∗ ringAt c W k)

theorem castAt_some (k : ℕ) : castAt c W k ⊢ (iprop(∃ d, owns (c : Thread nD τ) castM fullShare d) : sProp 𝕄) := by
  unfold castAt
  split
  · exact .rfl
  · iintro H; iexists _; iexact H
end Between

end Cert.Ffn
end
-- ==== Proof.Ffn.Frame.lean ====
/- The feed-forward kernel's launch: what each point does, and what a run leaves. -/
module

public import proofs.«01_k».proof.Proof.Ffn.Held
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- Main up to the region is the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The rows' window holds its block at every point, fetched there or not. -/
theorem before_rows {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The kernel's own two counters. -/
abbrev osem0 : Fin 2 → SemLoc sig := fun j => (![SemLoc.dma 4, SemLoc.dma 5] : Fin 2 → SemLoc sig) j
theorem ownSemFacts0 : Pipeline.OwnSemFacts spec0 osem0 := by decide
theorem semG_eq : semG = SemLoc.dma 4 := by decide
theorem semU_eq : semU = SemLoc.dma 5 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), semG) 0 ∗ semVal ((c : Thread nD τ), semU) 0) := by
  rw [Pipeline.ownSems0_eq_of_list c osem0 [0, 1] (by decide) (by decide), semG_eq, semU_eq]; rfl
/-- The weights: read by the kernel's own transfers, staged by no window. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(((c : Thread nD τ).loc main_arg1) ↦{fullShare} V m c main_arg1) := by
  rw [BI.bigSep_eq_bigSepL_of_eq [main_arg1] (by decide) (by decide)]; rfl
/-- What the launch hands over, piece by piece. -/
theorem launch_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ d, owns (c : Thread nD τ) castM fullShare d)) ∗ (∃ r, prngReg c r)
          ∗ iprop(semVal ((c : Thread nD τ), semG) 0 ∗ semVal ((c : Thread nD τ), semU) 0) ∗ iprop(((c : Thread nD τ).loc main_arg1) ↦{fullShare} V m c main_arg1)) := by
  rw [Pipeline.ΦD_eq, scopedRest0_eq, ownSems00_eq, hbmPts0_eq]; simp only [owns_whole]; try rfl

/-! ## The proof data -/

/-- The windows' staging buffers at a point. -/
abbrev rowsM (t : Fin cfg0.N) : Memref sig .tc .vmem S1024x4096 .bf16 := win0_0.stage (cfg0.slots t 0)
abbrev rowsW (t : Fin cfg0.N) : (rowsM t).IsWhole := hstage0_0 ((cfg0.slots t 0).cast nbuf0_0)
abbrev outM (t : Fin cfg0.N) : Memref sig .tc .vmem S1024x512 .bf16 := win0_1.stage (cfg0.slots t 1)
abbrev outW (t : Fin cfg0.N) : (outM t).IsWhole := hstage0_1 ((cfg0.slots t 1).cast nbuf0_1)

/-- What point `t` leaves in the output's buffer. -/
def outAt (c : Dev nD) (t : Fin cfg0.N) : Vec F S1024x512 .bf16 := oblk (iblk m c 0 t) (castT c (V m c main_arg1) (tl t.val))

/-- The pipeline's proof data: the arrays as the region finds them, each window's buffer after a point, and what is held
    between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := stateAt c (V m c main_arg1) t.val
  q _ := fullShare
  owed _ := 0

theorem A_eq (c : Dev nD) (w : Fin cfg0.W) : (dats m 0 c).A w = V m c (Pipeline.arrRef spec0 w) := by
  dsimp only [dats]
theorem state_before (c : Dev nD) (t : Fin cfg0.N) : (dats m 0 c).Φ t.castSucc = stateAt c (V m c main_arg1) t.val := by
  dsimp only [dats]; simp only [Fin.val_castSucc]
theorem state_after (c : Dev nD) (t : Fin cfg0.N) : (dats m 0 c).Φ t.succ = stateAt c (V m c main_arg1) (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]
theorem before0_0 (c : Dev nD) (t : Fin cfg0.N) (d) : (dats m 0 c).before 0 t d = iblk m c 0 t :=
  before_rows m (dats m 0 c) (A_eq m c 0) (after0_0 m c) t d

/-! ## A point, as the pipeline asks for it -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (rowsM t) fullShare ((dats m 0 c).before 0 t d))
    ∗ (∃ d, owns (c : Thread nD τ) (outM t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (rowsM t) fullShare ((dats m 0 c).after 0 t)
    ∗ owns (c : Thread nD τ) (outM t) fullShare ((dats m 0 c).after 1 t))

/-- A column tile differs from the next one. -/
theorem tl_next (k : ℕ) : tl k ≠ tl (k + 8) := fun h => by
  have := congrArg Fin.val h
  simp only [tl] at this
  omega
theorem tl_same (k : ℕ) (h : k % 8 = 0) : tl (k + 7) = tl k := Fin.ext (by simp only [tl]; omega)
theorem tl_back (k : ℕ) (h : ¬k % 8 = 0) : tl (k - 1) = tl k := Fin.ext (by simp only [tl]; omega)
theorem tl_fwd (k : ℕ) (h : ¬k % 8 = 0) : tl (k + 7) = tl (k + 1 + 7) := Fin.ext (by simp only [tl]; omega)

section Moves
variable (c : Dev nD) (W : BufOf (F := F) c wM)

/-- What a point's run stored to the output's buffer is the output block there. -/
theorem own_out (M : Memref sig .tc .vmem S1024x512 .bf16) (x : Vec F S1024x4096 .bf16) (X : Vec F S2x4096x512 .bf16) (L) (hL : L = [outP x X]) :
    (iprop(∃ f, M.view.loc (c : Thread nD τ) ↦[M.view.set]{fullShare} M.view.writes (Elt F) f L) : sProp 𝕄)
      ⊢ owns (c : Thread nD τ) M fullShare (oblk x X) := by
  subst hL
  unfold owns
  iintro ⟨%f, H⟩
  iexists _; isplitr
  swap; · iexact H
  ipureintro; exact read_out _ _ _ _
/-- What it stored to the rounded tiles is the rounded tiles there. -/
theorem own_cast (b : Fin 16) (L) (hL : L = tilesL c W b) :
    (iprop(∃ f, castM.view.loc (c : Thread nD τ) ↦[castM.view.set]{fullShare} castM.view.writes (Elt F) f L) : sProp 𝕄)
      ⊢ owns (c : Thread nD τ) castM fullShare (castT c W b) := by
  subst hL
  unfold owns
  iintro ⟨%f, H⟩
  iexists _; isplitr
  swap; · iexact H
  ipureintro; exact read_tiles _ _ _ _

/-- Two tiles' columns taken out of the half, in either order. -/
theorem bothG (b b' : Fin 16) (h : b ≠ b') :
    lessG (F := F) c W (∅ ∪ gset b) ⊣⊢ iprop(colsG c W b' ∗ lessG c W (∅ ∪ gset b' ∪ gset b)) := by
  rw [show ∅ ∪ gset b' ∪ gset b = ∅ ∪ gset b ∪ gset b' from by rw [Finset.empty_union, Finset.empty_union, Finset.union_comm]]
  exact takeG c W (∅ ∪ gset b) b' (by rw [Finset.empty_union]; exact disjG h.symm)
theorem bothU (b b' : Fin 16) (h : b ≠ b') :
    lessU (F := F) c W (∅ ∪ uset b) ⊣⊢ iprop(colsU c W b' ∗ lessU c W (∅ ∪ uset b' ∪ uset b)) := by
  rw [show ∅ ∪ uset b' ∪ uset b = ∅ ∪ uset b ∪ uset b' from by rw [Finset.empty_union, Finset.empty_union, Finset.union_comm]]
  exact takeU c W (∅ ∪ uset b) b' (by rw [Finset.empty_union]; exact disjU h.symm)
theorem oneG (b : Fin 16) : lessG (F := F) c W ∅ ⊣⊢ iprop(colsG c W b ∗ lessG c W (∅ ∪ gset b)) := takeG c W ∅ b (Finset.disjoint_empty_right _)
theorem oneU (b : Fin 16) : lessU (F := F) c W ∅ ⊣⊢ iprop(colsU c W b ∗ lessU c W (∅ ∪ uset b)) := takeU c W ∅ b (Finset.disjoint_empty_right _)
theorem backG (b b' : Fin 16) (h : b ≠ b') :
    iprop(colsG c W b ∗ lessG (F := F) c W (∅ ∪ gset b' ∪ gset b)) ⊢ lessG c W (∅ ∪ gset b') :=
  (takeG c W (∅ ∪ gset b') b (by rw [Finset.empty_union]; exact disjG h)).2
theorem backU (b b' : Fin 16) (h : b ≠ b') :
    iprop(colsU c W b ∗ lessU (F := F) c W (∅ ∪ uset b' ∪ uset b)) ⊢ lessU c W (∅ ∪ uset b') :=
  (takeU c W (∅ ∪ uset b') b (by rw [Finset.empty_union]; exact disjU h)).2
end Moves

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1, state_before m c t, state_after m c t]
  unfold Dat.owesAt Pipeline.owesWithin
  rw [show (dats m 0 c).owed t.castSucc = 0 from rfl, show (dats m 0 c).owed t.succ = 0 from rfl]
  generalize hw : V m c main_arg1 = W
  have hN : t.val < 128 := lt_of_lt_of_eq t.isLt (show cfg0.N = 128 from N_0)
  have hout : outAt m c t = oblk (iblk m c 0 t) (castT c W (tl t.val)) := by rw [← hw]; rfl
  rw [hout]
  unfold stateAt
  have hne := tl_next t.val
  by_cases h0 : t.val % 8 = 0
  · have h0' := (atFirst_iff t).mpr h0
    have hcast : castAt (F := F) c W (t.val + 1) = owns (c : Thread nD τ) castM fullShare (castT c W (tl t.val)) := by
      unfold castAt; rw [if_neg (Nat.succ_ne_zero _), Nat.add_sub_cancel]
    rw [hcast]
    by_cases h1 : t.val < 8
    · have hz : t.val = 0 := by omega
      have h1' := (atStart_iff t).mpr h1
      have h2' := (hasNext_iff t).mpr (by omega)
      rw [show ringAt (F := F) c W t.val = idle c W from if_pos hz,
        show ringAt (F := F) c W (t.val + 1) = moving c W (tl (t.val + 8)) from by unfold ringAt; rw [if_neg (by omega), if_pos (by omega)]]
      unfold idle moving
      iintro ⟨⟨HC, Hg, ⟨HG, HU, HsG, HsU, HlG, HlU⟩⟩, ⟨%Ws, -, HW⟩, ⟨%d0, H0⟩, ⟨%d1, H1⟩⟩
      ihave HC := (castAt_some (F := F) c W t.val) $$ HC
      ihave HlG := (oneG (F := F) c W (tl (t.val + 8))).1 $$ HlG
      icases HlG with ⟨HnG, HlG⟩
      ihave HlG := (bothG (F := F) c W (tl (t.val + 8)) (tl t.val) hne.symm).1 $$ HlG
      icases HlG with ⟨HcG, HlG⟩
      ihave HlU := (oneU (F := F) c W (tl (t.val + 8))).1 $$ HlU
      icases HlU with ⟨HnU, HlU⟩
      ihave HlU := (bothU (F := F) c W (tl (t.val + 8)) (tl t.val) hne.symm).1 $$ HlU
      icases HlU with ⟨HcU, HlU⟩
      iapply ((runA c t _ (rowsW t) _ (outW t) h0' h1' h2' (iblk m c 0 t) W).2 Ws _)
      isplitl [H0]; · iexact H0
      isplitl [H1]; · iexists _; iexact H1
      isplitl [HC]; · iexact HC
      isplitl [HG]; · iexact HG
      isplitl [HU]; · iexact HU
      isplitl [HsG]; · iexact HsG
      isplitl [HsU]; · iexact HsU
      isplitl [HcG]; · iexact HcG
      isplitl [HcU]; · iexact HcU
      isplitl [HnG]; · iexact HnG
      isplitl [HnU]; · iexact HnU
      isplitl [HW]; · iexact HW
      iintro ⟨H0, H1, HC, HfG, HfU, HcG, HcU, ⟨%W', HW⟩⟩
      isplitl [HC Hg HfG HfU HcG HcU HlG HlU]
      · isplitl [HC]; · iapply (own_cast (F := F) c W (tl t.val) _ (piecesA2 c t _ (rowsW t) _ (outW t) _ W h0' h1' h2')); iexact HC
        isplitl [Hg]; · iexact Hg
        isplitl [HfG]; · iexact HfG
        isplitl [HfU]; · iexact HfU
        isplitl [HcG HlG]
        · iapply (bothG (F := F) c W (tl (t.val + 8)) (tl t.val) hne.symm).2
          isplitl [HcG]; · iexact HcG
          iexact HlG
        iapply (bothU (F := F) c W (tl (t.val + 8)) (tl t.val) hne.symm).2
        isplitl [HcU]; · iexact HcU
        iexact HlU
      isplitl [HW]
      · iexists W'; isplitr; · ipureintro; exact fun _ _ => Or.inl trivial
        iexact HW
      isplitl [H0]; · iexact H0
      iapply (own_out (F := F) c _ _ _ _ (piecesA1 c t _ (rowsW t) _ (outW t) _ W h0' h1' h2')); iexact H1
    · have h1' : ¬atStart (grid0.coords t) := fun h => h1 ((atStart_iff t).mp h)
      rw [show ringAt (F := F) c W t.val = moving c W (tl t.val) from by unfold ringAt; rw [if_neg (by omega), if_pos (by omega), tl_same _ h0]]
      by_cases h2 : t.val < 120
      · have h2' := (hasNext_iff t).mpr h2
        rw [show ringAt (F := F) c W (t.val + 1) = moving c W (tl (t.val + 8)) from by unfold ringAt; rw [if_neg (by omega), if_pos (by omega)]]
        unfold moving
        iintro ⟨⟨HC, Hg, ⟨HfG, HfU, HlG, HlU⟩⟩, ⟨%Ws, -, HW⟩, ⟨%d0, H0⟩, ⟨%d1, H1⟩⟩
        ihave HC := (castAt_some (F := F) c W t.val) $$ HC
        ihave HlG := (bothG (F := F) c W (tl t.val) (tl (t.val + 8)) hne).1 $$ HlG
        icases HlG with ⟨HnG, HlG⟩
        ihave HlU := (bothU (F := F) c W (tl t.val) (tl (t.val + 8)) hne).1 $$ HlU
        icases HlU with ⟨HnU, HlU⟩
        iapply ((runB c t _ (rowsW t) _ (outW t) h0' h1' h2' (iblk m c 0 t) W).2 Ws _)
        isplitl [H0]; · iexact H0
        isplitl [H1]; · iexists _; iexact H1
        isplitl [HC]; · iexact HC
        isplitl [HfG]; · iexact HfG
        isplitl [HfU]; · iexact HfU
        isplitl [HnG]; · iexact HnG
        isplitl [HnU]; · iexact HnU
        isplitl [HW]; · iexact HW
        iintro ⟨H0, H1, HC, HfG, HfU, HcG, HcU, ⟨%W', HW⟩⟩
        isplitl [HC Hg HfG HfU HcG HcU HlG HlU]
        · isplitl [HC]; · iapply (own_cast (F := F) c W (tl t.val) _ (piecesB2 c t _ (rowsW t) _ (outW t) _ W h0' h1' h2')); iexact HC
          isplitl [Hg]; · iexact Hg
          isplitl [HfG]; · iexact HfG
          isplitl [HfU]; · iexact HfU
          isplitl [HcG HlG]
          · iapply (backG (F := F) c W (tl t.val) (tl (t.val + 8)) hne)
            isplitl [HcG]; · iexact HcG
            iexact HlG
          iapply (backU (F := F) c W (tl t.val) (tl (t.val + 8)) hne)
          isplitl [HcU]; · iexact HcU
          iexact HlU
        isplitl [HW]
        · iexists W'; isplitr; · ipureintro; exact fun _ _ => Or.inl trivial
          iexact HW
        isplitl [H0]; · iexact H0
        iapply (own_out (F := F) c _ _ _ _ (piecesB1 c t _ (rowsW t) _ (outW t) _ W h0' h1' h2')); iexact H1
      · have h2' : ¬hasNext (grid0.coords t) := fun h => h2 ((hasNext_iff t).mp h)
        rw [show ringAt (F := F) c W (t.val + 1) = idle c W from by unfold ringAt; rw [if_neg (by omega), if_neg (by omega)]]
        unfold moving idle
        iintro ⟨⟨HC, Hg, ⟨HfG, HfU, HlG, HlU⟩⟩, ⟨%Ws, -, HW⟩, ⟨%d0, H0⟩, ⟨%d1, H1⟩⟩
        ihave HC := (castAt_some (F := F) c W t.val) $$ HC
        iapply ((runC c t _ (rowsW t) _ (outW t) h0' h1' h2' (iblk m c 0 t) W).2 Ws _)
        isplitl [H0]; · iexact H0
        isplitl [H1]; · iexists _; iexact H1
        isplitl [HC]; · iexact HC
        isplitl [HfG]; · iexact HfG
        isplitl [HfU]; · iexact HfU
        isplitl [HW]; · iexact HW
        iintro ⟨H0, H1, HC, HG, HU, HsG, HsU, HcG, HcU, ⟨%W', HW⟩⟩
        isplitl [HC Hg HG HU HsG HsU HcG HcU HlG HlU]
        · isplitl [HC]; · iapply (own_cast (F := F) c W (tl t.val) _ (piecesC2 c t _ (rowsW t) _ (outW t) _ W h0' h1' h2')); iexact HC
          isplitl [Hg]; · iexact Hg
          isplitl [HG]; · iexact HG
          isplitl [HU]; · iexact HU
          isplitl [HsG]; · iexact HsG
          isplitl [HsU]; · iexact HsU
          isplitl [HcG HlG]
          · iapply (oneG (F := F) c W (tl t.val)).2
            isplitl [HcG]; · iexact HcG
            iexact HlG
          iapply (oneU (F := F) c W (tl t.val)).2
          isplitl [HcU]; · iexact HcU
          iexact HlU
        isplitl [HW]
        · iexists W'; isplitr; · ipureintro; exact fun _ _ => Or.inl trivial
          iexact HW
        isplitl [H0]; · iexact H0
        iapply (own_out (F := F) c _ _ _ _ (piecesC1 c t _ (rowsW t) _ (outW t) _ W h0' h1' h2')); iexact H1
  · have h0' : ¬atFirst (grid0.coords t) := fun h => h0 ((atFirst_iff t).mp h)
    have hz : t.val ≠ 0 := fun h => h0 (by rw [h])
    have e1 : castAt (F := F) c W t.val = owns (c : Thread nD τ) castM fullShare (castT c W (tl t.val)) := by
      unfold castAt; rw [if_neg hz, tl_back _ h0]
    have e2 : castAt (F := F) c W (t.val + 1) = owns (c : Thread nD τ) castM fullShare (castT c W (tl t.val)) := by
      unfold castAt; rw [if_neg (Nat.succ_ne_zero _), Nat.add_sub_cancel]
    have e3 : ringAt (F := F) c W (t.val + 1) = ringAt c W t.val := by
      unfold ringAt
      rw [if_neg hz, if_neg (Nat.succ_ne_zero _), tl_fwd _ h0]
      by_cases h : t.val ≤ 120
      · rw [if_pos h, if_pos (by omega)]
      · rw [if_neg h, if_neg (by omega)]
    rw [e1, e2, e3]
    iintro ⟨⟨HC, Hg, Hr⟩, ⟨%Ws, -, HW⟩, ⟨%d0, H0⟩, ⟨%d1, H1⟩⟩
    iapply ((runD c t _ (rowsW t) _ (outW t) h0' (iblk m c 0 t) (castT c W (tl t.val))).2 Ws _)
    isplitl [H0]; · iexact H0
    isplitl [H1]; · iexists _; iexact H1
    isplitl [HC]; · iexact HC
    isplitl [HW]; · iexact HW
    iintro ⟨H0, H1, HC, ⟨%W', HW⟩⟩
    isplitl [HC Hg Hr]
    · isplitl [HC]; · iexact HC
      isplitl [Hg]; · iexact Hg
      iexact Hr
    isplitl [HW]
    · iexists W'; isplitr; · ipureintro; exact fun _ _ => Or.inl trivial
      iexact HW
    isplitl [H0]; · iexact H0
    iapply (own_out (F := F) c _ _ _ _ (piecesD c t _ (rowsW t) _ (outW t) _ h0' _)); iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over what is held before the first point, -/
theorem hin (c : Dev nD) : Pipeline.ΦD osem0 spec0 H0 (V m) c ⊢ (dats m 0 c).Φ 0 := by
  rw [launch_eq, show (dats m 0 c).Φ 0 = stateAt c (V m c main_arg1) 0 from rfl]
  unfold stateAt castAt ringAt idle
  rw [if_pos rfl, if_pos rfl]
  iintro ⟨⟨HS, HC⟩, Hg, ⟨HsG, HsU⟩, Hw⟩
  ihave HS := (slots_in (F := F) c) $$ HS
  icases HS with ⟨HG, HU⟩
  ihave Hw := (whole_cut (F := F) c (V m c main_arg1)).1 $$ Hw
  icases Hw with ⟨HlG, HlU⟩
  isplitl [HC]; · iexact HC
  isplitl [Hg]; · iexact Hg
  isplitl [HG]; · iexact HG
  isplitl [HU]; · iexact HU
  isplitl [HsG]; · iexact HsG
  isplitl [HsU]; · iexact HsU
  isplitl [HlG]; · iexact HlG
  iexact HlU
/-- and gets back what is held after the last. -/
theorem hout (c : Dev nD) : (dats m 0 c).Φ (Fin.last cfg0.N) ⊢ Pipeline.ΦD osem0 spec0 H0 (V m) c := by
  rw [launch_eq, show (dats m 0 c).Φ (Fin.last cfg0.N) = stateAt c (V m c main_arg1) grid0.N from rfl]
  unfold stateAt
  rw [show ringAt c (V m c main_arg1) grid0.N = idle c (V m c main_arg1) from by unfold ringAt; rw [N_0]; rfl]
  unfold idle
  iintro ⟨HC, Hg, HG, HU, HsG, HsU, HlG, HlU⟩
  isplitl [HC HG HU]
  · isplitl [HG HU]
    · iapply (slots_out (F := F) c)
      isplitl [HG]; · iexact HG
      iexact HU
    iapply (castAt_some (F := F) c (V m c main_arg1) grid0.N); iexact HC
  isplitl [Hg]; · iexact Hg
  isplitl [HsG HsU]
  · isplitl [HsG]; · iexact HsG
    iexact HsU
  iapply (whole_cut (F := F) c (V m c main_arg1)).2
  isplitl [HlG]; · iexact HlG
  iexact HlU

/-! ## The run -/

set_option backward.isDefEq.respectTransparency.types false in
/-- Every run ends with the arrays as the proof data say, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- After a run the output is the proof data's array, and the arguments are as launched. -/
theorem post_arrays (r : PUnit × MemSt nD τ sig (Elt F)) (h : Pipeline.FramePost cfgs (dats m) 0 (V m) r) (c : Dev nD) :
    r.2.mem ((c : Thread nD τ).loc main_v0) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1) :=
  ⟨(h c).1 1, ((h c).1 0).trans (((dats m 0 c).arrAt_in 0 rfl _).trans ((A_eq m c 0).trans (V_main_arg0 m c))),
    ((h c).2 main_arg1 (Pipeline.mem_restRefs_of main_arg1 (by decide) (by decide))).trans (V_main_arg1 m c)⟩

theorem run_blocks : θ_run defs (onTc (τ := τ) (main (F := F))) ⟨m, fun _ => 0, ρ⟩ fun r => ∀ c : Dev nD,
      r.2.mem ((c : Thread nD τ).loc main_v0) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => post_arrays m r h.1 c) (run_all m ρ)

/-- The frame: a run ends, its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (post_arrays m r h.1 c).2, h.2⟩) (run_all m ρ)

end Cert.Ffn
end
-- ==== Proof.Ffn.Ref.lean ====
/- The feed-forward reference's result at an index, and the two spellings of its activation. -/
module

public import proofs.«01_k».proof.Proof.Gen.Reference2Ideal.Run
public import Idealize.ShloMosaic.Lib.Pipeline.ValueKit
public import Idealize.ShloMosaic.Lib.IdealHost

@[expose] public section
set_option maxRecDepth 16384
noncomputable section
namespace Cert.Ffn
open Cert.Reference2Ideal Cert.Reference2Ideal.Gen Idealize.ShloMosaic Idealize.ShloMosaic.TcCoe Idealize.SL.Sem Idealize.ShloMosaic.StableHlo

/-- The product of the rows with the first of the two weights. -/
def refProd (x : FVec Ideal S8192x4096 .bf16) (w : FVec Ideal S2x4096x16384 .f32) : FVec Ideal S8192x16384 .f32 :=
  Host.dotGeneral dot_S8192x4096_S4096x16384_S8192x16384_1_0_0_1_n_n none (extf .f32 x bitsLt_bf16_f32)
    (shapeCast _ (extractStridedSlice S1x4096x16384 ![0, 0, 0] w slices_S2x4096x16384_S1x4096x16384_0_0_0) shapeCasts_S1x4096x16384_S4096x16384)

/-- The activation of the product's first half times its second half. -/
def refGate (z : FVec Ideal S8192x16384 .f32) : FVec Ideal S8192x8192 .bf16 :=
  truncf .bf16 (mulf (mulf (extractStridedSlice S8192x8192 ![0, 0] z slices_S8192x16384_S8192x8192_0_0)
      (Host.divf (broadcastInDim S8192x8192 ![] bcast_S_S8192x8192 (constant S_ .f32 0x3F800000#32))
        (addf (broadcastInDim S8192x8192 ![] bcast_S_S8192x8192 (constant S_ .f32 0x3F800000#32))
          (Host.exp (Host.negf (extractStridedSlice S8192x8192 ![0, 0] z slices_S8192x16384_S8192x8192_0_0))))))
    (extractStridedSlice S8192x8192 ![0, 8192] z slices_S8192x16384_S8192x8192_0_8192)) bitsLt_bf16_f32

/-- An element of the product: row `r`, column `e`. -/
def dotAt (x : FVec Ideal S8192x4096 .bf16) (w : FVec Ideal S2x4096x16384 .f32) (r : Fin 8192) (e : Fin 16384) : EReal :=
  ∑ k : Fin 4096, x (ix2 r k) * w (ix3 0 k e)

/-- The logistic function, as the reference computes it, -/
def logis (g : EReal) : EReal := Ideal.div 1 (1 + Ideal.exp (-g))
/-- and the activation. -/
def silu (g : EReal) : EReal := g * logis g

theorem refProd_apply (x : FVec Ideal S8192x4096 .bf16) (w : FVec Ideal S2x4096x16384 .f32) (r : Fin 8192) (e : Fin 16384) :
    refProd x w (ix2 r e) = dotAt x w r e := by
  pointwise [refProd, dotAt]

theorem refGate_apply (z : FVec Ideal S8192x16384 .f32) (r : Fin 8192) (e : Fin 8192) :
    refGate z (ix2 r e) = silu (z (ix2 r ⟨e.val, by omega⟩)) * z (ix2 r ⟨8192 + e.val, by omega⟩) := by
  pointwise [refGate, silu, logis]

/-- One half, as the kernels write it. -/
theorem half_const : Ideal.ofBits .f32 0x3F000000#32 = ((1/2 : ℝ) : EReal) := by
  simp [Ideal.ofBits, Ideal.ieee]
  rw [← EReal.coe_mul]
  norm_num

/-- The kernel's spelling of the logistic function is the reference's, at the infinities too. -/
theorem logis_tanh (g : EReal) : ((1/2 : ℝ) : EReal) * Ideal.tanh (((1/2 : ℝ) : EReal) * g) + ((1/2 : ℝ) : EReal) = logis g := by
  have hpos : (0 : EReal) < ((1/2 : ℝ) : EReal) := by exact_mod_cast (by norm_num : (0 : ℝ) < 1/2)
  have h1 : ((1 : ℝ) : EReal) = 1 := rfl
  unfold logis
  induction g with
  | bot =>
    rw [EReal.coe_mul_bot_of_pos (by norm_num)]
    simp only [Ideal.tanh_bot, EReal.neg_bot, Ideal.exp_top]
    have e1 : ((1/2 : ℝ) : EReal) * -1 + ((1/2 : ℝ) : EReal) = 0 := by
      rw [← h1, ← EReal.coe_neg, ← EReal.coe_mul, ← EReal.coe_add]; norm_num
    have e2 : Ideal.div 1 (1 + ⊤) = 0 := by
      rw [← h1, EReal.coe_add_top]; simp [Ideal.div]
    rw [e1, e2]
  | top =>
    rw [EReal.coe_mul_top_of_pos (by norm_num)]
    simp only [Ideal.tanh_top, EReal.neg_top, Ideal.exp_bot]
    have e1 : ((1/2 : ℝ) : EReal) * 1 + ((1/2 : ℝ) : EReal) = 1 := by
      rw [← h1, ← EReal.coe_mul, ← EReal.coe_add]; norm_num
    have e2 : Ideal.div 1 (1 + 0) = 1 := by
      rw [add_zero, ← h1, Ideal.div_coe one_ne_zero, ← EReal.coe_mul]; norm_num
    rw [e1, e2]
  | coe x =>
    have hx : (1 + Real.exp (-x)) ≠ 0 := by positivity
    rw [← EReal.coe_mul, Ideal.tanh_coe, ← EReal.coe_neg, Ideal.exp_coe, ← h1, ← EReal.coe_add, Ideal.div_coe hx, ← EReal.coe_mul,
      ← EReal.coe_add, ← EReal.coe_mul]
    refine congrArg _ ?_
    rw [Real.tanh_eq_sinh_div_cosh, Real.sinh_eq, Real.cosh_eq, Real.exp_neg, show Real.exp (-x) = (Real.exp (1/2 * x))⁻¹ * (Real.exp (1/2 * x))⁻¹ from by
      rw [← Real.exp_neg, ← Real.exp_add]; ring_nf]
    have hp := Real.exp_pos (1/2 * x)
    field_simp
    ring
theorem silu_tanh (g : EReal) : g * (((1/2 : ℝ) : EReal) * Ideal.tanh (((1/2 : ℝ) : EReal) * g) + ((1/2 : ℝ) : EReal)) = silu g := by
  rw [logis_tanh]; rfl

variable (m : (ℓ : Loc nD τ sig) → Buf (Elt Ideal) ℓ) (ρ : Dev nD → PrngReg)

/-- Every run of the reference ends with this result, its arguments as launched. -/
theorem ref_run : θ_run defs (onTc (τ := τ) (main (F := Ideal))) ⟨m, fun _ => 0, ρ⟩ fun r => ∀ c : Dev nD,
      r.2.mem ((c.tc : Thread nD τ).loc main_v8) = refGate (refProd (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.Ffn
end
-- ==== Proof.Ffn.Tiles.lean ====
/- The feed-forward kernel's rounded tiles and its output block, at an index. -/
module

public import proofs.«01_k».proof.Proof.Ffn.Frame
public import proofs.«01_k».proof.Proof.Ffn.Ref
public import Idealize.ShloMosaic.Lib.Pipeline.ValueKit
public import Idealize.ShloMosaic.Lib.Pipeline.Value
public import Idealize.ShloMosaic.Lib.ValueLayout
public import Idealize.ShloMosaic.Lib.WritesUnit
public import Idealize.ShloMosaic.Lib.IdealHost

@[expose] public section
set_option maxRecDepth 16384
noncomputable section
namespace Cert.Ffn
open Cert.Kernel2Ideal Cert.Kernel2Ideal.Gen Idealize.ShloMosaic Idealize.ShloMosaic.TcCoe Idealize.SL.Sem

/-! ## The tiles -/

section Tiles
variable (c : Dev nD) (W : BufOf (F := Ideal) c wM) (b : Fin 16)

/-- Column `e` of tile `b`, among the gate columns and among the up columns. -/
def gcol (e : Fin 512) : Fin 16384 := ⟨512 * b.val + e.val, by have := b.isLt; omega⟩
def ucol (e : Fin 512) : Fin 16384 := ⟨8192 + 512 * b.val + e.val, by have := b.isLt; omega⟩

/-- A column of a slab, matched with the slab without its unit axis. -/
theorem reshape_at (h : (⟨2, ![4096, 512]⟩ : Shape).numel = (⟨3, ![1, 4096, 512]⟩ : Shape).numel) (k : Fin 4096) (e : Fin 512) :
    Shape.reshapeEquiv h (ix2 k e) = ix3 (0 : Fin 1) k e := ValueIdx.reshapeEquiv_ix2_1ab h k e

theorem srcG_at (k : Fin 4096) (e : Fin 512) : (srcG b).view.read (Elt Ideal) W (ix2 k e) = W (ix3 0 k (gcol b e)) := by
  refine (congrFun (Memref.read_squeeze_slice wM _ (fun _ => rfl) squeezes_S1x4096x512_S4096x512 (squeezes_S1x4096x512_S4096x512).numel_eq W) (ix2 k e)).trans ?_
  show wM.view.readAt (Elt Ideal) (Rect.unit (s := S2x4096x16384) ![0, 0, 512 * b.val] S1x4096x512.size (inb_G b)).toLoadRect W
    (Shape.reshapeEquiv _ (ix2 k e)) = _
  rw [reshape_at]
  refine congrArg W (funext fun a => Fin.ext ?_)
  fin_cases a
  · rfl
  · show 0 + 1 * k.val = k.val; omega
  · show 512 * b.val + 1 * e.val = 512 * b.val + e.val; omega

theorem srcU_at (k : Fin 4096) (e : Fin 512) : (srcU b).view.read (Elt Ideal) W (ix2 k e) = W (ix3 0 k (ucol b e)) := by
  refine (congrFun (Memref.read_squeeze_slice wM _ (fun _ => rfl) squeezes_S1x4096x512_S4096x512 (squeezes_S1x4096x512_S4096x512).numel_eq W) (ix2 k e)).trans ?_
  show wM.view.readAt (Elt Ideal) (Rect.unit (s := S2x4096x16384) ![0, 0, 8192 + 512 * b.val] S1x4096x512.size (inb_U b)).toLoadRect W
    (Shape.reshapeEquiv _ (ix2 k e)) = _
  rw [reshape_at]
  refine congrArg W (funext fun a => Fin.ext ?_)
  fin_cases a
  · rfl
  · show 0 + 1 * k.val = k.val; omega
  · show 8192 + 512 * b.val + 1 * e.val = 8192 + 512 * b.val + e.val; omega

/-- A slot stored whole reads what was stored. -/
theorem read_landed {sg : RefSig} {κ : Kind} {sp : Space} {s : Shape} {e : EltTy} {Val : EltTy → Type} (v : View sg κ sp s e)
    (f : v.ty.Contents Val) (w : s.Idx → Val e) (y : s.Idx) :
    v.read Val (v.writes Val f [⟨Rect.whole s, w⟩]) y = w y :=
  (congrArg (v.read Val (v.writes Val f [⟨Rect.whole s, w⟩])) (Rect.emb_whole_apply s y).symm).trans
    (View.read_writes_cons_emb v f (Rect.whole s) w [] y)

theorem loadG_at (k : Fin 4096) (e : Fin 512) : loadG c W b (ix3 0 k e) = W (ix3 0 k (gcol b e)) := by
  have h := congrFun (Memref.read_squeeze_slice stageM (Rect.unit (s := S2x4096x512) ![0, 0, 0] S1x4096x512.size inb_S2x4096x512_S1x4096x512_0_0_0)
    (fun _ => rfl) squeezes_S1x4096x512_S4096x512 (squeezes_S1x4096x512_S4096x512).numel_eq (landG c W b slotG.view.junk)) (ix2 k e)
  have h2 : shapeCast S4096x512 (loadG c W b) (squeezes_S1x4096x512_S4096x512).numel_eq (ix2 k e) = loadG c W b (ix3 0 k e) :=
    congrArg (loadG c W b) (reshape_at _ k e)
  exact h2.symm.trans (h.symm.trans ((read_landed slotG.view _ _ _).trans (srcG_at c W b k e)))

theorem loadU_at (k : Fin 4096) (e : Fin 512) : loadU c W b (ix3 0 k e) = W (ix3 0 k (ucol b e)) := by
  have h := congrFun (Memref.read_squeeze_slice stageM (Rect.unit (s := S2x4096x512) ![1, 0, 0] S1x4096x512.size inb_S2x4096x512_S1x4096x512_1_0_0)
    (fun _ => rfl) squeezes_S1x4096x512_S4096x512 (squeezes_S1x4096x512_S4096x512).numel_eq (landU c W b slotU.view.junk)) (ix2 k e)
  have h2 : shapeCast S4096x512 (loadU c W b) (squeezes_S1x4096x512_S4096x512).numel_eq (ix2 k e) = loadU c W b (ix3 0 k e) :=
    congrArg (loadU c W b) (reshape_at _ k e)
  exact h2.symm.trans (h.symm.trans ((read_landed slotU.view _ _ _).trans (srcU_at c W b k e)))

theorem pay3_at (x : Vec Ideal S1x4096x512 .f32) (k : Fin 4096) (e : Fin 512) : k0_pay3 x (ix3 0 k e) = x (ix3 0 k e) := by
  pointwise [k0_pay3]
theorem pay1_at (x : Vec Ideal S1x4096x512 .f32) (k : Fin 4096) (e : Fin 512) : k0_pay1 (k0_pay4 x) (ix3 0 k e) = x (ix3 0 k e) := by
  pointwise [k0_pay1, k0_pay4]

/-- Two slabs stored one over the other, read back: each slab at its own index. -/
theorem read_slabs {sg : RefSig} {κ : Kind} {sp : Space} {el : EltTy} {Val : EltTy → Type} {p q : ℕ}
    (v : View sg κ sp (⟨3, ![2, p, q]⟩ : Shape) el) (f : v.ty.Contents Val) (w0 w1 : (⟨3, ![1, p, q]⟩ : Shape).Idx → Val el)
    {h0 : ∀ a, (![0, 0, 0] : Fin 3 → ℕ) a + (![1, p, q] : Fin 3 → ℕ) a ≤ (![2, p, q] : Fin 3 → ℕ) a}
    {h1 : ∀ a, (![1, 0, 0] : Fin 3 → ℕ) a + (![1, p, q] : Fin 3 → ℕ) a ≤ (![2, p, q] : Fin 3 → ℕ) a} (k : Fin p) (e : Fin q) :
    v.read Val (v.writes Val f [⟨Rect.unit (s := ⟨3, ![2, p, q]⟩) ![1, 0, 0] ![1, p, q] h1, w1⟩,
        ⟨Rect.unit (s := ⟨3, ![2, p, q]⟩) ![0, 0, 0] ![1, p, q] h0, w0⟩]) (ix3 0 k e) = w0 (ix3 0 k e)
    ∧ v.read Val (v.writes Val f [⟨Rect.unit (s := ⟨3, ![2, p, q]⟩) ![1, 0, 0] ![1, p, q] h1, w1⟩,
        ⟨Rect.unit (s := ⟨3, ![2, p, q]⟩) ![0, 0, 0] ![1, p, q] h0, w0⟩]) (ix3 1 k e) = w1 (ix3 0 k e) := by
  constructor
  · rw [View.read_writes_cons_unit_of_not_mem v f h1 w1 _ (ix3 0 k e) rfl (0 : Fin 3) (Or.inl Nat.one_pos)]
    exact View.read_writes_cons_unit_of_mem v f h0 w0 [] (ix3 0 k e) (ix3 0 k e) rfl fun a => by
      fin_cases a <;> exact (Nat.zero_add _).symm
  · exact View.read_writes_cons_unit_of_mem v f h1 w1 _ (ix3 1 k e) (ix3 0 k e) rfl fun a => by
      fin_cases a
      · rfl
      · exact (Nat.zero_add _).symm
      · exact (Nat.zero_add _).symm

/-- The same at the tiles' own shape. -/
theorem read_pair {sg : RefSig} {κ : Kind} {sp : Space} (v : View sg κ sp S2x4096x512 .bf16) (f) (w0 w1 : Vec Ideal S1x4096x512 .bf16)
    (k : Fin 4096) (e : Fin 512) :
    v.read (Elt Ideal) (v.writes (Elt Ideal) f [⟨slabR1, w1⟩, ⟨slabR0, w0⟩]) (ix3 0 k e) = w0 (ix3 0 k e)
    ∧ v.read (Elt Ideal) (v.writes (Elt Ideal) f [⟨slabR1, w1⟩, ⟨slabR0, w0⟩]) (ix3 1 k e) = w1 (ix3 0 k e) :=
  read_slabs v f w0 w1 k e

theorem castT_eq : castT c W b = castM.view.read (Elt Ideal) (castM.view.writes (Elt Ideal) castM.view.junk
    [⟨slabR1, k0_pay1 (k0_pay4 (loadU c W b))⟩, ⟨slabR0, k0_pay3 (loadG c W b)⟩]) := rfl

theorem cast0_load (k : Fin 4096) (e : Fin 512) : castT c W b (ix3 0 k e) = k0_pay3 (loadG c W b) (ix3 0 k e) := by
  rw [castT_eq]
  exact (read_pair castM.view _ _ _ k e).1
theorem cast1_load (k : Fin 4096) (e : Fin 512) : castT c W b (ix3 1 k e) = k0_pay1 (k0_pay4 (loadU c W b)) (ix3 0 k e) := by
  rw [castT_eq]
  exact (read_pair castM.view _ _ _ k e).2

theorem cast0_at (k : Fin 4096) (e : Fin 512) : castT c W b (ix3 0 k e) = W (ix3 0 k (gcol b e)) := by
  rw [cast0_load, pay3_at]
  exact loadG_at c W b k e

theorem cast1_at (k : Fin 4096) (e : Fin 512) : castT c W b (ix3 1 k e) = W (ix3 0 k (ucol b e)) := by
  rw [cast1_load, pay1_at]
  exact loadU_at c W b k e

end Tiles

/-! ## The output block -/

/-- The kernel's activation. -/
def act (g : EReal) : EReal := g * (((1/2 : ℝ) : EReal) * Ideal.tanh (((1/2 : ℝ) : EReal) * g) + ((1/2 : ℝ) : EReal))

theorem oblk_at (x : Vec Ideal S1024x4096 .bf16) (X : Vec Ideal S2x4096x512 .bf16) (r : Fin 1024) (e : Fin 512) :
    oblk x X (ix2 r e) = act (∑ k : Fin 4096, x (ix2 r k) * X (ix3 0 k e)) * ∑ k : Fin 4096, x (ix2 r k) * X (ix3 1 k e) := by
  pointwise [oblk, k0_pay2, act, half_const]

end Cert.Ffn
end
-- ==== Proof.Ffn.Out.lean ====
/- The feed-forward kernel's output array at an index, from the program's arguments. -/
module

public import proofs.«01_k».proof.Proof.Ffn.Tiles
public import proofs.«01_k».proof.Proof.Ffn.Ref
public import Idealize.ShloMosaic.Lib.Pipeline.ValueKit
public import Idealize.ShloMosaic.Lib.Pipeline.Value
public import Idealize.ShloMosaic.Lib.ValueLayout
public import Idealize.ShloMosaic.Lib.WritesUnit
public import Idealize.ShloMosaic.Lib.IdealHost

@[expose] public section
set_option maxRecDepth 16384
noncomputable section
namespace Cert.Ffn
open Cert.Kernel2Ideal Cert.Kernel2Ideal.Gen Idealize.ShloMosaic Idealize.ShloMosaic.TcCoe Idealize.SL.Sem

/-! ## The whole array -/

variable (m : (ℓ : Loc nD τ sig) → Buf (Elt Ideal) ℓ) (c : Dev nD) (t : Fin cfg0.N)

theorem idx : ∀ t : Fin cfg0.N,
    win0_0.index t = ![(grid0.coords t 1).val, 0] ∧ win0_1.index t = ![(grid0.coords t 1).val, (grid0.coords t 0).val]
    ∧ t.val / 8 % 16 = (grid0.coords t 0).val :=
  (by decide +kernel : ∀ t : Fin grid0.N, _)

theorem idx_inj1 : ∀ t t' : Fin cfg0.N, win0_1.index t = win0_1.index t' → t = t' :=
  (by decide +kernel : ∀ t t' : Fin grid0.N, win0_1.index t = win0_1.index t' → t = t')

theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

theorem blocks1 : ((cfg0.win 1).blk t).view.read (Elt Ideal) ((dats m 0 c).arrAt 1 cfg0.N) = (dats m 0 c).flushed 1 t :=
  (dats m 0 c).read_blk_arrAt_eq_flushed 1 disjoint1 cfg0.N t t.isLt (flush0_1 t)

theorem flushed1 : (dats m 0 c).flushed 1 t = (cfg0.win 1).cut (grid0.coords t) (outAt m c t) := by
  show (cfg0.win 1).cut (grid0.coords t) ((dats m 0 c).after 1 t) = _
  rw [after0_1]

/-- The grid point's column tile and row block. -/
abbrev jt : Fin 16 := grid0.coords t 0
abbrev it : Fin 8 := grid0.coords t 1

/-- Row `r` of the point's row block, and column `e` of its column tile. -/
def rowT (r : Fin 1024) : Fin 8192 := ⟨(it t).val * 1024 + r.val, by have := (it t).isLt; omega⟩
def colT (e : Fin 512) : Fin 8192 := ⟨(jt t).val * 512 + e.val, by have := (jt t).isLt; omega⟩

theorem read0 (r : Fin 1024) (k : Fin 4096) :
    iblk m c 0 t (ix2 r k) = m ((c : Thread nD τ).loc main_arg0) (ix2 (rowT t r) k) := by
  blk_ext [iblk, V, idx t, rowT]

theorem tl_jt : tl t.val = jt t := Fin.ext (idx t).2.2

/-- The output block a point leaves, at an index. -/
theorem out_at (r : Fin 1024) (e : Fin 512) :
    outAt m c t (ix2 r e)
      = act (dotAt (m ((c : Thread nD τ).loc main_arg0)) (m ((c : Thread nD τ).loc main_arg1)) (rowT t r) (gcol (jt t) e))
        * dotAt (m ((c : Thread nD τ).loc main_arg0)) (m ((c : Thread nD τ).loc main_arg1)) (rowT t r) (ucol (jt t) e) := by
  unfold outAt
  rw [tl_jt, oblk_at]
  simp only [cast0_at, cast1_at, read0]
  rfl

/-- The output array at a row and a column of a point's block. -/
theorem arr_at (r : Fin 1024) (e : Fin 512) :
    (dats m 0 c).arrAt 1 cfg0.N (ix2 (rowT t r) (colT t e)) = outAt m c t (ix2 r e) := by
  refine Eq.trans ?_ ((congrFun (blocks1 m c t) (ix2 r e)).trans ?_)
  · blk_ext [idx t, rowT, colT]
  · rw [flushed1]; rfl

end Cert.Ffn
end
-- ==== Proof.Ffn.Tie.lean ====
/- The feed-forward kernel's output array is its reference's result. -/
module

public import proofs.«01_k».proof.Proof.Ffn.Out

@[expose] public section
set_option maxRecDepth 16384
noncomputable section
namespace Cert.Ffn
open Cert.Kernel2Ideal Cert.Kernel2Ideal.Gen Idealize.ShloMosaic Idealize.ShloMosaic.TcCoe

/-- Every column tile and row block has its grid point. -/
theorem point_vals : ∀ (j : Fin 16) (i : Fin 8), ∃ t : Fin grid0.N, (grid0.coords t 0).val = j.val ∧ (grid0.coords t 1).val = i.val := by
  decide +kernel

theorem point_of (j : Fin 16) (i : Fin 8) : ∃ t : Fin cfg0.N, jt t = j ∧ it t = i :=
  (point_vals j i).imp fun t h => ⟨Fin.ext h.1, Fin.ext h.2⟩

variable (m : (ℓ : Loc nD τ sig) → Buf (Elt Ideal) ℓ) (c : Dev nD) (t : Fin cfg0.N)

theorem gcol_eq (e : Fin 512) : gcol (jt t) e = ⟨(colT t e).val, by have := (colT t e).isLt; omega⟩ :=
  Fin.ext (by show 512 * (jt t).val + e.val = (jt t).val * 512 + e.val; omega)
theorem ucol_eq (e : Fin 512) : ucol (jt t) e = ⟨8192 + (colT t e).val, by have := (colT t e).isLt; omega⟩ :=
  Fin.ext (by show 8192 + 512 * (jt t).val + e.val = 8192 + ((jt t).val * 512 + e.val); omega)

/-- One output element. -/
theorem elem (r : Fin 1024) (e : Fin 512) : (dats m 0 c).arrAt 1 cfg0.N (ix2 (rowT t r) (colT t e))
    = refGate (refProd (m ((c : Thread nD τ).loc main_arg0)) (m ((c : Thread nD τ).loc main_arg1))) (ix2 (rowT t r) (colT t e)) := by
  rw [arr_at, out_at, refGate_apply, refProd_apply, refProd_apply, gcol_eq, ucol_eq]
  exact congrArg (· * _) (silu_tanh _)

/-- The whole array. -/
theorem arr_eq : (dats m 0 c).arrAt 1 cfg0.N
    = refGate (refProd (m ((c : Thread nD τ).loc main_arg0)) (m ((c : Thread nD τ).loc main_arg1))) := by
  funext y
  have hy : ∃ (i : Fin 8192) (e : Fin 8192), y = ix2 i e := ⟨y 0, y 1, eq_ix2 y⟩
  obtain ⟨i, e, rfl⟩ := hy
  have hi := i.isLt
  have he := e.isLt
  obtain ⟨t, hj, hb⟩ := point_of ⟨e.val / 512, by omega⟩ ⟨i.val / 1024, by omega⟩
  have h1 : i = rowT t ⟨i.val % 1024, by omega⟩ := Fin.ext (by
    show i.val = (it t).val * 1024 + i.val % 1024
    rw [hb]; show i.val = i.val / 1024 * 1024 + i.val % 1024; omega)
  have h2 : e = colT t ⟨e.val % 512, by omega⟩ := Fin.ext (by
    show e.val = (jt t).val * 512 + e.val % 512
    rw [hj]; show e.val = e.val / 512 * 512 + e.val % 512; omega)
  have h3 := congrArg₂ (fun (a : Fin 8192) (b : Fin 8192) => ix2 a b) h1 h2
  exact (congrArg _ h3).trans ((elem m c t _ _).trans (congrArg _ h3).symm)

end Cert.Ffn
end
-- ==== Proof.Res.Parts.lean ====
/- What the output product's kernel holds between grid points: the buffer its weight tile lands in, the weight columns
   each transfer reads, and the transfer in flight. -/
module

public import proofs.«01_k».proof.Proof.Gen.Kernel3Ideal.Frame
public import proofs.«01_k».proof.Proof.Gen.Kernel3Ideal.Points
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Res

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Where in the grid each branch is taken -/

/-- The first row block of a column tile. -/
abbrev atFirst (i : grid0.Coords) : Prop := k0_cond1 i = 1#1
/-- The first column tile. -/
abbrev atStart (i : grid0.Coords) : Prop := k0_cond2 i = 1#1
/-- A column tile follows. -/
abbrev hasNext (i : grid0.Coords) : Prop := k0_cond3 i = 1#1

theorem atFirst_iff : ∀ t : Fin cfg0.N, atFirst (grid0.coords t) ↔ t.val % 16 = 0 :=
  (by decide +kernel : ∀ t : Fin grid0.N, atFirst (grid0.coords t) ↔ t.val % 16 = 0)
theorem atStart_iff : ∀ t : Fin cfg0.N, atStart (grid0.coords t) ↔ t.val < 16 :=
  (by decide +kernel : ∀ t : Fin grid0.N, atStart (grid0.coords t) ↔ t.val < 16)
theorem hasNext_iff : ∀ t : Fin cfg0.N, hasNext (grid0.coords t) ↔ t.val < 112 :=
  (by decide +kernel : ∀ t : Fin grid0.N, hasNext (grid0.coords t) ↔ t.val < 112)

/-- The column tile of step `k`, steps counted along the grid; and so past the last tile something, never used. -/
def tl (k : ℕ) : Fin 8 := ⟨k / 16 % 8, Nat.mod_lt _ (by decide)⟩

/-! ## The buffers -/

/-- Where the weight tile lands, the tile rounded to half precision, and the weights. -/
abbrev stageM : Memref sig .tc .vmem S1x8192x512 .f32 := Memref.whole cc0_scratch0
abbrev castM : Memref sig .tc .vmem S1x8192x512 .bf16 := Memref.whole cc0_scratch1
abbrev wM : Memref sig .tc .hbm S2x8192x4096 .f32 := Memref.whole main_arg1

/-- A memref's buffer on core `c`: the type of its contents. -/
abbrev BufOf (c : Dev nD) {sp : Space} {S : Shape} {e : EltTy} (M : Memref sig .tc sp S e) : Type := Buf (Elt F) (M.view.loc (c : Thread nD τ))

/-- The landing buffer without its unit axis. -/
def slot : Memref sig .tc .vmem S8192x512 .f32 :=
  (stageM.slice (Rect.unit (s := S1x8192x512) ![0, 0, 0] S1x8192x512.size inb_S1x8192x512_S1x8192x512_0_0_0) (fun _ => rfl)).squeeze S8192x512 squeezes_S1x8192x512_S8192x512

theorem inb_col (b : Fin 8) : ∀ a, (![0, 0, 512 * b.val] : Fin 3 → Nat) a + S1x8192x512.size a ≤ S2x8192x4096.size a := by
  have := b.isLt; intro a; fin_cases a <;> simp <;> omega
/-- The columns of tile `b`. -/
def src (b : Fin 8) : Memref sig .tc .hbm S8192x512 .f32 :=
  (wM.slice (Rect.unit (s := S2x8192x4096) ![0, 0, 512 * b.val] S1x8192x512.size (inb_col b)) (fun _ => rfl)).squeeze S8192x512 squeezes_S1x8192x512_S8192x512

/-- The counter. -/
abbrev cell : DmaSems sig S_ := (cc0_scratch2.slice (Rect.unit (s := S1) ![0] S1.size inb_S1_S1_0)).squeeze S_ squeezes_S1_S_
abbrev semN : SemLoc sig := SemLoc.dma cell.sem

/-! ## What is held -/

section Held
variable (c : Dev nD) (W : BufOf (F := F) c wM)

/-- The landing buffer at some contents. -/
abbrev held (f : BufOf (F := F) c slot) : sProp 𝕄 := slot.view.loc (c : Thread nD τ) ↦[slot.view.set]{fullShare} f
/-- Tile `b`'s columns. -/
abbrev cols (b : Fin 8) : sProp 𝕄 := (src b).view.loc (c : Thread nD τ) ↦[(src b).view.set]{fullShare} W
/-- The landing buffer once tile `b` has landed in it. -/
abbrev land (b : Fin 8) (f : BufOf (F := F) c slot) : BufOf (F := F) c slot :=
  slot.view.writes (Elt F) f [⟨Rect.whole S8192x512, ReadAs.same.apply ((src b).view.read (Elt F) W)⟩]
/-- Tile `b` on its way. -/
abbrev fly (b : Fin 8) (f : BufOf (F := F) c slot) : sProp 𝕄 :=
  Transfers.Flight countersEmb (c : Thread nD τ) semN default (slot.view.amount semN)
    iprop(held c (land c W b f) ∗ cols c W b)
end Held

/-! ## The columns a transfer reads, at each point -/

section Names
omit [FloatOps F]
theorem off1 : ∀ t : Fin grid0.N, atFirst (grid0.coords t) → atStart (grid0.coords t) → k0_off1 (grid0.coords t) = ![0, 0, 512 * (tl t.val).val] := by decide +kernel
theorem off2 : ∀ t : Fin grid0.N, atFirst (grid0.coords t) → k0_off2 (grid0.coords t) = ![0, 0, 512 * (tl t.val).val] := by decide +kernel
theorem off3 : ∀ t : Fin grid0.N, atFirst (grid0.coords t) → hasNext (grid0.coords t) → k0_off3 (grid0.coords t) = ![0, 0, 512 * (tl (t.val + 16)).val] := by decide +kernel

/-- The columns a transfer names at point `t` are its tile's. -/
@[sl_canon] theorem name1 (t : Fin grid0.N) [h0 : Fact (atFirst (grid0.coords t))] [h1 : Fact (atStart (grid0.coords t))]
    (hin : ∀ a, (k0_off1 (grid0.coords t)) a + S1x8192x512.size a ≤ S2x8192x4096.size a) :
    (wM.slice (Rect.unit (s := S2x8192x4096) (k0_off1 (grid0.coords t)) S1x8192x512.size hin) (fun _ => rfl)).squeeze S8192x512 squeezes_S1x8192x512_S8192x512 = src (tl t.val) :=
  congrArg (fun M : Memref sig .tc .hbm S1x8192x512 .f32 => M.squeeze S8192x512 squeezes_S1x8192x512_S8192x512) (Memref.slice_unit_congr _ (off1 t h0.out h1.out) _ _ (fun _ => rfl) (fun _ => rfl))
@[sl_canon] theorem name2 (t : Fin grid0.N) [h0 : Fact (atFirst (grid0.coords t))]
    (hin : ∀ a, (k0_off2 (grid0.coords t)) a + S1x8192x512.size a ≤ S2x8192x4096.size a) :
    (wM.slice (Rect.unit (s := S2x8192x4096) (k0_off2 (grid0.coords t)) S1x8192x512.size hin) (fun _ => rfl)).squeeze S8192x512 squeezes_S1x8192x512_S8192x512 = src (tl t.val) :=
  congrArg (fun M : Memref sig .tc .hbm S1x8192x512 .f32 => M.squeeze S8192x512 squeezes_S1x8192x512_S8192x512) (Memref.slice_unit_congr _ (off2 t h0.out) _ _ (fun _ => rfl) (fun _ => rfl))
@[sl_canon] theorem name3 (t : Fin grid0.N) [h0 : Fact (atFirst (grid0.coords t))] [h1 : Fact (hasNext (grid0.coords t))]
    (hin : ∀ a, (k0_off3 (grid0.coords t)) a + S1x8192x512.size a ≤ S2x8192x4096.size a) :
    (wM.slice (Rect.unit (s := S2x8192x4096) (k0_off3 (grid0.coords t)) S1x8192x512.size hin) (fun _ => rfl)).squeeze S8192x512 squeezes_S1x8192x512_S8192x512 = src (tl (t.val + 16)) :=
  congrArg (fun M : Memref sig .tc .hbm S1x8192x512 .f32 => M.squeeze S8192x512 squeezes_S1x8192x512_S8192x512) (Memref.slice_unit_congr _ (off3 t h0.out h1.out) _ _ (fun _ => rfl) (fun _ => rfl))
/-- The landing buffer as the transfers spell it. -/
@[sl_canon] theorem nameSlot :
    (stageM.slice (Rect.unit (s := S1x8192x512) ![0, 0, 0] S1x8192x512.size inb_S1x8192x512_S1x8192x512_0_0_0) (fun _ => rfl)).squeeze S8192x512 squeezes_S1x8192x512_S8192x512 = slot :=
  congrArg (fun M : Memref sig .tc .vmem S1x8192x512 .f32 => M.squeeze S8192x512 squeezes_S1x8192x512_S8192x512) (Memref.slice_unit_congr _ rfl _ _ (fun _ => rfl) (fun _ => rfl))
end Names

end Cert.Res

end
-- ==== Proof.Res.Runs.lean ====
/- One grid point of the output product's kernel, run, at each of the four kinds of point. -/
module

public import proofs.«01_k».proof.Proof.Res.Parts

@[expose] public section

set_option maxRecDepth 16384

noncomputable section

namespace Cert.Res

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- At the first point: the first tile's transfer is started, waited for and rounded, the next tile's is started, and the
    output block is stored. The pieces are what is stored to the output block and to the rounded tile. -/
def runA (c : Dev nD) (t : Fin cfg0.N) (arg2 : Memref sig .tc .vmem S512x8192 .bf16) (harg2 : arg2.IsWhole) (arg4 : Memref sig .tc .vmem S512x512 .f32) (harg4 : arg4.IsWhole)
    (arg5 : Memref sig .tc .vmem S1x1x512 .f32) (harg5 : arg5.IsWhole) (arg6 : Memref sig .tc .vmem S512x512 .f32) (harg6 : arg6.IsWhole)
    (h0 : atFirst (grid0.coords t)) (h1 : atStart (grid0.coords t)) (h2 : hasNext (grid0.coords t))
    (x0 : Vec F S512x8192 .bf16) (x1 : Vec F S512x512 .f32) (x2 : Vec F S1x1x512 .f32) (W : BufOf (F := F) c wM) :
    { L : (List (View.Piece (Elt F) S512x512 .f32)) × List (View.Piece (Elt F) S1x8192x512 .bf16) //
      ∀ (Ws : Waits sig Unit) (K : PUnit → sProp 𝕄),
        iprop(owns (c : Thread nD τ) arg2 fullShare x0 ∗ owns (c : Thread nD τ) arg4 fullShare x1 ∗ owns (c : Thread nD τ) arg5 fullShare x2 ∗ (∃ d, owns (c : Thread nD τ) arg6 fullShare d) ∗ (∃ d, owns (c : Thread nD τ) castM fullShare d)
            ∗ (∃ f, held (F := F) c f) ∗ semVal ((c : Thread nD τ), semN) 0 ∗ cols c W (tl t.val) ∗ cols c W (tl (t.val + 16)) ∗ owes (c : Thread nD τ) 0 Ws
            ∗ (iprop(owns (c : Thread nD τ) arg2 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L.1)
                ∗ (∃ f, castM.view.loc (c : Thread nD τ) ↦[castM.view.set]{fullShare} castM.view.writes (Elt F) f L.2)
                ∗ (∃ f, fly c W (tl (t.val + 16)) f) ∗ cols c W (tl t.val) ∗ (∃ W', owes (c : Thread nD τ) 0 W')) -∗ K ⟨⟩))
          ⊢ wp frame (wpE (defs₀ (F := F)) Variants.none c none) Set.univ (cc0__ws_body (grid0.coords t) arg2 harg2 wM (Memref.isWhole_whole _) arg4 harg4 arg5 harg5 arg6 harg6 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (atStart (grid0.coords t)) := ⟨h1⟩
    haveI : Fact (hasNext (grid0.coords t)) := ⟨h2⟩
    simp only [cc0__ws_body_eq_skeleton]; unfold cc0__ws_body_skel
    unfold owns
    iintro ⟨⟨%f0, %hf0, H0⟩, ⟨%f1, %hf1, H1⟩, ⟨%f2, %hf2, H2⟩, ⟨%d3, %f3, -, H3⟩, ⟨%d4, %f4, -, HC⟩, ⟨%fg, HG⟩, Hs, Hc, Hn, HW, Hk⟩
    obtain rfl := harg2.eq_unread hf0
    obtain rfl := harg4.eq_unread hf1
    obtain rfl := harg5.eq_unread hf2
    sl_exec (disch := first | sl_exact h0 | sl_exact h1 | sl_exact h2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HC]; · iexists _; iexact HC
    isplitl [Hs]; · iexists _; iexact Hs
    isplitl [Hc]; · iexact Hc
    iexists _; iexact HW

set_option maxHeartbeats 1000000 in
/-- The first row block of a column tile neither first nor last: the tile's transfer is waited for and rounded, the next
    tile's is started, and the output block is stored. -/
def runB (c : Dev nD) (t : Fin cfg0.N) (arg2 : Memref sig .tc .vmem S512x8192 .bf16) (harg2 : arg2.IsWhole) (arg4 : Memref sig .tc .vmem S512x512 .f32) (harg4 : arg4.IsWhole)
    (arg5 : Memref sig .tc .vmem S1x1x512 .f32) (harg5 : arg5.IsWhole) (arg6 : Memref sig .tc .vmem S512x512 .f32) (harg6 : arg6.IsWhole)
    (h0 : atFirst (grid0.coords t)) (h1 : ¬atStart (grid0.coords t)) (h2 : hasNext (grid0.coords t))
    (x0 : Vec F S512x8192 .bf16) (x1 : Vec F S512x512 .f32) (x2 : Vec F S1x1x512 .f32) (W : BufOf (F := F) c wM) :
    { L : (List (View.Piece (Elt F) S512x512 .f32)) × List (View.Piece (Elt F) S1x8192x512 .bf16) //
      ∀ (Ws : Waits sig Unit) (K : PUnit → sProp 𝕄),
        iprop(owns (c : Thread nD τ) arg2 fullShare x0 ∗ owns (c : Thread nD τ) arg4 fullShare x1 ∗ owns (c : Thread nD τ) arg5 fullShare x2 ∗ (∃ d, owns (c : Thread nD τ) arg6 fullShare d) ∗ (∃ d, owns (c : Thread nD τ) castM fullShare d)
            ∗ (∃ f, fly c W (tl t.val) f) ∗ cols c W (tl (t.val + 16)) ∗ owes (c : Thread nD τ) 0 Ws
            ∗ (iprop(owns (c : Thread nD τ) arg2 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L.1)
                ∗ (∃ f, castM.view.loc (c : Thread nD τ) ↦[castM.view.set]{fullShare} castM.view.writes (Elt F) f L.2)
                ∗ (∃ f, fly c W (tl (t.val + 16)) f) ∗ cols c W (tl t.val) ∗ (∃ W', owes (c : Thread nD τ) 0 W')) -∗ K ⟨⟩))
          ⊢ wp frame (wpE (defs₀ (F := F)) Variants.none c none) Set.univ (cc0__ws_body (grid0.coords t) arg2 harg2 wM (Memref.isWhole_whole _) arg4 harg4 arg5 harg5 arg6 harg6 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (¬atStart (grid0.coords t)) := ⟨h1⟩
    haveI : Fact (hasNext (grid0.coords t)) := ⟨h2⟩
    simp only [cc0__ws_body_eq_skeleton]; unfold cc0__ws_body_skel
    unfold owns
    iintro ⟨⟨%f0, %hf0, H0⟩, ⟨%f1, %hf1, H1⟩, ⟨%f2, %hf2, H2⟩, ⟨%d3, %f3, -, H3⟩, ⟨%d4, %f4, -, HC⟩, ⟨%fg, HG⟩, Hn, HW, Hk⟩
    obtain rfl := harg2.eq_unread hf0
    obtain rfl := harg4.eq_unread hf1
    obtain rfl := harg5.eq_unread hf2
    sl_exec (disch := first | sl_exact h0 | sl_exact h1 | sl_exact h2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HC]; · iexists _; iexact HC
    isplitl [HG]; · iexists _; iexact HG
    isplitl [HG_src]; · iexact HG_src
    iexists _; iexact HW

set_option maxHeartbeats 1000000 in
/-- The first row block of the last column tile: its transfer is waited for and rounded, and the output block is stored. -/
def runC (c : Dev nD) (t : Fin cfg0.N) (arg2 : Memref sig .tc .vmem S512x8192 .bf16) (harg2 : arg2.IsWhole) (arg4 : Memref sig .tc .vmem S512x512 .f32) (harg4 : arg4.IsWhole)
    (arg5 : Memref sig .tc .vmem S1x1x512 .f32) (harg5 : arg5.IsWhole) (arg6 : Memref sig .tc .vmem S512x512 .f32) (harg6 : arg6.IsWhole)
    (h0 : atFirst (grid0.coords t)) (h1 : ¬atStart (grid0.coords t)) (h2 : ¬hasNext (grid0.coords t))
    (x0 : Vec F S512x8192 .bf16) (x1 : Vec F S512x512 .f32) (x2 : Vec F S1x1x512 .f32) (W : BufOf (F := F) c wM) :
    { L : (List (View.Piece (Elt F) S512x512 .f32)) × List (View.Piece (Elt F) S1x8192x512 .bf16) //
      ∀ (Ws : Waits sig Unit) (K : PUnit → sProp 𝕄),
        iprop(owns (c : Thread nD τ) arg2 fullShare x0 ∗ owns (c : Thread nD τ) arg4 fullShare x1 ∗ owns (c : Thread nD τ) arg5 fullShare x2 ∗ (∃ d, owns (c : Thread nD τ) arg6 fullShare d) ∗ (∃ d, owns (c : Thread nD τ) castM fullShare d)
            ∗ (∃ f, fly c W (tl t.val) f) ∗ owes (c : Thread nD τ) 0 Ws
            ∗ (iprop(owns (c : Thread nD τ) arg2 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L.1)
                ∗ (∃ f, castM.view.loc (c : Thread nD τ) ↦[castM.view.set]{fullShare} castM.view.writes (Elt F) f L.2)
                ∗ (∃ f, held (F := F) c f) ∗ semVal ((c : Thread nD τ), semN) 0 ∗ cols c W (tl t.val) ∗ (∃ W', owes (c : Thread nD τ) 0 W')) -∗ K ⟨⟩))
          ⊢ wp frame (wpE (defs₀ (F := F)) Variants.none c none) Set.univ (cc0__ws_body (grid0.coords t) arg2 harg2 wM (Memref.isWhole_whole _) arg4 harg4 arg5 harg5 arg6 harg6 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (¬atStart (grid0.coords t)) := ⟨h1⟩
    haveI : Fact (¬hasNext (grid0.coords t)) := ⟨h2⟩
    simp only [cc0__ws_body_eq_skeleton]; unfold cc0__ws_body_skel
    unfold owns
    iintro ⟨⟨%f0, %hf0, H0⟩, ⟨%f1, %hf1, H1⟩, ⟨%f2, %hf2, H2⟩, ⟨%d3, %f3, -, H3⟩, ⟨%d4, %f4, -, HC⟩, ⟨%fg, HG⟩, HW, Hk⟩
    obtain rfl := harg2.eq_unread hf0
    obtain rfl := harg4.eq_unread hf1
    obtain rfl := harg5.eq_unread hf2
    sl_exec (disch := first | sl_exact h0 | sl_exact h1 | sl_exact h2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HC]; · iexists _; iexact HC
    isplitl [HG_dst]; · iexists _; iexact HG_dst
    isplitl [HG]; · iexact HG
    isplitl [HG_src]; · iexact HG_src
    iexists _; iexact HW

set_option maxHeartbeats 1000000 in
/-- Any other row block: the output block is stored, from the tile already rounded. -/
def runD (c : Dev nD) (t : Fin cfg0.N) (arg2 : Memref sig .tc .vmem S512x8192 .bf16) (harg2 : arg2.IsWhole) (arg4 : Memref sig .tc .vmem S512x512 .f32) (harg4 : arg4.IsWhole)
    (arg5 : Memref sig .tc .vmem S1x1x512 .f32) (harg5 : arg5.IsWhole) (arg6 : Memref sig .tc .vmem S512x512 .f32) (harg6 : arg6.IsWhole)
    (h0 : ¬atFirst (grid0.coords t))
    (x0 : Vec F S512x8192 .bf16) (x1 : Vec F S512x512 .f32) (x2 : Vec F S1x1x512 .f32) (x3 : Vec F S1x8192x512 .bf16) :
    { L : List (View.Piece (Elt F) S512x512 .f32) //
      ∀ (Ws : Waits sig Unit) (K : PUnit → sProp 𝕄),
        iprop(owns (c : Thread nD τ) arg2 fullShare x0 ∗ owns (c : Thread nD τ) arg4 fullShare x1 ∗ owns (c : Thread nD τ) arg5 fullShare x2 ∗ (∃ d, owns (c : Thread nD τ) arg6 fullShare d) ∗ owns (c : Thread nD τ) castM fullShare x3
            ∗ owes (c : Thread nD τ) 0 Ws
            ∗ (iprop(owns (c : Thread nD τ) arg2 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L)
                ∗ owns (c : Thread nD τ) castM fullShare x3
                ∗ (∃ W', owes (c : Thread nD τ) 0 W')) -∗ K ⟨⟩))
          ⊢ wp frame (wpE (defs₀ (F := F)) Variants.none c none) Set.univ (cc0__ws_body (grid0.coords t) arg2 harg2 wM (Memref.isWhole_whole _) arg4 harg4 arg5 harg5 arg6 harg6 stageM (Memref.isWhole_whole _) castM (Memref.isWhole_whole _) cc0_scratch2) K } := by
  refine ⟨?_, fun Ws K => ?run⟩
  case run =>
    haveI : Fact (¬atFirst (grid0.coords t)) := ⟨h0⟩
    simp only [cc0__ws_body_eq_skeleton]; unfold cc0__ws_body_skel
    unfold owns
    iintro ⟨⟨%f0, %hf0, H0⟩, ⟨%f1, %hf1, H1⟩, ⟨%f2, %hf2, H2⟩, ⟨%d3, %f3, -, H3⟩, ⟨%f4, %hf4, HC⟩, HW, Hk⟩
    obtain rfl := harg2.eq_unread hf0
    obtain rfl := harg4.eq_unread hf1
    obtain rfl := harg5.eq_unread hf2
    obtain rfl := (Memref.isWhole_whole cc0_scratch1).eq_unread hf4
    sl_exec (disch := first | sl_exact h0)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HC]
    · iexists _; isplitr; · ipureintro; exact (Memref.isWhole_whole cc0_scratch1).read_unread _
      iexact HC
    iexists _; iexact HW

end Cert.Res

end
-- ==== Proof.Res.Vals.lean ====
/- What each point of the output product's kernel leaves: the rounded tile, and the output block. -/
module

public import proofs.«01_k».proof.Proof.Res.Runs
public import Idealize.ShloMosaic.Lib.VecWindow

@[expose] public section

set_option maxRecDepth 16384

noncomputable section

namespace Cert.Res

open Cert.Kernel3Ideal Cert.Kernel3Ideal.Gen
open Idealize.ShloMosaic Idealize.ShloMosaic.TcCoe

variable {F : FTy → Type} [FloatOps F]

/-- The whole tile. -/
abbrev tileR : Rect S1x8192x512 := Rect.unit (s := S1x8192x512) ![0, 0, 0] S1x8192x512.size inb_S1x8192x512_S1x8192x512_0_0_0

/-- Tile `b`'s columns as loaded from where they land. -/
def loadT (c : Dev nD) (W : BufOf (F := F) c wM) (b : Fin 8) : Vec F S1x8192x512 .f32 :=
  stageM.view.readAt (Elt F) tileR.toLoadRect (land c W b slot.view.junk)

/-- The rounded tile. -/
def castT (c : Dev nD) (W : BufOf (F := F) c wM) (b : Fin 8) : Vec F S1x8192x512 .bf16 := k0_pay1 (loadT c W b)

/-- The rounded tile's piece, and the output block's. -/
abbrev tileP (X : Vec F S1x8192x512 .bf16) : View.Piece (Elt F) S1x8192x512 .bf16 := ⟨tileR, X⟩
abbrev outP (x : Vec F S512x8192 .bf16) (X : Vec F S1x8192x512 .bf16) (y : Vec F S512x512 .f32) (g : Vec F S1x1x512 .f32) : View.Piece (Elt F) S512x512 .f32 :=
  ⟨Rect.unit (s := S512x512) ![0, 0] S512x512.size inb_S512x512_S512x512_0_0, k0_pay2 x X y g⟩

/-- The rounded tile read back, whatever it was stored over. -/
theorem read_tile (v : View sig .tc .vmem S1x8192x512 .bf16) (f) (X : Vec F S1x8192x512 .bf16) :
    v.read (Elt F) (v.writes (Elt F) f [tileP X]) = X := View.read_writes_full v f _ _ _
/-- The output block read back, whatever it was stored over. -/
theorem read_out (v : View sig .tc .vmem S512x512 .f32) (f) (x : Vec F S512x8192 .bf16) (X : Vec F S1x8192x512 .bf16) (y : Vec F S512x512 .f32) (g : Vec F S1x1x512 .f32) :
    v.read (Elt F) (v.writes (Elt F) f [outP x X y g]) = k0_pay2 x X y g := View.read_writes_full v f _ _ _

section Pieces
variable (c : Dev nD) (t : Fin cfg0.N) (arg2 : Memref sig .tc .vmem S512x8192 .bf16) (harg2 : arg2.IsWhole) (arg4 : Memref sig .tc .vmem S512x512 .f32) (harg4 : arg4.IsWhole)
  (arg5 : Memref sig .tc .vmem S1x1x512 .f32) (harg5 : arg5.IsWhole) (arg6 : Memref sig .tc .vmem S512x512 .f32) (harg6 : arg6.IsWhole)
  (x0 : Vec F S512x8192 .bf16) (x1 : Vec F S512x512 .f32) (x2 : Vec F S1x1x512 .f32) (W : BufOf (F := F) c wM)

/-- The blocks loaded whole are the blocks. -/
theorem rows_eq : arg2.view.readAt (Elt F) (Rect.unit (s := S512x8192) ![0, 0] S512x8192.size inb_S512x8192_S512x8192_0_0).toLoadRect (harg2.unread x0) = x0 := by
  rw [View.readAt_full]; exact harg2.read_unread x0
theorem base_eq : arg4.view.readAt (Elt F) (Rect.unit (s := S512x512) ![0, 0] S512x512.size inb_S512x512_S512x512_0_0).toLoadRect (harg4.unread x1) = x1 := by
  rw [View.readAt_full]; exact harg4.read_unread x1
theorem gate_eq : arg5.view.readAt (Elt F) (Rect.unit (s := S1x1x512) ![0, 0, 0] S1x1x512.size inb_S1x1x512_S1x1x512_0_0_0).toLoadRect (harg5.unread x2) = x2 := by
  rw [View.readAt_full]; exact harg5.read_unread x2
theorem tile_eq (X : Vec F S1x8192x512 .bf16) : castM.view.readAt (Elt F) tileR.toLoadRect ((Memref.isWhole_whole cc0_scratch1).unread X) = X := by
  rw [View.readAt_full]; exact (Memref.isWhole_whole cc0_scratch1).read_unread X
/-- The tile just stored, loaded whole. -/
theorem stored_eq (X : Vec F S1x8192x512 .bf16) : castM.view.readCov [tileP X] tileR.toLoadRect = X := by
  unfold View.readCov
  rw [View.readAt_full]; exact read_tile _ _ _

theorem loadedA : runA.sl.v4 c t W = castT c W (tl t.val) := by
  delta runA.sl.v4
  rw [show runA.sl.HC_1 c t W = [tileP (castT c W (tl t.val))] from rfl]
  exact stored_eq _
theorem piecesA1 (h0 h1 h2) : (runA c t arg2 harg2 arg4 harg4 arg5 harg5 arg6 harg6 h0 h1 h2 x0 x1 x2 W).1.1 = [outP x0 (castT c W (tl t.val)) x1 x2] := by
  simp only [runA]
  rw [rows_eq, base_eq, gate_eq, loadedA]
theorem piecesA2 (h0 h1 h2) : (runA c t arg2 harg2 arg4 harg4 arg5 harg5 arg6 harg6 h0 h1 h2 x0 x1 x2 W).1.2 = [tileP (castT c W (tl t.val))] := rfl
theorem loadedB : runB.sl.v4 c t W = castT c W (tl t.val) := by
  delta runB.sl.v4
  rw [show runB.sl.HC_1 c t W = [tileP (castT c W (tl t.val))] from rfl]
  exact stored_eq _
theorem piecesB1 (h0 h1 h2) : (runB c t arg2 harg2 arg4 harg4 arg5 harg5 arg6 harg6 h0 h1 h2 x0 x1 x2 W).1.1 = [outP x0 (castT c W (tl t.val)) x1 x2] := by
  simp only [runB]
  rw [rows_eq, base_eq, gate_eq, loadedB]
theorem piecesB2 (h0 h1 h2) : (runB c t arg2 harg2 arg4 harg4 arg5 harg5 arg6 harg6 h0 h1 h2 x0 x1 x2 W).1.2 = [tileP (castT c W (tl t.val))] := rfl
theorem loadedC : runC.sl.v4 c t W = castT c W (tl t.val) := by
  delta runC.sl.v4
  rw [show runC.sl.HC_1 c t W = [tileP (castT c W (tl t.val))] from rfl]
  exact stored_eq _
theorem piecesC1 (h0 h1 h2) : (runC c t arg2 harg2 arg4 harg4 arg5 harg5 arg6 harg6 h0 h1 h2 x0 x1 x2 W).1.1 = [outP x0 (castT c W (tl t.val)) x1 x2] := by
  simp only [runC]
  rw [rows_eq, base_eq, gate_eq, loadedC]
theorem piecesC2 (h0 h1 h2) : (runC c t arg2 harg2 arg4 harg4 arg5 harg5 arg6 harg6 h0 h1 h2 x0 x1 x2 W).1.2 = [tileP (castT c W (tl t.val))] := rfl
theorem piecesD (h0) (X : Vec F S1x8192x512 .bf16) : (runD c t arg2 harg2 arg4 harg4 arg5 harg5 arg6 harg6 h0 x0 x1 x2 X).1 = [outP x0 X x1 x2] := by
  simp only [runD]
  rw [rows_eq, base_eq, gate_eq, tile_eq]
end Pieces

end Cert.Res
end
-- ==== Proof.Res.Held.lean ====
/- The weight columns, the landing buffer, and what is held between the grid points of the output product's kernel. -/
module

public import proofs.«01_k».proof.Proof.Res.Vals

@[expose] public section

set_option maxRecDepth 16384

noncomputable section

namespace Cert.Res

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The weight columns -/

/-- The columns of tile `b`, as indices of the weights. -/
def cset (b : Fin 8) : Finset S2x8192x4096.Idx := (Rect.unit (s := S2x8192x4096) ![0, 0, 512 * b.val] S1x8192x512.size (inb_col b)).set
theorem set_src (b : Fin 8) : (src b).view.set = cset b := by
  simp only [src, Memref.view_squeeze, View.set_reshape]; exact View.set_slice_whole _ _

theorem disj {b b' : Fin 8} (h : b ≠ b') : Disjoint (cset b) (cset b') := by
  refine Finset.disjoint_left.mpr fun i hi hi' => h (Fin.ext ?_)
  have h1 : 512 * b.val ≤ (i 2).val ∧ (i 2).val < 512 * b.val + 512 := (Rect.mem_set_unit.mp hi) 2
  have h2 : 512 * b'.val ≤ (i 2).val ∧ (i 2).val < 512 * b'.val + 512 := (Rect.mem_set_unit.mp hi') 2
  omega

section Cols
variable (c : Dev nD) (W : BufOf (F := F) c wM)

/-- The weights, but for the elements `A`. -/
def less (A : Finset S2x8192x4096.Idx) : sProp 𝕄 := ((c : Thread nD τ).loc main_arg1) ↦[Finset.univ \ A]{fullShare} W
theorem less_none : less (F := F) c W ∅ = (((c : Thread nD τ).loc main_arg1) ↦{fullShare} W : sProp 𝕄) := by
  unfold less; rw [Finset.sdiff_empty]

/-- A tile's columns taken out of what is left of the weights. -/
theorem cols_eq (b : Fin 8) : cols c W b = (((c : Thread nD τ).loc main_arg1) ↦[cset b]{fullShare} W : sProp 𝕄) := by
  unfold cols; rw [set_src]; rfl
theorem take (A : Finset S2x8192x4096.Idx) (b : Fin 8) (h : Disjoint (cset b) A) :
    less (F := F) c W A ⊣⊢ iprop(cols c W b ∗ less c W (A ∪ cset b)) := by
  rw [cols_eq]
  unfold less
  rw [show Finset.univ \ (A ∪ cset b) = (Finset.univ \ A) \ cset b from sdiff_sdiff_left.symm]
  exact pointsTo_split_subset (fun x hx => Finset.mem_sdiff.mpr ⟨Finset.mem_univ _, Finset.disjoint_left.mp h hx⟩)
end Cols

/-! ## The landing buffer -/

theorem set_slot : slot.view.set = Finset.univ := by
  simp only [slot, Memref.view_squeeze, View.set_reshape]
  refine (View.set_slice_whole _ _).trans (Finset.eq_univ_of_forall fun i => Rect.mem_set_unit.mpr fun a => ⟨?_, ?_⟩)
  · fin_cases a <;> exact Nat.zero_le _
  · fin_cases a <;> exact lt_of_lt_of_eq (i _).isLt (Nat.zero_add _).symm

section Slot
variable (c : Dev nD)
theorem of_eq {P Q : sProp (MT nD τ sig Unit (Elt F) ℕ (Pipeline.UD sig nD τ) ℕ)} (h : P = Q) : P ⊢ Q := h ▸ .rfl
theorem held_eq (f) : held (F := F) c f = (((c : Thread nD τ).loc cc0_scratch0) ↦{fullShare} f : sProp 𝕄) := by
  unfold held; rw [set_slot]; rfl
theorem held_in (f) : (((c : Thread nD τ).loc cc0_scratch0) ↦{fullShare} f : sProp 𝕄) ⊢ held (F := F) c f := of_eq (held_eq c f).symm
theorem held_out (f) : held (F := F) c f ⊢ (((c : Thread nD τ).loc cc0_scratch0) ↦{fullShare} f : sProp 𝕄) := of_eq (held_eq c f)
theorem slot_in : iprop(∃ f : Buf (Elt F) ((c : Thread nD τ).loc cc0_scratch0), ((c : Thread nD τ).loc cc0_scratch0) ↦{fullShare} f) ⊢ (iprop(∃ f, held (F := F) c f) : sProp 𝕄) := by
  iintro ⟨%f, H⟩
  iexists f; iapply (held_in (F := F) c f); iexact H
theorem slot_out : (iprop(∃ f, held (F := F) c f) : sProp 𝕄) ⊢ iprop(∃ f : Buf (Elt F) ((c : Thread nD τ).loc cc0_scratch0), ((c : Thread nD τ).loc cc0_scratch0) ↦{fullShare} f) := by
  iintro ⟨%f, H⟩
  iexists f; iapply (held_out (F := F) c f); iexact H
end Slot

/-! ## Between points -/

section Between
variable (c : Dev nD) (W : BufOf (F := F) c wM)

/-- Nothing in flight. -/
def idle : sProp 𝕄 :=
  iprop((∃ f, held (F := F) c f) ∗ semVal ((c : Thread nD τ), semN) 0 ∗ less c W ∅)
/-- Tile `b` in flight. -/
def moving (b : Fin 8) : sProp 𝕄 :=
  iprop((∃ f, fly c W b f) ∗ less c W (∅ ∪ cset b))
/-- Before step `k`: the next column tile in flight, if there is one. -/
def ringAt (k : ℕ) : sProp 𝕄 := if k = 0 then idle c W else if k ≤ 112 then moving c W (tl (k + 15)) else idle c W
/-- Before step `k`: the column tile's rounded columns. -/
def castAt (k : ℕ) : sProp 𝕄 :=
  if k = 0 then iprop(∃ d, owns (c : Thread nD τ) castM fullShare d) else owns (c : Thread nD τ) castM fullShare (castT c W (tl (k - 1)))
/-- What is held before step `k`. -/
def stateAt (k : ℕ) : sProp 𝕄 := iprop(castAt c W k ∗ (∃ r, prngReg c r) ∗ ringAt c W k)

theorem castAt_some (k : ℕ) : castAt c W k ⊢ (iprop(∃ d, owns (c : Thread nD τ) castM fullShare d) : sProp 𝕄) := by
  unfold castAt
  split
  · exact .rfl
  · iintro H; iexists _; iexact H
end Between

end Cert.Res
end
-- ==== Proof.Res.Frame.lean ====
/- The output product's kernel's launch: what each point does, and what a run leaves. -/
module

public import proofs.«01_k».proof.Proof.Res.Held
public import Idealize.ShloMosaic.Lib.Claim

@[expose] public section

set_option maxRecDepth 16384

noncomputable section

namespace Cert.Res

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- The kernel's own counter. -/
abbrev osem0 : Fin 1 → SemLoc sig := fun j => (![SemLoc.dma 8] : Fin 1 → SemLoc sig) j
theorem ownSemFacts0 : Pipeline.OwnSemFacts spec0 osem0 := by decide
theorem semN_eq : semN = SemLoc.dma 8 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), semN) 0 := by
  rw [Pipeline.ownSems0_eq_of_list c osem0 [0] (by decide) (by decide), semN_eq]; rfl
/-- The weights: read by the kernel's own transfers, staged by no window. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(((c : Thread nD τ).loc main_arg1) ↦{fullShare} V m c main_arg1) := by
  rw [BI.bigSep_eq_bigSepL_of_eq [main_arg1] (by decide) (by decide)]; rfl
/-- What the launch hands over, piece by piece. -/
theorem launch_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ d, owns (c : Thread nD τ) castM fullShare d)) ∗ (∃ r, prngReg c r)
          ∗ semVal ((c : Thread nD τ), semN) 0 ∗ iprop(((c : Thread nD τ).loc main_arg1) ↦{fullShare} V m c main_arg1)) := by
  rw [Pipeline.ΦD_eq, scopedRest0_eq, ownSems00_eq, hbmPts0_eq]; simp only [owns_whole]; try rfl

/-! ## The proof data -/

/-- The windows' staging buffers at a point. -/
abbrev rowsM (t : Fin cfg0.N) : Memref sig .tc .vmem S512x8192 .bf16 := win0_0.stage (cfg0.slots t 0)
abbrev rowsW (t : Fin cfg0.N) : (rowsM t).IsWhole := hstage0_0 ((cfg0.slots t 0).cast nbuf0_0)
abbrev baseM (t : Fin cfg0.N) : Memref sig .tc .vmem S512x512 .f32 := win0_1.stage (cfg0.slots t 1)
abbrev baseW (t : Fin cfg0.N) : (baseM t).IsWhole := hstage0_1 ((cfg0.slots t 1).cast nbuf0_1)
abbrev gateM (t : Fin cfg0.N) : Memref sig .tc .vmem S1x1x512 .f32 := win0_2.stage (cfg0.slots t 2)
abbrev gateW (t : Fin cfg0.N) : (gateM t).IsWhole := hstage0_2 ((cfg0.slots t 2).cast nbuf0_2)
abbrev outM (t : Fin cfg0.N) : Memref sig .tc .vmem S512x512 .f32 := win0_3.stage (cfg0.slots t 3)
abbrev outW (t : Fin cfg0.N) : (outM t).IsWhole := hstage0_3 ((cfg0.slots t 3).cast nbuf0_3)

/-- What point `t` leaves in the output's buffer. -/
def outAt (c : Dev nD) (t : Fin cfg0.N) : Vec F S512x512 .f32 :=
  k0_pay2 (iblk m c 0 t) (castT c (V m c main_arg1) (tl t.val)) (iblk m c 1 t) (iblk m c 2 t)

/-- The pipeline's proof data: the arrays as the region finds them, each window's buffer after a point, and what is held
    between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := stateAt c (V m c main_arg1) t.val
  q _ := fullShare
  owed _ := 0

theorem A_eq (c : Dev nD) (w : Fin cfg0.W) : (dats m 0 c).A w = V m c (Pipeline.arrRef spec0 w) := by
  dsimp only [dats]
theorem state_before (c : Dev nD) (t : Fin cfg0.N) : (dats m 0 c).Φ t.castSucc = stateAt c (V m c main_arg1) t.val := by
  dsimp only [dats]; simp only [Fin.val_castSucc]
theorem state_after (c : Dev nD) (t : Fin cfg0.N) : (dats m 0 c).Φ t.succ = stateAt c (V m c main_arg1) (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
/-- An input's window holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)

/-! ## A point, as the pipeline asks for it -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (rowsM t) fullShare ((dats m 0 c).before 0 t d))
    ∗ (∃ d, owns (c : Thread nD τ) (baseM t) fullShare ((dats m 0 c).before 1 t d))
    ∗ (∃ d, owns (c : Thread nD τ) (gateM t) fullShare ((dats m 0 c).before 2 t d))
    ∗ (∃ d, owns (c : Thread nD τ) (outM t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (rowsM t) fullShare ((dats m 0 c).after 0 t)
    ∗ owns (c : Thread nD τ) (baseM t) fullShare ((dats m 0 c).after 1 t)
    ∗ owns (c : Thread nD τ) (gateM t) fullShare ((dats m 0 c).after 2 t)
    ∗ owns (c : Thread nD τ) (outM t) fullShare ((dats m 0 c).after 3 t))

/-- A column tile differs from the next one. -/
theorem tl_next (k : ℕ) : tl k ≠ tl (k + 16) := fun h => by
  have := congrArg Fin.val h
  simp only [tl] at this
  omega
theorem tl_same (k : ℕ) (h : k % 16 = 0) : tl (k + 15) = tl k := Fin.ext (by simp only [tl]; omega)
theorem tl_back (k : ℕ) (h : ¬k % 16 = 0) : tl (k - 1) = tl k := Fin.ext (by simp only [tl]; omega)
theorem tl_fwd (k : ℕ) (h : ¬k % 16 = 0) : tl (k + 15) = tl (k + 1 + 15) := Fin.ext (by simp only [tl]; omega)

section Moves
variable (c : Dev nD) (W : BufOf (F := F) c wM)

/-- What a point's run stored to the output's buffer is the output block there. -/
theorem own_out (M : Memref sig .tc .vmem S512x512 .f32) (x : Vec F S512x8192 .bf16) (X : Vec F S1x8192x512 .bf16) (y : Vec F S512x512 .f32) (g : Vec F S1x1x512 .f32)
    (L) (hL : L = [outP x X y g]) :
    (iprop(∃ f, M.view.loc (c : Thread nD τ) ↦[M.view.set]{fullShare} M.view.writes (Elt F) f L) : sProp 𝕄)
      ⊢ owns (c : Thread nD τ) M fullShare (k0_pay2 x X y g) := by
  subst hL
  unfold owns
  iintro ⟨%f, H⟩
  iexists _; isplitr
  swap; · iexact H
  ipureintro; exact read_out _ _ _ _ _ _
/-- What it stored to the rounded tile is the rounded tile there. -/
theorem own_cast (X : Vec F S1x8192x512 .bf16) (L) (hL : L = [tileP X]) :
    (iprop(∃ f, castM.view.loc (c : Thread nD τ) ↦[castM.view.set]{fullShare} castM.view.writes (Elt F) f L) : sProp 𝕄)
      ⊢ owns (c : Thread nD τ) castM fullShare X := by
  subst hL
  unfold owns
  iintro ⟨%f, H⟩
  iexists _; isplitr
  swap; · iexact H
  ipureintro; exact read_tile _ _ _

/-- Two tiles' columns taken out of the weights, in either order. -/
theorem both (b b' : Fin 8) (h : b ≠ b') :
    less (F := F) c W (∅ ∪ cset b) ⊣⊢ iprop(cols c W b' ∗ less c W (∅ ∪ cset b' ∪ cset b)) := by
  rw [show ∅ ∪ cset b' ∪ cset b = ∅ ∪ cset b ∪ cset b' from by rw [Finset.empty_union, Finset.empty_union, Finset.union_comm]]
  exact take c W (∅ ∪ cset b) b' (by rw [Finset.empty_union]; exact disj h.symm)
theorem one (b : Fin 8) : less (F := F) c W ∅ ⊣⊢ iprop(cols c W b ∗ less c W (∅ ∪ cset b)) := take c W ∅ b (Finset.disjoint_empty_right _)
theorem back (b b' : Fin 8) (h : b ≠ b') :
    iprop(cols c W b ∗ less (F := F) c W (∅ ∪ cset b' ∪ cset b)) ⊢ less c W (∅ ∪ cset b') :=
  (take c W (∅ ∪ cset b') b (by rw [Finset.empty_union]; exact disj h)).2
end Moves

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3, state_before m c t, state_after m c t]
  unfold Dat.owesAt Pipeline.owesWithin
  rw [show (dats m 0 c).owed t.castSucc = 0 from rfl, show (dats m 0 c).owed t.succ = 0 from rfl]
  generalize hw : V m c main_arg1 = W
  have hN : t.val < 128 := lt_of_lt_of_eq t.isLt (show cfg0.N = 128 from N_0)
  have hout : outAt m c t = k0_pay2 (iblk m c 0 t) (castT c W (tl t.val)) (iblk m c 1 t) (iblk m c 2 t) := by rw [← hw]; rfl
  rw [hout]
  unfold stateAt
  have hne := tl_next t.val
  by_cases h0 : t.val % 16 = 0
  · have h0' := (atFirst_iff t).mpr h0
    have hcast : castAt (F := F) c W (t.val + 1) = owns (c : Thread nD τ) castM fullShare (castT c W (tl t.val)) := by
      unfold castAt; rw [if_neg (Nat.succ_ne_zero _), Nat.add_sub_cancel]
    rw [hcast]
    by_cases h1 : t.val < 16
    · have hz : t.val = 0 := by omega
      have h1' := (atStart_iff t).mpr h1
      have h2' := (hasNext_iff t).mpr (by omega)
      rw [show ringAt (F := F) c W t.val = idle c W from if_pos hz,
        show ringAt (F := F) c W (t.val + 1) = moving c W (tl (t.val + 16)) from by unfold ringAt; rw [if_neg (by omega), if_pos (by omega)]]
      unfold idle moving
      iintro ⟨⟨HC, Hg, ⟨HG, Hs, Hl⟩⟩, ⟨%Ws, -, HW⟩, ⟨%d0, H0⟩, ⟨%d1, H1⟩, ⟨%d2, H2⟩, ⟨%d3, H3⟩⟩
      ihave HC := (castAt_some (F := F) c W t.val) $$ HC
      ihave Hl := (one (F := F) c W (tl (t.val + 16))).1 $$ Hl
      icases Hl with ⟨Hn, Hl⟩
      ihave Hl := (both (F := F) c W (tl (t.val + 16)) (tl t.val) hne.symm).1 $$ Hl
      icases Hl with ⟨Hc, Hl⟩
      iapply ((runA c t _ (rowsW t) _ (baseW t) _ (gateW t) _ (outW t) h0' h1' h2' (iblk m c 0 t) (iblk m c 1 t) (iblk m c 2 t) W).2 Ws _)
      isplitl [H0]; · iexact H0
      isplitl [H1]; · iexact H1
      isplitl [H2]; · iexact H2
      isplitl [H3]; · iexists _; iexact H3
      isplitl [HC]; · iexact HC
      isplitl [HG]; · iexact HG
      isplitl [Hs]; · iexact Hs
      isplitl [Hc]; · iexact Hc
      isplitl [Hn]; · iexact Hn
      isplitl [HW]; · iexact HW
      iintro ⟨H0, H1, H2, H3, HC, Hf, Hc, ⟨%W', HW⟩⟩
      isplitl [HC Hg Hf Hc Hl]
      · isplitl [HC]; · iapply (own_cast (F := F) c _ _ (piecesA2 c t _ (rowsW t) _ (baseW t) _ (gateW t) _ (outW t) _ _ _ W h0' h1' h2')); iexact HC
        isplitl [Hg]; · iexact Hg
        isplitl [Hf]; · iexact Hf
        iapply (both (F := F) c W (tl (t.val + 16)) (tl t.val) hne.symm).2
        isplitl [Hc]; · iexact Hc
        iexact Hl
      isplitl [HW]
      · iexists W'; isplitr; · ipureintro; exact fun _ _ => Or.inl trivial
        iexact HW
      isplitl [H0]; · iexact H0
      isplitl [H1]; · iexact H1
      isplitl [H2]; · iexact H2
      iapply (own_out (F := F) c _ _ _ _ _ _ (piecesA1 c t _ (rowsW t) _ (baseW t) _ (gateW t) _ (outW t) _ _ _ W h0' h1' h2')); iexact H3
    · have h1' : ¬atStart (grid0.coords t) := fun h => h1 ((atStart_iff t).mp h)
      rw [show ringAt (F := F) c W t.val = moving c W (tl t.val) from by unfold ringAt; rw [if_neg (by omega), if_pos (by omega), tl_same _ h0]]
      by_cases h2 : t.val < 112
      · have h2' := (hasNext_iff t).mpr h2
        rw [show ringAt (F := F) c W (t.val + 1) = moving c W (tl (t.val + 16)) from by unfold ringAt; rw [if_neg (by omega), if_pos (by omega)]]
        unfold moving
        iintro ⟨⟨HC, Hg, ⟨Hf, Hl⟩⟩, ⟨%Ws, -, HW⟩, ⟨%d0, H0⟩, ⟨%d1, H1⟩, ⟨%d2, H2⟩, ⟨%d3, H3⟩⟩
        ihave HC := (castAt_some (F := F) c W t.val) $$ HC
        ihave Hl := (both (F := F) c W (tl t.val) (tl (t.val + 16)) hne).1 $$ Hl
        icases Hl with ⟨Hn, Hl⟩
        iapply ((runB c t _ (rowsW t) _ (baseW t) _ (gateW t) _ (outW t) h0' h1' h2' (iblk m c 0 t) (iblk m c 1 t) (iblk m c 2 t) W).2 Ws _)
        isplitl [H0]; · iexact H0
        isplitl [H1]; · iexact H1
        isplitl [H2]; · iexact H2
        isplitl [H3]; · iexists _; iexact H3
        isplitl [HC]; · iexact HC
        isplitl [Hf]; · iexact Hf
        isplitl [Hn]; · iexact Hn
        isplitl [HW]; · iexact HW
        iintro ⟨H0, H1, H2, H3, HC, Hf, Hc, ⟨%W', HW⟩⟩
        isplitl [HC Hg Hf Hc Hl]
        · isplitl [HC]; · iapply (own_cast (F := F) c _ _ (piecesB2 c t _ (rowsW t) _ (baseW t) _ (gateW t) _ (outW t) _ _ _ W h0' h1' h2')); iexact HC
          isplitl [Hg]; · iexact Hg
          isplitl [Hf]; · iexact Hf
          iapply (back (F := F) c W (tl t.val) (tl (t.val + 16)) hne)
          isplitl [Hc]; · iexact Hc
          iexact Hl
        isplitl [HW]
        · iexists W'; isplitr; · ipureintro; exact fun _ _ => Or.inl trivial
          iexact HW
        isplitl [H0]; · iexact H0
        isplitl [H1]; · iexact H1
        isplitl [H2]; · iexact H2
        iapply (own_out (F := F) c _ _ _ _ _ _ (piecesB1 c t _ (rowsW t) _ (baseW t) _ (gateW t) _ (outW t) _ _ _ W h0' h1' h2')); iexact H3
      · have h2' : ¬hasNext (grid0.coords t) := fun h => h2 ((hasNext_iff t).mp h)
        rw [show ringAt (F := F) c W (t.val + 1) = idle c W from by unfold ringAt; rw [if_neg (by omega), if_neg (by omega)]]
        unfold moving idle
        iintro ⟨⟨HC, Hg, ⟨Hf, Hl⟩⟩, ⟨%Ws, -, HW⟩, ⟨%d0, H0⟩, ⟨%d1, H1⟩, ⟨%d2, H2⟩, ⟨%d3, H3⟩⟩
        ihave HC := (castAt_some (F := F) c W t.val) $$ HC
        iapply ((runC c t _ (rowsW t) _ (baseW t) _ (gateW t) _ (outW t) h0' h1' h2' (iblk m c 0 t) (iblk m c 1 t) (iblk m c 2 t) W).2 Ws _)
        isplitl [H0]; · iexact H0
        isplitl [H1]; · iexact H1
        isplitl [H2]; · iexact H2
        isplitl [H3]; · iexists _; iexact H3
        isplitl [HC]; · iexact HC
        isplitl [Hf]; · iexact Hf
        isplitl [HW]; · iexact HW
        iintro ⟨H0, H1, H2, H3, HC, HG, Hs, Hc, ⟨%W', HW⟩⟩
        isplitl [HC Hg HG Hs Hc Hl]
        · isplitl [HC]; · iapply (own_cast (F := F) c _ _ (piecesC2 c t _ (rowsW t) _ (baseW t) _ (gateW t) _ (outW t) _ _ _ W h0' h1' h2')); iexact HC
          isplitl [Hg]; · iexact Hg
          isplitl [HG]; · iexact HG
          isplitl [Hs]; · iexact Hs
          iapply (one (F := F) c W (tl t.val)).2
          isplitl [Hc]; · iexact Hc
          iexact Hl
        isplitl [HW]
        · iexists W'; isplitr; · ipureintro; exact fun _ _ => Or.inl trivial
          iexact HW
        isplitl [H0]; · iexact H0
        isplitl [H1]; · iexact H1
        isplitl [H2]; · iexact H2
        iapply (own_out (F := F) c _ _ _ _ _ _ (piecesC1 c t _ (rowsW t) _ (baseW t) _ (gateW t) _ (outW t) _ _ _ W h0' h1' h2')); iexact H3
  · have h0' : ¬atFirst (grid0.coords t) := fun h => h0 ((atFirst_iff t).mp h)
    have hz : t.val ≠ 0 := fun h => h0 (by rw [h])
    have e1 : castAt (F := F) c W t.val = owns (c : Thread nD τ) castM fullShare (castT c W (tl t.val)) := by
      unfold castAt; rw [if_neg hz, tl_back _ h0]
    have e2 : castAt (F := F) c W (t.val + 1) = owns (c : Thread nD τ) castM fullShare (castT c W (tl t.val)) := by
      unfold castAt; rw [if_neg (Nat.succ_ne_zero _), Nat.add_sub_cancel]
    have e3 : ringAt (F := F) c W (t.val + 1) = ringAt c W t.val := by
      unfold ringAt
      rw [if_neg hz, if_neg (Nat.succ_ne_zero _), tl_fwd _ h0]
      by_cases h : t.val ≤ 112
      · rw [if_pos h, if_pos (by omega)]
      · rw [if_neg h, if_neg (by omega)]
    rw [e1, e2, e3]
    iintro ⟨⟨HC, Hg, Hr⟩, ⟨%Ws, -, HW⟩, ⟨%d0, H0⟩, ⟨%d1, H1⟩, ⟨%d2, H2⟩, ⟨%d3, H3⟩⟩
    iapply ((runD c t _ (rowsW t) _ (baseW t) _ (gateW t) _ (outW t) h0' (iblk m c 0 t) (iblk m c 1 t) (iblk m c 2 t) (castT c W (tl t.val))).2 Ws _)
    isplitl [H0]; · iexact H0
    isplitl [H1]; · iexact H1
    isplitl [H2]; · iexact H2
    isplitl [H3]; · iexists _; iexact H3
    isplitl [HC]; · iexact HC
    isplitl [HW]; · iexact HW
    iintro ⟨H0, H1, H2, H3, HC, ⟨%W', HW⟩⟩
    isplitl [HC Hg Hr]
    · isplitl [HC]; · iexact HC
      isplitl [Hg]; · iexact Hg
      iexact Hr
    isplitl [HW]
    · iexists W'; isplitr; · ipureintro; exact fun _ _ => Or.inl trivial
      iexact HW
    isplitl [H0]; · iexact H0
    isplitl [H1]; · iexact H1
    isplitl [H2]; · iexact H2
    iapply (own_out (F := F) c _ _ _ _ _ _ (piecesD c t _ (rowsW t) _ (baseW t) _ (gateW t) _ (outW t) _ _ _ h0' _)); iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over what is held before the first point, -/
theorem hin (c : Dev nD) : Pipeline.ΦD osem0 spec0 H0 (V m) c ⊢ (dats m 0 c).Φ 0 := by
  rw [launch_eq, show (dats m 0 c).Φ 0 = stateAt c (V m c main_arg1) 0 from rfl]
  unfold stateAt castAt ringAt idle
  rw [if_pos rfl, if_pos rfl, less_none]
  iintro ⟨⟨HS, HC⟩, Hg, Hs, Hw⟩
  ihave HS := (slot_in (F := F) c) $$ HS
  isplitl [HC]; · iexact HC
  isplitl [Hg]; · iexact Hg
  isplitl [HS]; · iexact HS
  isplitl [Hs]; · iexact Hs
  iexact Hw
/-- and gets back what is held after the last. -/
theorem hout (c : Dev nD) : (dats m 0 c).Φ (Fin.last cfg0.N) ⊢ Pipeline.ΦD osem0 spec0 H0 (V m) c := by
  rw [launch_eq, show (dats m 0 c).Φ (Fin.last cfg0.N) = stateAt c (V m c main_arg1) grid0.N from rfl]
  unfold stateAt
  rw [show ringAt c (V m c main_arg1) grid0.N = idle c (V m c main_arg1) from by unfold ringAt; rw [N_0]; rfl]
  unfold idle
  rw [less_none]
  iintro ⟨HC, Hg, HG, Hs, Hw⟩
  isplitl [HC HG]
  · isplitl [HG]; · iapply (slot_out (F := F) c); iexact HG
    iapply (castAt_some (F := F) c (V m c main_arg1) grid0.N); iexact HC
  isplitl [Hg]; · iexact Hg
  isplitl [Hs]; · iexact Hs
  iexact Hw

/-! ## The run -/

/-- Main up to the region is the gate's reshape. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with the arrays as the proof data say, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := entry m Variants.none) (hA := A_eq m)
    (hin := hin m) (hout := hout m)

/-- After a run the output is the proof data's array, and the arguments are as launched. -/
theorem post_arrays (r : PUnit × MemSt nD τ sig (Elt F)) (h : Pipeline.FramePost cfgs (dats m) 0 (V m) r) (c : Dev nD) :
    r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c).1 3, ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).2 main_arg3 (Pipeline.mem_restRefs_of main_arg3 (by decide) (by decide))).trans (V_main_arg3 m c)⟩

theorem run_blocks : θ_run defs (onTc (τ := τ) (main (F := F))) ⟨m, fun _ => 0, ρ⟩ fun r => ∀ c : Dev nD,
      r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => post_arrays m r h.1 c) (run_all m ρ)

/-- The frame: a run ends, its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (post_arrays m r h.1 c).2, h.2⟩) (run_all m ρ)

end Cert.Res
end
-- ==== Proof.Res.Ref.lean ====
/- The output product's reference's result at an index. -/
module

public import proofs.«01_k».proof.Proof.Gen.Reference3Ideal.Run
public import Idealize.ShloMosaic.Lib.Pipeline.ValueKit
public import Idealize.ShloMosaic.Lib.ValueLayout
public import Idealize.ShloMosaic.Lib.IdealHost

@[expose] public section
set_option maxRecDepth 16384
noncomputable section
namespace Cert.Res
open Cert.Reference3Ideal Cert.Reference3Ideal.Gen Idealize.ShloMosaic Idealize.ShloMosaic.TcCoe Idealize.SL.Sem Idealize.ShloMosaic.StableHlo

/-- The product of the rows with the first of the two weights. -/
def refProd (a : FVec Ideal S8192x8192 .bf16) (w : FVec Ideal S2x8192x4096 .f32) : FVec Ideal S8192x4096 .f32 :=
  Host.dotGeneral dot_S8192x8192_S8192x4096_S8192x4096_1_0_0_1_n_n none (extf .f32 a bitsLt_bf16_f32)
    (shapeCast _ (extractStridedSlice S1x8192x4096 ![0, 0, 0] w slices_S2x8192x4096_S1x8192x4096_0_0_0) shapeCasts_S1x8192x4096_S8192x4096)

/-- The gate, repeated over a batch's rows. -/
def refGate (g : FVec Ideal S2x4096 .f32) : FVec Ideal S8192x4096 .f32 :=
  shapeCast _ (broadcastInDim S2x4096x4096 ![0, 1, 2] bcast_S2x1x4096_S2x4096x4096_0_1_2 (broadcastInDim S2x1x4096 ![0, 2] bcast_S2x4096_S2x1x4096_0_2 g)) shapeCasts_S2x4096x4096_S8192x4096

/-- The base and half the gated product. -/
def refOut (a : FVec Ideal S8192x8192 .bf16) (w : FVec Ideal S2x8192x4096 .f32) (x : FVec Ideal S8192x4096 .f32) (g : FVec Ideal S2x4096 .f32) : FVec Ideal S8192x4096 .f32 :=
  addf x (mulf (mulf (broadcastInDim S8192x4096 ![] bcast_S_S8192x4096 (constant S_ .f32 0x3F000000#32)) (refGate g)) (refProd a w))

/-- An element of the product: row `r`, column `e`. -/
def dotAt (a : FVec Ideal S8192x8192 .bf16) (w : FVec Ideal S2x8192x4096 .f32) (r : Fin 8192) (e : Fin 4096) : EReal :=
  ∑ k : Fin 8192, a (ix2 r k) * w (ix3 0 k e)

/-- Half, as both programs write it. -/
def half : EReal := Ideal.ofBits .f32 0x3F000000#32

theorem refProd_apply (a : FVec Ideal S8192x8192 .bf16) (w : FVec Ideal S2x8192x4096 .f32) (r : Fin 8192) (e : Fin 4096) :
    refProd a w (ix2 r e) = dotAt a w r e := by
  pointwise [refProd, dotAt]

/-- Row `s` of batch `b`. -/
def rowOf (b : Fin 2) (s : Fin 4096) : Fin 8192 := ⟨b.val * 4096 + s.val, by have := b.isLt; omega⟩

theorem refGate_apply (g : FVec Ideal S2x4096 .f32) (b : Fin 2) (s : Fin 4096) (e : Fin 4096) :
    refGate g (ix2 (rowOf b s) e) = g (ix2 b e) := by
  pointwise [refGate, rowOf]

theorem refOut_apply (a : FVec Ideal S8192x8192 .bf16) (w : FVec Ideal S2x8192x4096 .f32) (x : FVec Ideal S8192x4096 .f32) (g : FVec Ideal S2x4096 .f32)
    (r : Fin 8192) (e : Fin 4096) :
    refOut a w x g (ix2 r e) = x (ix2 r e) + half * refGate g (ix2 r e) * refProd a w (ix2 r e) := by
  pointwise [refOut, half]

variable (m : (ℓ : Loc nD τ sig) → Buf (Elt Ideal) ℓ) (ρ : Dev nD → PrngReg)

/-- Every run of the reference ends with this result, its arguments as launched. -/
theorem ref_run : θ_run defs (onTc (τ := τ) (main (F := Ideal))) ⟨m, fun _ => 0, ρ⟩ fun r => ∀ c : Dev nD,
      r.2.mem ((c.tc : Thread nD τ).loc main_v10)
        = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.Res
end
-- ==== Proof.Res.Tiles.lean ====
/- The output product's kernel's rounded tile and its output block, at an index. -/
module

public import proofs.«01_k».proof.Proof.Res.Frame
public import proofs.«01_k».proof.Proof.Res.Ref
public import Idealize.ShloMosaic.Lib.Pipeline.ValueKit
public import Idealize.ShloMosaic.Lib.Pipeline.Value
public import Idealize.ShloMosaic.Lib.ValueLayout
public import Idealize.ShloMosaic.Lib.WritesUnit
public import Idealize.ShloMosaic.Lib.IdealHost

@[expose] public section
set_option maxRecDepth 16384
noncomputable section
namespace Cert.Res
open Cert.Kernel3Ideal Cert.Kernel3Ideal.Gen Idealize.ShloMosaic Idealize.ShloMosaic.TcCoe Idealize.SL.Sem

/-! ## The tile -/

section Tiles
variable (c : Dev nD) (W : BufOf (F := Ideal) c wM) (b : Fin 8)

/-- Column `e` of tile `b`. -/
def colB (e : Fin 512) : Fin 4096 := ⟨512 * b.val + e.val, by have := b.isLt; omega⟩

/-- A column of the tile, matched with the tile without its unit axis. -/
theorem reshape_at (h : (⟨2, ![8192, 512]⟩ : Shape).numel = (⟨3, ![1, 8192, 512]⟩ : Shape).numel) (k : Fin 8192) (e : Fin 512) :
    Shape.reshapeEquiv h (ix2 k e) = ix3 (0 : Fin 1) k e := ValueIdx.reshapeEquiv_ix2_1ab h k e

theorem src_at (k : Fin 8192) (e : Fin 512) : (src b).view.read (Elt Ideal) W (ix2 k e) = W (ix3 0 k (colB b e)) := by
  refine (congrFun (Memref.read_squeeze_slice wM _ (fun _ => rfl) squeezes_S1x8192x512_S8192x512 (squeezes_S1x8192x512_S8192x512).numel_eq W) (ix2 k e)).trans ?_
  show wM.view.readAt (Elt Ideal) (Rect.unit (s := S2x8192x4096) ![0, 0, 512 * b.val] S1x8192x512.size (inb_col b)).toLoadRect W
    (Shape.reshapeEquiv _ (ix2 k e)) = _
  rw [reshape_at]
  refine congrArg W (funext fun a => Fin.ext ?_)
  fin_cases a
  · rfl
  · show 0 + 1 * k.val = k.val; omega
  · show 512 * b.val + 1 * e.val = 512 * b.val + e.val; omega

/-- The landing buffer stored whole reads what was stored. -/
theorem read_landed {sg : RefSig} {κ : Kind} {sp : Space} {s : Shape} {e : EltTy} {Val : EltTy → Type} (v : View sg κ sp s e)
    (f : v.ty.Contents Val) (w : s.Idx → Val e) (y : s.Idx) :
    v.read Val (v.writes Val f [⟨Rect.whole s, w⟩]) y = w y :=
  (congrArg (v.read Val (v.writes Val f [⟨Rect.whole s, w⟩])) (Rect.emb_whole_apply s y).symm).trans
    (View.read_writes_cons_emb v f (Rect.whole s) w [] y)

theorem load_at (k : Fin 8192) (e : Fin 512) : loadT c W b (ix3 0 k e) = W (ix3 0 k (colB b e)) := by
  have h := congrFun (Memref.read_squeeze_slice stageM (Rect.unit (s := S1x8192x512) ![0, 0, 0] S1x8192x512.size inb_S1x8192x512_S1x8192x512_0_0_0)
    (fun _ => rfl) squeezes_S1x8192x512_S8192x512 (squeezes_S1x8192x512_S8192x512).numel_eq (land c W b slot.view.junk)) (ix2 k e)
  have h2 : shapeCast S8192x512 (loadT c W b) (squeezes_S1x8192x512_S8192x512).numel_eq (ix2 k e) = loadT c W b (ix3 0 k e) :=
    congrArg (loadT c W b) (reshape_at _ k e)
  exact h2.symm.trans (h.symm.trans ((read_landed slot.view _ _ _).trans (src_at c W b k e)))

theorem pay1_at (x : Vec Ideal S1x8192x512 .f32) (k : Fin 8192) (e : Fin 512) : k0_pay1 x (ix3 0 k e) = x (ix3 0 k e) := by
  pointwise [k0_pay1]

theorem cast_at (k : Fin 8192) (e : Fin 512) : castT c W b (ix3 0 k e) = W (ix3 0 k (colB b e)) := by
  unfold castT
  rw [pay1_at]
  exact load_at c W b k e

end Tiles

/-! ## The output block -/

theorem block_at (x : Vec Ideal S512x8192 .bf16) (X : Vec Ideal S1x8192x512 .bf16) (y : Vec Ideal S512x512 .f32) (g : Vec Ideal S1x1x512 .f32) (r : Fin 512) (e : Fin 512) :
    k0_pay2 x X y g (ix2 r e) = y (ix2 r e) + half * g (ix3 0 0 e) * ∑ k : Fin 8192, x (ix2 r k) * X (ix3 0 k e) := by
  pointwise [k0_pay2, half]

end Cert.Res
end
-- ==== Proof.Res.Out.lean ====
/- The output product's kernel's output array at an index, from the program's arguments, is its reference's result. -/
module

public import proofs.«01_k».proof.Proof.Res.Tiles

@[expose] public section
set_option maxRecDepth 16384
noncomputable section
namespace Cert.Res
open Cert.Kernel3Ideal Cert.Kernel3Ideal.Gen Idealize.ShloMosaic Idealize.ShloMosaic.TcCoe Idealize.SL.Sem

/-! ## A point's blocks -/

variable (m : (ℓ : Loc nD τ sig) → Buf (Elt Ideal) ℓ) (c : Dev nD) (t : Fin cfg0.N)

theorem idx : ∀ t : Fin cfg0.N,
    win0_0.index t = ![(grid0.coords t 1).val, 0] ∧ win0_1.index t = ![(grid0.coords t 1).val, (grid0.coords t 0).val]
    ∧ win0_2.index t = ![(grid0.coords t 1).val / 8, 0, (grid0.coords t 0).val]
    ∧ win0_3.index t = ![(grid0.coords t 1).val, (grid0.coords t 0).val]
    ∧ t.val / 16 % 8 = (grid0.coords t 0).val :=
  (by decide +kernel : ∀ t : Fin grid0.N, _)

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

theorem blocks3 : ((cfg0.win 3).blk t).view.read (Elt Ideal) ((dats m 0 c).arrAt 3 cfg0.N) = (dats m 0 c).flushed 3 t :=
  (dats m 0 c).read_blk_arrAt_eq_flushed 3 disjoint3 cfg0.N t t.isLt (flush0_3 t)

theorem flushed3 : (dats m 0 c).flushed 3 t = (cfg0.win 3).cut (grid0.coords t) (outAt m c t) := by
  show (cfg0.win 3).cut (grid0.coords t) ((dats m 0 c).after 3 t) = _
  rw [after0_3]

/-- The grid point's column tile and row block. -/
abbrev jt : Fin 8 := grid0.coords t 0
abbrev it : Fin 16 := grid0.coords t 1

/-- Row `r` of the point's row block, its batch, and column `e` of the point's column tile. -/
def rowT (r : Fin 512) : Fin 8192 := ⟨(it t).val * 512 + r.val, by have := (it t).isLt; omega⟩
def batT : Fin 2 := ⟨(it t).val / 8, by have := (it t).isLt; omega⟩
def colT (e : Fin 512) : Fin 4096 := ⟨(jt t).val * 512 + e.val, by have := (jt t).isLt; omega⟩

theorem read0 (r : Fin 512) (k : Fin 8192) :
    iblk m c 0 t (ix2 r k) = m ((c : Thread nD τ).loc main_arg0) (ix2 (rowT t r) k) := by
  blk_ext [iblk, V, idx t, rowT]
theorem read1 (r : Fin 512) (e : Fin 512) :
    iblk m c 1 t (ix2 r e) = m ((c : Thread nD τ).loc main_arg2) (ix2 (rowT t r) (colT t e)) := by
  blk_ext [iblk, V, idx t, rowT, colT]

/-- The gate as the host reshapes it. -/
theorem reshaped (g : FVec Ideal S2x4096 .f32) (b : Fin 2) (e : Fin 4096) : shapeCast S2x1x4096 g shapeCasts_S2x4096_S2x1x4096 (ix3 b 0 e) = g (ix2 b e) := by
  pointwise []
theorem gate_arr : V m c main_v0 = shapeCast S2x1x4096 (m ((c : Thread nD τ).loc main_arg3)) shapeCasts_S2x4096_S2x1x4096 := by
  unfold V hostOps0
  after_results <;> rfl
theorem read2 (e : Fin 512) :
    iblk m c 2 t (ix3 0 0 e) = m ((c : Thread nD τ).loc main_arg3) (ix2 (batT t) (colT t e)) := by
  have h : iblk m c 2 t (ix3 0 0 e) = V m c main_v0 (ix3 (batT t) 0 (colT t e)) := by
    blk_ext [iblk, idx t, batT, colT]
    exact Nat.add_zero _
  rw [h, gate_arr]
  exact reshaped _ _ _

theorem tl_jt : tl t.val = jt t := Fin.ext (idx t).2.2.2.2
theorem col_eq (e : Fin 512) : colB (jt t) e = colT t e :=
  Fin.ext (by show 512 * (jt t).val + e.val = (jt t).val * 512 + e.val; omega)

/-- An element of the result: row `r`, of batch `b`, and column `e`. -/
def resAt (a : FVec Ideal S8192x8192 .bf16) (w : FVec Ideal S2x8192x4096 .f32) (x : FVec Ideal S8192x4096 .f32) (g : FVec Ideal S2x4096 .f32)
    (r : Fin 8192) (b : Fin 2) (e : Fin 4096) : EReal := x (ix2 r e) + half * g (ix2 b e) * dotAt a w r e

/-- The output block a point leaves, at an index. -/
theorem out_at (r : Fin 512) (e : Fin 512) :
    outAt m c t (ix2 r e)
      = resAt (m ((c : Thread nD τ).loc main_arg0)) (m ((c : Thread nD τ).loc main_arg1)) (m ((c : Thread nD τ).loc main_arg2)) (m ((c : Thread nD τ).loc main_arg3))
          (rowT t r) (batT t) (colT t e) := by
  unfold outAt
  rw [tl_jt, block_at]
  simp only [cast_at, read0, read1, read2, col_eq]
  rw [V_main_arg1]
  rfl

/-- The output array at a row and a column of a point's block. -/
theorem arr_at (r : Fin 512) (e : Fin 512) :
    (dats m 0 c).arrAt 3 cfg0.N (ix2 (rowT t r) (colT t e)) = outAt m c t (ix2 r e) := by
  refine Eq.trans ?_ ((congrFun (blocks3 m c t) (ix2 r e)).trans ?_)
  · blk_ext [idx t, rowT, colT]
  · rw [flushed3]; rfl

/-! ## The whole array -/

/-- Every column tile and row block has its grid point. -/
theorem point_vals : ∀ (j : Fin 8) (i : Fin 16), ∃ t : Fin grid0.N, (grid0.coords t 0).val = j.val ∧ (grid0.coords t 1).val = i.val := by
  decide +kernel

theorem point_of (j : Fin 8) (i : Fin 16) : ∃ t : Fin cfg0.N, jt t = j ∧ it t = i :=
  (point_vals j i).imp fun t h => ⟨Fin.ext h.1, Fin.ext h.2⟩

/-- A point's row, within its batch. -/
theorem row_eq (r : Fin 512) : rowT t r = rowOf (batT t) ⟨(it t).val % 8 * 512 + r.val, by omega⟩ :=
  Fin.ext (by show (it t).val * 512 + r.val = (it t).val / 8 * 4096 + ((it t).val % 8 * 512 + r.val); omega)

/-- One output element. -/
theorem elem (r : Fin 512) (e : Fin 512) : (dats m 0 c).arrAt 3 cfg0.N (ix2 (rowT t r) (colT t e))
    = refOut (m ((c : Thread nD τ).loc main_arg0)) (m ((c : Thread nD τ).loc main_arg1)) (m ((c : Thread nD τ).loc main_arg2)) (m ((c : Thread nD τ).loc main_arg3))
        (ix2 (rowT t r) (colT t e)) := by
  have hg := refGate_apply (m ((c : Thread nD τ).loc main_arg3)) (batT t) ⟨(it t).val % 8 * 512 + r.val, by omega⟩ (colT t e)
  rw [← row_eq] at hg
  rw [arr_at, out_at, refOut_apply, refProd_apply, hg]
  rfl

/-- The whole array. -/
theorem arr_eq : (dats m 0 c).arrAt 3 cfg0.N
    = refOut (m ((c : Thread nD τ).loc main_arg0)) (m ((c : Thread nD τ).loc main_arg1)) (m ((c : Thread nD τ).loc main_arg2)) (m ((c : Thread nD τ).loc main_arg3)) := by
  funext y
  have hy : ∃ (i : Fin 8192) (e : Fin 4096), y = ix2 i e := ⟨y 0, y 1, eq_ix2 y⟩
  obtain ⟨i, e, rfl⟩ := hy
  have hi := i.isLt
  have he := e.isLt
  obtain ⟨t, hj, hb⟩ := point_of ⟨e.val / 512, by omega⟩ ⟨i.val / 512, by omega⟩
  have h1 : i = rowT t ⟨i.val % 512, by omega⟩ := Fin.ext (by
    show i.val = (it t).val * 512 + i.val % 512
    rw [hb]; show i.val = i.val / 512 * 512 + i.val % 512; omega)
  have h2 : e = colT t ⟨e.val % 512, by omega⟩ := Fin.ext (by
    show e.val = (jt t).val * 512 + e.val % 512
    rw [hj]; show e.val = e.val / 512 * 512 + e.val % 512; omega)
  have h3 := congrArg₂ (fun (a : Fin 8192) (b : Fin 4096) => ix2 a b) h1 h2
  exact (congrArg _ h3).trans ((elem m c t _ _).trans (congrArg _ h3).symm)

end Cert.Res
end
-- ==== Proof.Gates.Parts.lean ====
/- What the gates' kernel holds between grid points: the buffer its weight tile lands in, the weight rows
   each transfer reads, and the transfer in flight. -/
module

public import proofs.«01_k».proof.Proof.Gen.Kernel4Ideal.Frame
public import proofs.«01_k».proof.Proof.Gen.Kernel4Ideal.Points
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Gates

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Where in the grid each branch is taken -/

/-- The first row block of a weight tile. -/
abbrev atFirst (i : grid0.Coords) : Prop := k0_cond1 i = 1#1
/-- The first weight tile. -/
abbrev atStart (i : grid0.Coords) : Prop := k0_cond2 i = 1#1
/-- A weight tile follows. -/
abbrev hasNext (i : grid0.Coords) : Prop := k0_cond3 i = 1#1

theorem atFirst_iff : ∀ t : Fin cfg0.N, atFirst (grid0.coords t) ↔ t.val % 8 = 0 :=
  (by decide +kernel : ∀ t : Fin grid0.N, atFirst (grid0.coords t) ↔ t.val % 8 = 0)
theorem atStart_iff : ∀ t : Fin cfg0.N, atStart (grid0.coords t) ↔ t.val < 8 :=
  (by decide +kernel : ∀ t : Fin grid0.N, atStart (grid0.coords t) ↔ t.val < 8)
theorem hasNext_iff : ∀ t : Fin cfg0.N, hasNext (grid0.coords t) ↔ t.val < 104 :=
  (by decide +kernel : ∀ t : Fin grid0.N, hasNext (grid0.coords t) ↔ t.val < 104)

/-- The weight tile of step `k`, steps counted along the grid; and so past the last tile something, never used. -/
def tl (k : ℕ) : Fin 14 := ⟨k / 8 % 14, Nat.mod_lt _ (by decide)⟩

/-! ## The buffers -/

/-- Where the weight tile lands, the tile rounded to half precision, and the weights. -/
abbrev stageM : Memref sig .tc .vmem S1024x4096 .f32 := Memref.whole cc0_scratch0
abbrev castM : Memref sig .tc .vmem S1024x4096 .bf16 := Memref.whole cc0_scratch1
abbrev wM : Memref sig .tc .hbm S2x22096x4096 .f32 := Memref.whole main_v0

/-- A memref's buffer on core `c`: the type of its contents. -/
abbrev BufOf (c : Dev nD) {sp : Space} {S : Shape} {e : EltTy} (M : Memref sig .tc sp S e) : Type := Buf (Elt F) (M.view.loc (c : Thread nD τ))

/-- The first weight row of tile `b`: two tiles of output gates, then those of the branch gates. -/
def row0 (b : Fin 14) : ℕ := if b.val < 2 then 7744 + 1024 * b.val else 7760 + 1024 * b.val

theorem inb_row (b : Fin 14) : ∀ a, (![0, row0 b, 0] : Fin 3 → Nat) a + S1x1024x4096.size a ≤ S2x22096x4096.size a := by
  have h : row0 b + 1024 ≤ 22096 := by have := b.isLt; unfold row0; split <;> omega
  intro a; fin_cases a <;> simp [h]
/-- The rows of tile `b`. -/
def src (b : Fin 14) : Memref sig .tc .hbm S1024x4096 .f32 :=
  (wM.slice (Rect.unit (s := S2x22096x4096) ![0, row0 b, 0] S1x1024x4096.size (inb_row b)) (fun _ => rfl)).squeeze S1024x4096 squeezes_S1x1024x4096_S1024x4096

/-- The counter. -/
abbrev cell : DmaSems sig S_ := (cc0_scratch2.slice (Rect.unit (s := S1) ![0] S1.size inb_S1_S1_0)).squeeze S_ squeezes_S1_S_
abbrev semN : SemLoc sig := SemLoc.dma cell.sem

/-! ## What is held -/

section Held
variable (c : Dev nD) (W : BufOf (F := F) c wM)

/-- The landing buffer at some contents. -/
abbrev held (f : BufOf (F := F) c stageM) : sProp 𝕄 := stageM.view.loc (c : Thread nD τ) ↦[stageM.view.set]{fullShare} f
/-- Tile `b`'s rows. -/
abbrev wrows (b : Fin 14) : sProp 𝕄 := (src b).view.loc (c : Thread nD τ) ↦[(src b).view.set]{fullShare} W
/-- The landing buffer once tile `b` has landed in it. -/
abbrev land (b : Fin 14) (f : BufOf (F := F) c stageM) : BufOf (F := F) c stageM :=
  stageM.view.writes (Elt F) f [⟨Rect.whole S1024x4096, ReadAs.same.apply ((src b).view.read (Elt F) W)⟩]
/-- Tile `b` on its way. -/
abbrev fly (b : Fin 14) (f : BufOf (F := F) c stageM) : sProp 𝕄 :=
  Transfers.Flight countersEmb (c : Thread nD τ) semN default (stageM.view.amount semN)
    iprop(held c (land c W b f) ∗ wrows c W b)
end Held

/-! ## The rows a transfer reads, at each point -/

section Names
omit [FloatOps F]
theorem off1 : ∀ t : Fin grid0.N, atFirst (grid0.coords t) → atStart (grid0.coords t) → k0_off1 (grid0.coords t) = ![0, row0 (tl t.val), 0] := by decide +kernel
theorem off2 : ∀ t : Fin grid0.N, atFirst (grid0.coords t) → k0_off2 (grid0.coords t) = ![0, row0 (tl t.val), 0] := by decide +kernel
theorem off3 : ∀ t : Fin grid0.N, atFirst (grid0.coords t) → hasNext (grid0.coords t) → k0_off3 (grid0.coords t) = ![0, row0 (tl (t.val + 8)), 0] := by decide +kernel

/-- The rows a transfer names at point `t` are its tile's. -/
@[sl_canon] theorem name1 (t : Fin grid0.N) [h0 : Fact (atFirst (grid0.coords t))] [h1 : Fact (atStart (grid0.coords t))]
    (hin : ∀ a, (k0_off1 (grid0.coords t)) a + S1x1024x4096.size a ≤ S2x22096x4096.size a) :
    (wM.slice (Rect.unit (s := S2x22096x4096) (k0_off1 (grid0.coords t)) S1x1024x4096.size hin) (fun _ => rfl)).squeeze S1024x4096 squeezes_S1x1024x4096_S1024x4096 = src (tl t.val) :=
  congrArg (fun M : Memref sig .tc .hbm S1x1024x4096 .f32 => M.squeeze S1024x4096 squeezes_S1x1024x4096_S1024x4096) (Memref.slice_unit_congr _ (off1 t h0.out h1.out) _ _ (fun _ => rfl) (fun _ => rfl))
@[sl_canon] theorem name2 (t : Fin grid0.N) [h0 : Fact (atFirst (grid0.coords t))]
    (hin : ∀ a, (k0_off2 (grid0.coords t)) a + S1x1024x4096.size a ≤ S2x22096x4096.size a) :
    (wM.slice (Rect.unit (s := S2x22096x4096) (k0_off2 (grid0.coords t)) S1x1024x4096.size hin) (fun _ => rfl)).squeeze S1024x4096 squeezes_S1x1024x4096_S1024x4096 = src (tl t.val) :=
  congrArg (fun M : Memref sig .tc .hbm S1x1024x4096 .f32 => M.squeeze S1024x4096 squeezes_S1x1024x4096_S1024x4096) (Memref.slice_unit_congr _ (off2 t h0.out) _ _ (fun _ => rfl) (fun _ => rfl))
@[sl_canon] theorem name3 (t : Fin grid0.N) [h0 : Fact (atFirst (grid0.coords t))] [h1 : Fact (hasNext (grid0.coords t))]
    (hin : ∀ a, (k0_off3 (grid0.coords t)) a + S1x1024x4096.size a ≤ S2x22096x4096.size a) :
    (wM.slice (Rect.unit (s := S2x22096x4096) (k0_off3 (grid0.coords t)) S1x1024x4096.size hin) (fun _ => rfl)).squeeze S1024x4096 squeezes_S1x1024x4096_S1024x4096 = src (tl (t.val + 8)) :=
  congrArg (fun M : Memref sig .tc .hbm S1x1024x4096 .f32 => M.squeeze S1024x4096 squeezes_S1x1024x4096_S1024x4096) (Memref.slice_unit_congr _ (off3 t h0.out h1.out) _ _ (fun _ => rfl) (fun _ => rfl))
end Names

end Cert.Gates

end
-- ==== Proof.Gates.Runs.lean ====
/- One grid point of the gates' kernel, run, at each of the four kinds of point. -/
module

public import proofs.«01_k».proof.Proof.Gates.Parts

@[expose] public section

set_option maxRecDepth 16384

noncomputable section

namespace Cert.Gates

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- At the first point: the first tile's transfer is started, waited for and rounded, the next tile's is started, and the
    output block is stored. The pieces are what is stored to the output block and to the rounded tile. -/
def runA (c : Dev nD) (t : Fin cfg0.N) (arg2 : Memref sig .tc .vmem S1024x4096 .bf16) (harg2 : arg2.IsWhole)
    (arg4 : Memref sig .tc .vmem S1024x1024 .bf16) (harg4 : arg4.IsWhole)
    (h0 : atFirst (grid0.coords t)) (h1 : atStart (grid0.coords t)) (h2 : hasNext (grid0.coords t))
    (x0 : Vec F S1024x4096 .bf16) (W : BufOf (F := F) c wM) :
    { L : (List (View.Piece (Elt F) S1024x1024 .bf16)) × List (View.Piece (Elt F) S1024x4096 .bf16) //
      ∀ (Ws : Waits sig Unit) (K : PUnit → sProp 𝕄),
        iprop(owns (c : Thread nD τ) arg2 fullShare x0 ∗ (∃ d, owns (c : Thread nD τ) arg4 fullShare d) ∗ (∃ d, owns (c : Thread nD τ) castM fullShare d)
            ∗ (∃ f, held (F := F) c f) ∗ semVal ((c : Thread nD τ), semN) 0 ∗ wrows c W (tl t.val) ∗ wrows c W (tl (t.val + 8)) ∗ owes (c : Thread nD τ) 0 Ws
            ∗ (iprop(owns (c : Thread nD τ) arg2 fullShare x0 ∗ (∃ f, arg4.view.loc (c : Thread nD τ) ↦[arg4.view.set]{fullShare} arg4.view.writes (Elt F) f L.1)
                ∗ (∃ f, castM.view.loc (c : Thread nD τ) ↦[castM.view.set]{fullShare} castM.view.writes (Elt F) f L.2)
                ∗ (∃ f, fly c W (tl (t.val + 8)) f) ∗ wrows c W (tl t.val) ∗ (∃ W', owes (c : Thread nD τ) 0 W')) -∗ K ⟨⟩))
          ⊢ wp frame (wpE (defs₀ (F := F)) Variants.none c none) Set.univ (cc0__wst_body (grid0.coords t) arg2 harg2 wM (Memref.isWhole_whole _) arg4 harg4 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (atStart (grid0.coords t)) := ⟨h1⟩
    haveI : Fact (hasNext (grid0.coords t)) := ⟨h2⟩
    simp only [cc0__wst_body_eq_skeleton]; unfold cc0__wst_body_skel
    unfold owns
    iintro ⟨⟨%f0, %hf0, H0⟩, ⟨%d3, %f3, -, H3⟩, ⟨%d4, %f4, -, HC⟩, ⟨%fg, HG⟩, Hs, Hc, Hn, HW, Hk⟩
    obtain rfl := harg2.eq_unread hf0
    sl_exec (disch := first | sl_exact h0 | sl_exact h1 | sl_exact h2)
    sl_step
    iapply Hk
    isplitl [H0]
    · iexists _; isplitr; · ipureintro; exact harg2.read_unread _
      iexact H0
    isplitl [H3]; · iexists _; iexact H3
    isplitl [HC]; · iexists _; iexact HC
    isplitl [Hs]; · iexists _; iexact Hs
    isplitl [Hc]; · iexact Hc
    iexists _; iexact HW

set_option maxHeartbeats 1000000 in
/-- The first row block of a weight tile neither first nor last: the tile's transfer is waited for and rounded, the next
    tile's is started, and the output block is stored. -/
def runB (c : Dev nD) (t : Fin cfg0.N) (arg2 : Memref sig .tc .vmem S1024x4096 .bf16) (harg2 : arg2.IsWhole)
    (arg4 : Memref sig .tc .vmem S1024x1024 .bf16) (harg4 : arg4.IsWhole)
    (h0 : atFirst (grid0.coords t)) (h1 : ¬atStart (grid0.coords t)) (h2 : hasNext (grid0.coords t))
    (x0 : Vec F S1024x4096 .bf16) (W : BufOf (F := F) c wM) :
    { L : (List (View.Piece (Elt F) S1024x1024 .bf16)) × List (View.Piece (Elt F) S1024x4096 .bf16) //
      ∀ (Ws : Waits sig Unit) (K : PUnit → sProp 𝕄),
        iprop(owns (c : Thread nD τ) arg2 fullShare x0 ∗ (∃ d, owns (c : Thread nD τ) arg4 fullShare d) ∗ (∃ d, owns (c : Thread nD τ) castM fullShare d)
            ∗ (∃ f, fly c W (tl t.val) f) ∗ wrows c W (tl (t.val + 8)) ∗ owes (c : Thread nD τ) 0 Ws
            ∗ (iprop(owns (c : Thread nD τ) arg2 fullShare x0 ∗ (∃ f, arg4.view.loc (c : Thread nD τ) ↦[arg4.view.set]{fullShare} arg4.view.writes (Elt F) f L.1)
                ∗ (∃ f, castM.view.loc (c : Thread nD τ) ↦[castM.view.set]{fullShare} castM.view.writes (Elt F) f L.2)
                ∗ (∃ f, fly c W (tl (t.val + 8)) f) ∗ wrows c W (tl t.val) ∗ (∃ W', owes (c : Thread nD τ) 0 W')) -∗ K ⟨⟩))
          ⊢ wp frame (wpE (defs₀ (F := F)) Variants.none c none) Set.univ (cc0__wst_body (grid0.coords t) arg2 harg2 wM (Memref.isWhole_whole _) arg4 harg4 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (¬atStart (grid0.coords t)) := ⟨h1⟩
    haveI : Fact (hasNext (grid0.coords t)) := ⟨h2⟩
    simp only [cc0__wst_body_eq_skeleton]; unfold cc0__wst_body_skel
    unfold owns
    iintro ⟨⟨%f0, %hf0, H0⟩, ⟨%d3, %f3, -, H3⟩, ⟨%d4, %f4, -, HC⟩, ⟨%fg, HG⟩, Hn, HW, Hk⟩
    obtain rfl := harg2.eq_unread hf0
    sl_exec (disch := first | sl_exact h0 | sl_exact h1 | sl_exact h2)
    sl_step
    iapply Hk
    isplitl [H0]
    · iexists _; isplitr; · ipureintro; exact harg2.read_unread _
      iexact H0
    isplitl [H3]; · iexists _; iexact H3
    isplitl [HC]; · iexists _; iexact HC
    isplitl [HG]; · iexists _; iexact HG
    isplitl [HG_src]; · iexact HG_src
    iexists _; iexact HW

set_option maxHeartbeats 1000000 in
/-- The first row block of the last weight tile: its transfer is waited for and rounded, and the output block is stored. -/
def runC (c : Dev nD) (t : Fin cfg0.N) (arg2 : Memref sig .tc .vmem S1024x4096 .bf16) (harg2 : arg2.IsWhole)
    (arg4 : Memref sig .tc .vmem S1024x1024 .bf16) (harg4 : arg4.IsWhole)
    (h0 : atFirst (grid0.coords t)) (h1 : ¬atStart (grid0.coords t)) (h2 : ¬hasNext (grid0.coords t))
    (x0 : Vec F S1024x4096 .bf16) (W : BufOf (F := F) c wM) :
    { L : (List (View.Piece (Elt F) S1024x1024 .bf16)) × List (View.Piece (Elt F) S1024x4096 .bf16) //
      ∀ (Ws : Waits sig Unit) (K : PUnit → sProp 𝕄),
        iprop(owns (c : Thread nD τ) arg2 fullShare x0 ∗ (∃ d, owns (c : Thread nD τ) arg4 fullShare d) ∗ (∃ d, owns (c : Thread nD τ) castM fullShare d)
            ∗ (∃ f, fly c W (tl t.val) f) ∗ owes (c : Thread nD τ) 0 Ws
            ∗ (iprop(owns (c : Thread nD τ) arg2 fullShare x0 ∗ (∃ f, arg4.view.loc (c : Thread nD τ) ↦[arg4.view.set]{fullShare} arg4.view.writes (Elt F) f L.1)
                ∗ (∃ f, castM.view.loc (c : Thread nD τ) ↦[castM.view.set]{fullShare} castM.view.writes (Elt F) f L.2)
                ∗ (∃ f, held (F := F) c f) ∗ semVal ((c : Thread nD τ), semN) 0 ∗ wrows c W (tl t.val) ∗ (∃ W', owes (c : Thread nD τ) 0 W')) -∗ K ⟨⟩))
          ⊢ wp frame (wpE (defs₀ (F := F)) Variants.none c none) Set.univ (cc0__wst_body (grid0.coords t) arg2 harg2 wM (Memref.isWhole_whole _) arg4 harg4 stageM (Memref.isWhole_whole _) castM (Memref.isWhole_whole _) cc0_scratch2) K } := by
  refine ⟨⟨?_, ?_⟩, fun Ws K => ?run⟩
  case run =>
    haveI : Fact (atFirst (grid0.coords t)) := ⟨h0⟩
    haveI : Fact (¬atStart (grid0.coords t)) := ⟨h1⟩
    haveI : Fact (¬hasNext (grid0.coords t)) := ⟨h2⟩
    simp only [cc0__wst_body_eq_skeleton]; unfold cc0__wst_body_skel
    unfold owns
    iintro ⟨⟨%f0, %hf0, H0⟩, ⟨%d3, %f3, -, H3⟩, ⟨%d4, %f4, -, HC⟩, ⟨%fg, HG⟩, HW, Hk⟩
    obtain rfl := harg2.eq_unread hf0
    sl_exec (disch := first | sl_exact h0 | sl_exact h1 | sl_exact h2)
    sl_step
    iapply Hk
    isplitl [H0]
    · iexists _; isplitr; · ipureintro; exact harg2.read_unread _
      iexact H0
    isplitl [H3]; · iexists _; iexact H3
    isplitl [HC]; · iexists _; iexact HC
    isplitl [HG_dst]; · iexists _; iexact HG_dst
    isplitl [HG]; · iexact HG
    isplitl [HG_src]; · iexact HG_src
    iexists _; iexact HW

set_option maxHeartbeats 1000000 in
/-- Any other row block: the output block is stored, from the tile already rounded. -/
def runD (c : Dev nD) (t : Fin cfg0.N) (arg2 : Memref sig .tc .vmem S1024x4096 .bf16) (harg2 : arg2.IsWhole)
    (arg4 : Memref sig .tc .vmem S1024x1024 .bf16) (harg4 : arg4.IsWhole)
    (h0 : ¬atFirst (grid0.coords t))
    (x0 : Vec F S1024x4096 .bf16) (x3 : Vec F S1024x4096 .bf16) :
    { L : List (View.Piece (Elt F) S1024x1024 .bf16) //
      ∀ (Ws : Waits sig Unit) (K : PUnit → sProp 𝕄),
        iprop(owns (c : Thread nD τ) arg2 fullShare x0 ∗ (∃ d, owns (c : Thread nD τ) arg4 fullShare d) ∗ owns (c : Thread nD τ) castM fullShare x3
            ∗ owes (c : Thread nD τ) 0 Ws
            ∗ (iprop(owns (c : Thread nD τ) arg2 fullShare x0 ∗ (∃ f, arg4.view.loc (c : Thread nD τ) ↦[arg4.view.set]{fullShare} arg4.view.writes (Elt F) f L)
                ∗ owns (c : Thread nD τ) castM fullShare x3
                ∗ (∃ W', owes (c : Thread nD τ) 0 W')) -∗ K ⟨⟩))
          ⊢ wp frame (wpE (defs₀ (F := F)) Variants.none c none) Set.univ (cc0__wst_body (grid0.coords t) arg2 harg2 wM (Memref.isWhole_whole _) arg4 harg4 stageM (Memref.isWhole_whole _) castM (Memref.isWhole_whole _) cc0_scratch2) K } := by
  refine ⟨?_, fun Ws K => ?run⟩
  case run =>
    haveI : Fact (¬atFirst (grid0.coords t)) := ⟨h0⟩
    simp only [cc0__wst_body_eq_skeleton]; unfold cc0__wst_body_skel
    unfold owns
    iintro ⟨⟨%f0, %hf0, H0⟩, ⟨%d3, %f3, -, H3⟩, ⟨%f4, %hf4, HC⟩, HW, Hk⟩
    obtain rfl := harg2.eq_unread hf0
    obtain rfl := (Memref.isWhole_whole cc0_scratch1).eq_unread hf4
    sl_exec (disch := first | sl_exact h0)
    sl_step
    iapply Hk
    isplitl [H0]
    · iexists _; isplitr; · ipureintro; exact harg2.read_unread _
      iexact H0
    isplitl [H3]; · iexists _; iexact H3
    isplitl [HC]
    · iexists _; isplitr; · ipureintro; exact (Memref.isWhole_whole cc0_scratch1).read_unread _
      iexact HC
    iexists _; iexact HW

end Cert.Gates

end
-- ==== Proof.Gates.Vals.lean ====
/- What each point of the gates' kernel leaves: the rounded tile, and the output block. -/
module

public import proofs.«01_k».proof.Proof.Gates.Runs
public import Idealize.ShloMosaic.Lib.VecWindow

@[expose] public section

set_option maxRecDepth 16384

noncomputable section

namespace Cert.Gates

open Cert.Kernel4Ideal Cert.Kernel4Ideal.Gen
open Idealize.ShloMosaic Idealize.ShloMosaic.TcCoe

variable {F : FTy → Type} [FloatOps F]

/-- The whole tile. -/
abbrev tileR : Rect S1024x4096 := Rect.unit (s := S1024x4096) ![0, 0] S1024x4096.size inb_S1024x4096_S1024x4096_0_0

/-- Tile `b`'s rows as loaded from where they land. -/
def loadT (c : Dev nD) (W : BufOf (F := F) c wM) (b : Fin 14) : Vec F S1024x4096 .f32 :=
  stageM.view.readAt (Elt F) tileR.toLoadRect (land c W b stageM.view.junk)

/-- The rounded tile. -/
def castT (c : Dev nD) (W : BufOf (F := F) c wM) (b : Fin 14) : Vec F S1024x4096 .bf16 := k0_pay1 (loadT c W b)

/-- The rounded tile's piece, and the output block's. -/
abbrev tileP (X : Vec F S1024x4096 .bf16) : View.Piece (Elt F) S1024x4096 .bf16 := ⟨tileR, X⟩
abbrev outP (x : Vec F S1024x4096 .bf16) (X : Vec F S1024x4096 .bf16) : View.Piece (Elt F) S1024x1024 .bf16 :=
  ⟨Rect.unit (s := S1024x1024) ![0, 0] S1024x1024.size inb_S1024x1024_S1024x1024_0_0, k0_pay2 x X⟩

/-- The rounded tile read back, whatever it was stored over. -/
theorem read_tile (v : View sig .tc .vmem S1024x4096 .bf16) (f) (X : Vec F S1024x4096 .bf16) :
    v.read (Elt F) (v.writes (Elt F) f [tileP X]) = X := View.read_writes_full v f _ _ _
/-- The output block read back, whatever it was stored over. -/
theorem read_out (v : View sig .tc .vmem S1024x1024 .bf16) (f) (x : Vec F S1024x4096 .bf16) (X : Vec F S1024x4096 .bf16) :
    v.read (Elt F) (v.writes (Elt F) f [outP x X]) = k0_pay2 x X := View.read_writes_full v f _ _ _

section Pieces
variable (c : Dev nD) (t : Fin cfg0.N) (arg2 : Memref sig .tc .vmem S1024x4096 .bf16) (harg2 : arg2.IsWhole)
  (arg4 : Memref sig .tc .vmem S1024x1024 .bf16) (harg4 : arg4.IsWhole) (x0 : Vec F S1024x4096 .bf16) (W : BufOf (F := F) c wM)

/-- The blocks loaded whole are the blocks. -/
theorem rows_eq : arg2.view.readAt (Elt F) (Rect.unit (s := S1024x4096) ![0, 0] S1024x4096.size inb_S1024x4096_S1024x4096_0_0).toLoadRect (harg2.unread x0) = x0 := by
  rw [View.readAt_full]; exact harg2.read_unread x0
theorem tile_eq (X : Vec F S1024x4096 .bf16) : castM.view.readAt (Elt F) tileR.toLoadRect ((Memref.isWhole_whole cc0_scratch1).unread X) = X := by
  rw [View.readAt_full]; exact (Memref.isWhole_whole cc0_scratch1).read_unread X
/-- The tile just stored, loaded whole. -/
theorem stored_eq (X : Vec F S1024x4096 .bf16) : castM.view.readCov [tileP X] tileR.toLoadRect = X := by
  unfold View.readCov
  rw [View.readAt_full]; exact read_tile _ _ _

theorem loadedA : runA.sl.v4 c t W = castT c W (tl t.val) := by
  delta runA.sl.v4
  rw [show runA.sl.HC_1 c t W = [tileP (castT c W (tl t.val))] from rfl]
  exact stored_eq _
theorem piecesA1 (h0 h1 h2) : (runA c t arg2 harg2 arg4 harg4 h0 h1 h2 x0 W).1.1 = [outP x0 (castT c W (tl t.val))] := by
  simp only [runA]
  rw [rows_eq, loadedA]
theorem piecesA2 (h0 h1 h2) : (runA c t arg2 harg2 arg4 harg4 h0 h1 h2 x0 W).1.2 = [tileP (castT c W (tl t.val))] := rfl
theorem loadedB : runB.sl.v4 c t W = castT c W (tl t.val) := by
  delta runB.sl.v4
  rw [show runB.sl.HC_1 c t W = [tileP (castT c W (tl t.val))] from rfl]
  exact stored_eq _
theorem piecesB1 (h0 h1 h2) : (runB c t arg2 harg2 arg4 harg4 h0 h1 h2 x0 W).1.1 = [outP x0 (castT c W (tl t.val))] := by
  simp only [runB]
  rw [rows_eq, loadedB]
theorem piecesB2 (h0 h1 h2) : (runB c t arg2 harg2 arg4 harg4 h0 h1 h2 x0 W).1.2 = [tileP (castT c W (tl t.val))] := rfl
theorem loadedC : runC.sl.v4 c t W = castT c W (tl t.val) := by
  delta runC.sl.v4
  rw [show runC.sl.HC_1 c t W = [tileP (castT c W (tl t.val))] from rfl]
  exact stored_eq _
theorem piecesC1 (h0 h1 h2) : (runC c t arg2 harg2 arg4 harg4 h0 h1 h2 x0 W).1.1 = [outP x0 (castT c W (tl t.val))] := by
  simp only [runC]
  rw [rows_eq, loadedC]
theorem piecesC2 (h0 h1 h2) : (runC c t arg2 harg2 arg4 harg4 h0 h1 h2 x0 W).1.2 = [tileP (castT c W (tl t.val))] := rfl
theorem piecesD (h0) (X : Vec F S1024x4096 .bf16) : (runD c t arg2 harg2 arg4 harg4 h0 x0 X).1 = [outP x0 X] := by
  simp only [runD]
  rw [rows_eq, tile_eq]
end Pieces

end Cert.Gates
end
-- ==== Proof.Gates.Held.lean ====
/- The weight rows, the landing buffer, and what is held between the grid points of the gates' kernel. -/
module

public import proofs.«01_k».proof.Proof.Gates.Vals

@[expose] public section

set_option maxRecDepth 16384

noncomputable section

namespace Cert.Gates

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The weight rows -/

/-- The rows of tile `b`, as indices of the weights. -/
def cset (b : Fin 14) : Finset S2x22096x4096.Idx := (Rect.unit (s := S2x22096x4096) ![0, row0 b, 0] S1x1024x4096.size (inb_row b)).set
theorem set_src (b : Fin 14) : (src b).view.set = cset b := by
  simp only [src, Memref.view_squeeze, View.set_reshape]; exact View.set_slice_whole _ _

/-- Two tiles have no row in common. -/
theorem row0_apart {b b' : Fin 14} (h : b.val < b'.val) : row0 b + 1024 ≤ row0 b' := by
  unfold row0; split <;> split <;> omega
theorem disj {b b' : Fin 14} (h : b ≠ b') : Disjoint (cset b) (cset b') := by
  refine Finset.disjoint_left.mpr fun i hi hi' => ?_
  have h1 : row0 b ≤ (i 1).val ∧ (i 1).val < row0 b + 1024 := (Rect.mem_set_unit.mp hi) 1
  have h2 : row0 b' ≤ (i 1).val ∧ (i 1).val < row0 b' + 1024 := (Rect.mem_set_unit.mp hi') 1
  rcases lt_or_gt_of_ne (fun e => h (Fin.ext e)) with hl | hl
  · have := row0_apart hl; omega
  · have := row0_apart hl; omega

section Cols
variable (c : Dev nD) (W : BufOf (F := F) c wM)

/-- The weights, but for the elements `A`. -/
def less (A : Finset S2x22096x4096.Idx) : sProp 𝕄 := ((c : Thread nD τ).loc main_v0) ↦[Finset.univ \ A]{fullShare} W
theorem less_none : less (F := F) c W ∅ = (((c : Thread nD τ).loc main_v0) ↦{fullShare} W : sProp 𝕄) := by
  unfold less; rw [Finset.sdiff_empty]

/-- A tile's rows taken out of what is left of the weights. -/
theorem wrows_eq (b : Fin 14) : wrows c W b = (((c : Thread nD τ).loc main_v0) ↦[cset b]{fullShare} W : sProp 𝕄) := by
  unfold wrows; rw [set_src]; rfl
theorem take (A : Finset S2x22096x4096.Idx) (b : Fin 14) (h : Disjoint (cset b) A) :
    less (F := F) c W A ⊣⊢ iprop(wrows c W b ∗ less c W (A ∪ cset b)) := by
  rw [wrows_eq]
  unfold less
  rw [show Finset.univ \ (A ∪ cset b) = (Finset.univ \ A) \ cset b from sdiff_sdiff_left.symm]
  exact pointsTo_split_subset (fun x hx => Finset.mem_sdiff.mpr ⟨Finset.mem_univ _, Finset.disjoint_left.mp h hx⟩)
end Cols

/-! ## The landing buffer -/

theorem set_slot : stageM.view.set = Finset.univ := View.set_whole _

section Slot
variable (c : Dev nD)
theorem of_eq {P Q : sProp (MT nD τ sig Unit (Elt F) ℕ (Pipeline.UD sig nD τ) ℕ)} (h : P = Q) : P ⊢ Q := h ▸ .rfl
theorem held_eq (f) : held (F := F) c f = (((c : Thread nD τ).loc cc0_scratch0) ↦{fullShare} f : sProp 𝕄) := by
  unfold held; rw [set_slot]
theorem held_in (f) : (((c : Thread nD τ).loc cc0_scratch0) ↦{fullShare} f : sProp 𝕄) ⊢ held (F := F) c f := of_eq (held_eq c f).symm
theorem held_out (f) : held (F := F) c f ⊢ (((c : Thread nD τ).loc cc0_scratch0) ↦{fullShare} f : sProp 𝕄) := of_eq (held_eq c f)
theorem slot_in : iprop(∃ f : Buf (Elt F) ((c : Thread nD τ).loc cc0_scratch0), ((c : Thread nD τ).loc cc0_scratch0) ↦{fullShare} f) ⊢ (iprop(∃ f, held (F := F) c f) : sProp 𝕄) := by
  iintro ⟨%f, H⟩
  iexists f; iapply (held_in (F := F) c f); iexact H
theorem slot_out : (iprop(∃ f, held (F := F) c f) : sProp 𝕄) ⊢ iprop(∃ f : Buf (Elt F) ((c : Thread nD τ).loc cc0_scratch0), ((c : Thread nD τ).loc cc0_scratch0) ↦{fullShare} f) := by
  iintro ⟨%f, H⟩
  iexists f; iapply (held_out (F := F) c f); iexact H
end Slot

/-! ## Between points -/

section Between
variable (c : Dev nD) (W : BufOf (F := F) c wM)

/-- Nothing in flight. -/
def idle : sProp 𝕄 :=
  iprop((∃ f, held (F := F) c f) ∗ semVal ((c : Thread nD τ), semN) 0 ∗ less c W ∅)
/-- Tile `b` in flight. -/
def moving (b : Fin 14) : sProp 𝕄 :=
  iprop((∃ f, fly c W b f) ∗ less c W (∅ ∪ cset b))
/-- Before step `k`: the next weight tile in flight, if there is one. -/
def ringAt (k : ℕ) : sProp 𝕄 := if k = 0 then idle c W else if k ≤ 104 then moving c W (tl (k + 7)) else idle c W
/-- Before step `k`: the weight tile's rounded rows. -/
def castAt (k : ℕ) : sProp 𝕄 :=
  if k = 0 then iprop(∃ d, owns (c : Thread nD τ) castM fullShare d) else owns (c : Thread nD τ) castM fullShare (castT c W (tl (k - 1)))
/-- What is held before step `k`. -/
def stateAt (k : ℕ) : sProp 𝕄 := iprop(castAt c W k ∗ (∃ r, prngReg c r) ∗ ringAt c W k)

theorem castAt_some (k : ℕ) : castAt c W k ⊢ (iprop(∃ d, owns (c : Thread nD τ) castM fullShare d) : sProp 𝕄) := by
  unfold castAt
  split
  · exact .rfl
  · iintro H; iexists _; iexact H
end Between

end Cert.Gates
end
-- ==== Proof.Gates.Frame.lean ====
/- The gates' kernel's launch: what each point does, and what a run leaves. -/
module

public import proofs.«01_k».proof.Proof.Gates.Held
public import Idealize.ShloMosaic.Lib.Claim

@[expose] public section

set_option maxRecDepth 16384

noncomputable section

namespace Cert.Gates

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- The kernel's own counter. -/
abbrev osem0 : Fin 1 → SemLoc sig := fun j => (![SemLoc.dma 4] : Fin 1 → SemLoc sig) j
theorem ownSemFacts0 : Pipeline.OwnSemFacts spec0 osem0 := by decide
theorem semN_eq : semN = SemLoc.dma 4 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), semN) 0 := by
  rw [Pipeline.ownSems0_eq_of_list c osem0 [0] (by decide) (by decide), semN_eq]; rfl
/-- The weights: read by the kernel's own transfers, staged by no window. -/
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = iprop(((c : Thread nD τ).loc main_v0) ↦{fullShare} V m c main_v0) := by
  rw [BI.bigSep_eq_bigSepL_of_eq [main_v0] (by decide) (by decide)]; rfl
/-- What the launch hands over, piece by piece. -/
theorem launch_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ d, owns (c : Thread nD τ) castM fullShare d)) ∗ (∃ r, prngReg c r)
          ∗ semVal ((c : Thread nD τ), semN) 0 ∗ iprop(((c : Thread nD τ).loc main_v0) ↦{fullShare} V m c main_v0)) := by
  rw [Pipeline.ΦD_eq, scopedRest0_eq, ownSems00_eq, hbmPts0_eq]; simp only [owns_whole]; try rfl

/-! ## The proof data -/

/-- The windows' staging buffers at a point. -/
abbrev rowsM (t : Fin cfg0.N) : Memref sig .tc .vmem S1024x4096 .bf16 := win0_0.stage (cfg0.slots t 0)
abbrev rowsW (t : Fin cfg0.N) : (rowsM t).IsWhole := hstage0_0 ((cfg0.slots t 0).cast nbuf0_0)
abbrev outM (t : Fin cfg0.N) : Memref sig .tc .vmem S1024x1024 .bf16 := win0_1.stage (cfg0.slots t 1)
abbrev outW (t : Fin cfg0.N) : (outM t).IsWhole := hstage0_1 ((cfg0.slots t 1).cast nbuf0_1)

/-- What point `t` leaves in the output's buffer. -/
def outAt (c : Dev nD) (t : Fin cfg0.N) : Vec F S1024x1024 .bf16 :=
  k0_pay2 (iblk m c 0 t) (castT c (V m c main_v0) (tl t.val))

/-- The pipeline's proof data: the arrays as the region finds them, each window's buffer after a point, and what is held
    between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := stateAt c (V m c main_v0) t.val
  q _ := fullShare
  owed _ := 0

theorem A_eq (c : Dev nD) (w : Fin cfg0.W) : (dats m 0 c).A w = V m c (Pipeline.arrRef spec0 w) := by
  dsimp only [dats]
theorem state_before (c : Dev nD) (t : Fin cfg0.N) : (dats m 0 c).Φ t.castSucc = stateAt c (V m c main_v0) t.val := by
  dsimp only [dats]; simp only [Fin.val_castSucc]
theorem state_after (c : Dev nD) (t : Fin cfg0.N) : (dats m 0 c).Φ t.succ = stateAt c (V m c main_v0) (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]
/-- An input's window holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)

/-! ## A point, as the pipeline asks for it -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (rowsM t) fullShare ((dats m 0 c).before 0 t d))
    ∗ (∃ d, owns (c : Thread nD τ) (outM t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (rowsM t) fullShare ((dats m 0 c).after 0 t)
    ∗ owns (c : Thread nD τ) (outM t) fullShare ((dats m 0 c).after 1 t))

/-- A weight tile differs from the next one. -/
theorem tl_next (k : ℕ) : tl k ≠ tl (k + 8) := fun h => by
  have := congrArg Fin.val h
  simp only [tl] at this
  omega
theorem tl_same (k : ℕ) (h : k % 8 = 0) : tl (k + 7) = tl k := Fin.ext (by simp only [tl]; omega)
theorem tl_back (k : ℕ) (h : ¬k % 8 = 0) : tl (k - 1) = tl k := Fin.ext (by simp only [tl]; omega)
theorem tl_fwd (k : ℕ) (h : ¬k % 8 = 0) : tl (k + 7) = tl (k + 1 + 7) := Fin.ext (by simp only [tl]; omega)

section Moves
variable (c : Dev nD) (W : BufOf (F := F) c wM)

/-- What a point's run stored to the output's buffer is the output block there. -/
theorem own_out (M : Memref sig .tc .vmem S1024x1024 .bf16) (x : Vec F S1024x4096 .bf16) (X : Vec F S1024x4096 .bf16)
    (L) (hL : L = [outP x X]) :
    (iprop(∃ f, M.view.loc (c : Thread nD τ) ↦[M.view.set]{fullShare} M.view.writes (Elt F) f L) : sProp 𝕄)
      ⊢ owns (c : Thread nD τ) M fullShare (k0_pay2 x X) := by
  subst hL
  unfold owns
  iintro ⟨%f, H⟩
  iexists _; isplitr
  swap; · iexact H
  ipureintro; exact read_out _ _ _ _
/-- What it stored to the rounded tile is the rounded tile there. -/
theorem own_cast (X : Vec F S1024x4096 .bf16) (L) (hL : L = [tileP X]) :
    (iprop(∃ f, castM.view.loc (c : Thread nD τ) ↦[castM.view.set]{fullShare} castM.view.writes (Elt F) f L) : sProp 𝕄)
      ⊢ owns (c : Thread nD τ) castM fullShare X := by
  subst hL
  unfold owns
  iintro ⟨%f, H⟩
  iexists _; isplitr
  swap; · iexact H
  ipureintro; exact read_tile _ _ _

/-- Two tiles' rows taken out of the weights, in either order. -/
theorem both (b b' : Fin 14) (h : b ≠ b') :
    less (F := F) c W (∅ ∪ cset b) ⊣⊢ iprop(wrows c W b' ∗ less c W (∅ ∪ cset b' ∪ cset b)) := by
  rw [show ∅ ∪ cset b' ∪ cset b = ∅ ∪ cset b ∪ cset b' from by rw [Finset.empty_union, Finset.empty_union, Finset.union_comm]]
  exact take c W (∅ ∪ cset b) b' (by rw [Finset.empty_union]; exact disj h.symm)
theorem one (b : Fin 14) : less (F := F) c W ∅ ⊣⊢ iprop(wrows c W b ∗ less c W (∅ ∪ cset b)) := take c W ∅ b (Finset.disjoint_empty_right _)
theorem back (b b' : Fin 14) (h : b ≠ b') :
    iprop(wrows c W b ∗ less (F := F) c W (∅ ∪ cset b' ∪ cset b)) ⊢ less c W (∅ ∪ cset b') :=
  (take c W (∅ ∪ cset b') b (by rw [Finset.empty_union]; exact disj h)).2
end Moves

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1, state_before m c t, state_after m c t]
  unfold Dat.owesAt Pipeline.owesWithin
  rw [show (dats m 0 c).owed t.castSucc = 0 from rfl, show (dats m 0 c).owed t.succ = 0 from rfl]
  generalize hw : V m c main_v0 = W
  have hN : t.val < 112 := lt_of_lt_of_eq t.isLt (show cfg0.N = 112 from N_0)
  have hout : outAt m c t = k0_pay2 (iblk m c 0 t) (castT c W (tl t.val)) := by rw [← hw]; rfl
  rw [hout]
  unfold stateAt
  have hne := tl_next t.val
  by_cases h0 : t.val % 8 = 0
  · have h0' := (atFirst_iff t).mpr h0
    have hcast : castAt (F := F) c W (t.val + 1) = owns (c : Thread nD τ) castM fullShare (castT c W (tl t.val)) := by
      unfold castAt; rw [if_neg (Nat.succ_ne_zero _), Nat.add_sub_cancel]
    rw [hcast]
    by_cases h1 : t.val < 8
    · have hz : t.val = 0 := by omega
      have h1' := (atStart_iff t).mpr h1
      have h2' := (hasNext_iff t).mpr (by omega)
      rw [show ringAt (F := F) c W t.val = idle c W from if_pos hz,
        show ringAt (F := F) c W (t.val + 1) = moving c W (tl (t.val + 8)) from by unfold ringAt; rw [if_neg (by omega), if_pos (by omega)]]
      unfold idle moving
      iintro ⟨⟨HC, Hg, ⟨HG, Hs, Hl⟩⟩, ⟨%Ws, -, HW⟩, ⟨%d0, H0⟩, ⟨%d3, H3⟩⟩
      ihave HC := (castAt_some (F := F) c W t.val) $$ HC
      ihave Hl := (one (F := F) c W (tl (t.val + 8))).1 $$ Hl
      icases Hl with ⟨Hn, Hl⟩
      ihave Hl := (both (F := F) c W (tl (t.val + 8)) (tl t.val) hne.symm).1 $$ Hl
      icases Hl with ⟨Hc, Hl⟩
      iapply ((runA c t _ (rowsW t) _ (outW t) h0' h1' h2' (iblk m c 0 t) W).2 Ws _)
      isplitl [H0]; · iexact H0
      isplitl [H3]; · iexists _; iexact H3
      isplitl [HC]; · iexact HC
      isplitl [HG]; · iexact HG
      isplitl [Hs]; · iexact Hs
      isplitl [Hc]; · iexact Hc
      isplitl [Hn]; · iexact Hn
      isplitl [HW]; · iexact HW
      iintro ⟨H0, H3, HC, Hf, Hc, ⟨%W', HW⟩⟩
      isplitl [HC Hg Hf Hc Hl]
      · isplitl [HC]; · iapply (own_cast (F := F) c _ _ (piecesA2 c t _ (rowsW t) _ (outW t) _ W h0' h1' h2')); iexact HC
        isplitl [Hg]; · iexact Hg
        isplitl [Hf]; · iexact Hf
        iapply (both (F := F) c W (tl (t.val + 8)) (tl t.val) hne.symm).2
        isplitl [Hc]; · iexact Hc
        iexact Hl
      isplitl [HW]
      · iexists W'; isplitr; · ipureintro; exact fun _ _ => Or.inl trivial
        iexact HW
      isplitl [H0]; · iexact H0
      iapply (own_out (F := F) c _ _ _ _ (piecesA1 c t _ (rowsW t) _ (outW t) _ W h0' h1' h2')); iexact H3
    · have h1' : ¬atStart (grid0.coords t) := fun h => h1 ((atStart_iff t).mp h)
      rw [show ringAt (F := F) c W t.val = moving c W (tl t.val) from by unfold ringAt; rw [if_neg (by omega), if_pos (by omega), tl_same _ h0]]
      by_cases h2 : t.val < 104
      · have h2' := (hasNext_iff t).mpr h2
        rw [show ringAt (F := F) c W (t.val + 1) = moving c W (tl (t.val + 8)) from by unfold ringAt; rw [if_neg (by omega), if_pos (by omega)]]
        unfold moving
        iintro ⟨⟨HC, Hg, ⟨Hf, Hl⟩⟩, ⟨%Ws, -, HW⟩, ⟨%d0, H0⟩, ⟨%d3, H3⟩⟩
        ihave HC := (castAt_some (F := F) c W t.val) $$ HC
        ihave Hl := (both (F := F) c W (tl t.val) (tl (t.val + 8)) hne).1 $$ Hl
        icases Hl with ⟨Hn, Hl⟩
        iapply ((runB c t _ (rowsW t) _ (outW t) h0' h1' h2' (iblk m c 0 t) W).2 Ws _)
        isplitl [H0]; · iexact H0
        isplitl [H3]; · iexists _; iexact H3
        isplitl [HC]; · iexact HC
        isplitl [Hf]; · iexact Hf
        isplitl [Hn]; · iexact Hn
        isplitl [HW]; · iexact HW
        iintro ⟨H0, H3, HC, Hf, Hc, ⟨%W', HW⟩⟩
        isplitl [HC Hg Hf Hc Hl]
        · isplitl [HC]; · iapply (own_cast (F := F) c _ _ (piecesB2 c t _ (rowsW t) _ (outW t) _ W h0' h1' h2')); iexact HC
          isplitl [Hg]; · iexact Hg
          isplitl [Hf]; · iexact Hf
          iapply (back (F := F) c W (tl t.val) (tl (t.val + 8)) hne)
          isplitl [Hc]; · iexact Hc
          iexact Hl
        isplitl [HW]
        · iexists W'; isplitr; · ipureintro; exact fun _ _ => Or.inl trivial
          iexact HW
        isplitl [H0]; · iexact H0
        iapply (own_out (F := F) c _ _ _ _ (piecesB1 c t _ (rowsW t) _ (outW t) _ W h0' h1' h2')); iexact H3
      · have h2' : ¬hasNext (grid0.coords t) := fun h => h2 ((hasNext_iff t).mp h)
        rw [show ringAt (F := F) c W (t.val + 1) = idle c W from by unfold ringAt; rw [if_neg (by omega), if_neg (by omega)]]
        unfold moving idle
        iintro ⟨⟨HC, Hg, ⟨Hf, Hl⟩⟩, ⟨%Ws, -, HW⟩, ⟨%d0, H0⟩, ⟨%d3, H3⟩⟩
        ihave HC := (castAt_some (F := F) c W t.val) $$ HC
        iapply ((runC c t _ (rowsW t) _ (outW t) h0' h1' h2' (iblk m c 0 t) W).2 Ws _)
        isplitl [H0]; · iexact H0
        isplitl [H3]; · iexists _; iexact H3
        isplitl [HC]; · iexact HC
        isplitl [Hf]; · iexact Hf
        isplitl [HW]; · iexact HW
        iintro ⟨H0, H3, HC, HG, Hs, Hc, ⟨%W', HW⟩⟩
        isplitl [HC Hg HG Hs Hc Hl]
        · isplitl [HC]; · iapply (own_cast (F := F) c _ _ (piecesC2 c t _ (rowsW t) _ (outW t) _ W h0' h1' h2')); iexact HC
          isplitl [Hg]; · iexact Hg
          isplitl [HG]; · iexact HG
          isplitl [Hs]; · iexact Hs
          iapply (one (F := F) c W (tl t.val)).2
          isplitl [Hc]; · iexact Hc
          iexact Hl
        isplitl [HW]
        · iexists W'; isplitr; · ipureintro; exact fun _ _ => Or.inl trivial
          iexact HW
        isplitl [H0]; · iexact H0
        iapply (own_out (F := F) c _ _ _ _ (piecesC1 c t _ (rowsW t) _ (outW t) _ W h0' h1' h2')); iexact H3
  · have h0' : ¬atFirst (grid0.coords t) := fun h => h0 ((atFirst_iff t).mp h)
    have hz : t.val ≠ 0 := fun h => h0 (by rw [h])
    have e1 : castAt (F := F) c W t.val = owns (c : Thread nD τ) castM fullShare (castT c W (tl t.val)) := by
      unfold castAt; rw [if_neg hz, tl_back _ h0]
    have e2 : castAt (F := F) c W (t.val + 1) = owns (c : Thread nD τ) castM fullShare (castT c W (tl t.val)) := by
      unfold castAt; rw [if_neg (Nat.succ_ne_zero _), Nat.add_sub_cancel]
    have e3 : ringAt (F := F) c W (t.val + 1) = ringAt c W t.val := by
      unfold ringAt
      rw [if_neg hz, if_neg (Nat.succ_ne_zero _), tl_fwd _ h0]
      by_cases h : t.val ≤ 104
      · rw [if_pos h, if_pos (by omega)]
      · rw [if_neg h, if_neg (by omega)]
    rw [e1, e2, e3]
    iintro ⟨⟨HC, Hg, Hr⟩, ⟨%Ws, -, HW⟩, ⟨%d0, H0⟩, ⟨%d3, H3⟩⟩
    iapply ((runD c t _ (rowsW t) _ (outW t) h0' (iblk m c 0 t) (castT c W (tl t.val))).2 Ws _)
    isplitl [H0]; · iexact H0
    isplitl [H3]; · iexists _; iexact H3
    isplitl [HC]; · iexact HC
    isplitl [HW]; · iexact HW
    iintro ⟨H0, H3, HC, ⟨%W', HW⟩⟩
    isplitl [HC Hg Hr]
    · isplitl [HC]; · iexact HC
      isplitl [Hg]; · iexact Hg
      iexact Hr
    isplitl [HW]
    · iexists W'; isplitr; · ipureintro; exact fun _ _ => Or.inl trivial
      iexact HW
    isplitl [H0]; · iexact H0
    iapply (own_out (F := F) c _ _ _ _ (piecesD c t _ (rowsW t) _ (outW t) _ h0' _)); iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over what is held before the first point, -/
theorem hin (c : Dev nD) : Pipeline.ΦD osem0 spec0 H0 (V m) c ⊢ (dats m 0 c).Φ 0 := by
  rw [launch_eq, show (dats m 0 c).Φ 0 = stateAt c (V m c main_v0) 0 from rfl]
  unfold stateAt castAt ringAt idle
  rw [if_pos rfl, if_pos rfl, less_none]
  iintro ⟨⟨HS, HC⟩, Hg, Hs, Hw⟩
  ihave HS := (slot_in (F := F) c) $$ HS
  isplitl [HC]; · iexact HC
  isplitl [Hg]; · iexact Hg
  isplitl [HS]; · iexact HS
  isplitl [Hs]; · iexact Hs
  iexact Hw
/-- and gets back what is held after the last. -/
theorem hout (c : Dev nD) : (dats m 0 c).Φ (Fin.last cfg0.N) ⊢ Pipeline.ΦD osem0 spec0 H0 (V m) c := by
  rw [launch_eq, show (dats m 0 c).Φ (Fin.last cfg0.N) = stateAt c (V m c main_v0) grid0.N from rfl]
  unfold stateAt
  rw [show ringAt c (V m c main_v0) grid0.N = idle c (V m c main_v0) from by unfold ringAt; rw [N_0]; rfl]
  unfold idle
  rw [less_none]
  iintro ⟨HC, Hg, HG, Hs, Hw⟩
  isplitl [HC HG]
  · isplitl [HG]; · iapply (slot_out (F := F) c); iexact HG
    iapply (castAt_some (F := F) c (V m c main_v0) grid0.N); iexact HC
  isplitl [Hg]; · iexact Hg
  isplitl [Hs]; · iexact Hs
  iexact Hw

/-! ## The run -/

/-- Main up to the region is the weights' transpose. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with the arrays as the proof data say, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := entry m Variants.none) (hA := A_eq m)
    (hin := hin m) (hout := hout m)

/-- After a run the output is the proof data's array, and the arguments are as launched. -/
theorem post_arrays (r : PUnit × MemSt nD τ sig (Elt F)) (h : Pipeline.FramePost cfgs (dats m) 0 (V m) r) (c : Dev nD) :
    r.2.mem ((c : Thread nD τ).loc main_v1) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1) :=
  ⟨(h c).1 1, ((h c).1 0).trans (((dats m 0 c).arrAt_in 0 rfl _).trans ((A_eq m c 0).trans (V_main_arg0 m c))),
    ((h c).2 main_arg1 (Pipeline.mem_restRefs_of main_arg1 (by decide) (by decide))).trans (V_main_arg1 m c)⟩

theorem run_blocks : θ_run defs (onTc (τ := τ) (main (F := F))) ⟨m, fun _ => 0, ρ⟩ fun r => ∀ c : Dev nD,
      r.2.mem ((c : Thread nD τ).loc main_v1) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => post_arrays m r h.1 c) (run_all m ρ)

/-- The frame: a run ends, its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (post_arrays m r h.1 c).2, h.2⟩) (run_all m ρ)

end Cert.Gates
end
-- ==== Proof.Gates.Ref.lean ====
/- The gates' reference's result at an index. -/
module

public import proofs.«01_k».proof.Proof.Gen.Reference4Ideal.Run
public import proofs.«01_k».proof.Proof.Ffn.Ref
public import Idealize.ShloMosaic.Lib.Pipeline.ValueKit
public import Idealize.ShloMosaic.Lib.Pipeline.Value
public import Idealize.ShloMosaic.Lib.ValueLayout
public import Idealize.ShloMosaic.Lib.IdealHost

@[expose] public section
set_option maxRecDepth 16384
noncomputable section
namespace Cert.Gates
open Cert.Reference4Ideal Cert.Reference4Ideal.Gen Idealize.ShloMosaic Idealize.ShloMosaic.TcCoe Idealize.SL.Sem Idealize.ShloMosaic.StableHlo

/-- The product of the rows with the first of the two weights. -/
def refProd (x : FVec Ideal S8192x4096 .bf16) (w : FVec Ideal S2x4096x22096 .f32) : FVec Ideal S8192x22096 .f32 :=
  Host.dotGeneral dot_S8192x4096_S4096x22096_S8192x22096_1_0_0_1_n_n none (extf .f32 x bitsLt_bf16_f32)
    (shapeCast _ (extractStridedSlice S1x4096x22096 ![0, 0, 0] w slices_S2x4096x22096_S1x4096x22096_0_0_0) shapeCasts_S1x4096x22096_S4096x22096)

/-- The output gates' columns of the product, and the branch gates'. -/
def refOwn (z : FVec Ideal S8192x22096 .f32) : FVec Ideal S8192x2048 .f32 := extractStridedSlice S8192x2048 ![0, 7744] z slices_S8192x22096_S8192x2048_0_7744
def refBranch (z : FVec Ideal S8192x22096 .f32) : FVec Ideal S8192x12288 .f32 := extractStridedSlice S8192x12288 ![0, 9808] z slices_S8192x22096_S8192x12288_0_9808
/-- The two beside each other. -/
def refCols (z : FVec Ideal S8192x22096 .f32) : FVec Ideal S8192x14336 .f32 :=
  concatenate S8192x14336 1 [⟨S8192x2048, refOwn z⟩, ⟨S8192x12288, refBranch z⟩] concatenates_S8192x2048_S8192x12288_S8192x14336_d1
/-- The logistic function of each element. -/
def refSig (y : FVec Ideal S8192x14336 .f32) : FVec Ideal S8192x14336 .bf16 :=
  truncf .bf16 (Host.divf (broadcastInDim S8192x14336 ![] bcast_S_S8192x14336 (constant S_ .f32 0x3F800000#32))
    (addf (broadcastInDim S8192x14336 ![] bcast_S_S8192x14336 (constant S_ .f32 0x3F800000#32)) (Host.exp (Host.negf y)))) bitsLt_bf16_f32

/-- An element of the product: row `r`, column `e`. -/
def dotAt (x : FVec Ideal S8192x4096 .bf16) (w : FVec Ideal S2x4096x22096 .f32) (r : Fin 8192) (e : Fin 22096) : EReal :=
  ∑ k : Fin 4096, x (ix2 r k) * w (ix3 0 k e)

/-- The product's column that the result's column `e` is made of. -/
def colOf (e : Fin 14336) : Fin 22096 := ⟨if e.val < 2048 then 7744 + e.val else 7760 + e.val, by split <;> omega⟩

theorem refProd_apply (x : FVec Ideal S8192x4096 .bf16) (w : FVec Ideal S2x4096x22096 .f32) (r : Fin 8192) (e : Fin 22096) :
    refProd x w (ix2 r e) = dotAt x w r e := by
  pointwise [refProd, dotAt]

theorem refOwn_apply (z : FVec Ideal S8192x22096 .f32) (r : Fin 8192) (e : Fin 2048) : refOwn z (ix2 r e) = z (ix2 r ⟨7744 + e.val, by omega⟩) := by
  pointwise [refOwn]
theorem refBranch_apply (z : FVec Ideal S8192x22096 .f32) (r : Fin 8192) (e : Fin 12288) : refBranch z (ix2 r e) = z (ix2 r ⟨9808 + e.val, by omega⟩) := by
  pointwise [refBranch]

theorem refCols_apply (z : FVec Ideal S8192x22096 .f32) (r : Fin 8192) (e : Fin 14336) : refCols z (ix2 r e) = z (ix2 r (colOf e)) := by
  unfold refCols
  by_cases h : e.val < 2048
  · refine (concatenate_pair_apply_left 1 (refOwn z) (refBranch z) concatenates_S8192x2048_S8192x12288_S8192x14336_d1 (ix2 r e) rfl (ix2 r (⟨e.val, h⟩ : Fin 2048)) ?_).trans ?_
    · intro b
      match b with
      | 0 => rfl
      | 1 => rfl
    rw [refOwn_apply]
    exact congrArg (fun i : Fin 22096 => z (ix2 r i)) (Fin.ext (if_pos h).symm)
  · refine (concatenate_pair_apply_right 1 (refOwn z) (refBranch z) concatenates_S8192x2048_S8192x12288_S8192x14336_d1 (ix2 r e) rfl rfl (ix2 r (⟨e.val - 2048, by omega⟩ : Fin 12288)) ?_ ?_).trans ?_
    · intro b hb
      match b with
      | 0 => rfl
      | 1 => exact absurd rfl hb
    · exact Nat.sub_add_cancel (Nat.le_of_not_lt h)
    rw [refBranch_apply]
    exact congrArg (fun i : Fin 22096 => z (ix2 r i)) (Fin.ext ((show 9808 + (e.val - 2048) = 7760 + e.val by omega).trans (if_neg h).symm))

theorem refSig_apply (y : FVec Ideal S8192x14336 .f32) (r : Fin 8192) (e : Fin 14336) : refSig y (ix2 r e) = Cert.Ffn.logis (y (ix2 r e)) := by
  pointwise [refSig, Cert.Ffn.logis]

/-- The reference's result. -/
def refOut (x : FVec Ideal S8192x4096 .bf16) (w : FVec Ideal S2x4096x22096 .f32) : FVec Ideal S8192x14336 .bf16 := refSig (refCols (refProd x w))
theorem refOut_apply (x : FVec Ideal S8192x4096 .bf16) (w : FVec Ideal S2x4096x22096 .f32) (r : Fin 8192) (e : Fin 14336) :
    refOut x w (ix2 r e) = Cert.Ffn.logis (dotAt x w r (colOf e)) := by
  unfold refOut
  rw [refSig_apply, refCols_apply, refProd_apply]

variable (m : (ℓ : Loc nD τ sig) → Buf (Elt Ideal) ℓ) (ρ : Dev nD → PrngReg)

/-- Every run of the reference ends with this result, its arguments as launched. -/
theorem ref_run : θ_run defs (onTc (τ := τ) (main (F := Ideal))) ⟨m, fun _ => 0, ρ⟩ fun r => ∀ c : Dev nD,
      r.2.mem ((c.tc : Thread nD τ).loc main_v13) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.Gates
end
-- ==== Proof.Gates.Tiles.lean ====
/- The gates' kernel's rounded tile and its output block, at an index. -/
module

public import proofs.«01_k».proof.Proof.Gates.Frame
public import proofs.«01_k».proof.Proof.Gates.Ref
public import Idealize.ShloMosaic.Lib.Pipeline.ValueKit
public import Idealize.ShloMosaic.Lib.Pipeline.Value
public import Idealize.ShloMosaic.Lib.ValueLayout
public import Idealize.ShloMosaic.Lib.WritesUnit
public import Idealize.ShloMosaic.Lib.IdealHost

@[expose] public section
set_option maxRecDepth 16384
noncomputable section
namespace Cert.Gates
open Cert.Kernel4Ideal Cert.Kernel4Ideal.Gen Idealize.ShloMosaic Idealize.ShloMosaic.TcCoe Idealize.SL.Sem

/-! ## The tile -/

section Tiles
variable (c : Dev nD) (W : BufOf (F := Ideal) c wM) (b : Fin 14)

/-- Row `e` of tile `b`. -/
def rowB (e : Fin 1024) : Fin 22096 := ⟨row0 b + e.val, by have := b.isLt; unfold row0; split <;> omega⟩

/-- An element of the tile, matched with the tile without its unit axis. -/
theorem reshape_at (h : (⟨2, ![1024, 4096]⟩ : Shape).numel = (⟨3, ![1, 1024, 4096]⟩ : Shape).numel) (e : Fin 1024) (k : Fin 4096) :
    Shape.reshapeEquiv h (ix2 e k) = ix3 (0 : Fin 1) e k := ValueIdx.reshapeEquiv_ix2_1ab h e k

theorem src_at (e : Fin 1024) (k : Fin 4096) : (src b).view.read (Elt Ideal) W (ix2 e k) = W (ix3 0 (rowB b e) k) := by
  refine (congrFun (Memref.read_squeeze_slice wM _ (fun _ => rfl) squeezes_S1x1024x4096_S1024x4096 (squeezes_S1x1024x4096_S1024x4096).numel_eq W) (ix2 e k)).trans ?_
  show wM.view.readAt (Elt Ideal) (Rect.unit (s := S2x22096x4096) ![0, row0 b, 0] S1x1024x4096.size (inb_row b)).toLoadRect W
    (Shape.reshapeEquiv _ (ix2 e k)) = _
  rw [reshape_at]
  refine congrArg W (funext fun a => Fin.ext ?_)
  fin_cases a
  · rfl
  · show row0 b + 1 * e.val = row0 b + e.val; omega
  · show 0 + 1 * k.val = k.val; omega

theorem load_eq : loadT c W b = (src b).view.read (Elt Ideal) W := by
  unfold loadT
  rw [View.readAt_full]
  funext y
  exact (congrArg (stageM.view.read (Elt Ideal) (land c W b stageM.view.junk)) (Rect.emb_whole_apply S1024x4096 y).symm).trans
    (View.read_writes_cons_emb stageM.view _ (Rect.whole S1024x4096) _ [] y)

theorem pay1_at (x : Vec Ideal S1024x4096 .f32) (e : Fin 1024) (k : Fin 4096) : k0_pay1 x (ix2 e k) = x (ix2 e k) := by
  pointwise [k0_pay1]

theorem cast_at (e : Fin 1024) (k : Fin 4096) : castT c W b (ix2 e k) = W (ix3 0 (rowB b e) k) := by
  unfold castT
  rw [pay1_at, load_eq]
  exact src_at c W b e k

end Tiles

/-! ## The output block -/

/-- The logistic function, as the kernel computes it. -/
def act (z : EReal) : EReal := Ideal.ofBits .f32 0x3F000000#32 * Ideal.tanh (Ideal.ofBits .f32 0x3F000000#32 * z) + Ideal.ofBits .f32 0x3F000000#32
theorem act_eq (z : EReal) : act z = Cert.Ffn.logis z := by
  unfold act
  rw [Cert.Ffn.half_const]
  exact Cert.Ffn.logis_tanh z

theorem block_at (x : Vec Ideal S1024x4096 .bf16) (X : Vec Ideal S1024x4096 .bf16) (r : Fin 1024) (e : Fin 1024) :
    k0_pay2 x X (ix2 r e) = act (∑ k : Fin 4096, x (ix2 r k) * X (ix2 e k)) := by
  pointwise [k0_pay2, act]

end Cert.Gates
end
-- ==== Proof.Gates.Out.lean ====
/- The gates' kernel's output array at an index, from the program's arguments, is its reference's result. -/
module

public import proofs.«01_k».proof.Proof.Gates.Tiles

@[expose] public section
set_option maxRecDepth 16384
noncomputable section
namespace Cert.Gates
open Cert.Kernel4Ideal Cert.Kernel4Ideal.Gen Idealize.ShloMosaic Idealize.ShloMosaic.TcCoe Idealize.SL.Sem

/-! ## A point's blocks -/

variable (m : (ℓ : Loc nD τ sig) → Buf (Elt Ideal) ℓ) (c : Dev nD) (t : Fin cfg0.N)

theorem idx : ∀ t : Fin cfg0.N,
    win0_0.index t = ![(grid0.coords t 1).val, 0] ∧ win0_1.index t = ![(grid0.coords t 1).val, (grid0.coords t 0).val]
    ∧ t.val / 8 % 14 = (grid0.coords t 0).val :=
  (by decide +kernel : ∀ t : Fin grid0.N, _)

theorem idx_inj : ∀ t t' : Fin cfg0.N, win0_1.index t = win0_1.index t' → t = t' :=
  (by decide +kernel : ∀ t t' : Fin grid0.N, win0_1.index t = win0_1.index t' → t = t')

theorem blocks : ((cfg0.win 1).blk t).view.read (Elt Ideal) ((dats m 0 c).arrAt 1 cfg0.N) = (dats m 0 c).flushed 1 t :=
  (dats m 0 c).read_blk_arrAt_eq_flushed 1 (fun t t' _ _ hne => (cfg0.win 1).disjoint_blk fun h => hne (idx_inj t t' h)) cfg0.N t t.isLt (flush0_1 t)

theorem flushed_eq : (dats m 0 c).flushed 1 t = (cfg0.win 1).cut (grid0.coords t) (outAt m c t) := by
  show (cfg0.win 1).cut (grid0.coords t) ((dats m 0 c).after 1 t) = _
  rw [after0_1]

/-- The grid point's weight tile and row block. -/
abbrev jt : Fin 14 := grid0.coords t 0
abbrev it : Fin 8 := grid0.coords t 1

/-- Row `r` of the point's row block, and column `e` of the point's output block. -/
def rowT (r : Fin 1024) : Fin 8192 := ⟨(it t).val * 1024 + r.val, by have := (it t).isLt; omega⟩
def colT (e : Fin 1024) : Fin 14336 := ⟨(jt t).val * 1024 + e.val, by have := (jt t).isLt; omega⟩

theorem read0 (r : Fin 1024) (k : Fin 4096) :
    iblk m c 0 t (ix2 r k) = m ((c : Thread nD τ).loc main_arg0) (ix2 (rowT t r) k) := by
  blk_ext [iblk, V, idx t, rowT]

/-- The weights as the host transposes them. -/
theorem transposed (w : FVec Ideal S2x4096x22096 .f32) (l : Fin 2) (e : Fin 22096) (k : Fin 4096) :
    transpose S2x22096x4096 [0, 2, 1] w transposes_S2x4096x22096_S2x22096x4096_0_2_1 (ix3 l e k) = w (ix3 l k e) := by
  pointwise []
theorem weights_arr : V m c main_v0 = transpose S2x22096x4096 [0, 2, 1] (m ((c : Thread nD τ).loc main_arg1)) transposes_S2x4096x22096_S2x22096x4096_0_2_1 := by
  unfold V hostOps0
  after_results <;> rfl

theorem tl_jt : tl t.val = jt t := Fin.ext (idx t).2.2
/-- The weights' row a tile's row is, is the column of the product that the output's column is made of. -/
theorem col_eq (e : Fin 1024) : rowB (jt t) e = colOf (colT t e) := by
  refine Fin.ext ?_
  show row0 (jt t) + e.val = if (jt t).val * 1024 + e.val < 2048 then 7744 + ((jt t).val * 1024 + e.val) else 7760 + ((jt t).val * 1024 + e.val)
  unfold row0
  split <;> split <;> omega

/-- The output block a point leaves, at an index. -/
theorem out_at (r : Fin 1024) (e : Fin 1024) :
    outAt m c t (ix2 r e)
      = Cert.Ffn.logis (dotAt (m ((c : Thread nD τ).loc main_arg0)) (m ((c : Thread nD τ).loc main_arg1)) (rowT t r) (colOf (colT t e))) := by
  unfold outAt
  rw [tl_jt, block_at, act_eq]
  simp only [cast_at, read0, col_eq]
  rw [weights_arr]
  exact congrArg Cert.Ffn.logis (Finset.sum_congr rfl fun k _ => congrArg _ (transposed (m ((c : Thread nD τ).loc main_arg1)) 0 (colOf (colT t e)) k))

/-- The output array at a row and a column of a point's block. -/
theorem arr_at (r : Fin 1024) (e : Fin 1024) :
    (dats m 0 c).arrAt 1 cfg0.N (ix2 (rowT t r) (colT t e)) = outAt m c t (ix2 r e) := by
  refine Eq.trans ?_ ((congrFun (blocks m c t) (ix2 r e)).trans ?_)
  · blk_ext [idx t, rowT, colT]
  · rw [flushed_eq]; rfl

/-! ## The whole array -/

/-- Every weight tile and row block has its grid point. -/
theorem point_vals : ∀ (j : Fin 14) (i : Fin 8), ∃ t : Fin grid0.N, (grid0.coords t 0).val = j.val ∧ (grid0.coords t 1).val = i.val := by
  decide +kernel

theorem point_of (j : Fin 14) (i : Fin 8) : ∃ t : Fin cfg0.N, jt t = j ∧ it t = i :=
  (point_vals j i).imp fun t h => ⟨Fin.ext h.1, Fin.ext h.2⟩

/-- The whole array. -/
theorem arr_eq : (dats m 0 c).arrAt 1 cfg0.N = refOut (m ((c : Thread nD τ).loc main_arg0)) (m ((c : Thread nD τ).loc main_arg1)) := by
  funext y
  have hy : ∃ (i : Fin 8192) (e : Fin 14336), y = ix2 i e := ⟨y 0, y 1, eq_ix2 y⟩
  obtain ⟨i, e, rfl⟩ := hy
  have hi := i.isLt
  have he := e.isLt
  obtain ⟨t, hj, hb⟩ := point_of ⟨e.val / 1024, by omega⟩ ⟨i.val / 1024, by omega⟩
  have h1 : i = rowT t ⟨i.val % 1024, by omega⟩ := Fin.ext (by
    show i.val = (it t).val * 1024 + i.val % 1024
    rw [hb]; show i.val = i.val / 1024 * 1024 + i.val % 1024; omega)
  have h2 : e = colT t ⟨e.val % 1024, by omega⟩ := Fin.ext (by
    show e.val = (jt t).val * 1024 + e.val % 1024
    rw [hj]; show e.val = e.val / 1024 * 1024 + e.val % 1024; omega)
  have h3 := congrArg₂ (fun (a : Fin 8192) (b : Fin 14336) => ix2 a b) h1 h2
  refine (congrArg _ h3).trans (Eq.trans ?_ (congrArg _ h3).symm)
  rw [arr_at, out_at, refOut_apply]

end Cert.Gates
end
-- ==== Proof.Merge.Parts.lean ====
/- What the merge kernel holds between grid points: the three slots its weight tiles land in, the weight columns each
   transfer reads, and the transfers in flight. The slots, the branches' columns and the transfers are each stated once,
   for branch `p` of three. -/
module

public import proofs.«01_k».proof.Proof.Gen.Kernel5Ideal.Frame
public import proofs.«01_k».proof.Proof.Gen.Kernel5Ideal.Points
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Merge

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Where in the grid each branch is taken -/

/-- The first row block of a column tile. -/
abbrev atFirst (i : grid0.Coords) : Prop := k0_cond1 i = 1#1
/-- The first column tile. -/
abbrev atStart (i : grid0.Coords) : Prop := k0_cond2 i = 1#1
/-- A column tile follows. -/
abbrev hasNext (i : grid0.Coords) : Prop := k0_cond3 i = 1#1

theorem atFirst_iff : ∀ t : Fin cfg0.N, atFirst (grid0.coords t) ↔ t.val % 8 = 0 :=
  (by decide +kernel : ∀ t : Fin grid0.N, atFirst (grid0.coords t) ↔ t.val % 8 = 0)
theorem atStart_iff : ∀ t : Fin cfg0.N, atStart (grid0.coords t) ↔ t.val < 8 :=
  (by decide +kernel : ∀ t : Fin grid0.N, atStart (grid0.coords t) ↔ t.val < 8)
theorem hasNext_iff : ∀ t : Fin cfg0.N, hasNext (grid0.coords t) ↔ t.val < 56 :=
  (by decide +kernel : ∀ t : Fin grid0.N, hasNext (grid0.coords t) ↔ t.val < 56)

/-- The column tile of step `k`, steps counted along the grid; and so past the last tile something, never used. -/
def tl (k : ℕ) : Fin 8 := ⟨k / 8 % 8, Nat.mod_lt _ (by decide)⟩

/-! ## The buffers -/

/-- Where the weight tiles land, the tiles rounded to half precision, and the weights. -/
abbrev stageM : Memref sig .tc .vmem S3x2048x512 .f32 := Memref.whole cc0_scratch0
abbrev castM : Memref sig .tc .vmem S3x2048x512 .bf16 := Memref.whole cc0_scratch1
abbrev wM : Memref sig .tc .hbm S2x3x2048x4096 .f32 := Memref.whole main_arg3

/-- A memref's buffer on core `c`: the type of its contents. -/
abbrev BufOf (c : Dev nD) {sp : Space} {S : Shape} {e : EltTy} (M : Memref sig .tc sp S e) : Type := Buf (Elt F) (M.view.loc (c : Thread nD τ))

theorem inb_slot (p : Fin 3) : ∀ a, (![p.val, 0, 0] : Fin 3 → Nat) a + S1x2048x512.size a ≤ S3x2048x512.size a := by
  have := p.isLt; intro a; fin_cases a <;> simp <;> omega
/-- The slot of branch `p`. -/
def slot (p : Fin 3) : Memref sig .tc .vmem S2048x512 .f32 :=
  (stageM.slice (Rect.unit (s := S3x2048x512) ![p.val, 0, 0] S1x2048x512.size (inb_slot p)) (fun _ => rfl)).squeeze S2048x512 squeezes_S1x2048x512_S2048x512

theorem inb_src (p : Fin 3) (b : Fin 8) : ∀ a, (![0, p.val, 0, 512 * b.val] : Fin 4 → Nat) a + S1x1x2048x512.size a ≤ S2x3x2048x4096.size a := by
  have := b.isLt; have := p.isLt; intro a; fin_cases a <;> simp <;> omega
/-- The columns of tile `b` in branch `p`'s weights. -/
def src (p : Fin 3) (b : Fin 8) : Memref sig .tc .hbm S2048x512 .f32 :=
  (wM.slice (Rect.unit (s := S2x3x2048x4096) ![0, p.val, 0, 512 * b.val] S1x1x2048x512.size (inb_src p b)) (fun _ => rfl)).squeeze S2048x512 squeezes_S1x1x2048x512_S2048x512

/-- The three counters. -/
abbrev cellA : DmaSems sig S_ := (cc0_scratch2.slice (Rect.unit (s := S3) ![0] S1.size inb_S3_S1_0)).squeeze S_ squeezes_S1_S_
abbrev cellB : DmaSems sig S_ := (cc0_scratch2.slice (Rect.unit (s := S3) ![1] S1.size inb_S3_S1_1)).squeeze S_ squeezes_S1_S_
abbrev cellC : DmaSems sig S_ := (cc0_scratch2.slice (Rect.unit (s := S3) ![2] S1.size inb_S3_S1_2)).squeeze S_ squeezes_S1_S_
abbrev semA : SemLoc sig := SemLoc.dma cellA.sem
abbrev semB : SemLoc sig := SemLoc.dma cellB.sem
abbrev semC : SemLoc sig := SemLoc.dma cellC.sem

/-- The share of the weights each branch's transfers hold. -/
def shr : Fin 3 → PosShare TreeShare := ![fullShare.left, fullShare.right.left, fullShare.right.right]

/-! ## What is held -/

section Held
variable (c : Dev nD) (W : BufOf (F := F) c wM)

/-- A slot at some contents. -/
abbrev held (p : Fin 3) (f : BufOf (F := F) c (slot p)) : sProp 𝕄 := (slot p).view.loc (c : Thread nD τ) ↦[(slot p).view.set]{fullShare} f
/-- The branch's share of tile `b`'s columns. -/
abbrev cols (p : Fin 3) (b : Fin 8) : sProp 𝕄 := (src p b).view.loc (c : Thread nD τ) ↦[(src p b).view.set]{shr p} W
/-- A slot's contents once tile `b` has landed in it. -/
abbrev land (p : Fin 3) (b : Fin 8) (f : BufOf (F := F) c (slot p)) : BufOf (F := F) c (slot p) :=
  (slot p).view.writes (Elt F) f [⟨Rect.whole S2048x512, ReadAs.same.apply ((src p b).view.read (Elt F) W)⟩]
/-- Tile `b` on its way to a slot, counted at `s`. -/
abbrev fly (p : Fin 3) (s : SemLoc sig) (b : Fin 8) (f : BufOf (F := F) c (slot p)) : sProp 𝕄 :=
  Transfers.Flight countersEmb (c : Thread nD τ) s default ((slot p).view.amount s)
    iprop(held c p (land c W p b f) ∗ cols c W p b)
/-- The slots free, the counters at rest, tile `b`'s columns of all branches, and tile `b` on its way to all slots. -/
def frees : sProp 𝕄 := iprop((∃ f, held (F := F) c 0 f) ∗ (∃ f, held (F := F) c 1 f) ∗ ∃ f, held (F := F) c 2 f)
def rests : sProp 𝕄 := iprop(semVal ((c : Thread nD τ), semA) 0 ∗ semVal ((c : Thread nD τ), semB) 0 ∗ semVal ((c : Thread nD τ), semC) 0)
def colsAll (b : Fin 8) : sProp 𝕄 := iprop(cols c W 0 b ∗ cols c W 1 b ∗ cols c W 2 b)
def flies (b : Fin 8) : sProp 𝕄 := iprop((∃ f, fly c W 0 semA b f) ∗ (∃ f, fly c W 1 semB b f) ∗ ∃ f, fly c W 2 semC b f)
end Held

/-! ## The columns a transfer reads, at each point -/

section Names
omit [FloatOps F]
theorem offNow : ∀ t : Fin grid0.N, k0_off1 (grid0.coords t) = ![0, 0, 0, 512 * (tl t.val).val] ∧ k0_off2 (grid0.coords t) = ![0, 1, 0, 512 * (tl t.val).val]
    ∧ k0_off3 (grid0.coords t) = ![0, 2, 0, 512 * (tl t.val).val] ∧ k0_off4 (grid0.coords t) = ![0, 0, 0, 512 * (tl t.val).val]
    ∧ k0_off5 (grid0.coords t) = ![0, 1, 0, 512 * (tl t.val).val] ∧ k0_off6 (grid0.coords t) = ![0, 2, 0, 512 * (tl t.val).val] := by decide +kernel
theorem offNext : ∀ t : Fin grid0.N, hasNext (grid0.coords t) → k0_off7 (grid0.coords t) = ![0, 0, 0, 512 * (tl (t.val + 8)).val]
    ∧ k0_off8 (grid0.coords t) = ![0, 1, 0, 512 * (tl (t.val + 8)).val] ∧ k0_off9 (grid0.coords t) = ![0, 2, 0, 512 * (tl (t.val + 8)).val] := by decide +kernel

/-- The columns named by their first element. -/
theorem name (p : Fin 3) (b : Fin 8) {off : Fin 4 → Nat} (h : off = ![0, p.val, 0, 512 * b.val]) (hin : ∀ a, off a + S1x1x2048x512.size a ≤ S2x3x2048x4096.size a) :
    (wM.slice (Rect.unit (s := S2x3x2048x4096) off S1x1x2048x512.size hin) (fun _ => rfl)).squeeze S2048x512 squeezes_S1x1x2048x512_S2048x512 = src p b :=
  congrArg (fun M : Memref sig .tc .hbm S1x1x2048x512 .f32 => M.squeeze S2048x512 squeezes_S1x1x2048x512_S2048x512) (Memref.slice_unit_congr _ h _ _ (fun _ => rfl) (fun _ => rfl))

/-- The columns a transfer names at point `t` are its tile's. -/
@[sl_canon] theorem name1 (t : Fin cfg0.N) (hin : ∀ a, (k0_off1 (grid0.coords t)) a + S1x1x2048x512.size a ≤ S2x3x2048x4096.size a) :
    (wM.slice (Rect.unit (s := S2x3x2048x4096) (k0_off1 (grid0.coords t)) S1x1x2048x512.size hin) (fun _ => rfl)).squeeze S2048x512 squeezes_S1x1x2048x512_S2048x512 = src 0 (tl t.val) :=
  name 0 _ (offNow t).1 hin
@[sl_canon] theorem name2 (t : Fin cfg0.N) (hin : ∀ a, (k0_off2 (grid0.coords t)) a + S1x1x2048x512.size a ≤ S2x3x2048x4096.size a) :
    (wM.slice (Rect.unit (s := S2x3x2048x4096) (k0_off2 (grid0.coords t)) S1x1x2048x512.size hin) (fun _ => rfl)).squeeze S2048x512 squeezes_S1x1x2048x512_S2048x512 = src 1 (tl t.val) :=
  name 1 _ (offNow t).2.1 hin
@[sl_canon] theorem name3 (t : Fin cfg0.N) (hin : ∀ a, (k0_off3 (grid0.coords t)) a + S1x1x2048x512.size a ≤ S2x3x2048x4096.size a) :
    (wM.slice (Rect.unit (s := S2x3x2048x4096) (k0_off3 (grid0.coords t)) S1x1x2048x512.size hin) (fun _ => rfl)).squeeze S2048x512 squeezes_S1x1x2048x512_S2048x512 = src 2 (tl t.val) :=
  name 2 _ (offNow t).2.2.1 hin
@[sl_canon] theorem name4 (t : Fin cfg0.N) (hin : ∀ a, (k0_off4 (grid0.coords t)) a + S1x1x2048x512.size a ≤ S2x3x2048x4096.size a) :
    (wM.slice (Rect.unit (s := S2x3x2048x4096) (k0_off4 (grid0.coords t)) S1x1x2048x512.size hin) (fun _ => rfl)).squeeze S2048x512 squeezes_S1x1x2048x512_S2048x512 = src 0 (tl t.val) :=
  name 0 _ (offNow t).2.2.2.1 hin
@[sl_canon] theorem name5 (t : Fin cfg0.N) (hin : ∀ a, (k0_off5 (grid0.coords t)) a + S1x1x2048x512.size a ≤ S2x3x2048x4096.size a) :
    (wM.slice (Rect.unit (s := S2x3x2048x4096) (k0_off5 (grid0.coords t)) S1x1x2048x512.size hin) (fun _ => rfl)).squeeze S2048x512 squeezes_S1x1x2048x512_S2048x512 = src 1 (tl t.val) :=
  name 1 _ (offNow t).2.2.2.2.1 hin
@[sl_canon] theorem name6 (t : Fin cfg0.N) (hin : ∀ a, (k0_off6 (grid0.coords t)) a + S1x1x2048x512.size a ≤ S2x3x2048x4096.size a) :
    (wM.slice (Rect.unit (s := S2x3x2048x4096) (k0_off6 (grid0.coords t)) S1x1x2048x512.size hin) (fun _ => rfl)).squeeze S2048x512 squeezes_S1x1x2048x512_S2048x512 = src 2 (tl t.val) :=
  name 2 _ (offNow t).2.2.2.2.2 hin
@[sl_canon] theorem name7 (t : Fin cfg0.N) [h : Fact (hasNext (grid0.coords t))] (hin : ∀ a, (k0_off7 (grid0.coords t)) a + S1x1x2048x512.size a ≤ S2x3x2048x4096.size a) :
    (wM.slice (Rect.unit (s := S2x3x2048x4096) (k0_off7 (grid0.coords t)) S1x1x2048x512.size hin) (fun _ => rfl)).squeeze S2048x512 squeezes_S1x1x2048x512_S2048x512 = src 0 (tl (t.val + 8)) :=
  name 0 _ (offNext t h.out).1 hin
@[sl_canon] theorem name8 (t : Fin cfg0.N) [h : Fact (hasNext (grid0.coords t))] (hin : ∀ a, (k0_off8 (grid0.coords t)) a + S1x1x2048x512.size a ≤ S2x3x2048x4096.size a) :
    (wM.slice (Rect.unit (s := S2x3x2048x4096) (k0_off8 (grid0.coords t)) S1x1x2048x512.size hin) (fun _ => rfl)).squeeze S2048x512 squeezes_S1x1x2048x512_S2048x512 = src 1 (tl (t.val + 8)) :=
  name 1 _ (offNext t h.out).2.1 hin
@[sl_canon] theorem name9 (t : Fin cfg0.N) [h : Fact (hasNext (grid0.coords t))] (hin : ∀ a, (k0_off9 (grid0.coords t)) a + S1x1x2048x512.size a ≤ S2x3x2048x4096.size a) :
    (wM.slice (Rect.unit (s := S2x3x2048x4096) (k0_off9 (grid0.coords t)) S1x1x2048x512.size hin) (fun _ => rfl)).squeeze S2048x512 squeezes_S1x1x2048x512_S2048x512 = src 2 (tl (t.val + 8)) :=
  name 2 _ (offNext t h.out).2.2 hin
/-- A slot as the transfers spell it. -/
@[sl_canon] theorem nameSlot0 :
    (stageM.slice (Rect.unit (s := S3x2048x512) ![0, 0, 0] S1x2048x512.size inb_S3x2048x512_S1x2048x512_0_0_0) (fun _ => rfl)).squeeze S2048x512 squeezes_S1x2048x512_S2048x512 = slot 0 := rfl
@[sl_canon] theorem nameSlot1 :
    (stageM.slice (Rect.unit (s := S3x2048x512) ![1, 0, 0] S1x2048x512.size inb_S3x2048x512_S1x2048x512_1_0_0) (fun _ => rfl)).squeeze S2048x512 squeezes_S1x2048x512_S2048x512 = slot 1 := rfl
@[sl_canon] theorem nameSlot2 :
    (stageM.slice (Rect.unit (s := S3x2048x512) ![2, 0, 0] S1x2048x512.size inb_S3x2048x512_S1x2048x512_2_0_0) (fun _ => rfl)).squeeze S2048x512 squeezes_S1x2048x512_S2048x512 = slot 2 := rfl
end Names

end Cert.Merge

end
-- ==== Proof.Merge.Runs.lean ====
/- One grid point of the merge kernel, run, at each of the four kinds of point. -/
module

public import proofs.«01_k».proof.Proof.Merge.Parts

@[expose] public section

set_option maxRecDepth 16384

noncomputable section

namespace Cert.Merge

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Ins
variable (c : Dev nD) (arg2 arg3 arg4 : Memref sig .tc .vmem S1024x2048 .bf16) (arg6 arg7 arg8 : Memref sig .tc .vmem S1024x512 .bf16)
  (x0 x1 x2 : Vec F S1024x2048 .bf16) (g0 g1 g2 : Vec F S1024x512 .bf16)
/-- The three branches' rows and their gates. -/
def ins : sProp 𝕄 :=
  iprop(owns (c : Thread nD τ) arg2 fullShare x0 ∗ owns (c : Thread nD τ) arg3 fullShare x1 ∗ owns (c : Thread nD τ) arg4 fullShare x2
    ∗ owns (c : Thread nD τ) arg6 fullShare g0 ∗ owns (c : Thread nD τ) arg7 fullShare g1 ∗ owns (c : Thread nD τ) arg8 fullShare g2)
end Ins

section Runs
variable (c : Dev nD) (t : Fin cfg0.N) (arg2 : Memref sig .tc .vmem S1024x2048 .bf16) (harg2 : arg2.IsWhole)
  (arg3 : Memref sig .tc .vmem S1024x2048 .bf16) (harg3 : arg3.IsWhole) (arg4 : Memref sig .tc .vmem S1024x2048 .bf16) (harg4 : arg4.IsWhole)
  (arg6 : Memref sig .tc .vmem S1024x512 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole)

/-- The body at point `t`. -/
abbrev bodyOf : Prog (TpuEff nD τ sig (Elt F) Λ₀ .tc) PUnit :=
  cc0__ws_body (grid0.coords t) arg2 harg2 arg3 harg3 arg4 harg4 wM (Memref.isWhole_whole _) arg6 harg6 arg7 harg7 arg8 harg8 arg9 harg9
    stageM (Memref.isWhole_whole _) castM (Memref.isWhole_whole _) cc0_scratch2
/-- A buffer stored to. -/
abbrev stored {S : Shape} (M : Memref sig .tc .vmem S .bf16) (L : List (View.Piece (Elt F) S .bf16)) : sProp 𝕄 :=
  iprop(∃ f, M.view.loc (c : Thread nD τ) ↦[M.view.set]{fullShare} M.view.writes (Elt F) f L)
/-- A buffer at anything. -/
abbrev anyOf {S : Shape} (M : Memref sig .tc .vmem S .bf16) : sProp 𝕄 := iprop(∃ d, owns (c : Thread nD τ) M fullShare d)

set_option maxHeartbeats 2000000 in
/-- At the first point: the first tile's three transfers are started, waited for and rounded, the next tile's are started,
    and the output block is stored. The pieces are what is stored to the output block and to the rounded tiles. -/
def runA (h0 : atFirst (grid0.coords t)) (h1 : atStart (grid0.coords t)) (h2 : hasNext (grid0.coords t))
    (x0 x1 x2 : Vec F S1024x2048 .bf16) (g0 g1 g2 : Vec F S1024x512 .bf16) (W : BufOf (F := F) c wM) :
    { L : (List (View.Piece (Elt F) S1024x512 .bf16)) × List (View.Piece (Elt F) S3x2048x512 .bf16) //
      ∀ (Ws : Waits sig Unit) (K : PUnit → sProp 𝕄),
        iprop(ins c arg2 arg3 arg4 arg6 arg7 arg8 x0 x1 x2 g0 g1 g2 ∗ anyOf (F := F) c arg9 ∗ anyOf (F := F) c castM
            ∗ frees (F := F) c ∗ rests (F := F) c ∗ colsAll c W (tl t.val) ∗ colsAll c W (tl (t.val + 8)) ∗ owes (c : Thread nD τ) 0 Ws
            ∗ (iprop(ins c arg2 arg3 arg4 arg6 arg7 arg8 x0 x1 x2 g0 g1 g2 ∗ stored c arg9 L.1 ∗ stored c castM L.2
                ∗ flies c W (tl (t.val + 8)) ∗ colsAll c W (tl t.val) ∗ (∃ W', owes (c : Thread nD τ) 0 W')) -∗ K ⟨⟩))
          ⊢ wp frame (wpE (defs₀ (F := F)) Variants.none c none) Set.univ (bodyOf t arg2 harg2 arg3 harg3 arg4 harg4 arg6 harg6 arg7 harg7 arg8 harg8 arg9 harg9) K } := by
  refine ⟨⟨?_, ?_⟩, fun Ws K => ?run⟩
  case run =>
    haveI : Fact (atFirst (grid0.coords t)) := ⟨h0⟩
    haveI : Fact (atStart (grid0.coords t)) := ⟨h1⟩
    haveI : Fact (hasNext (grid0.coords t)) := ⟨h2⟩
    simp only [bodyOf, cc0__ws_body_eq_skeleton]; unfold cc0__ws_body_skel
    rw [k0_part3_eq_skeleton]; unfold k0_part3_skel
    rw [k0_part1_eq_skeleton, k0_part2_eq_skeleton]; unfold k0_part1_skel k0_part2_skel
    unfold ins anyOf stored owns frees rests colsAll flies
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, HC⟩, ⟨⟨%fa, HA⟩, ⟨%fb, HB⟩, ⟨%fc, HD⟩⟩, ⟨HsA, HsB, HsD⟩, ⟨HcA, HcB, HcD⟩, ⟨HnA, HnB, HnD⟩, HW, Hk⟩
    obtain rfl := harg2.eq_unread hf0
    obtain rfl := harg3.eq_unread hf1
    obtain rfl := harg4.eq_unread hf2
    obtain rfl := harg6.eq_unread hf3
    obtain rfl := harg7.eq_unread hf4
    obtain rfl := harg8.eq_unread hf5
    sl_exec (disch := first | sl_exact h0 | sl_exact h1 | sl_exact h2)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg6.read_unread _
        iexact H3
      isplitl [H4]
      · iexists _; isplitr; · ipureintro; exact harg7.read_unread _
        iexact H4
      iexists _; isplitr; · ipureintro; exact harg8.read_unread _
      iexact H5
    isplitl [H6]; · iexists _; iexact H6
    isplitl [HC]; · iexists _; iexact HC
    isplitl [HsA HsB HsD]
    · isplitl [HsA]; · iexists _; iexact HsA
      isplitl [HsB]; · iexists _; iexact HsB
      iexists _; iexact HsD
    isplitl [HcA HcB HcD]
    · isplitl [HcA]; · iexact HcA
      isplitl [HcB]; · iexact HcB
      iexact HcD
    iexists _; iexact HW

set_option maxHeartbeats 2000000 in
/-- The first row block of a column tile neither first nor last: the tile's three transfers are waited for and rounded, the
    next tile's are started, and the output block is stored. -/
def runB (h0 : atFirst (grid0.coords t)) (h1 : ¬atStart (grid0.coords t)) (h2 : hasNext (grid0.coords t))
    (x0 x1 x2 : Vec F S1024x2048 .bf16) (g0 g1 g2 : Vec F S1024x512 .bf16) (W : BufOf (F := F) c wM) :
    { L : (List (View.Piece (Elt F) S1024x512 .bf16)) × List (View.Piece (Elt F) S3x2048x512 .bf16) //
      ∀ (Ws : Waits sig Unit) (K : PUnit → sProp 𝕄),
        iprop(ins c arg2 arg3 arg4 arg6 arg7 arg8 x0 x1 x2 g0 g1 g2 ∗ anyOf (F := F) c arg9 ∗ anyOf (F := F) c castM
            ∗ flies c W (tl t.val) ∗ colsAll c W (tl (t.val + 8)) ∗ owes (c : Thread nD τ) 0 Ws
            ∗ (iprop(ins c arg2 arg3 arg4 arg6 arg7 arg8 x0 x1 x2 g0 g1 g2 ∗ stored c arg9 L.1 ∗ stored c castM L.2
                ∗ flies c W (tl (t.val + 8)) ∗ colsAll c W (tl t.val) ∗ (∃ W', owes (c : Thread nD τ) 0 W')) -∗ K ⟨⟩))
          ⊢ wp frame (wpE (defs₀ (F := F)) Variants.none c none) Set.univ (bodyOf t arg2 harg2 arg3 harg3 arg4 harg4 arg6 harg6 arg7 harg7 arg8 harg8 arg9 harg9) K } := by
  refine ⟨⟨?_, ?_⟩, fun Ws K => ?run⟩
  case run =>
    haveI : Fact (atFirst (grid0.coords t)) := ⟨h0⟩
    haveI : Fact (¬atStart (grid0.coords t)) := ⟨h1⟩
    haveI : Fact (hasNext (grid0.coords t)) := ⟨h2⟩
    simp only [bodyOf, cc0__ws_body_eq_skeleton]; unfold cc0__ws_body_skel
    rw [k0_part3_eq_skeleton]; unfold k0_part3_skel
    rw [k0_part1_eq_skeleton, k0_part2_eq_skeleton]; unfold k0_part1_skel k0_part2_skel
    unfold ins anyOf stored owns colsAll flies
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, HC⟩, ⟨⟨%fa, HA⟩, ⟨%fb, HB⟩, ⟨%fc, HD⟩⟩, ⟨HnA, HnB, HnD⟩, HW, Hk⟩
    obtain rfl := harg2.eq_unread hf0
    obtain rfl := harg3.eq_unread hf1
    obtain rfl := harg4.eq_unread hf2
    obtain rfl := harg6.eq_unread hf3
    obtain rfl := harg7.eq_unread hf4
    obtain rfl := harg8.eq_unread hf5
    sl_exec (disch := first | sl_exact h0 | sl_exact h1 | sl_exact h2)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg6.read_unread _
        iexact H3
      isplitl [H4]
      · iexists _; isplitr; · ipureintro; exact harg7.read_unread _
        iexact H4
      iexists _; isplitr; · ipureintro; exact harg8.read_unread _
      iexact H5
    isplitl [H6]; · iexists _; iexact H6
    isplitl [HC]; · iexists _; iexact HC
    isplitl [HA HB HD]
    · isplitl [HA]; · iexists _; iexact HA
      isplitl [HB]; · iexists _; iexact HB
      iexists _; iexact HD
    isplitl [HA_src HB_src HD_src]
    · isplitl [HA_src]; · iexact HA_src
      isplitl [HB_src]; · iexact HB_src
      iexact HD_src
    iexists _; iexact HW

set_option maxHeartbeats 2000000 in
/-- The first row block of the last column tile: its three transfers are waited for and rounded, and the output block is
    stored. -/
def runC (h0 : atFirst (grid0.coords t)) (h1 : ¬atStart (grid0.coords t)) (h2 : ¬hasNext (grid0.coords t))
    (x0 x1 x2 : Vec F S1024x2048 .bf16) (g0 g1 g2 : Vec F S1024x512 .bf16) (W : BufOf (F := F) c wM) :
    { L : (List (View.Piece (Elt F) S1024x512 .bf16)) × List (View.Piece (Elt F) S3x2048x512 .bf16) //
      ∀ (Ws : Waits sig Unit) (K : PUnit → sProp 𝕄),
        iprop(ins c arg2 arg3 arg4 arg6 arg7 arg8 x0 x1 x2 g0 g1 g2 ∗ anyOf (F := F) c arg9 ∗ anyOf (F := F) c castM
            ∗ flies c W (tl t.val) ∗ owes (c : Thread nD τ) 0 Ws
            ∗ (iprop(ins c arg2 arg3 arg4 arg6 arg7 arg8 x0 x1 x2 g0 g1 g2 ∗ stored c arg9 L.1 ∗ stored c castM L.2
                ∗ frees (F := F) c ∗ rests (F := F) c ∗ colsAll c W (tl t.val) ∗ (∃ W', owes (c : Thread nD τ) 0 W')) -∗ K ⟨⟩))
          ⊢ wp frame (wpE (defs₀ (F := F)) Variants.none c none) Set.univ (bodyOf t arg2 harg2 arg3 harg3 arg4 harg4 arg6 harg6 arg7 harg7 arg8 harg8 arg9 harg9) K } := by
  refine ⟨⟨?_, ?_⟩, fun Ws K => ?run⟩
  case run =>
    haveI : Fact (atFirst (grid0.coords t)) := ⟨h0⟩
    haveI : Fact (¬atStart (grid0.coords t)) := ⟨h1⟩
    haveI : Fact (¬hasNext (grid0.coords t)) := ⟨h2⟩
    simp only [bodyOf, cc0__ws_body_eq_skeleton]; unfold cc0__ws_body_skel
    rw [k0_part3_eq_skeleton]; unfold k0_part3_skel
    rw [k0_part1_eq_skeleton, k0_part2_eq_skeleton]; unfold k0_part1_skel k0_part2_skel
    unfold ins anyOf stored owns frees rests colsAll flies
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, HC⟩, ⟨⟨%fa, HA⟩, ⟨%fb, HB⟩, ⟨%fc, HD⟩⟩, HW, Hk⟩
    obtain rfl := harg2.eq_unread hf0
    obtain rfl := harg3.eq_unread hf1
    obtain rfl := harg4.eq_unread hf2
    obtain rfl := harg6.eq_unread hf3
    obtain rfl := harg7.eq_unread hf4
    obtain rfl := harg8.eq_unread hf5
    sl_exec (disch := first | sl_exact h0 | sl_exact h1 | sl_exact h2)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg6.read_unread _
        iexact H3
      isplitl [H4]
      · iexists _; isplitr; · ipureintro; exact harg7.read_unread _
        iexact H4
      iexists _; isplitr; · ipureintro; exact harg8.read_unread _
      iexact H5
    isplitl [H6]; · iexists _; iexact H6
    isplitl [HC]; · iexists _; iexact HC
    isplitl [HA_dst HB_dst HD_dst]
    · isplitl [HA_dst]; · iexists _; iexact HA_dst
      isplitl [HB_dst]; · iexists _; iexact HB_dst
      iexists _; iexact HD_dst
    isplitl [HA HB HD]
    · isplitl [HA]; · iexact HA
      isplitl [HB]; · iexact HB
      iexact HD
    isplitl [HA_src HB_src HD_src]
    · isplitl [HA_src]; · iexact HA_src
      isplitl [HB_src]; · iexact HB_src
      iexact HD_src
    iexists _; iexact HW

set_option maxHeartbeats 2000000 in
/-- Any other row block: the output block is stored, from the tiles already rounded. -/
def runD (h0 : ¬atFirst (grid0.coords t))
    (x0 x1 x2 : Vec F S1024x2048 .bf16) (g0 g1 g2 : Vec F S1024x512 .bf16) (X : Vec F S3x2048x512 .bf16) :
    { L : List (View.Piece (Elt F) S1024x512 .bf16) //
      ∀ (Ws : Waits sig Unit) (K : PUnit → sProp 𝕄),
        iprop(ins c arg2 arg3 arg4 arg6 arg7 arg8 x0 x1 x2 g0 g1 g2 ∗ anyOf (F := F) c arg9 ∗ owns (c : Thread nD τ) castM fullShare X ∗ owes (c : Thread nD τ) 0 Ws
            ∗ (iprop(ins c arg2 arg3 arg4 arg6 arg7 arg8 x0 x1 x2 g0 g1 g2 ∗ stored c arg9 L ∗ owns (c : Thread nD τ) castM fullShare X ∗ (∃ W', owes (c : Thread nD τ) 0 W')) -∗ K ⟨⟩))
          ⊢ wp frame (wpE (defs₀ (F := F)) Variants.none c none) Set.univ (bodyOf t arg2 harg2 arg3 harg3 arg4 harg4 arg6 harg6 arg7 harg7 arg8 harg8 arg9 harg9) K } := by
  refine ⟨?_, fun Ws K => ?run⟩
  case run =>
    haveI : Fact (¬atFirst (grid0.coords t)) := ⟨h0⟩
    simp only [bodyOf, cc0__ws_body_eq_skeleton]; unfold cc0__ws_body_skel
    rw [k0_part3_eq_skeleton]; unfold k0_part3_skel
    rw [k0_part1_eq_skeleton, k0_part2_eq_skeleton]; unfold k0_part1_skel k0_part2_skel
    unfold ins anyOf stored owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, HC⟩, HW, Hk⟩
    obtain rfl := harg2.eq_unread hf0
    obtain rfl := harg3.eq_unread hf1
    obtain rfl := harg4.eq_unread hf2
    obtain rfl := harg6.eq_unread hf3
    obtain rfl := harg7.eq_unread hf4
    obtain rfl := harg8.eq_unread hf5
    obtain rfl := (Memref.isWhole_whole cc0_scratch1).eq_unread hf7
    sl_exec (disch := first | sl_exact h0)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg6.read_unread _
        iexact H3
      isplitl [H4]
      · iexists _; isplitr; · ipureintro; exact harg7.read_unread _
        iexact H4
      iexists _; isplitr; · ipureintro; exact harg8.read_unread _
      iexact H5
    isplitl [H6]; · iexists _; iexact H6
    isplitl [HC]
    · iexists _; isplitr; · ipureintro; exact (Memref.isWhole_whole cc0_scratch1).read_unread _
      iexact HC
    iexists _; iexact HW

end Runs

end Cert.Merge

end
-- ==== Proof.Merge.Vals.lean ====
/- What each point of the merge kernel leaves: the rounded tiles, and the output block. -/
module

public import proofs.«01_k».proof.Proof.Merge.Runs
public import Idealize.ShloMosaic.Lib.VecWindow

@[expose] public section

set_option maxRecDepth 16384

noncomputable section

namespace Cert.Merge

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Branch `p`'s slab of the three tiles. -/
abbrev slabR (p : Fin 3) : Rect S3x2048x512 := Rect.unit (s := S3x2048x512) ![p.val, 0, 0] S1x2048x512.size (inb_slot p)

/-- Branch `p`'s columns of tile `b` as loaded from the slot they land in. -/
def loadT (c : Dev nD) (W : BufOf (F := F) c wM) (p : Fin 3) (b : Fin 8) : Vec F S1x2048x512 .f32 :=
  stageM.view.readAt (Elt F) (slabR p).toLoadRect (land c W p b (slot p).view.junk)

/-- The three rounded tiles as they are stored. -/
def tilesL (c : Dev nD) (W : BufOf (F := F) c wM) (b : Fin 8) : List (View.Piece (Elt F) S3x2048x512 .bf16) :=
  [⟨slabR 2, k0_pay3 (loadT c W 2 b)⟩, ⟨slabR 1, k0_pay2 (loadT c W 1 b)⟩, ⟨slabR 0, k0_pay1 (loadT c W 0 b)⟩]

/-- The rounded tiles. -/
def castT (c : Dev nD) (W : BufOf (F := F) c wM) (b : Fin 8) : Vec F S3x2048x512 .bf16 :=
  castM.view.read (Elt F) (castM.view.writes (Elt F) castM.view.junk (tilesL c W b))

/-- The output block computed of the branches' rows, their gates and the rounded tiles `X`. -/
def oblk (x0 x1 x2 : Vec F S1024x2048 .bf16) (g0 g1 g2 : Vec F S1024x512 .bf16) (X : Vec F S3x2048x512 .bf16) : Vec F S1024x512 .bf16 :=
  k0_pay4 x0 (fun y => X ((slabR 0).toLoadRect.idx y)) x1 (fun y => X ((slabR 1).toLoadRect.idx y)) x2 (fun y => X ((slabR 2).toLoadRect.idx y)) g0 g1 g2

theorem tiles_cover (c : Dev nD) (W : BufOf (F := F) c wM) (b : Fin 8) (y : S3x2048x512.Idx) :
    ∃ pc ∈ tilesL c W b, y ∈ pc.1.set :=
  View.cover_of_tiledL (tilesL c W b) S1x2048x512.size (by rfl) y

/-- The rounded tiles read back, whatever they were stored over. -/
theorem read_tiles (c : Dev nD) (W : BufOf (F := F) c wM) (b : Fin 8) (f) :
    castM.view.read (Elt F) (castM.view.writes (Elt F) f (tilesL c W b)) = castT c W b :=
  View.read_writes_of_cover _ _ _ _ _ (tiles_cover c W b)

/-- The output block's piece. -/
abbrev outP (x0 x1 x2 : Vec F S1024x2048 .bf16) (g0 g1 g2 : Vec F S1024x512 .bf16) (X : Vec F S3x2048x512 .bf16) : View.Piece (Elt F) S1024x512 .bf16 :=
  ⟨Rect.unit (s := S1024x512) ![0, 0] S1024x512.size inb_S1024x512_S1024x512_0_0, oblk x0 x1 x2 g0 g1 g2 X⟩

/-- A branch's rows and its gate as loaded whole; they are the rows and the gate. -/
def rowsL (M : Memref sig .tc .vmem S1024x2048 .bf16) (h : M.IsWhole) (x : Vec F S1024x2048 .bf16) : Vec F S1024x2048 .bf16 :=
  M.view.readAt (Elt F) (Rect.unit (s := S1024x2048) ![0, 0] S1024x2048.size inb_S1024x2048_S1024x2048_0_0).toLoadRect (h.unread x)
def gateL (M : Memref sig .tc .vmem S1024x512 .bf16) (h : M.IsWhole) (x : Vec F S1024x512 .bf16) : Vec F S1024x512 .bf16 :=
  M.view.readAt (Elt F) (Rect.unit (s := S1024x512) ![0, 0] S1024x512.size inb_S1024x512_S1024x512_0_0).toLoadRect (h.unread x)
theorem rows_eq (M : Memref sig .tc .vmem S1024x2048 .bf16) (h : M.IsWhole) (x : Vec F S1024x2048 .bf16) : rowsL M h x = x := by
  unfold rowsL; rw [View.readAt_full]; exact h.read_unread x
theorem gate_eq (M : Memref sig .tc .vmem S1024x512 .bf16) (h : M.IsWhole) (x : Vec F S1024x512 .bf16) : gateL M h x = x := by
  unfold gateL; rw [View.readAt_full]; exact h.read_unread x

section Pieces
variable (c : Dev nD) (t : Fin cfg0.N) (arg2 : Memref sig .tc .vmem S1024x2048 .bf16) (harg2 : arg2.IsWhole)
  (arg3 : Memref sig .tc .vmem S1024x2048 .bf16) (harg3 : arg3.IsWhole) (arg4 : Memref sig .tc .vmem S1024x2048 .bf16) (harg4 : arg4.IsWhole)
  (arg6 : Memref sig .tc .vmem S1024x512 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole)
  (x0 x1 x2 : Vec F S1024x2048 .bf16) (g0 g1 g2 : Vec F S1024x512 .bf16) (W : BufOf (F := F) c wM)

/-- The piece with every block as loaded is the piece. -/
theorem loaded (X : Vec F S3x2048x512 .bf16) :
    [outP (rowsL arg2 harg2 x0) (rowsL arg3 harg3 x1) (rowsL arg4 harg4 x2) (gateL arg6 harg6 g0) (gateL arg7 harg7 g1) (gateL arg8 harg8 g2) X]
      = [outP x0 x1 x2 g0 g1 g2 X] := by
  simp only [rows_eq, gate_eq]

theorem piecesA1 (h0 h1 h2) : (runA c t arg2 harg2 arg3 harg3 arg4 harg4 arg6 harg6 arg7 harg7 arg8 harg8 arg9 harg9 h0 h1 h2 x0 x1 x2 g0 g1 g2 W).1.1
    = [outP x0 x1 x2 g0 g1 g2 (castT c W (tl t.val))] :=
  loaded arg2 harg2 arg3 harg3 arg4 harg4 arg6 harg6 arg7 harg7 arg8 harg8 x0 x1 x2 g0 g1 g2 (castT c W (tl t.val))
theorem piecesA2 (h0 h1 h2) : (runA c t arg2 harg2 arg3 harg3 arg4 harg4 arg6 harg6 arg7 harg7 arg8 harg8 arg9 harg9 h0 h1 h2 x0 x1 x2 g0 g1 g2 W).1.2
    = tilesL c W (tl t.val) := rfl
theorem piecesB1 (h0 h1 h2) : (runB c t arg2 harg2 arg3 harg3 arg4 harg4 arg6 harg6 arg7 harg7 arg8 harg8 arg9 harg9 h0 h1 h2 x0 x1 x2 g0 g1 g2 W).1.1
    = [outP x0 x1 x2 g0 g1 g2 (castT c W (tl t.val))] :=
  loaded arg2 harg2 arg3 harg3 arg4 harg4 arg6 harg6 arg7 harg7 arg8 harg8 x0 x1 x2 g0 g1 g2 (castT c W (tl t.val))
theorem piecesB2 (h0 h1 h2) : (runB c t arg2 harg2 arg3 harg3 arg4 harg4 arg6 harg6 arg7 harg7 arg8 harg8 arg9 harg9 h0 h1 h2 x0 x1 x2 g0 g1 g2 W).1.2
    = tilesL c W (tl t.val) := rfl
theorem piecesC1 (h0 h1 h2) : (runC c t arg2 harg2 arg3 harg3 arg4 harg4 arg6 harg6 arg7 harg7 arg8 harg8 arg9 harg9 h0 h1 h2 x0 x1 x2 g0 g1 g2 W).1.1
    = [outP x0 x1 x2 g0 g1 g2 (castT c W (tl t.val))] :=
  loaded arg2 harg2 arg3 harg3 arg4 harg4 arg6 harg6 arg7 harg7 arg8 harg8 x0 x1 x2 g0 g1 g2 (castT c W (tl t.val))
theorem piecesC2 (h0 h1 h2) : (runC c t arg2 harg2 arg3 harg3 arg4 harg4 arg6 harg6 arg7 harg7 arg8 harg8 arg9 harg9 h0 h1 h2 x0 x1 x2 g0 g1 g2 W).1.2
    = tilesL c W (tl t.val) := rfl
theorem piecesD (h0) (X : Vec F S3x2048x512 .bf16) : (runD c t arg2 harg2 arg3 harg3 arg4 harg4 arg6 harg6 arg7 harg7 arg8 harg8 arg9 harg9 h0 x0 x1 x2 g0 g1 g2 X).1
    = [outP x0 x1 x2 g0 g1 g2 X] :=
  (loaded arg2 harg2 arg3 harg3 arg4 harg4 arg6 harg6 arg7 harg7 arg8 harg8 x0 x1 x2 g0 g1 g2
    (castM.view.read (Elt F) ((Memref.isWhole_whole cc0_scratch1).unread X))).trans
    (congrArg (fun X => [outP x0 x1 x2 g0 g1 g2 X]) ((Memref.isWhole_whole cc0_scratch1).read_unread (Val := Elt F) X))
end Pieces

/-- The output block read back, whatever it was stored over. -/
theorem read_out (v : View sig .tc .vmem S1024x512 .bf16) (f) (x0 x1 x2 : Vec F S1024x2048 .bf16) (g0 g1 g2 : Vec F S1024x512 .bf16) (X : Vec F S3x2048x512 .bf16) :
    v.read (Elt F) (v.writes (Elt F) f [outP x0 x1 x2 g0 g1 g2 X]) = oblk x0 x1 x2 g0 g1 g2 X := View.read_writes_full v f _ _ _

end Cert.Merge
end
-- ==== Proof.Merge.Held.lean ====
/- How what the merge kernel holds is split and joined between its points. -/
module

public import proofs.«01_k».proof.Proof.Merge.Vals

@[expose] public section

set_option maxRecDepth 16384

noncomputable section

namespace Cert.Merge

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The weight columns -/

/-- The columns of tile `b` in branch `p`'s weights, as indices of the weights. -/
def cset (p : Fin 3) (b : Fin 8) : Finset S2x3x2048x4096.Idx := (Rect.unit (s := S2x3x2048x4096) ![0, p.val, 0, 512 * b.val] S1x1x2048x512.size (inb_src p b)).set
theorem set_src (p : Fin 3) (b : Fin 8) : (src p b).view.set = cset p b := by
  simp only [src, Memref.view_squeeze, View.set_reshape]; exact View.set_slice_whole _ _

theorem disj (p : Fin 3) {b b' : Fin 8} (h : b ≠ b') : Disjoint (cset p b) (cset p b') := by
  refine Finset.disjoint_left.mpr fun i hi hi' => h (Fin.ext ?_)
  have h1 : 512 * b.val ≤ (i 3).val ∧ (i 3).val < 512 * b.val + 512 := (Rect.mem_set_unit.mp hi) 3
  have h2 : 512 * b'.val ≤ (i 3).val ∧ (i 3).val < 512 * b'.val + 512 := (Rect.mem_set_unit.mp hi') 3
  omega

section Cols
variable (c : Dev nD) (W : BufOf (F := F) c wM)

/-- Branch `p`'s share of the weights, but for the elements `A`. -/
def less (p : Fin 3) (A : Finset S2x3x2048x4096.Idx) : sProp 𝕄 := ((c : Thread nD τ).loc main_arg3) ↦[Finset.univ \ A]{shr p} W

/-- A tile's columns taken out of what is left of the share. -/
theorem cols_eq (p : Fin 3) (b : Fin 8) : cols c W p b = (((c : Thread nD τ).loc main_arg3) ↦[cset p b]{shr p} W : sProp 𝕄) := by
  unfold cols; rw [set_src]; rfl
theorem take (p : Fin 3) (A : Finset S2x3x2048x4096.Idx) (b : Fin 8) (h : Disjoint (cset p b) A) :
    less (F := F) c W p A ⊣⊢ iprop(cols c W p b ∗ less c W p (A ∪ cset p b)) := by
  rw [cols_eq]
  unfold less
  rw [show Finset.univ \ (A ∪ cset p b) = (Finset.univ \ A) \ cset p b from sdiff_sdiff_left.symm]
  exact pointsTo_split_subset (fun x hx => Finset.mem_sdiff.mpr ⟨Finset.mem_univ _, Finset.disjoint_left.mp h hx⟩)

/-- Every branch's share, but for the elements `A p`. -/
def lessAll (A : Fin 3 → Finset S2x3x2048x4096.Idx) : sProp 𝕄 := iprop(less c W 0 (A 0) ∗ less c W 1 (A 1) ∗ less c W 2 (A 2))

theorem whole_cut : (((c : Thread nD τ).loc main_arg3) ↦{fullShare} W : sProp 𝕄) ⊣⊢ lessAll c W fun _ => ∅ := by
  have e (q : PosShare TreeShare) : (((c : Thread nD τ).loc main_arg3) ↦{q} W : sProp 𝕄)
      ⊣⊢ iprop((((c : Thread nD τ).loc main_arg3) ↦{q.left} W) ∗ (((c : Thread nD τ).loc main_arg3) ↦{q.right} W)) :=
    pointsTo_share (PosShare.mem_left_op_right q)
  unfold lessAll less
  rw [Finset.sdiff_empty, show shr 0 = fullShare.left from rfl, show shr 1 = fullShare.right.left from rfl, show shr 2 = fullShare.right.right from rfl]
  constructor
  · iintro H
    ihave H := (e fullShare).1 $$ H
    icases H with ⟨H0, H⟩
    ihave H := (e fullShare.right).1 $$ H
    icases H with ⟨H1, H2⟩
    isplitl [H0]; · iexact H0
    isplitl [H1]; · iexact H1
    iexact H2
  · iintro ⟨H0, H1, H2⟩
    iapply (e fullShare).2
    isplitl [H0]; · iexact H0
    iapply (e fullShare.right).2
    isplitl [H1]; · iexact H1
    iexact H2

/-- A tile's columns taken out of every branch's share. -/
theorem takeAll (A : Fin 3 → Finset S2x3x2048x4096.Idx) (b : Fin 8) (h : ∀ p, Disjoint (cset p b) (A p)) :
    lessAll (F := F) c W A ⊣⊢ iprop(colsAll c W b ∗ lessAll c W fun p => A p ∪ cset p b) := by
  unfold lessAll colsAll
  constructor
  · iintro ⟨H0, H1, H2⟩
    ihave H0 := (take (F := F) c W 0 (A 0) b (h 0)).1 $$ H0
    icases H0 with ⟨C0, H0⟩
    ihave H1 := (take (F := F) c W 1 (A 1) b (h 1)).1 $$ H1
    icases H1 with ⟨C1, H1⟩
    ihave H2 := (take (F := F) c W 2 (A 2) b (h 2)).1 $$ H2
    icases H2 with ⟨C2, H2⟩
    isplitl [C0 C1 C2]
    · isplitl [C0]; · iexact C0
      isplitl [C1]; · iexact C1
      iexact C2
    isplitl [H0]; · iexact H0
    isplitl [H1]; · iexact H1
    iexact H2
  · iintro ⟨⟨C0, C1, C2⟩, H0, H1, H2⟩
    isplitl [C0 H0]
    · iapply (take (F := F) c W 0 (A 0) b (h 0)).2
      isplitl [C0]; · iexact C0
      iexact H0
    isplitl [C1 H1]
    · iapply (take (F := F) c W 1 (A 1) b (h 1)).2
      isplitl [C1]; · iexact C1
      iexact H1
    iapply (take (F := F) c W 2 (A 2) b (h 2)).2
    isplitl [C2]; · iexact C2
    iexact H2

/-- One tile's columns out; and a second tile's, in either order. -/
def out1 (b : Fin 8) : sProp 𝕄 := lessAll c W fun p => cset p b
def out2 (b b' : Fin 8) : sProp 𝕄 := lessAll c W fun p => cset p b ∪ cset p b'
theorem one (b : Fin 8) : lessAll (F := F) c W (fun _ => ∅) ⊣⊢ iprop(colsAll c W b ∗ out1 c W b) := by
  have h := takeAll (F := F) c W (fun _ => ∅) b fun p => Finset.disjoint_empty_right _
  unfold out1
  simp only [Finset.empty_union] at h
  exact h
theorem two (b b' : Fin 8) (h : b' ≠ b) : out1 (F := F) c W b ⊣⊢ iprop(colsAll c W b' ∗ out2 c W b b') :=
  takeAll c W _ b' fun p => disj p h
theorem out2_comm (b b' : Fin 8) : out2 (F := F) c W b b' = out2 c W b' b := by
  unfold out2; simp only [Finset.union_comm]
end Cols

/-! ## The slots -/

abbrev slotSet (p : Fin 3) : Finset S3x2048x512.Idx := (Rect.unit (s := S3x2048x512) ![p.val, 0, 0] S1x2048x512.size (inb_slot p)).set
theorem set_slot (p : Fin 3) : (slot p).view.set = slotSet p := by
  simp only [slot, Memref.view_squeeze, View.set_reshape]; exact View.set_slice_whole _ _
theorem slots_disjoint (s s' : Fin 3) (h : s ≠ s') : Disjoint (slotSet s) (slotSet s') :=
  Ring.lead_disjoint (s := S3x2048x512) (0 : Fin 3) 1 (fun s : Fin 3 => (![s.val, 0, 0] : Fin 3 → Nat)) S1x2048x512.size inb_slot (fun s => by simp) rfl s s' h
theorem slots_cover : Finset.univ.biUnion slotSet = Finset.univ :=
  Ring.lead_cover (s := S3x2048x512) (0 : Fin 3) 1 (fun s : Fin 3 => (![s.val, 0, 0] : Fin 3 → Nat)) S1x2048x512.size inb_slot (fun s => by simp)
    (fun s a ha => by fin_cases a <;> first | exact absurd rfl ha | rfl) rfl (fun a ha => by fin_cases a <;> first | exact absurd rfl ha | rfl) rfl

section Slots
variable (c : Dev nD)
theorem held_eq (p : Fin 3) (f) : held (F := F) c p f = (((c : Thread nD τ).loc cc0_scratch0) ↦[slotSet p]{fullShare} f : sProp 𝕄) := by
  unfold held; rw [set_slot]; rfl
theorem slots_in : iprop(∃ f : Buf (Elt F) ((c : Thread nD τ).loc cc0_scratch0), ((c : Thread nD τ).loc cc0_scratch0) ↦{fullShare} f) ⊢ (frees (F := F) c : sProp 𝕄) :=
  Ring.slots3_split (U := Pipeline.UD sig nD τ) (ℓ := (c : Thread nD τ).loc cc0_scratch0) (q := fullShare) slotSet slots_disjoint slots_cover
    (held c 0) (held c 1) (held c 2) (held_eq c 0) (held_eq c 1) (held_eq c 2)
theorem slots_out : (frees (F := F) c : sProp 𝕄) ⊢ iprop(∃ f : Buf (Elt F) ((c : Thread nD τ).loc cc0_scratch0), ((c : Thread nD τ).loc cc0_scratch0) ↦{fullShare} f) :=
  Ring.slots3_join (U := Pipeline.UD sig nD τ) (ℓ := (c : Thread nD τ).loc cc0_scratch0) (q := fullShare) slotSet slots_disjoint slots_cover
    (held c 0) (held c 1) (held c 2) (held_eq c 0) (held_eq c 1) (held_eq c 2)
end Slots

/-! ## Between points -/

section Between
variable (c : Dev nD) (W : BufOf (F := F) c wM)

/-- Nothing in flight. -/
def idle : sProp 𝕄 := iprop(frees (F := F) c ∗ rests (F := F) c ∗ lessAll c W fun _ => ∅)
/-- Tile `b` in flight. -/
def moving (b : Fin 8) : sProp 𝕄 := iprop(flies c W b ∗ out1 c W b)
/-- Before step `k`: the next column tile in flight, if there is one. -/
def ringAt (k : ℕ) : sProp 𝕄 := if k = 0 then idle c W else if k ≤ 56 then moving c W (tl (k + 7)) else idle c W
/-- Before step `k`: the column tile's rounded columns. -/
def castAt (k : ℕ) : sProp 𝕄 :=
  if k = 0 then iprop(∃ d, owns (c : Thread nD τ) castM fullShare d) else owns (c : Thread nD τ) castM fullShare (castT c W (tl (k - 1)))
/-- What is held before step `k`. -/
def stateAt (k : ℕ) : sProp 𝕄 := iprop(castAt c W k ∗ (∃ r, prngReg c r) ∗ ringAt c W k)

theorem castAt_some (k : ℕ) : castAt c W k ⊢ (iprop(∃ d, owns (c : Thread nD τ) castM fullShare d) : sProp 𝕄) := by
  unfold castAt
  split
  · exact .rfl
  · iintro H; iexists _; iexact H
end Between

end Cert.Merge

end
-- ==== Proof.Merge.Frame.lean ====
/- The merge kernel's launch: what each point does, and what a run leaves. -/
module

public import proofs.«01_k».proof.Proof.Merge.Held
public import Idealize.ShloMosaic.Lib.Claim

@[expose] public section

set_option maxRecDepth 16384

noncomputable section

namespace Cert.Merge

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- The kernel's own three counters. -/
abbrev osem0 : Fin 3 → SemLoc sig := fun j => (![SemLoc.dma 14, SemLoc.dma 15, SemLoc.dma 16] : Fin 3 → SemLoc sig) j
theorem ownSemFacts0 : Pipeline.OwnSemFacts spec0 osem0 := by decide
theorem semA_eq : semA = SemLoc.dma 14 := by decide
theorem semB_eq : semB = SemLoc.dma 15 := by decide
theorem semC_eq : semC = SemLoc.dma 16 := by decide
theorem ownSems00_eq (c : Dev nD) :
    (Pipeline.ownSems0 (Ix := Unit) (Name := ℕ) (U := Pipeline.UD sig nD τ) (Lvl := ℕ) (Val := Elt F) (τ := τ) osem0 c : sProp 𝕄) = rests (F := F) c := by
  unfold rests
  rw [Pipeline.ownSems0_eq_of_list c osem0 [0, 1, 2] (by decide) (by decide), semA_eq, semB_eq, semC_eq]; rfl
/-- The weights: read by the kernel's own transfers, staged by no window. -/
def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄) = iprop(((c : Thread nD τ).loc main_arg3) ↦{fullShare} V m c main_arg3) := by
  rw [BI.bigSep_eq_bigSepL_of_eq [main_arg3] (by decide) (by decide)]; rfl
/-- What the launch hands over, piece by piece. -/
theorem launch_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ d, owns (c : Thread nD τ) castM fullShare d)) ∗ (∃ r, prngReg c r)
          ∗ rests (F := F) c ∗ iprop(((c : Thread nD τ).loc main_arg3) ↦{fullShare} V m c main_arg3)) := by
  rw [Pipeline.ΦD_eq, scopedRest0_eq, ownSems00_eq, hbmPts0_eq]; simp only [owns_whole]; try rfl

/-! ## The proof data -/

/-- The windows' staging buffers at a point: the branches' rows, their gates, the output. -/
abbrev rowsM0 (t : Fin cfg0.N) : Memref sig .tc .vmem S1024x2048 .bf16 := win0_0.stage (cfg0.slots t 0)
abbrev rowsM1 (t : Fin cfg0.N) : Memref sig .tc .vmem S1024x2048 .bf16 := win0_1.stage (cfg0.slots t 1)
abbrev rowsM2 (t : Fin cfg0.N) : Memref sig .tc .vmem S1024x2048 .bf16 := win0_2.stage (cfg0.slots t 2)
abbrev gateM0 (t : Fin cfg0.N) : Memref sig .tc .vmem S1024x512 .bf16 := win0_3.stage (cfg0.slots t 3)
abbrev gateM1 (t : Fin cfg0.N) : Memref sig .tc .vmem S1024x512 .bf16 := win0_4.stage (cfg0.slots t 4)
abbrev gateM2 (t : Fin cfg0.N) : Memref sig .tc .vmem S1024x512 .bf16 := win0_5.stage (cfg0.slots t 5)
abbrev outM (t : Fin cfg0.N) : Memref sig .tc .vmem S1024x512 .bf16 := win0_6.stage (cfg0.slots t 6)

/-- What point `t` leaves in the output's buffer. -/
def outAt (c : Dev nD) (t : Fin cfg0.N) : Vec F S1024x512 .bf16 :=
  oblk (iblk m c 0 t) (iblk m c 1 t) (iblk m c 2 t) (iblk m c 3 t) (iblk m c 4 t) (iblk m c 5 t) (castT c (V m c main_arg3) (tl t.val))

/-- The pipeline's proof data: the arrays as the region finds them, each window's buffer after a point, and what is held
    between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := stateAt c (V m c main_arg3) t.val
  q w := Pipeline.shareOf spec0 w
  owed _ := 0

theorem A_eq (c : Dev nD) (w : Fin cfg0.W) : (dats m 0 c).A w = V m c (Pipeline.arrRef spec0 w) := by
  dsimp only [dats]
theorem state_before (c : Dev nD) (t : Fin cfg0.N) : (dats m 0 c).Φ t.castSucc = stateAt c (V m c main_arg3) t.val := by
  dsimp only [dats]; simp only [Fin.val_castSucc]
theorem state_after (c : Dev nD) (t : Fin cfg0.N) : (dats m 0 c).Φ t.succ = stateAt c (V m c main_arg3) (t.val + 1) := by
  dsimp only [dats]; simp only [Fin.val_succ]
theorem after0_6 (c : Dev nD) (t : Fin cfg0.N) : (dats m 0 c).after 6 t = outAt m c t := by dsimp only [dats]
/-- An input's window holds its block at every point, fetched there or not, and the body leaves it there. -/
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)

/-! ## A point, as the pipeline asks for it -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (rowsM0 t) fullShare ((dats m 0 c).before 0 t d))
    ∗ (∃ d, owns (c : Thread nD τ) (rowsM1 t) fullShare ((dats m 0 c).before 1 t d))
    ∗ (∃ d, owns (c : Thread nD τ) (rowsM2 t) fullShare ((dats m 0 c).before 2 t d))
    ∗ (∃ d, owns (c : Thread nD τ) (gateM0 t) fullShare ((dats m 0 c).before 3 t d))
    ∗ (∃ d, owns (c : Thread nD τ) (gateM1 t) fullShare ((dats m 0 c).before 4 t d))
    ∗ (∃ d, owns (c : Thread nD τ) (gateM2 t) fullShare ((dats m 0 c).before 5 t d))
    ∗ (∃ d, owns (c : Thread nD τ) (outM t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (rowsM0 t) fullShare ((dats m 0 c).after 0 t)
    ∗ owns (c : Thread nD τ) (rowsM1 t) fullShare ((dats m 0 c).after 1 t)
    ∗ owns (c : Thread nD τ) (rowsM2 t) fullShare ((dats m 0 c).after 2 t)
    ∗ owns (c : Thread nD τ) (gateM0 t) fullShare ((dats m 0 c).after 3 t)
    ∗ owns (c : Thread nD τ) (gateM1 t) fullShare ((dats m 0 c).after 4 t)
    ∗ owns (c : Thread nD τ) (gateM2 t) fullShare ((dats m 0 c).after 5 t)
    ∗ owns (c : Thread nD τ) (outM t) fullShare ((dats m 0 c).after 6 t))

/-- The inputs' blocks at point `t`. -/
def insAt (c : Dev nD) (t : Fin cfg0.N) : sProp 𝕄 :=
  ins c (rowsM0 t) (rowsM1 t) (rowsM2 t) (gateM0 t) (gateM1 t) (gateM2 t) (iblk m c 0 t) (iblk m c 1 t) (iblk m c 2 t) (iblk m c 3 t) (iblk m c 4 t) (iblk m c 5 t)

/-- The same, with the inputs' blocks together. -/
theorem pre_ins (c : Dev nD) (t : Fin cfg0.N) :
    bodyPre m c t ⊢ iprop(stateAt c (V m c main_arg3) t.val ∗ (∃ Ws, owes (c : Thread nD τ) 0 Ws) ∗ insAt m c t ∗ anyOf (F := F) c (outM t)) := by
  unfold bodyPre insAt ins
  simp only [before0_0, before0_1, before0_2, before0_3, before0_4, before0_5]
  rw [state_before m c t]
  unfold Dat.owesAt Pipeline.owesWithin
  rw [show (dats m 0 c).owed t.castSucc = 0 from rfl]
  iintro ⟨HS, ⟨%Ws, -, HW⟩, ⟨%d0, H0⟩, ⟨%d1, H1⟩, ⟨%d2, H2⟩, ⟨%d3, H3⟩, ⟨%d4, H4⟩, ⟨%d5, H5⟩, ⟨%d6, H6⟩⟩
  isplitl [HS]; · iexact HS
  isplitl [HW]; · iexists Ws; iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  iexists _; iexact H6
theorem post_ins (c : Dev nD) (t : Fin cfg0.N) :
    iprop(stateAt c (V m c main_arg3) (t.val + 1) ∗ (∃ Ws, owes (c : Thread nD τ) 0 Ws) ∗ insAt m c t ∗ owns (c : Thread nD τ) (outM t) fullShare (outAt m c t)) ⊢ bodyPost m c t := by
  unfold bodyPost insAt ins
  rw [after0_0, after0_1, after0_2, after0_3, after0_4, after0_5, after0_6, state_after m c t]
  unfold Dat.owesAt Pipeline.owesWithin
  rw [show (dats m 0 c).owed t.succ = 0 from rfl]
  iintro ⟨HS, ⟨%Ws, HW⟩, ⟨H0, H1, H2, H3, H4, H5⟩, H6⟩
  isplitl [HS]; · iexact HS
  isplitl [HW]
  · iexists Ws; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

/-- A column tile differs from the next one. -/
theorem tl_next (k : ℕ) : tl k ≠ tl (k + 8) := fun h => by
  have := congrArg Fin.val h
  simp only [tl] at this
  omega
theorem tl_same (k : ℕ) (h : k % 8 = 0) : tl (k + 7) = tl k := Fin.ext (by simp only [tl]; omega)
theorem tl_back (k : ℕ) (h : ¬k % 8 = 0) : tl (k - 1) = tl k := Fin.ext (by simp only [tl]; omega)
theorem tl_fwd (k : ℕ) (h : ¬k % 8 = 0) : tl (k + 7) = tl (k + 1 + 7) := Fin.ext (by simp only [tl]; omega)

section Moves
variable (c : Dev nD) (W : BufOf (F := F) c wM)

/-- What a point's run stored to the output's buffer is the output block there. -/
theorem own_out (M : Memref sig .tc .vmem S1024x512 .bf16) (x0 x1 x2 : Vec F S1024x2048 .bf16) (g0 g1 g2 : Vec F S1024x512 .bf16) (X : Vec F S3x2048x512 .bf16)
    (L) (hL : L = [outP x0 x1 x2 g0 g1 g2 X]) : stored (F := F) c M L ⊢ owns (c : Thread nD τ) M fullShare (oblk x0 x1 x2 g0 g1 g2 X) := by
  subst hL
  unfold stored owns
  iintro ⟨%f, H⟩
  iexists _; isplitr
  swap; · iexact H
  ipureintro; exact read_out _ _ _ _ _ _ _ _ _
/-- What it stored to the rounded tiles is the rounded tiles there. -/
theorem own_cast (b : Fin 8) (L) (hL : L = tilesL c W b) : stored (F := F) c castM L ⊢ owns (c : Thread nD τ) castM fullShare (castT c W b) := by
  subst hL
  unfold stored owns
  iintro ⟨%f, H⟩
  iexists _; isplitr
  swap; · iexact H
  ipureintro; exact read_tiles _ _ _ _
end Moves

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  refine (pre_ins m c t).trans ?_
  have post := post_ins m c t
  unfold outAt insAt at post
  unfold insAt
  unfold bodyAt0
  generalize V m c main_arg3 = W at post ⊢
  have hN : t.val < 64 := lt_of_lt_of_eq t.isLt (show cfg0.N = 64 from N_0)
  unfold stateAt at post ⊢
  have hne := tl_next t.val
  by_cases h0 : t.val % 8 = 0
  · have h0' := (atFirst_iff t).mpr h0
    have hcast : castAt (F := F) c W (t.val + 1) = owns (c : Thread nD τ) castM fullShare (castT c W (tl t.val)) := by
      unfold castAt; rw [if_neg (Nat.succ_ne_zero _), Nat.add_sub_cancel]
    rw [hcast] at post
    by_cases h1 : t.val < 8
    · have hz : t.val = 0 := by omega
      have h1' := (atStart_iff t).mpr h1
      have h2' := (hasNext_iff t).mpr (by omega)
      rw [show ringAt (F := F) c W (t.val + 1) = moving c W (tl (t.val + 8)) from by unfold ringAt; rw [if_neg (by omega), if_pos (by omega)]] at post
      rw [show ringAt (F := F) c W t.val = idle c W from if_pos hz]
      unfold moving at post
      unfold idle
      iintro ⟨⟨HC, Hg, ⟨HF, HR, HL⟩⟩, ⟨%Ws, HW⟩, HI, H6⟩
      ihave HC := (castAt_some (F := F) c W t.val) $$ HC
      ihave HL := (one (F := F) c W (tl (t.val + 8))).1 $$ HL
      icases HL with ⟨HN, HL⟩
      ihave HL := (two (F := F) c W (tl (t.val + 8)) (tl t.val) hne).1 $$ HL
      icases HL with ⟨HT, HL⟩
      iapply ((runA c t _ _ _ _ _ _ _ _ _ _ _ _ _ _ h0' h1' h2' (iblk m c 0 t) (iblk m c 1 t) (iblk m c 2 t) (iblk m c 3 t) (iblk m c 4 t) (iblk m c 5 t) W).2 Ws _)
      isplitl [HI]; · iexact HI
      isplitl [H6]; · iexact H6
      isplitl [HC]; · iexact HC
      isplitl [HF]; · iexact HF
      isplitl [HR]; · iexact HR
      isplitl [HT]; · iexact HT
      isplitl [HN]; · iexact HN
      isplitl [HW]; · iexact HW
      iintro ⟨HI, H6, HC, HF, HT, HW⟩
      iapply post
      isplitl [HC Hg HF HT HL]
      · isplitl [HC]; · iapply (own_cast (F := F) c W (tl t.val) _ (piecesA2 c t _ _ _ _ _ _ _ _ _ _ _ _ _ _ _ _ _ _ _ _ W h0' h1' h2')); iexact HC
        isplitl [Hg]; · iexact Hg
        isplitl [HF]; · iexact HF
        iapply (two (F := F) c W (tl (t.val + 8)) (tl t.val) hne).2
        isplitl [HT]; · iexact HT
        iexact HL
      isplitl [HW]; · iexact HW
      isplitl [HI]; · iexact HI
      iapply (own_out (F := F) c _ _ _ _ _ _ _ _ _ (piecesA1 c t _ _ _ _ _ _ _ _ _ _ _ _ _ _ _ _ _ _ _ _ W h0' h1' h2')); iexact H6
    · have h1' : ¬atStart (grid0.coords t) := fun h => h1 ((atStart_iff t).mp h)
      rw [show ringAt (F := F) c W t.val = moving c W (tl t.val) from by unfold ringAt; rw [if_neg (by omega), if_pos (by omega), tl_same _ h0]]
      unfold moving
      by_cases h2 : t.val < 56
      · have h2' := (hasNext_iff t).mpr h2
        rw [show ringAt (F := F) c W (t.val + 1) = moving c W (tl (t.val + 8)) from by unfold ringAt; rw [if_neg (by omega), if_pos (by omega)]] at post
        unfold moving at post
        iintro ⟨⟨HC, Hg, ⟨HF, HL⟩⟩, ⟨%Ws, HW⟩, HI, H6⟩
        ihave HC := (castAt_some (F := F) c W t.val) $$ HC
        ihave HL := (two (F := F) c W (tl t.val) (tl (t.val + 8)) hne.symm).1 $$ HL
        icases HL with ⟨HN, HL⟩
        iapply ((runB c t _ _ _ _ _ _ _ _ _ _ _ _ _ _ h0' h1' h2' (iblk m c 0 t) (iblk m c 1 t) (iblk m c 2 t) (iblk m c 3 t) (iblk m c 4 t) (iblk m c 5 t) W).2 Ws _)
        isplitl [HI]; · iexact HI
        isplitl [H6]; · iexact H6
        isplitl [HC]; · iexact HC
        isplitl [HF]; · iexact HF
        isplitl [HN]; · iexact HN
        isplitl [HW]; · iexact HW
        iintro ⟨HI, H6, HC, HF, HT, HW⟩
        iapply post
        isplitl [HC Hg HF HT HL]
        · isplitl [HC]; · iapply (own_cast (F := F) c W (tl t.val) _ (piecesB2 c t _ _ _ _ _ _ _ _ _ _ _ _ _ _ _ _ _ _ _ _ W h0' h1' h2')); iexact HC
          isplitl [Hg]; · iexact Hg
          isplitl [HF]; · iexact HF
          iapply (two (F := F) c W (tl (t.val + 8)) (tl t.val) hne).2
          isplitl [HT]; · iexact HT
          irw [out2_comm]
          iexact HL
        isplitl [HW]; · iexact HW
        isplitl [HI]; · iexact HI
        iapply (own_out (F := F) c _ _ _ _ _ _ _ _ _ (piecesB1 c t _ _ _ _ _ _ _ _ _ _ _ _ _ _ _ _ _ _ _ _ W h0' h1' h2')); iexact H6
      · have h2' : ¬hasNext (grid0.coords t) := fun h => h2 ((hasNext_iff t).mp h)
        rw [show ringAt (F := F) c W (t.val + 1) = idle c W from by unfold ringAt; rw [if_neg (by omega), if_neg (by omega)]] at post
        unfold idle at post
        iintro ⟨⟨HC, Hg, ⟨HF, HL⟩⟩, ⟨%Ws, HW⟩, HI, H6⟩
        ihave HC := (castAt_some (F := F) c W t.val) $$ HC
        iapply ((runC c t _ _ _ _ _ _ _ _ _ _ _ _ _ _ h0' h1' h2' (iblk m c 0 t) (iblk m c 1 t) (iblk m c 2 t) (iblk m c 3 t) (iblk m c 4 t) (iblk m c 5 t) W).2 Ws _)
        isplitl [HI]; · iexact HI
        isplitl [H6]; · iexact H6
        isplitl [HC]; · iexact HC
        isplitl [HF]; · iexact HF
        isplitl [HW]; · iexact HW
        iintro ⟨HI, H6, HC, HF, HR, HT, HW⟩
        iapply post
        isplitl [HC Hg HF HR HT HL]
        · isplitl [HC]; · iapply (own_cast (F := F) c W (tl t.val) _ (piecesC2 c t _ _ _ _ _ _ _ _ _ _ _ _ _ _ _ _ _ _ _ _ W h0' h1' h2')); iexact HC
          isplitl [Hg]; · iexact Hg
          isplitl [HF]; · iexact HF
          isplitl [HR]; · iexact HR
          iapply (one (F := F) c W (tl t.val)).2
          isplitl [HT]; · iexact HT
          iexact HL
        isplitl [HW]; · iexact HW
        isplitl [HI]; · iexact HI
        iapply (own_out (F := F) c _ _ _ _ _ _ _ _ _ (piecesC1 c t _ _ _ _ _ _ _ _ _ _ _ _ _ _ _ _ _ _ _ _ W h0' h1' h2')); iexact H6
  · have h0' : ¬atFirst (grid0.coords t) := fun h => h0 ((atFirst_iff t).mp h)
    have hz : t.val ≠ 0 := fun h => h0 (by rw [h])
    have e1 : castAt (F := F) c W t.val = owns (c : Thread nD τ) castM fullShare (castT c W (tl t.val)) := by
      unfold castAt; rw [if_neg hz, tl_back _ h0]
    have e2 : castAt (F := F) c W (t.val + 1) = owns (c : Thread nD τ) castM fullShare (castT c W (tl t.val)) := by
      unfold castAt; rw [if_neg (Nat.succ_ne_zero _), Nat.add_sub_cancel]
    have e3 : ringAt (F := F) c W (t.val + 1) = ringAt c W t.val := by
      unfold ringAt
      rw [if_neg hz, if_neg (Nat.succ_ne_zero _), tl_fwd _ h0]
      by_cases h : t.val ≤ 56
      · rw [if_pos h, if_pos (by omega)]
      · rw [if_neg h, if_neg (by omega)]
    rw [e2, e3] at post
    rw [e1]
    iintro ⟨⟨HC, Hg, Hr⟩, ⟨%Ws, HW⟩, HI, H6⟩
    iapply ((runD c t _ _ _ _ _ _ _ _ _ _ _ _ _ _ h0' (iblk m c 0 t) (iblk m c 1 t) (iblk m c 2 t) (iblk m c 3 t) (iblk m c 4 t) (iblk m c 5 t) (castT c W (tl t.val))).2 Ws _)
    isplitl [HI]; · iexact HI
    isplitl [H6]; · iexact H6
    isplitl [HC]; · iexact HC
    isplitl [HW]; · iexact HW
    iintro ⟨HI, H6, HC, HW⟩
    iapply post
    isplitl [HC Hg Hr]
    · isplitl [HC]; · iexact HC
      isplitl [Hg]; · iexact Hg
      iexact Hr
    isplitl [HW]; · iexact HW
    isplitl [HI]; · iexact HI
    iapply (own_out (F := F) c _ _ _ _ _ _ _ _ _ (piecesD c t _ _ _ _ _ _ _ _ _ _ _ _ _ _ _ _ _ _ _ _ h0' _)); iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over what is held before the first point, -/
theorem hin (c : Dev nD) : Pipeline.ΦD osem0 spec0 H0 (V m) c ⊢ (dats m 0 c).Φ 0 := by
  rw [launch_eq, show (dats m 0 c).Φ 0 = stateAt c (V m c main_arg3) 0 from rfl]
  unfold stateAt castAt ringAt idle
  rw [if_pos rfl, if_pos rfl]
  iintro ⟨⟨HS, HC⟩, Hg, HR, Hw⟩
  isplitl [HC]; · iexact HC
  isplitl [Hg]; · iexact Hg
  isplitl [HS]; · iapply (slots_in (F := F) c); iexact HS
  isplitl [HR]; · iexact HR
  iapply (whole_cut (F := F) c (V m c main_arg3)).1; iexact Hw
/-- and gets back what is held after the last. -/
theorem hout (c : Dev nD) : (dats m 0 c).Φ (Fin.last cfg0.N) ⊢ Pipeline.ΦD osem0 spec0 H0 (V m) c := by
  rw [launch_eq, show (dats m 0 c).Φ (Fin.last cfg0.N) = stateAt c (V m c main_arg3) grid0.N from rfl]
  unfold stateAt
  rw [show ringAt c (V m c main_arg3) grid0.N = idle c (V m c main_arg3) from by unfold ringAt; rw [N_0]; rfl]
  unfold idle
  iintro ⟨HC, Hg, HS, HR, HL⟩
  isplitl [HC HS]
  · isplitl [HS]; · iapply (slots_out (F := F) c); iexact HS
    iapply (castAt_some (F := F) c (V m c main_arg3) grid0.N); iexact HC
  isplitl [Hg]; · iexact Hg
  isplitl [HR]; · iexact HR
  iapply (whole_cut (F := F) c (V m c main_arg3)).2; iexact HL

/-! ## The run -/

/-- Main up to the region is the region alone. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every run ends with the arrays as the proof data say, and every counter at zero. The three gates' windows share one
    array, each with its share of it. -/
theorem run_all : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := entry m Variants.none) (hA := A_eq m)
    (hin := hin m) (hout := hout m)

/-- After a run the output is the proof data's array, and the arguments are as launched. -/
theorem post_arrays (r : PUnit × MemSt nD τ sig (Elt F)) (h : Pipeline.FramePost cfgs (dats m) 0 (V m) r) (c : Dev nD) :
    r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h c).1 6, ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c)))⟩

theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => post_arrays m r h.1 c) (run_all m ρ)

/-- The frame: a run ends, its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (post_arrays m r h.1 c).2, h.2⟩) (run_all m ρ)

end Cert.Merge
end
-- ==== Proof.Merge.Tiles.lean ====
/- The merge kernel's rounded tiles and its output block, at an index. -/
module

public import proofs.«01_k».proof.Proof.Merge.Frame
public import Idealize.ShloMosaic.Lib.Pipeline.ValueKit
public import Idealize.ShloMosaic.Lib.Pipeline.Value
public import Idealize.ShloMosaic.Lib.ValueLayout
public import Idealize.ShloMosaic.Lib.WritesUnit
public import Idealize.ShloMosaic.Lib.IdealHost

@[expose] public section
set_option maxRecDepth 16384
noncomputable section
namespace Cert.Merge
open Cert.Kernel5Ideal Cert.Kernel5Ideal.Gen Idealize.ShloMosaic Idealize.ShloMosaic.TcCoe Idealize.SL.Sem

/-! ## The tiles -/

section Tiles
variable (c : Dev nD) (W : BufOf (F := Ideal) c wM) (p : Fin 3) (b : Fin 8)

/-- Column `e` of tile `b`. -/
def colB (e : Fin 512) : Fin 4096 := ⟨512 * b.val + e.val, by have := b.isLt; omega⟩

/-- An element of the columns, matched with the columns without their unit axes. -/
theorem reshape_at (h : (⟨2, ![2048, 512]⟩ : Shape).numel = (⟨4, ![1, 1, 2048, 512]⟩ : Shape).numel) (k : Fin 2048) (e : Fin 512) :
    Shape.reshapeEquiv h (ix2 k e) = ix4 (0 : Fin 1) (0 : Fin 1) k e := ValueIdx.reshapeEquiv_ix2_11ab h k e

theorem src_at (k : Fin 2048) (e : Fin 512) : (src p b).view.read (Elt Ideal) W (ix2 k e) = W (ix4 0 p k (colB b e)) := by
  refine (congrFun (Memref.read_squeeze_slice wM _ (fun _ => rfl) squeezes_S1x1x2048x512_S2048x512 (squeezes_S1x1x2048x512_S2048x512).numel_eq W) (ix2 k e)).trans ?_
  show wM.view.readAt (Elt Ideal) (Rect.unit (s := S2x3x2048x4096) ![0, p.val, 0, 512 * b.val] S1x1x2048x512.size (inb_src p b)).toLoadRect W
    (Shape.reshapeEquiv _ (ix2 k e)) = _
  rw [reshape_at]
  refine congrArg W (funext fun a => Fin.ext ?_)
  fin_cases a
  · rfl
  · show p.val + 1 * 0 = p.val; omega
  · show 0 + 1 * k.val = k.val; omega
  · show 512 * b.val + 1 * e.val = 512 * b.val + e.val; omega

/-- A slot stored whole reads what was stored. -/
theorem read_landed {sg : RefSig} {κ : Kind} {sp : Space} {s : Shape} {e : EltTy} {Val : EltTy → Type} (v : View sg κ sp s e)
    (f : v.ty.Contents Val) (w : s.Idx → Val e) (y : s.Idx) :
    v.read Val (v.writes Val f [⟨Rect.whole s, w⟩]) y = w y :=
  (congrArg (v.read Val (v.writes Val f [⟨Rect.whole s, w⟩])) (Rect.emb_whole_apply s y).symm).trans
    (View.read_writes_cons_emb v f (Rect.whole s) w [] y)

theorem load_at (k : Fin 2048) (e : Fin 512) : loadT c W p b (ix3 0 k e) = W (ix4 0 p k (colB b e)) := by
  have h := congrFun (Memref.read_squeeze_slice stageM (slabR p)
    (fun _ => rfl) squeezes_S1x2048x512_S2048x512 (squeezes_S1x2048x512_S2048x512).numel_eq (land c W p b (slot p).view.junk)) (ix2 k e)
  have h2 : shapeCast S2048x512 (loadT c W p b) (squeezes_S1x2048x512_S2048x512).numel_eq (ix2 k e) = loadT c W p b (ix3 0 k e) :=
    congrArg (loadT c W p b) (ValueIdx.reshapeEquiv_ix2_1ab _ k e)
  exact h2.symm.trans (h.symm.trans ((read_landed (slot p).view _ _ _).trans (src_at c W p b k e)))

theorem pay1_at (x : Vec Ideal S1x2048x512 .f32) (k : Fin 2048) (e : Fin 512) : k0_pay1 x (ix3 0 k e) = x (ix3 0 k e) := by
  pointwise [k0_pay1]
theorem pay2_eq (x : Vec Ideal S1x2048x512 .f32) : k0_pay2 x = k0_pay1 x := rfl
theorem pay3_eq (x : Vec Ideal S1x2048x512 .f32) : k0_pay3 x = k0_pay1 x := rfl

/-- An index of slab `q` is in no other slab `p`. -/
theorem skip {sg : RefSig} {κ : Kind} {sp : Space} (v : View sg κ sp S3x2048x512 .bf16) (f) (w : Vec Ideal S1x2048x512 .bf16)
    (L) (q : Fin 3) (h : q ≠ p) (k : Fin 2048) (e : Fin 512) :
    v.read (Elt Ideal) (v.writes (Elt Ideal) f (⟨slabR p, w⟩ :: L)) (ix3 q k e) = v.read (Elt Ideal) (v.writes (Elt Ideal) f L) (ix3 q k e) :=
  View.read_writes_cons_unit_of_not_mem v f (inb_slot p) w L (ix3 q k e) rfl (0 : Fin 3)
    ((Nat.lt_or_gt_of_ne fun hv => h (Fin.ext hv)).imp (fun hl => hl) fun hg => hg)
/-- An index of slab `p` reads what the slab was stored with. -/
theorem hit {sg : RefSig} {κ : Kind} {sp : Space} (v : View sg κ sp S3x2048x512 .bf16) (f) (w : Vec Ideal S1x2048x512 .bf16)
    (L) (k : Fin 2048) (e : Fin 512) :
    v.read (Elt Ideal) (v.writes (Elt Ideal) f (⟨slabR p, w⟩ :: L)) (ix3 p k e) = w (ix3 0 k e) :=
  View.read_writes_cons_unit_of_mem v f (inb_slot p) w L (ix3 p k e) (ix3 0 k e) rfl fun a => by
    fin_cases a
    · exact (Nat.add_zero _).symm
    · exact (Nat.zero_add _).symm
    · exact (Nat.zero_add _).symm

theorem cast_load (k : Fin 2048) (e : Fin 512) : castT c W b (ix3 p k e) = k0_pay1 (loadT c W p b) (ix3 0 k e) := by
  unfold castT tilesL
  rw [pay3_eq, pay2_eq]
  fin_cases p
  · exact (skip 2 castM.view _ _ _ 0 (by decide) k e).trans ((skip 1 castM.view _ _ _ 0 (by decide) k e).trans (hit 0 castM.view _ _ _ k e))
  · exact (skip 2 castM.view _ _ _ 1 (by decide) k e).trans (hit 1 castM.view _ _ _ k e)
  · exact hit 2 castM.view _ _ _ k e

theorem cast_at (k : Fin 2048) (e : Fin 512) : castT c W b (ix3 p k e) = W (ix4 0 p k (colB b e)) := by
  rw [cast_load, pay1_at]
  exact load_at c W p b k e

/-- Slab `p` of the tiles, as loaded. -/
theorem slab_at (X : Vec Ideal S3x2048x512 .bf16) (k : Fin 2048) (e : Fin 512) : X ((slabR p).toLoadRect.idx (ix3 0 k e)) = X (ix3 p k e) := by
  refine congrArg X (funext fun a => Fin.ext ?_)
  fin_cases a
  · show p.val + 1 * 0 = p.val; omega
  · show 0 + 1 * k.val = k.val; omega
  · show 0 + 1 * e.val = e.val; omega

end Tiles

/-! ## The output block -/

theorem pay4_at (x0 x1 x2 : Vec Ideal S1024x2048 .bf16) (w0 w1 w2 : Vec Ideal S1x2048x512 .bf16) (g0 g1 g2 : Vec Ideal S1024x512 .bf16) (r : Fin 1024) (e : Fin 512) :
    k0_pay4 x0 w0 x1 w1 x2 w2 g0 g1 g2 (ix2 r e)
      = g0 (ix2 r e) * (∑ k : Fin 2048, x0 (ix2 r k) * w0 (ix3 0 k e)) + g1 (ix2 r e) * (∑ k : Fin 2048, x1 (ix2 r k) * w1 (ix3 0 k e))
        + g2 (ix2 r e) * (∑ k : Fin 2048, x2 (ix2 r k) * w2 (ix3 0 k e)) := by
  pointwise [k0_pay4]

theorem oblk_at (x0 x1 x2 : Vec Ideal S1024x2048 .bf16) (g0 g1 g2 : Vec Ideal S1024x512 .bf16) (X : Vec Ideal S3x2048x512 .bf16) (r : Fin 1024) (e : Fin 512) :
    oblk x0 x1 x2 g0 g1 g2 X (ix2 r e)
      = g0 (ix2 r e) * (∑ k : Fin 2048, x0 (ix2 r k) * X (ix3 0 k e)) + g1 (ix2 r e) * (∑ k : Fin 2048, x1 (ix2 r k) * X (ix3 1 k e))
        + g2 (ix2 r e) * (∑ k : Fin 2048, x2 (ix2 r k) * X (ix3 2 k e)) := by
  unfold oblk
  rw [pay4_at]
  simp only [slab_at]

end Cert.Merge
end
-- ==== Proof.Merge.Ref.lean ====
/- The merge's reference's result at an index. -/
module

public import proofs.«01_k».proof.Proof.Gen.Reference5Ideal.Run
public import Idealize.ShloMosaic.Lib.Pipeline.ValueKit
public import Idealize.ShloMosaic.Lib.Pipeline.Value
public import Idealize.ShloMosaic.Lib.ValueLayout
public import Idealize.ShloMosaic.Lib.IdealHost

@[expose] public section
set_option maxRecDepth 16384
noncomputable section
namespace Cert.Merge
open Cert.Reference5Ideal Cert.Reference5Ideal.Gen Idealize.ShloMosaic Idealize.ShloMosaic.TcCoe Idealize.SL.Sem Idealize.ShloMosaic.StableHlo

/-- The branch gates of the three branches, beside each other. -/
def refGates (z : FVec Ideal S8192x14336 .bf16) : FVec Ideal S8192x3x4096 .f32 :=
  shapeCast _ (extf .f32 (extractStridedSlice S8192x12288 ![0, 2048] z slices_S8192x14336_S8192x12288_0_2048) bitsLt_bf16_f32) shapeCasts_S8192x12288_S8192x3x4096

theorem slices_gate (p : Fin 3) : S8192x3x4096.Slices ![0, p.val, 0] S8192x1x4096 := by revert p; decide
theorem slices_weight (p : Fin 3) : S2x3x2048x4096.Slices ![0, p.val, 0, 0] S1x1x2048x4096 := by revert p; decide

/-- Branch `p`'s gates, -/
def refGate (p : Fin 3) (z : FVec Ideal S8192x14336 .bf16) : FVec Ideal S8192x4096 .f32 :=
  shapeCast _ (extractStridedSlice S8192x1x4096 ![0, p.val, 0] (refGates z) (slices_gate p)) shapeCasts_S8192x1x4096_S8192x4096
/-- its rows' product with its weights of the first layer, -/
def refProd (p : Fin 3) (y : FVec Ideal S8192x2048 .bf16) (w : FVec Ideal S2x3x2048x4096 .f32) : FVec Ideal S8192x4096 .f32 :=
  Host.dotGeneral dot_S8192x2048_S2048x4096_S8192x4096_1_0_0_1_n_n none (extf .f32 y bitsLt_bf16_f32)
    (shapeCast _ (extractStridedSlice S1x1x2048x4096 ![0, p.val, 0, 0] w (slices_weight p)) shapeCasts_S1x1x2048x4096_S2048x4096)
/-- and the one times the other. -/
def refTerm (p : Fin 3) (y : FVec Ideal S8192x2048 .bf16) (w : FVec Ideal S2x3x2048x4096 .f32) (z : FVec Ideal S8192x14336 .bf16) : FVec Ideal S8192x4096 .f32 :=
  mulf (refGate p z) (refProd p y w)

/-- The reference's result: the branches' terms added up. -/
def refOut (ya yb yc : FVec Ideal S8192x2048 .bf16) (w : FVec Ideal S2x3x2048x4096 .f32) (z : FVec Ideal S8192x14336 .bf16) : FVec Ideal S8192x4096 .bf16 :=
  truncf .bf16 (addf (addf (refTerm 0 ya w z) (refTerm 1 yb w z)) (refTerm 2 yc w z)) bitsLt_bf16_f32

/-- An element of branch `p`'s product: row `r`, column `e`. -/
def dotAt (p : Fin 3) (y : FVec Ideal S8192x2048 .bf16) (w : FVec Ideal S2x3x2048x4096 .f32) (r : Fin 8192) (e : Fin 4096) : EReal :=
  ∑ k : Fin 2048, y (ix2 r k) * w (ix4 0 p k e)

/-- The gates' column that branch `p`'s column `e` is gated by. -/
def gcol (p : Fin 3) (e : Fin 4096) : Fin 14336 := ⟨2048 + (p.val * 4096 + e.val), by have := p.isLt; omega⟩

theorem refGates_apply (z : FVec Ideal S8192x14336 .bf16) (r : Fin 8192) (p : Fin 3) (e : Fin 4096) :
    refGates z (ix3 r p e) = z (ix2 r (gcol p e)) := by
  pointwise [refGates, gcol]

theorem refGate_apply (p : Fin 3) (z : FVec Ideal S8192x14336 .bf16) (r : Fin 8192) (e : Fin 4096) :
    refGate p z (ix2 r e) = z (ix2 r (gcol p e)) := by
  refine Eq.trans ?_ (refGates_apply z r p e)
  pointwise [refGate]

theorem refProd_apply (p : Fin 3) (y : FVec Ideal S8192x2048 .bf16) (w : FVec Ideal S2x3x2048x4096 .f32) (r : Fin 8192) (e : Fin 4096) :
    refProd p y w (ix2 r e) = dotAt p y w r e := by
  pointwise [refProd, dotAt]

theorem refTerm_apply (p : Fin 3) (y : FVec Ideal S8192x2048 .bf16) (w : FVec Ideal S2x3x2048x4096 .f32) (z : FVec Ideal S8192x14336 .bf16) (r : Fin 8192) (e : Fin 4096) :
    refTerm p y w z (ix2 r e) = z (ix2 r (gcol p e)) * dotAt p y w r e := by
  exact congrArg₂ (fun a b : EReal => a * b) (refGate_apply p z r e) (refProd_apply p y w r e)

theorem refOut_apply (ya yb yc : FVec Ideal S8192x2048 .bf16) (w : FVec Ideal S2x3x2048x4096 .f32) (z : FVec Ideal S8192x14336 .bf16) (r : Fin 8192) (e : Fin 4096) :
    refOut ya yb yc w z (ix2 r e)
      = z (ix2 r (gcol 0 e)) * dotAt 0 ya w r e + z (ix2 r (gcol 1 e)) * dotAt 1 yb w r e + z (ix2 r (gcol 2 e)) * dotAt 2 yc w r e := by
  exact congrArg₂ (fun a b : EReal => a + b) (congrArg₂ (fun a b : EReal => a + b) (refTerm_apply 0 ya w z r e) (refTerm_apply 1 yb w z r e)) (refTerm_apply 2 yc w z r e)

variable (m : (ℓ : Loc nD τ sig) → Buf (Elt Ideal) ℓ) (ρ : Dev nD → PrngReg)

/-- Every run of the reference ends with this result, its arguments as launched. -/
theorem ref_run : θ_run defs (onTc (τ := τ) (main (F := Ideal))) ⟨m, fun _ => 0, ρ⟩ fun r => ∀ c : Dev nD,
      r.2.mem ((c.tc : Thread nD τ).loc main_v26)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Merge
end
-- ==== Proof.Merge.Out.lean ====
/- The merge kernel's output array at an index, from the program's arguments, is its reference's result. -/
module

public import proofs.«01_k».proof.Proof.Merge.Tiles
public import proofs.«01_k».proof.Proof.Merge.Ref

@[expose] public section
set_option maxRecDepth 16384
noncomputable section
namespace Cert.Merge
open Cert.Kernel5Ideal Cert.Kernel5Ideal.Gen Idealize.ShloMosaic Idealize.ShloMosaic.TcCoe Idealize.SL.Sem

/-! ## A point's blocks -/

variable (m : (ℓ : Loc nD τ sig) → Buf (Elt Ideal) ℓ) (c : Dev nD) (t : Fin cfg0.N)

theorem idx : ∀ t : Fin cfg0.N,
    win0_0.index t = ![(grid0.coords t 1).val, 0] ∧ win0_1.index t = ![(grid0.coords t 1).val, 0] ∧ win0_2.index t = ![(grid0.coords t 1).val, 0]
    ∧ win0_3.index t = ![(grid0.coords t 1).val, 4 + (grid0.coords t 0).val] ∧ win0_4.index t = ![(grid0.coords t 1).val, 12 + (grid0.coords t 0).val]
    ∧ win0_5.index t = ![(grid0.coords t 1).val, 20 + (grid0.coords t 0).val] ∧ win0_6.index t = ![(grid0.coords t 1).val, (grid0.coords t 0).val]
    ∧ t.val / 8 % 8 = (grid0.coords t 0).val :=
  (by decide +kernel : ∀ t : Fin grid0.N, _)

theorem idx_inj : ∀ t t' : Fin cfg0.N, win0_6.index t = win0_6.index t' → t = t' :=
  (by decide +kernel : ∀ t t' : Fin grid0.N, win0_6.index t = win0_6.index t' → t = t')

theorem blocks : ((cfg0.win 6).blk t).view.read (Elt Ideal) ((dats m 0 c).arrAt 6 cfg0.N) = (dats m 0 c).flushed 6 t :=
  (dats m 0 c).read_blk_arrAt_eq_flushed 6 (fun t t' _ _ hne => (cfg0.win 6).disjoint_blk fun h => hne (idx_inj t t' h)) cfg0.N t t.isLt (flush0_6 t)

theorem flushed_eq : (dats m 0 c).flushed 6 t = (cfg0.win 6).cut (grid0.coords t) (outAt m c t) := by
  show (cfg0.win 6).cut (grid0.coords t) ((dats m 0 c).after 6 t) = _
  rw [after0_6]

/-- The grid point's column tile and row block. -/
abbrev jt : Fin 8 := grid0.coords t 0
abbrev it : Fin 8 := grid0.coords t 1

/-- Row `r` of the point's row block, and column `e` of its column tile. -/
def rowT (r : Fin 1024) : Fin 8192 := ⟨(it t).val * 1024 + r.val, by have := (it t).isLt; omega⟩
def colT (e : Fin 512) : Fin 4096 := ⟨(jt t).val * 512 + e.val, by have := (jt t).isLt; omega⟩

theorem tl_jt : tl t.val = jt t := Fin.ext (idx t).2.2.2.2.2.2.2
theorem col_eq (e : Fin 512) : colB (jt t) e = colT t e :=
  Fin.ext (by show 512 * (jt t).val + e.val = (jt t).val * 512 + e.val; omega)

/-- A column of branch `p`'s gate block is the gates' column for the point's column. -/
theorem gate_col (p : Fin 3) (j e : ℕ) : (4 + 8 * p.val + j) * 512 + e = 2048 + (p.val * 4096 + (j * 512 + e)) := by omega

theorem read0 (r : Fin 1024) (k : Fin 2048) : iblk m c 0 t (ix2 r k) = m ((c : Thread nD τ).loc main_arg0) (ix2 (rowT t r) k) := by
  blk_ext [iblk, V, idx t, rowT]
theorem read1 (r : Fin 1024) (k : Fin 2048) : iblk m c 1 t (ix2 r k) = m ((c : Thread nD τ).loc main_arg1) (ix2 (rowT t r) k) := by
  blk_ext [iblk, V, idx t, rowT]
theorem read2 (r : Fin 1024) (k : Fin 2048) : iblk m c 2 t (ix2 r k) = m ((c : Thread nD τ).loc main_arg2) (ix2 (rowT t r) k) := by
  blk_ext [iblk, V, idx t, rowT]
theorem read3 (r : Fin 1024) (e : Fin 512) : iblk m c 3 t (ix2 r e) = m ((c : Thread nD τ).loc main_arg4) (ix2 (rowT t r) (gcol 0 (colT t e))) := by
  blk_ext [iblk, V, idx t, rowT, colT, gcol]
  exact gate_col 0 (jt t).val e.val
theorem read4 (r : Fin 1024) (e : Fin 512) : iblk m c 4 t (ix2 r e) = m ((c : Thread nD τ).loc main_arg4) (ix2 (rowT t r) (gcol 1 (colT t e))) := by
  blk_ext [iblk, V, idx t, rowT, colT, gcol]
  exact gate_col 1 (jt t).val e.val
theorem read5 (r : Fin 1024) (e : Fin 512) : iblk m c 5 t (ix2 r e) = m ((c : Thread nD τ).loc main_arg4) (ix2 (rowT t r) (gcol 2 (colT t e))) := by
  blk_ext [iblk, V, idx t, rowT, colT, gcol]
  exact gate_col 2 (jt t).val e.val

/-- The reference's result of the kernel's arguments. -/
abbrev res : FVec Ideal S8192x4096 .bf16 :=
  refOut (m ((c : Thread nD τ).loc main_arg0)) (m ((c : Thread nD τ).loc main_arg1)) (m ((c : Thread nD τ).loc main_arg2)) (m ((c : Thread nD τ).loc main_arg3)) (m ((c : Thread nD τ).loc main_arg4))

/-- The output block a point leaves, at an index. -/
theorem out_at (r : Fin 1024) (e : Fin 512) : outAt m c t (ix2 r e) = res m c (ix2 (rowT t r) (colT t e)) := by
  unfold outAt
  rw [tl_jt, oblk_at, res, refOut_apply]
  simp only [cast_at, read0, read1, read2, read3, read4, read5, col_eq]
  rfl

/-- The output array at a row and a column of a point's block. -/
theorem arr_at (r : Fin 1024) (e : Fin 512) :
    (dats m 0 c).arrAt 6 cfg0.N (ix2 (rowT t r) (colT t e)) = outAt m c t (ix2 r e) := by
  refine Eq.trans ?_ ((congrFun (blocks m c t) (ix2 r e)).trans ?_)
  · blk_ext [idx t, rowT, colT]
  · rw [flushed_eq]; rfl

/-! ## The whole array -/

/-- Every column tile and row block has its grid point. -/
theorem point_vals : ∀ (j : Fin 8) (i : Fin 8), ∃ t : Fin grid0.N, (grid0.coords t 0).val = j.val ∧ (grid0.coords t 1).val = i.val := by
  decide +kernel

theorem point_of (j : Fin 8) (i : Fin 8) : ∃ t : Fin cfg0.N, jt t = j ∧ it t = i :=
  (point_vals j i).imp fun t h => ⟨Fin.ext h.1, Fin.ext h.2⟩

/-- The whole array. -/
theorem arr_eq : (dats m 0 c).arrAt 6 cfg0.N = res m c := by
  funext y
  have hy : ∃ (i : Fin 8192) (e : Fin 4096), y = ix2 i e := ⟨y 0, y 1, eq_ix2 y⟩
  obtain ⟨i, e, rfl⟩ := hy
  have hi := i.isLt
  have he := e.isLt
  obtain ⟨t, hj, hb⟩ := point_of ⟨e.val / 512, by omega⟩ ⟨i.val / 1024, by omega⟩
  have h1 : i = rowT t ⟨i.val % 1024, by omega⟩ := Fin.ext (by
    show i.val = (it t).val * 1024 + i.val % 1024
    rw [hb]; show i.val = i.val / 1024 * 1024 + i.val % 1024; omega)
  have h2 : e = colT t ⟨e.val % 512, by omega⟩ := Fin.ext (by
    show e.val = (jt t).val * 512 + e.val % 512
    rw [hj]; show e.val = e.val / 512 * 512 + e.val % 512; omega)
  have h3 := congrArg₂ (fun (a : Fin 8192) (b : Fin 4096) => ix2 a b) h1 h2
  refine (congrArg _ h3).trans (Eq.trans ?_ (congrArg _ h3).symm)
  rw [arr_at, out_at]

end Cert.Merge
end
-- ==== Proof.Same.Frame.lean ====
/- The kernels as printed and their ideal kernels are the same programs over any arithmetic, the tables of blocks compared case
   by case; so the launches proved for the ideal kernels are the printed kernels' too. -/
module

public import proofs.«01_k».proof.Defs
public import proofs.«01_k».proof.Proof.Gen.Kernel
public import proofs.«01_k».proof.Proof.Attn.Frame
public import proofs.«01_k».proof.Proof.Gen.Kernel2
public import proofs.«01_k».proof.Proof.Ffn.Frame
public import proofs.«01_k».proof.Proof.Gen.Kernel3
public import proofs.«01_k».proof.Proof.Res.Frame
public import proofs.«01_k».proof.Proof.Gen.Kernel4
public import proofs.«01_k».proof.Proof.Gates.Frame
public import proofs.«01_k».proof.Proof.Gen.Kernel5
public import proofs.«01_k».proof.Proof.Merge.Frame
public import Idealize.ShloMosaic.Adequacy

@[expose] public section

set_option maxRecDepth 8192

noncomputable section

namespace Cert.Same

open Idealize.ShloMosaic Idealize.SL.Sem

/-! ## The attention -/

section
variable {F : FTy → Type} [FloatOps F]

theorem attn_blocks : @Cert.Kernel.defs₀ F _ Cert.Kernel.Gen.facts = @Cert.KernelIdeal.defs₀ F _ Cert.KernelIdeal.Gen.facts := by
  refine congrArg Defs.onTc (funext fun l => funext fun a => ?_)
  obtain ⟨l, h⟩ := l
  cases l with
  | zero => rfl
  | succ n => exact absurd h (by omega)

theorem attn_defs : @Cert.Kernel.defs F _ Cert.Kernel.Gen.facts = @Cert.KernelIdeal.defs F _ Cert.KernelIdeal.Gen.facts :=
  congrArg (Pipeline.defs Cert.KernelIdeal.pcfgs) attn_blocks
end

theorem attn : Cert.quiescent_Kernel (hKernel := Cert.Kernel.Gen.facts) := by
  intro m g _
  have key : ∀ D P, D = @Cert.KernelIdeal.defs _ _ Cert.KernelIdeal.Gen.facts →
      θ_run (@Cert.KernelIdeal.defs _ _ Cert.KernelIdeal.Gen.facts) (onTc (τ := Cert.KernelIdeal.τ) Cert.KernelIdeal.main) ⟨m, fun _ => 0, g⟩ P →
      θ_run D (onTc (τ := Cert.KernelIdeal.τ) Cert.KernelIdeal.main) ⟨m, fun _ => 0, g⟩ P := by
    rintro _ _ rfl h; exact h
  exact key _ _ attn_defs (Cert.Attn.frame m g)

/-! ## The feed-forward input product -/

section
variable {F : FTy → Type} [FloatOps F]

theorem ffn_blocks : @Cert.Kernel2.defs₀ F _ Cert.Kernel2.Gen.facts = @Cert.Kernel2Ideal.defs₀ F _ Cert.Kernel2Ideal.Gen.facts := by
  refine congrArg Defs.onTc (funext fun l => funext fun a => ?_)
  obtain ⟨l, h⟩ := l
  cases l with
  | zero => rfl
  | succ n => exact absurd h (by omega)

theorem ffn_defs : @Cert.Kernel2.defs F _ Cert.Kernel2.Gen.facts = @Cert.Kernel2Ideal.defs F _ Cert.Kernel2Ideal.Gen.facts :=
  congrArg (Pipeline.defs Cert.Kernel2Ideal.pcfgs) ffn_blocks
end

theorem ffn : Cert.quiescent_Kernel2 (hKernel2 := Cert.Kernel2.Gen.facts) := by
  intro m g _
  have key : ∀ D P, D = @Cert.Kernel2Ideal.defs _ _ Cert.Kernel2Ideal.Gen.facts →
      θ_run (@Cert.Kernel2Ideal.defs _ _ Cert.Kernel2Ideal.Gen.facts) (onTc (τ := Cert.Kernel2Ideal.τ) Cert.Kernel2Ideal.main) ⟨m, fun _ => 0, g⟩ P →
      θ_run D (onTc (τ := Cert.Kernel2Ideal.τ) Cert.Kernel2Ideal.main) ⟨m, fun _ => 0, g⟩ P := by
    rintro _ _ rfl h; exact h
  exact key _ _ ffn_defs (Cert.Ffn.frame m g)

/-! ## The output product -/

section
variable {F : FTy → Type} [FloatOps F]

theorem res_blocks : @Cert.Kernel3.defs₀ F _ Cert.Kernel3.Gen.facts = @Cert.Kernel3Ideal.defs₀ F _ Cert.Kernel3Ideal.Gen.facts := by
  refine congrArg Defs.onTc (funext fun l => funext fun a => ?_)
  obtain ⟨l, h⟩ := l
  cases l with
  | zero => rfl
  | succ n => exact absurd h (by omega)

theorem res_defs : @Cert.Kernel3.defs F _ Cert.Kernel3.Gen.facts = @Cert.Kernel3Ideal.defs F _ Cert.Kernel3Ideal.Gen.facts :=
  congrArg (Pipeline.defs Cert.Kernel3Ideal.pcfgs) res_blocks
end

theorem res : Cert.quiescent_Kernel3 (hKernel3 := Cert.Kernel3.Gen.facts) := by
  intro m g _
  have key : ∀ D P, D = @Cert.Kernel3Ideal.defs _ _ Cert.Kernel3Ideal.Gen.facts →
      θ_run (@Cert.Kernel3Ideal.defs _ _ Cert.Kernel3Ideal.Gen.facts) (onTc (τ := Cert.Kernel3Ideal.τ) Cert.Kernel3Ideal.main) ⟨m, fun _ => 0, g⟩ P →
      θ_run D (onTc (τ := Cert.Kernel3Ideal.τ) Cert.Kernel3Ideal.main) ⟨m, fun _ => 0, g⟩ P := by
    rintro _ _ rfl h; exact h
  exact key _ _ res_defs (Cert.Res.frame m g)

/-! ## The gates -/

section
variable {F : FTy → Type} [FloatOps F]

theorem gates_blocks : @Cert.Kernel4.defs₀ F _ Cert.Kernel4.Gen.facts = @Cert.Kernel4Ideal.defs₀ F _ Cert.Kernel4Ideal.Gen.facts := by
  refine congrArg Defs.onTc (funext fun l => funext fun a => ?_)
  obtain ⟨l, h⟩ := l
  cases l with
  | zero => rfl
  | succ n => exact absurd h (by omega)

theorem gates_defs : @Cert.Kernel4.defs F _ Cert.Kernel4.Gen.facts = @Cert.Kernel4Ideal.defs F _ Cert.Kernel4Ideal.Gen.facts :=
  congrArg (Pipeline.defs Cert.Kernel4Ideal.pcfgs) gates_blocks
end

theorem gates : Cert.quiescent_Kernel4 (hKernel4 := Cert.Kernel4.Gen.facts) := by
  intro m g _
  have key : ∀ D P, D = @Cert.Kernel4Ideal.defs _ _ Cert.Kernel4Ideal.Gen.facts →
      θ_run (@Cert.Kernel4Ideal.defs _ _ Cert.Kernel4Ideal.Gen.facts) (onTc (τ := Cert.Kernel4Ideal.τ) Cert.Kernel4Ideal.main) ⟨m, fun _ => 0, g⟩ P →
      θ_run D (onTc (τ := Cert.Kernel4Ideal.τ) Cert.Kernel4Ideal.main) ⟨m, fun _ => 0, g⟩ P := by
    rintro _ _ rfl h; exact h
  exact key _ _ gates_defs (Cert.Gates.frame m g)

/-! ## The merge -/

section
variable {F : FTy → Type} [FloatOps F]

theorem merge_blocks : @Cert.Kernel5.defs₀ F _ Cert.Kernel5.Gen.facts = @Cert.Kernel5Ideal.defs₀ F _ Cert.Kernel5Ideal.Gen.facts := by
  refine congrArg Defs.onTc (funext fun l => funext fun a => ?_)
  obtain ⟨l, h⟩ := l
  cases l with
  | zero => rfl
  | succ n => exact absurd h (by omega)

theorem merge_defs : @Cert.Kernel5.defs F _ Cert.Kernel5.Gen.facts = @Cert.Kernel5Ideal.defs F _ Cert.Kernel5Ideal.Gen.facts :=
  congrArg (Pipeline.defs Cert.Kernel5Ideal.pcfgs) merge_blocks
end

theorem merge : Cert.quiescent_Kernel5 (hKernel5 := Cert.Kernel5.Gen.facts) := by
  intro m g _
  have key : ∀ D P, D = @Cert.Kernel5Ideal.defs _ _ Cert.Kernel5Ideal.Gen.facts →
      θ_run (@Cert.Kernel5Ideal.defs _ _ Cert.Kernel5Ideal.Gen.facts) (onTc (τ := Cert.Kernel5Ideal.τ) Cert.Kernel5Ideal.main) ⟨m, fun _ => 0, g⟩ P →
      θ_run D (onTc (τ := Cert.Kernel5Ideal.τ) Cert.Kernel5Ideal.main) ⟨m, fun _ => 0, g⟩ P := by
    rintro _ _ rfl h; exact h
  exact key _ _ merge_defs (Cert.Merge.frame m g)

end Cert.Same

end
-- ==== Proof.lean ====
module

public import proofs.«01_k».proof.Defs
public import proofs.«01_k».proof.Proof.Attn.Tie
public import proofs.«01_k».proof.Proof.Ffn.Tie
public import proofs.«01_k».proof.Proof.Res.Out
public import proofs.«01_k».proof.Proof.Gates.Out
public import proofs.«01_k».proof.Proof.Merge.Out
public import proofs.«01_k».proof.Proof.Same.Frame
public import Idealize.ShloMosaic.Lib.Claim
public import Idealize.ShloMosaic.Lib.Quiescent
public import Idealize.ShloMosaic.Adequacy
public import Idealize.ShloMosaic.Init

@[expose] public section

set_option maxRecDepth 8192

noncomputable section

namespace Cert.Proof

open Idealize.ShloMosaic Idealize.SL.Sem

/-- The reference runs and leaves its arguments and the counters alone. -/
theorem frame_ref : Cert.quiescent_ReferenceIdeal (hReferenceIdeal := Cert.ReferenceIdeal.Gen.facts) := by
  intro m g _
  exact θ_run_mono (Cert.ReferenceIdeal.Value.run m g) fun r h => ⟨fun c => (h c).2, sem_eq_zero_of_no_sems (by decide) r.2⟩

/-- The two results are equal where the scores are finite. -/
theorem equal : Cert.algebraic_KernelIdeal_ReferenceIdeal_pre_scores_are_finite (hKernelIdeal := Cert.KernelIdeal.Gen.facts)
    (hReferenceIdeal := Cert.ReferenceIdeal.Gen.facts) (hPre_scores_are_finite := Cert.Attn.preFacts) := by
  letI := Cert.Attn.preFacts
  intro m g m' g' hpre hagree
  refine ⟨fun c => (Cert.Attn.dats m 0 c).arrAt 7 Cert.KernelIdeal.cfg0.N, Cert.Attn.run_blocks m g, ?_⟩
  refine θ_run_mono (Cert.ReferenceIdeal.Value.run m' g') fun r h c => ⟨?_, (h c).2⟩
  rw [(h c).1]
  refine (Cert.Attn.res_eq m' c).trans ?_
  rw [(hagree c).1, (hagree c).2.1, (hagree c).2.2.1, (hagree c).2.2.2]
  exact (Cert.Attn.arr_eq m c (Cert.Attn.pre_good _ _ _ _ (hpre c))).symm

/-- The feed-forward reference runs and leaves its arguments and the counters alone. -/
theorem frame_ref2 : Cert.quiescent_Reference2Ideal (hReference2Ideal := Cert.Reference2Ideal.Gen.facts) := by
  intro m g _
  exact θ_run_mono (Cert.Reference2Ideal.Value.run m g) fun r h => ⟨fun c => (h c).2, sem_eq_zero_of_no_sems (by decide) r.2⟩

/-- The two feed-forward results are equal. -/
theorem equal2 : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Ffn.dats m 0 c).arrAt 1 Cert.Kernel2Ideal.cfg0.N, Cert.Ffn.run_blocks m g, ?_⟩
  refine θ_run_mono (Cert.Ffn.ref_run m' g') fun r h c => ⟨?_, (h c).2⟩
  rw [(h c).1, (hagree c).1, (hagree c).2]
  exact (Cert.Ffn.arr_eq m c).symm

/-- The output product's reference runs and leaves its arguments and the counters alone. -/
theorem frame_ref3 : Cert.quiescent_Reference3Ideal (hReference3Ideal := Cert.Reference3Ideal.Gen.facts) := by
  intro m g _
  exact θ_run_mono (Cert.Reference3Ideal.Value.run m g) fun r h => ⟨fun c => (h c).2, sem_eq_zero_of_no_sems (by decide) r.2⟩

/-- The two results of the output product are equal. -/
theorem equal3 : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Res.dats m 0 c).arrAt 3 Cert.Kernel3Ideal.cfg0.N, Cert.Res.run_blocks m g, ?_⟩
  refine θ_run_mono (Cert.Res.ref_run m' g') fun r h c => ⟨?_, (h c).2⟩
  rw [(h c).1, (hagree c).1, (hagree c).2.1, (hagree c).2.2.1, (hagree c).2.2.2]
  exact (Cert.Res.arr_eq m c).symm

/-- The gates' reference runs and leaves its arguments and the counters alone. -/
theorem frame_ref4 : Cert.quiescent_Reference4Ideal (hReference4Ideal := Cert.Reference4Ideal.Gen.facts) := by
  intro m g _
  exact θ_run_mono (Cert.Reference4Ideal.Value.run m g) fun r h => ⟨fun c => (h c).2, sem_eq_zero_of_no_sems (by decide) r.2⟩

/-- The two results of the gates are equal. -/
theorem equal4 : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Gates.dats m 0 c).arrAt 1 Cert.Kernel4Ideal.cfg0.N, Cert.Gates.run_blocks m g, ?_⟩
  refine θ_run_mono (Cert.Gates.ref_run m' g') fun r h c => ⟨?_, (h c).2⟩
  rw [(h c).1, (hagree c).1, (hagree c).2]
  exact (Cert.Gates.arr_eq m c).symm

/-- The merge's reference runs and leaves its arguments and the counters alone. -/
theorem frame_ref5 : Cert.quiescent_Reference5Ideal (hReference5Ideal := Cert.Reference5Ideal.Gen.facts) := by
  intro m g _
  exact θ_run_mono (Cert.Reference5Ideal.Value.run m g) fun r h => ⟨fun c => (h c).2, sem_eq_zero_of_no_sems (by decide) r.2⟩

/-- The two results of the merge are equal. -/
theorem equal5 : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Merge.dats m 0 c).arrAt 6 Cert.Kernel5Ideal.cfg0.N, Cert.Merge.run_blocks m g, ?_⟩
  refine θ_run_mono (Cert.Merge.ref_run m' g') fun r h c => ⟨?_, (h c).2⟩
  rw [(h c).1, (hagree c).1, (hagree c).2.1, (hagree c).2.2.1, (hagree c).2.2.2.1, (hagree c).2.2.2.2]
  exact (Cert.Merge.arr_eq m c).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Attn.preFacts,
    Cert.Same.attn, fun m g _ => Cert.Attn.frame m g, fun m g _ => Cert.Attn.frame m g,
    frame_ref, fun m g _ => frame_ref m g trivial,
    Cert.Same.ffn, fun m g _ => Cert.Ffn.frame m g, frame_ref2,
    Cert.Same.res, fun m g _ => Cert.Res.frame m g, frame_ref3,
    Cert.Same.gates, fun m g _ => Cert.Gates.frame m g, frame_ref4,
    Cert.Same.merge, fun m g _ => Cert.Merge.frame m g, frame_ref5,
    trivial, equal, trivial, equal2, trivial, equal3, trivial, equal4, trivial, equal5⟩

end Cert.Proof

end
